-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_zero" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2048x64x128 : Shape := ⟨3, ![2048, 64, 128]⟩
abbrev S64x256 : Shape := ⟨2, ![64, 256]⟩
abbrev S64 : Shape := ⟨1, ![64]⟩
abbrev S_ : Shape := ⟨0, ![]⟩

class Facts : Prop where
  bcast_S_S2048x64x128 : S_.BroadcastsInDim S2048x64x128 (![] : Fin 0 → Fin S2048x64x128.rank)
  reducesTo_S2048x64x128_S_d0_1_2 : S2048x64x128.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v10 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v10 main_v16
  main_v17

def fn {F : FTy → Type} [FloatOps F] (main_arg0 : FVec F S2048x64x128 .f32) (main_arg1 : IVec S64x256 32) (main_arg2 : IVec S64 32) (main_arg3 : IVec S64 32) (main_arg4 : IVec S_ 32) : IVec S_ 1 :=
  let main_v0 : FVec F S2048x64x128 .f32 := Host.absf main_arg0
  let main_cst : FVec F S_ .f32 := constant S_ .f32 0x7F800000#32
  let main_v1 : FVec F S2048x64x128 .f32 := broadcastInDim S2048x64x128 ![] bcast_S_S2048x64x128 main_cst
  let main_v2 : IVec S2048x64x128 1 := cmpf .olt main_v0 main_v1
  let main_c : IVec S_ 1 := constantI S_ 1 1#1
  let main_v3 : IVec S_ 1 := (fun x v => Host.reduce IntOp.andi x v reducesTo_S2048x64x128_S_d0_1_2 h_S_) main_v2 main_c
  let main_c_0 : IVec S_ 32 := constantI S_ 32 0#32
  let main_v4 : IVec S64x256 32 := broadcastInDim S64x256 ![] bcast_S_S64x256 main_c_0
  let main_v5 : IVec S64x256 1 := cmpi .sge main_arg1 main_v4
  let main_c_1 : IVec S_ 32 := constantI S_ 32 128#32
  let main_v6 : IVec S64x256 32 := broadcastInDim S64x256 ![] bcast_S_S64x256 main_c_1
  let main_v7 : IVec S64x256 1 := cmpi .slt main_arg1 main_v6
  let main_v8 : IVec S64x256 1 := andi main_v5 main_v7
  let main_c_2 : IVec S_ 1 := constantI S_ 1 1#1
  let main_v9 : IVec S_ 1 := (fun x v => Host.reduce IntOp.andi x v reducesTo_S64x256_S_d0_1 h_S_) main_v8 main_c_2
  let main_v10 : IVec S_ 1 := andi main_v3 main_v9
  let main_c_3 : IVec S_ 32 := constantI S_ 32 1#32
  let main_v11 : IVec S64 32 := broadcastInDim S64 ![] bcast_S_S64 main_c_3
  let main_v12 : IVec S64 1 := cmpi .sge main_arg3 main_v11
  let main_c_4 : IVec S_ 32 := constantI S_ 32 256#32
  let main_v13 : IVec S64 32 := broadcastInDim S64 ![] bcast_S_S64 main_c_4
  let main_v14 : IVec S64 1 := cmpi .sle main_arg3 main_v13
  let main_v15 : IVec S64 1 := andi main_v12 main_v14
  let main_c_5 : IVec S_ 1 := constantI S_ 1 1#1
  fn_part1 (F := F) main_v10 main_v15 main_c_5
-- ==== Kernel.lean ====
abbrev S2048x64x128 : Shape := ⟨3, ![2048, 64, 128]⟩
abbrev S64x256 : Shape := ⟨2, ![64, 256]⟩
abbrev S64 : Shape := ⟨1, ![64]⟩
abbrev S_ : Shape := ⟨0, ![]⟩
abbrev S640 : Shape := ⟨1, ![640]⟩
abbrev S1x640 : Shape := ⟨2, ![1, 640]⟩
abbrev S64x640 : Shape := ⟨2, ![64, 640]⟩
abbrev S64x640x1 : Shape := ⟨3, ![64, 640, 1]⟩
abbrev S1 : Shape := ⟨1, ![1]⟩
abbrev S1x1x1 : Shape := ⟨3, ![1, 1, 1]⟩
abbrev S64x642 : Shape := ⟨2, ![64, 642]⟩
abbrev S64x1 : Shape := ⟨2, ![64, 1]⟩
abbrev S4x16x128 : Shape := ⟨3, ![4, 16, 128]⟩
abbrev S256x16x128 : Shape := ⟨3, ![256, 16, 128]⟩
abbrev S16x640 : Shape := ⟨2, ![16, 640]⟩
abbrev S1x16x128 : Shape := ⟨3, ![1, 16, 128]⟩
abbrev S16x128 : Shape := ⟨2, ![16, 128]⟩
abbrev S16x128x1 : Shape := ⟨3, ![16, 128, 1]⟩
abbrev S16 : Shape := ⟨1, ![16]⟩
abbrev S16x1 : Shape := ⟨2, ![16, 1]⟩
abbrev S1x16x1 : Shape := ⟨3, ![1, 16, 1]⟩
abbrev S4x16x1 : Shape := ⟨3, ![4, 16, 1]⟩
abbrev S4x16 : Shape := ⟨2, ![4, 16]⟩

abbrev nBuf : Space → Nat
  | .hbm => 132
  | .vmem => 14
  | .smem => 0
  | _ => 0

abbrev hbmTy0_0 (i : Nat) : BufTy := match i % 128 with
  | 0 => ⟨S2048x64x128, .f32⟩
  | 1 => ⟨S64x256, .i32⟩
  | 2 => ⟨S64, .i32⟩
  | 3 => ⟨S64, .i32⟩
  | 4 => ⟨S_, .i32⟩
  | 5 => ⟨S640, .i32⟩
  | 6 => ⟨S1x640, .i32⟩
  | 7 => ⟨S_, .i32⟩
  | 8 => ⟨S1x640, .i32⟩
  | 9 => ⟨S1x640, .i32⟩
  | 10 => ⟨S_, .i32⟩
  | 11 => ⟨S_, .i32⟩
  | 12 => ⟨S1x640, .i32⟩
  | 13 => ⟨S1x640, .i32⟩
  | 14 => ⟨S1x640, .i32⟩
  | 15 => ⟨S_, .i32⟩
  | 16 => ⟨S1x640, .i32⟩
  | 17 => ⟨S1x640, .i1⟩
  | 18 => ⟨S1x640, .i32⟩
  | 19 => ⟨S1x640, .i32⟩
  | 20 => ⟨S_, .i32⟩
  | 21 => ⟨S1x640, .i32⟩
  | 22 => ⟨S1x640, .i1⟩
  | 23 => ⟨S1x640, .i1⟩
  | 24 => ⟨S_, .i32⟩
  | 25 => ⟨S1x640, .i32⟩
  | 26 => ⟨S1x640, .i32⟩
  | 27 => ⟨S1x640, .i32⟩
  | 28 => ⟨S_, .i32⟩
  | 29 => ⟨S_, .i32⟩
  | 30 => ⟨S_, .i32⟩
  | 31 => ⟨S1x640, .i32⟩
  | 32 => ⟨S1x640, .i32⟩
  | 33 => ⟨S_, .i32⟩
  | 34 => ⟨S1x640, .i32⟩
  | 35 => ⟨S1x640, .i32⟩
  | 36 => ⟨S64x640, .i32⟩
  | 37 => ⟨S_, .i32⟩
  | 38 => ⟨S64x640, .i32⟩
  | 39 => ⟨S64x640, .i1⟩
  | 40 => ⟨S_, .i32⟩
  | 41 => ⟨S64x640, .i32⟩
  | 42 => ⟨S64x640, .i32⟩
  | 43 => ⟨S64x640, .i32⟩
  | 44 => ⟨S64x640x1, .i32⟩
  | 45 => ⟨S1, .i32⟩
  | 46 => ⟨S_, .i32⟩
  | 47 => ⟨S64x640x1, .i32⟩
  | 48 => ⟨S64x640x1, .i1⟩
  | 49 => ⟨S1x1x1, .i32⟩
  | 50 => ⟨S64x640x1, .i32⟩
  | 51 => ⟨S64x640x1, .i1⟩
  | 52 => ⟨S64x640x1, .i1⟩
  | 53 => ⟨S_, .i1⟩
  | 54 => ⟨S64x640, .i1⟩
  | 55 => ⟨S64x640, .i32⟩
  | 56 => ⟨S_, .i32⟩
  | 57 => ⟨S64x640, .i32⟩
  | 58 => ⟨S64x640, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S1x640, .i32⟩
  | 66 => ⟨S1x640, .i32⟩
  | 67 => ⟨S_, .i32⟩
  | 68 => ⟨S1x640, .i32⟩
  | 69 => ⟨S1x640, .i1⟩
  | 70 => ⟨S_, .i32⟩
  | 71 => ⟨S1x640, .i32⟩
  | 72 => ⟨S1x640, .i1⟩
  | 73 => ⟨S_, .i32⟩
  | 74 => ⟨S_, .i1⟩
  | 75 => ⟨S1x640, .i1⟩
  | 76 => ⟨S1x640, .i1⟩
  | 77 => ⟨S1x640, .i1⟩
  | 78 => ⟨S1x640, .i32⟩
  | 79 => ⟨S1x640, .i32⟩
  | 80 => ⟨S1x640, .i32⟩
  | 81 => ⟨S_, .i32⟩
  | 82 => ⟨S1x640, .i32⟩
  | 83 => ⟨S1x640, .i1⟩
  | 84 => ⟨S_, .i32⟩
  | 85 => ⟨S1x640, .i32⟩
  | 86 => ⟨S1x640, .i1⟩
  | 87 => ⟨S1x640, .i1⟩
  | 88 => ⟨S_, .i32⟩
  | 89 => ⟨S_, .i32⟩
  | 90 => ⟨S64x640, .i1⟩
  | 91 => ⟨S64x640, .i32⟩
  | 92 => ⟨S64x640, .i32⟩
  | 93 => ⟨S_, .i32⟩
  | 94 => ⟨S_, .i32⟩
  | 95 => ⟨S64x642, .i32⟩
  | 96 => ⟨S64x640, .i32⟩
  | 97 => ⟨S_, .i32⟩
  | 98 => ⟨S1x640, .i32⟩
  | 99 => ⟨S1x640, .i1⟩
  | 100 => ⟨S_, .i32⟩
  | 101 => ⟨S64x640, .i32⟩
  | 102 => ⟨S64x640, .i1⟩
  | 103 => ⟨S64x640, .i1⟩
  | 104 => ⟨S64x640, .i1⟩
  | 105 => ⟨S64x640, .i1⟩
  | 106 => ⟨S64x640, .i1⟩
  | 107 => ⟨S64x640, .f32⟩
  | 108 => ⟨S64x1, .i32⟩
  | 109 => ⟨S_, .i32⟩
  | 110 => ⟨S64x1, .i32⟩
  | 111 => ⟨S64x1, .i32⟩
  | 112 => ⟨S64x640, .i32⟩
  | 113 => ⟨S64x640, .i32⟩
  | 114 => ⟨S64x640, .i1⟩
  | 115 => ⟨S64x640, .f32⟩
  | 116 => ⟨S_, .i32⟩
  | 117 => ⟨S64x1, .i32⟩
  | 118 => ⟨S64x1, .i32⟩
  | 119 => ⟨S64x640, .i32⟩
  | 120 => ⟨S64x640, .i32⟩
  | 121 => ⟨S64x640, .i1⟩
  | 122 => ⟨S64x640, .f32⟩
  | 123 => ⟨S4x16x128, .f32⟩
  | 124 => ⟨S4x16x1, .f32⟩
  | 125 => ⟨S4x16, .f32⟩
  | 126 => ⟨S_, .f32⟩
  | 127 => ⟨S_, .f32⟩
  | _ => ⟨S2048x64x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S2048x64x128, .f32⟩

abbrev hbmTy (i : Nat) : BufTy := match i / 128 with
  | 0 => hbmTy0_0 i
  | 1 => hbmTy0_1 i
  | _ => ⟨S2048x64x128, .f32⟩

abbrev bufTy : (tb : Table) → Fin (tcTables nBuf tb) → BufTy
  | .hbm, ⟨i, _⟩ => hbmTy i
  | .local _ .vmem, ⟨0, _⟩ => ⟨S256x16x128, .f32⟩
  | .local _ .vmem, ⟨1, _⟩ => ⟨S256x16x128, .f32⟩
  | .local _ .vmem, ⟨2, _⟩ => ⟨S16x640, .i32⟩
  | .local _ .vmem, ⟨3, _⟩ => ⟨S16x640, .i32⟩
  | .local _ .vmem, ⟨4, _⟩ => ⟨S16x640, .f32⟩
  | .local _ .vmem, ⟨5, _⟩ => ⟨S16x640, .f32⟩
  | .local _ .vmem, ⟨6, _⟩ => ⟨S16x640, .f32⟩
  | .local _ .vmem, ⟨7, _⟩ => ⟨S16x640, .f32⟩
  | .local _ .vmem, ⟨8, _⟩ => ⟨S16x640, .f32⟩
  | .local _ .vmem, ⟨9, _⟩ => ⟨S16x640, .f32⟩
  | .local _ .vmem, ⟨10, _⟩ => ⟨S1x16x128, .f32⟩
  | .local _ .vmem, ⟨11, _⟩ => ⟨S1x16x128, .f32⟩
  | .local _ .vmem, ⟨12, _⟩ => ⟨S16x640, .f32⟩
  | .local _ .vmem, ⟨13, _⟩ => ⟨S16x640, .f32⟩
  | _, _ => ⟨S2048x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v5 : Ref sig .tc := ⟨.hbm, 35, rfl⟩
abbrev main_v6 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_c_4 : Ref sig .tc := ⟨.hbm, 56, rfl⟩
abbrev main_call2_v14 : Ref sig .tc := ⟨.hbm, 57, rfl⟩
abbrev main_v7 : Ref sig .tc := ⟨.hbm, 58, rfl⟩
abbrev main_c_3 : Ref sig .tc := ⟨.hbm, 59, rfl⟩
abbrev main_call3_v0 : Ref sig .tc := ⟨.hbm, 60, rfl⟩
abbrev main_call3_c : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_c_1 : Ref sig .tc := ⟨.hbm, 67, rfl⟩
abbrev main_call3_v5 : Ref sig .tc := ⟨.hbm, 68, rfl⟩
abbrev main_call3_v6 : Ref sig .tc := ⟨.hbm, 69, rfl⟩
abbrev main_call3_c_2 : Ref sig .tc := ⟨.hbm, 70, rfl⟩
abbrev main_call3_v7 : Ref sig .tc := ⟨.hbm, 71, rfl⟩
abbrev main_call3_v8 : Ref sig .tc := ⟨.hbm, 72, rfl⟩
abbrev main_call3_c_3 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_v8 : Ref sig .tc := ⟨.hbm, 80, rfl⟩
abbrev main_c_4 : Ref sig .tc := ⟨.hbm, 81, rfl⟩
abbrev main_v9 : Ref sig .tc := ⟨.hbm, 82, rfl⟩
abbrev main_v10 : Ref sig .tc := ⟨.hbm, 83, rfl⟩
abbrev main_c_5 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_c_6 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v14 : Ref sig .tc := ⟨.hbm, 92, rfl⟩
abbrev main_c_7 : Ref sig .tc := ⟨.hbm, 93, rfl⟩
abbrev main_call5_v0 : Ref sig .tc := ⟨.hbm, 94, rfl⟩
abbrev main_v15 : Ref sig .tc := ⟨.hbm, 95, rfl⟩
abbrev main_v16 : Ref sig .tc := ⟨.hbm, 96, rfl⟩
abbrev main_c_8 : Ref sig .tc := ⟨.hbm, 97, rfl⟩
abbrev main_v17 : Ref sig .tc := ⟨.hbm, 98, rfl⟩
abbrev main_v18 : Ref sig .tc := ⟨.hbm, 99, rfl⟩
abbrev main_c_9 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_c_10 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_c_11 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_cst : Ref sig .tc := ⟨.hbm, 126, rfl⟩
abbrev main_v42 : Ref sig .tc := ⟨.hbm, 127, rfl⟩
abbrev main_cst_12 : Ref sig .tc := ⟨.hbm, 128, rfl⟩
abbrev main_v43 : Ref sig .tc := ⟨.hbm, 129, rfl⟩
abbrev main_cst_13 : Ref sig .tc := ⟨.hbm, 130, rfl⟩
abbrev main_v44 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let arg1 : BitVec 32 := BitVec.ofNat 32 (i 1).val
  let c0_i32_4 : BitVec 32 := 0#32
  let v12 : BitVec 1 := Scalar.cmpi .eq arg1 c0_i32_4
  let c1_i32_5 : BitVec 32 := 1#32
  let c0_i32_6 : BitVec 32 := 0#32
  let v13 : BitVec 32 := Scalar.select v12 c1_i32_5 c0_i32_6
  let c256_i32 : BitVec 32 := 256#32
  let v16 : BitVec 32 := Scalar.subi c256_i32 v13
  let c1_i32_11 : BitVec 32 := 1#32
  let v18 : BitVec 32 := Scalar.divsi v16 c1_i32_11
  let v19 : BitVec 32 := Scalar.muli v18 c1_i32_11
  let v20 : BitVec 32 := Scalar.addi v13 v19
  let c1_i32_12 : BitVec 32 := 1#32
  ⟨v13, v20, c1_i32_12⟩
def k0_off1 (i : grid0.Coords) (k0_t1 : Fin (k0_t1_loop i).trips) : Fin 3 → Nat :=
  let arg1 : BitVec 32 := BitVec.ofNat 32 (i 1).val
  let c0_i32_4 : BitVec 32 := 0#32
  let v12 : BitVec 1 := Scalar.cmpi .eq arg1 c0_i32_4
  let c1_i32_5 : BitVec 32 := 1#32
  let c0_i32_6 : BitVec 32 := 0#32
  let v13 : BitVec 32 := Scalar.select v12 c1_i32_5 c0_i32_6
  let c1_i32_12 : BitVec 32 := 1#32
  let arg10 : BitVec 32 := Scf.iv v13 c1_i32_12 k0_t1
  let v32 : Index := Scalar.indexCast arg10
  let c0_19 : Index := 0#32
  let c0_20 : Index := 0#32
  ![v32.toNat, 0, 0]
@[reducible] def k0_t2_loop (i : grid0.Coords) : Scf.Loop 32 :=
  let arg1 : BitVec 32 := BitVec.ofNat 32 (i 1).val
  let c0_i32_4 : BitVec 32 := 0#32
  let v12 : BitVec 1 := Scalar.cmpi .eq arg1 c0_i32_4
  let c1_i32_5 : BitVec 32 := 1#32
  let c0_i32_6 : BitVec 32 := 0#32
  let v13 : BitVec 32 := Scalar.select v12 c1_i32_5 c0_i32_6
  let c256_i32 : BitVec 32 := 256#32
  let v16 : BitVec 32 := Scalar.subi c256_i32 v13
  let c1_i32_11 : BitVec 32 := 1#32
  let v18 : BitVec 32 := Scalar.divsi v16 c1_i32_11
  let v19 : BitVec 32 := Scalar.muli v18 c1_i32_11
  let v20 : BitVec 32 := Scalar.addi v13 v19
  let v17 : BitVec 32 := Scalar.addi v13 v16
  let c1_i32_13 : BitVec 32 := 1#32
  ⟨v20, v17, c1_i32_13⟩
def k0_off2 (i : grid0.Coords) (k0_t2 : Fin (k0_t2_loop i).trips) : Fin 3 → Nat :=
  let arg1 : BitVec 32 := BitVec.ofNat 32 (i 1).val
  let c0_i32_4 : BitVec 32 := 0#32
  let v12 : BitVec 1 := Scalar.cmpi .eq arg1 c0_i32_4
  let c1_i32_5 : BitVec 32 := 1#32
  let c0_i32_6 : BitVec 32 := 0#32
  let v13 : BitVec 32 := Scalar.select v12 c1_i32_5 c0_i32_6
  let c256_i32 : BitVec 32 := 256#32
  let v16 : BitVec 32 := Scalar.subi c256_i32 v13
  let c1_i32_11 : BitVec 32 := 1#32
  let v18 : BitVec 32 := Scalar.divsi v16 c1_i32_11
  let v19 : BitVec 32 := Scalar.muli v18 c1_i32_11
  let v20 : BitVec 32 := Scalar.addi v13 v19
  let c1_i32_13 : BitVec 32 := 1#32
  let arg10 : BitVec 32 := Scf.iv v20 c1_i32_13 k0_t2
  let v32 : Index := Scalar.indexCast arg10
  let c0_19 : Index := 0#32
  let c0_20 : Index := 0#32
  ![v32.toNat, 0, 0]
def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "log_zero" => some ⊥
  | _ => none
-- ==== ReferenceIdeal.lean ====
abbrev S2048x64x128 : Shape := ⟨3, ![2048, 64, 128]⟩
abbrev S64x256 : Shape := ⟨2, ![64, 256]⟩
abbrev S64 : Shape := ⟨1, ![64]⟩
abbrev S_ : Shape := ⟨0, ![]⟩
abbrev S64x256x1 : Shape := ⟨3, ![64, 256, 1]⟩
abbrev S64x256x2 : Shape := ⟨3, ![64, 256, 2]⟩
abbrev S64x512 : Shape := ⟨2, ![64, 512]⟩
abbrev S64x1 : Shape := ⟨2, ![64, 1]⟩
abbrev S64x513 : Shape := ⟨2, ![64, 513]⟩
abbrev S64x2 : Shape := ⟨2, ![64, 2]⟩
abbrev S64x511 : Shape := ⟨2, ![64, 511]⟩
abbrev S64x513x1 : Shape := ⟨3, ![64, 513, 1]⟩
abbrev S64x513x2 : Shape := ⟨3, ![64, 513, 2]⟩
abbrev S2048x64x513 : Shape := ⟨3, ![2048, 64, 513]⟩
abbrev S513 : Shape := ⟨1, ![513]⟩
abbrev S1x64x513 : Shape := ⟨3, ![1, 64, 513]⟩
abbrev S2047x64x513 : Shape := ⟨3, ![2047, 64, 513]⟩
abbrev S2047x3x64x513 : Shape := ⟨4, ![2047, 3, 64, 513]⟩
abbrev S3x64x513 : Shape := ⟨3, ![3, 64, 513]⟩
abbrev S1x3x64x513 : Shape := ⟨4, ![1, 3, 64, 513]⟩

abbrev nBuf : Space → Nat
  | .hbm => 334
  | .vmem => 0
  | .smem => 0
  | _ => 0

abbrev hbmTy0_0 (i : Nat) : BufTy := match i % 128 with
  | 0 => ⟨S2048x64x128, .f32⟩
  | 1 => ⟨S64x256, .i32⟩
  | 2 => ⟨S64, .i32⟩
  | 3 => ⟨S64, .i32⟩
  | 4 => ⟨S_, .i32⟩
  | 5 => ⟨S64, .i32⟩
  | 6 => ⟨S_, .i32⟩
  | 7 => ⟨S64x256, .i32⟩
  | 8 => ⟨S64x256x1, .i32⟩
  | 9 => ⟨S64x256x1, .i32⟩
  | 10 => ⟨S64x256x2, .i32⟩
  | 11 => ⟨S64x512, .i32⟩
  | 12 => ⟨S64x1, .i32⟩
  | 13 => ⟨S64x513, .i32⟩
  | 14 => ⟨S_, .i1⟩
  | 15 => ⟨S64x2, .i1⟩
  | 16 => ⟨S64x511, .i32⟩
  | 17 => ⟨S_, .i32⟩
  | 18 => ⟨S64x511, .i32⟩
  | 19 => ⟨S64x511, .i1⟩
  | 20 => ⟨S64x511, .i32⟩
  | 21 => ⟨S64x511, .i32⟩
  | 22 => ⟨S64x511, .i1⟩
  | 23 => ⟨S64x511, .i1⟩
  | 24 => ⟨S64x513, .i1⟩
  | 25 => ⟨S64x1, .i32⟩
  | 26 => ⟨S_, .i32⟩
  | 27 => ⟨S64x1, .i32⟩
  | 28 => ⟨S64x1, .i1⟩
  | 29 => ⟨S_, .i32⟩
  | 30 => ⟨S64x1, .i32⟩
  | 31 => ⟨S64x1, .i32⟩
  | 32 => ⟨S64x1, .i32⟩
  | 33 => ⟨S_, .i32⟩
  | 34 => ⟨S64x513, .i32⟩
  | 35 => ⟨S64x513, .i1⟩
  | 36 => ⟨S_, .i32⟩
  | 37 => ⟨S64x513, .i32⟩
  | 38 => ⟨S64x513, .i32⟩
  | 39 => ⟨S64x513, .i32⟩
  | 40 => ⟨S64x513, .i32⟩
  | 41 => ⟨S64x513x1, .i32⟩
  | 42 => ⟨S64x513x1, .i32⟩
  | 43 => ⟨S64x513x2, .i32⟩
  | 44 => ⟨S2048x64x513, .f32⟩
  | 45 => ⟨S513, .i32⟩
  | 46 => ⟨S_, .i32⟩
  | 47 => ⟨S513, .i32⟩
  | 48 => ⟨S513, .i1⟩
  | 49 => ⟨S1x64x513, .f32⟩
  | 50 => ⟨S64x513, .f32⟩
  | 51 => ⟨S_, .f32⟩
  | 52 => ⟨S_, .f32⟩
  | 53 => ⟨S64x513, .i1⟩
  | 54 => ⟨S64x513, .f32⟩
  | 55 => ⟨S64x513, .f32⟩
  | 56 => ⟨S_, .f32⟩
  | 57 => ⟨S64x513, .f32⟩
  | 58 => ⟨S2047x64x513, .f32⟩
  | 59 => ⟨S_, .f32⟩
  | 60 => ⟨S64x1, .f32⟩
  | 61 => ⟨S64x1, .f32⟩
  | 62 => ⟨S_, .f32⟩
  | 63 => ⟨S64x1, .f32⟩
  | 64 => ⟨S_, .f32⟩
  | 65 => ⟨S64x2, .f32⟩
  | 66 => ⟨S64x2, .f32⟩
  | 67 => ⟨S_, .f32⟩
  | 68 => ⟨S64x2, .f32⟩
  | 69 => ⟨S_, .f32⟩
  | 70 => ⟨S_, .f32⟩
  | 71 => ⟨S64x513, .f32⟩
  | 72 => ⟨S_, .f32⟩
  | 73 => ⟨S64x513, .f32⟩
  | 74 => ⟨S_, .f32⟩
  | 75 => ⟨S2047x3x64x513, .f32⟩
  | 76 => ⟨S_, .f32⟩
  | 77 => ⟨S2047x64x513, .f32⟩
  | 78 => ⟨S_, .f32⟩
  | 79 => ⟨S2047x3x64x513, .f32⟩
  | 80 => ⟨S_, .f32⟩
  | 81 => ⟨S2047x64x513, .f32⟩
  | 82 => ⟨S_, .i32⟩
  | 83 => ⟨S2047x64x513, .f32⟩
  | 84 => ⟨S64x1, .f32⟩
  | 85 => ⟨S64x2, .f32⟩
  | 86 => ⟨S64x513, .i1⟩
  | 87 => ⟨S64x513, .f32⟩
  | 88 => ⟨S_, .i32⟩
  | 89 => ⟨S64x513, .f32⟩
  | 90 => ⟨S2047x3x64x513, .f32⟩
  | 91 => ⟨S2047x64x513, .f32⟩
  | 92 => ⟨S2047x3x64x513, .f32⟩
  | 93 => ⟨S2047x64x513, .f32⟩
  | 94 => ⟨S_, .i32⟩
  | 95 => ⟨S_, .i1⟩
  | 96 => ⟨S_, .i32⟩
  | 97 => ⟨S_, .i32⟩
  | 98 => ⟨S1x64x513, .f32⟩
  | 99 => ⟨S64x513, .f32⟩
  | 100 => ⟨S64x512, .f32⟩
  | 101 => ⟨S64x513, .f32⟩
  | 102 => ⟨S64x511, .f32⟩
  | 103 => ⟨S64x513, .f32⟩
  | 104 => ⟨S64x513, .f32⟩
  | 105 => ⟨S1x64x513, .f32⟩
  | 106 => ⟨S1x64x513, .f32⟩
  | 107 => ⟨S1x64x513, .f32⟩
  | 108 => ⟨S3x64x513, .f32⟩
  | 109 => ⟨S_, .f32⟩
  | 110 => ⟨S64x513, .f32⟩
  | 111 => ⟨S1x64x513, .f32⟩
  | 112 => ⟨S3x64x513, .f32⟩
  | 113 => ⟨S3x64x513, .i1⟩
  | 114 => ⟨S3x64x513, .f32⟩
  | 115 => ⟨S_, .f32⟩
  | 116 => ⟨S64x513, .f32⟩
  | 117 => ⟨S1x64x513, .f32⟩
  | 118 => ⟨S3x64x513, .f32⟩
  | 119 => ⟨S3x64x513, .f32⟩
  | 120 => ⟨S3x64x513, .f32⟩
  | 121 => ⟨S_, .f32⟩
  | 122 => ⟨S64x513, .f32⟩
  | 123 => ⟨S64x513, .f32⟩
  | 124 => ⟨S64x513, .f32⟩
  | 125 => ⟨S64x513, .f32⟩
  | 126 => ⟨S1x3x64x513, .f32⟩
  | 127 => ⟨S_, .i32⟩
  | _ => ⟨S2048x64x128, .f32⟩

abbrev hbmTy0_1 (i : Nat) : BufTy := match i % 128 with
  | 0 => ⟨S_, .i32⟩
  | 1 => ⟨S_, .i32⟩
  | 2 => ⟨S2047x3x64x513, .f32⟩
  | 3 => ⟨S1x64x513, .f32⟩
  | 4 => ⟨S_, .i32⟩
  | 5 => ⟨S_, .i32⟩
  | 6 => ⟨S2047x64x513, .f32⟩
  | 7 => ⟨S1x3x64x513, .f32⟩
  | 8 => ⟨S_, .i32⟩
  | 9 => ⟨S_, .i32⟩
  | 10 => ⟨S_, .i32⟩
  | 11 => ⟨S2047x3x64x513, .f32⟩
  | 12 => ⟨S1x64x513, .f32⟩
  | 13 => ⟨S_, .i32⟩
  | 14 => ⟨S_, .i32⟩
  | 15 => ⟨S2047x64x513, .f32⟩
  | 16 => ⟨S_, .i32⟩
  | 17 => ⟨S_, .i32⟩
  | 18 => ⟨S_, .i32⟩
  | 19 => ⟨S64, .i32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S64x1, .i32⟩
  | 37 => ⟨S64x2, .i32⟩
  | 38 => ⟨S64, .f32⟩
  | 39 => ⟨S_, .i32⟩
  | 40 => ⟨S64, .i32⟩
  | 41 => ⟨S64, .i32⟩
  | 42 => ⟨S_, .i32⟩
  | 43 => ⟨S64, .i32⟩
  | 44 => ⟨S64, .i1⟩
  | 45 => ⟨S_, .i32⟩
  | 46 => ⟨S64, .i32⟩
  | 47 => ⟨S64, .i32⟩
  | 48 => ⟨S64, .i32⟩
  | 49 => ⟨S_, .i32⟩
  | 50 => ⟨S64, .i32⟩
  | 51 => ⟨S64, .i1⟩
  | 52 => ⟨S_, .i32⟩
  | 53 => ⟨S64, .i32⟩
  | 54 => ⟨S64, .i32⟩
  | 55 => ⟨S64, .i32⟩
  | 56 => ⟨S64x1, .i32⟩
  | 57 => ⟨S64x1, .i32⟩
  | 58 => ⟨S64x2, .i32⟩
  | 59 => ⟨S64, .f32⟩
  | 60 => ⟨S64, .f32⟩
  | 61 => ⟨S64, .i1⟩
  | 62 => ⟨S64, .i1⟩
  | 63 => ⟨S_, .f32⟩
  | 64 => ⟨S64, .f32⟩
  | 65 => ⟨S_, .f32⟩
  | 66 => ⟨S64, .f32⟩
  | 67 => ⟨S_, .f32⟩
  | 68 => ⟨S64, .f32⟩
  | 69 => ⟨S64, .f32⟩
  | 70 => ⟨S64, .f32⟩
  | 71 => ⟨S64, .i1⟩
  | 72 => ⟨S64, .i1⟩
  | 73 => ⟨S_, .f32⟩
  | 74 => ⟨S64, .f32⟩
  | 75 => ⟨S_, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S64, .f32⟩
  | 85 => ⟨S64, .f32⟩
  | 86 => ⟨S64, .f32⟩
  | 87 => ⟨S64, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S64, .f32⟩
  | 101 => ⟨S64, .f32⟩
  | 102 => ⟨S64, .f32⟩
  | 103 => ⟨S_, .f32⟩
  | 104 => ⟨S64x513, .f32⟩
  | 105 => ⟨S64x513, .f32⟩
  | 106 => ⟨S_, .f32⟩
  | 107 => ⟨S64x513, .f32⟩
  | 108 => ⟨S64x513, .f32⟩
  | 109 => ⟨S64x513, .f32⟩
  | 110 => ⟨S_, .f32⟩
  | 111 => ⟨S2047x64x513, .f32⟩
  | 112 => ⟨S_, .i32⟩
  | 113 => ⟨S2047x3x64x513, .f32⟩
  | 114 => ⟨S2047x64x513, .f32⟩
  | 115 => ⟨S2047x3x64x513, .f32⟩
  | 116 => ⟨S2047x64x513, .f32⟩
  | 117 => ⟨S64x1, .f32⟩
  | 118 => ⟨S64x2, .f32⟩
  | 119 => ⟨S64x513, .i1⟩
  | 120 => ⟨S64x513, .f32⟩
  | 121 => ⟨S_, .i32⟩
  | 122 => ⟨S64x513, .f32⟩
  | 123 => ⟨S2047x64x513, .f32⟩
  | 124 => ⟨S_, .i32⟩
  | 125 => ⟨S_, .i1⟩
  | 126 => ⟨S_, .i32⟩
  | 127 => ⟨S_, .i32⟩
  | _ => ⟨S2048x64x128, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x3x64x513, .f32⟩
  | 6 => ⟨S3x64x513, .f32⟩
  | 7 => ⟨S_, .i32⟩
  | 8 => ⟨S_, .i32⟩
  | 9 => ⟨S1x64x513, .f32⟩
  | 10 => ⟨S64x513, .f32⟩
  | 11 => ⟨S_, .i32⟩
  | 12 => ⟨S_, .i32⟩
  | 13 => ⟨S_, .i32⟩
  | 14 => ⟨S1x3x64x513, .f32⟩
  | 15 => ⟨S3x64x513, .f32⟩
  | 16 => ⟨S_, .i32⟩
  | 17 => ⟨S_, .i32⟩
  | 18 => ⟨S1x64x513, .f32⟩
  | 19 => ⟨S64x513, .f32⟩
  | 20 => ⟨S64x513, .f32⟩
  | 21 => ⟨S3x64x513, .f32⟩
  | 22 => ⟨S3x64x513, .f32⟩
  | 23 => ⟨S3x64x513, .f32⟩
  | 24 => ⟨S_, .f32⟩
  | 25 => ⟨S64x513, .f32⟩
  | 26 => ⟨S1x64x513, .f32⟩
  | 27 => ⟨S_, .f32⟩
  | 28 => ⟨S64x513, .f32⟩
  | 29 => ⟨S64x513, .f32⟩
  | 30 => ⟨S64x513, .f32⟩
  | 31 => ⟨S3x64x513, .f32⟩
  | 32 => ⟨S3x64x513, .f32⟩
  | 33 => ⟨S3x64x513, .f32⟩
  | 34 => ⟨S1x64x513, .f32⟩
  | 35 => ⟨S64x513, .f32⟩
  | 36 => ⟨S1x64x513, .f32⟩
  | 37 => ⟨S64x513, .f32⟩
  | 38 => ⟨S1x64x513, .f32⟩
  | 39 => ⟨S64x513, .f32⟩
  | 40 => ⟨S_, .f32⟩
  | 41 => ⟨S64x513, .f32⟩
  | 42 => ⟨S64x513, .f32⟩
  | 43 => ⟨S64x2, .f32⟩
  | 44 => ⟨S64x511, .f32⟩
  | 45 => ⟨S_, .f32⟩
  | 46 => ⟨S64x513, .f32⟩
  | 47 => ⟨S64x513, .f32⟩
  | 48 => ⟨S64x1, .f32⟩
  | 49 => ⟨S64x512, .f32⟩
  | 50 => ⟨S_, .f32⟩
  | 51 => ⟨S64x513, .f32⟩
  | 52 => ⟨S64x513, .f32⟩
  | 53 => ⟨S1x64x513, .f32⟩
  | 54 => ⟨S_, .i32⟩
  | 55 => ⟨S_, .i32⟩
  | 56 => ⟨S2047x64x513, .f32⟩
  | 57 => ⟨S_, .i32⟩
  | 58 => ⟨S_, .i32⟩
  | 59 => ⟨S_, .f32⟩
  | 60 => ⟨S2048x64x513, .f32⟩
  | 61 => ⟨S_, .f32⟩
  | 62 => ⟨S64x513, .f32⟩
  | 63 => ⟨S64x513, .f32⟩
  | 64 => ⟨S1x64x513, .f32⟩
  | 65 => ⟨S_, .f32⟩
  | 66 => ⟨S2048x64x513, .f32⟩
  | 67 => ⟨S2048x64x513, .f32⟩
  | 68 => ⟨S_, .f32⟩
  | 69 => ⟨S2048x64x128, .f32⟩
  | 70 => ⟨S2048x64x128, .f32⟩
  | 71 => ⟨S2048x64x128, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | _ => ⟨S2048x64x128, .f32⟩

abbrev hbmTy (i : Nat) : BufTy := match i / 128 with
  | 0 => hbmTy0_0 i
  | 1 => hbmTy0_1 i
  | 2 => hbmTy0_2 i
  | _ => ⟨S2048x64x128, .f32⟩

abbrev bufTy : (tb : Table) → Fin (tcTables nBuf tb) → BufTy
  | .hbm, ⟨i, _⟩ => hbmTy i
  | _, _ => ⟨S2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst : Ref sig .tc := ⟨.hbm, 51, rfl⟩
abbrev main_call0_v0 : Ref sig .tc := ⟨.hbm, 52, rfl⟩
abbrev main_v38_1 : Ref sig .tc := ⟨.hbm, 53, rfl⟩
abbrev main_call0_v2 : Ref sig .tc := ⟨.hbm, 54, rfl⟩
abbrev main_v38_0 : Ref sig .tc := ⟨.hbm, 55, rfl⟩
abbrev main_call0_cst : Ref sig .tc := ⟨.hbm, 56, rfl⟩
abbrev main_v38_2 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_cst_11 : Ref sig .tc := ⟨.hbm, 69, rfl⟩
abbrev main_call1_v0 : Ref sig .tc := ⟨.hbm, 70, rfl⟩
abbrev main_v46_1 : Ref sig .tc := ⟨.hbm, 71, rfl⟩
abbrev main_call1_cst : Ref sig .tc := ⟨.hbm, 72, rfl⟩
abbrev main_v46_0 : Ref sig .tc := ⟨.hbm, 73, rfl⟩
abbrev main_cst_12 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_c_16 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_v51_3 : Ref sig .tc := ⟨.hbm, 86, rfl⟩
abbrev main_v51_4 : Ref sig .tc := ⟨.hbm, 87, rfl⟩
abbrev main_v51_5 : Ref sig .tc := ⟨.hbm, 88, rfl⟩
abbrev main_v51_6 : Ref sig .tc := ⟨.hbm, 89, rfl⟩
abbrev main_v51_7 : Ref sig .tc := ⟨.hbm, 90, rfl⟩
abbrev main_v51_8 : Ref sig .tc := ⟨.hbm, 91, rfl⟩
abbrev main_v51_9 : Ref sig .tc := ⟨.hbm, 92, rfl⟩
abbrev main_v51_10 : Ref sig .tc := ⟨.hbm, 93, rfl⟩
abbrev main_while0c_c_55 : Ref sig .tc := ⟨.hbm, 94, rfl⟩
abbrev main_while0c_v137 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_v0 : Ref sig .tc := ⟨.hbm, 98, rfl⟩
abbrev main_while0b_v137 : Ref sig .tc := ⟨.hbm, 99, rfl⟩
abbrev main_while0b_v138 : Ref sig .tc := ⟨.hbm, 100, rfl⟩
abbrev main_while0b_v139 : Ref sig .tc := ⟨.hbm, 101, rfl⟩
abbrev main_while0b_v140 : Ref sig .tc := ⟨.hbm, 102, rfl⟩
abbrev main_while0b_v141 : Ref sig .tc := ⟨.hbm, 103, rfl⟩
abbrev main_while0b_v142 : Ref sig .tc := ⟨.hbm, 104, rfl⟩
abbrev main_while0b_v143 : Ref sig .tc := ⟨.hbm, 105, rfl⟩
abbrev main_while0b_v144 : Ref sig .tc := ⟨.hbm, 106, rfl⟩
abbrev main_while0b_v145 : Ref sig .tc := ⟨.hbm, 107, rfl⟩
abbrev main_while0b_v146 : Ref sig .tc := ⟨.hbm, 108, rfl⟩
abbrev main_while0b_cst_55 : Ref sig .tc := ⟨.hbm, 109, rfl⟩
abbrev main_while0b_v147 : Ref sig .tc := ⟨.hbm, 110, rfl⟩
abbrev main_while0b_v148 : Ref sig .tc := ⟨.hbm, 111, rfl⟩
abbrev main_while0b_v149 : Ref sig .tc := ⟨.hbm, 112, rfl⟩
abbrev main_while0b_v150 : Ref sig .tc := ⟨.hbm, 113, rfl⟩
abbrev main_while0b_v151 : Ref sig .tc := ⟨.hbm, 114, rfl⟩
abbrev main_while0b_cst_56 : Ref sig .tc := ⟨.hbm, 115, rfl⟩
abbrev main_while0b_v152 : Ref sig .tc := ⟨.hbm, 116, rfl⟩
abbrev main_while0b_v153 : Ref sig .tc := ⟨.hbm, 117, rfl⟩
abbrev main_while0b_v154 : Ref sig .tc := ⟨.hbm, 118, rfl⟩
abbrev main_while0b_v155 : Ref sig .tc := ⟨.hbm, 119, rfl⟩
abbrev main_while0b_v156 : Ref sig .tc := ⟨.hbm, 120, rfl⟩
abbrev main_while0b_cst_57 : Ref sig .tc := ⟨.hbm, 121, rfl⟩
abbrev main_while0b_v157 : Ref sig .tc := ⟨.hbm, 122, rfl⟩
abbrev main_while0b_v158 : Ref sig .tc := ⟨.hbm, 123, rfl⟩
abbrev main_while0b_v159 : Ref sig .tc := ⟨.hbm, 124, rfl⟩
abbrev main_while0b_v160 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_c_1 : Ref sig .tc := ⟨.hbm, 129, rfl⟩
abbrev main_while0b_v161 : Ref sig .tc := ⟨.hbm, 130, rfl⟩
abbrev main_while0b_call5_v0 : Ref sig .tc := ⟨.hbm, 131, rfl⟩
abbrev main_while0b_call5_c : Ref sig .tc := ⟨.hbm, 132, rfl⟩
abbrev main_while0b_call5_c_0 : Ref sig .tc := ⟨.hbm, 133, rfl⟩
abbrev main_while0b_v162 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_v163 : Ref sig .tc := ⟨.hbm, 139, rfl⟩
abbrev main_while0b_call7_v0 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_v164 : Ref sig .tc := ⟨.hbm, 143, rfl⟩
abbrev main_while0b_c_58 : Ref sig .tc := ⟨.hbm, 144, rfl⟩
abbrev main_while0b_v165 : Ref sig .tc := ⟨.hbm, 145, rfl⟩
abbrev main_c_17 : Ref sig .tc := ⟨.hbm, 146, rfl⟩
abbrev main_v52 : Ref sig .tc := ⟨.hbm, 147, rfl⟩
abbrev main_v53 : Ref sig .tc := ⟨.hbm, 148, rfl⟩
abbrev main_c_18 : Ref sig .tc := ⟨.hbm, 149, rfl⟩
abbrev main_v54 : Ref sig .tc := ⟨.hbm, 150, rfl⟩
abbrev main_v55 : Ref sig .tc := ⟨.hbm, 151, rfl⟩
abbrev main_c_19 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_c_20 : Ref sig .tc := ⟨.hbm, 156, rfl⟩
abbrev main_v59 : Ref sig .tc := ⟨.hbm, 157, rfl⟩
abbrev main_v60 : Ref sig .tc := ⟨.hbm, 158, rfl⟩
abbrev main_c_21 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_c_22 : Ref sig .tc := ⟨.hbm, 167, rfl⟩
abbrev main_v68 : Ref sig .tc := ⟨.hbm, 168, rfl⟩
abbrev main_v69 : Ref sig .tc := ⟨.hbm, 169, rfl⟩
abbrev main_c_23 : Ref sig .tc := ⟨.hbm, 170, rfl⟩
abbrev main_v70 : Ref sig .tc := ⟨.hbm, 171, rfl⟩
abbrev main_v71 : Ref sig .tc := ⟨.hbm, 172, rfl⟩
abbrev main_c_24 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_c_25 : Ref sig .tc := ⟨.hbm, 177, rfl⟩
abbrev main_v75 : Ref sig .tc := ⟨.hbm, 178, rfl⟩
abbrev main_v76 : Ref sig .tc := ⟨.hbm, 179, rfl⟩
abbrev main_c_26 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_cst_27 : Ref sig .tc := ⟨.hbm, 191, rfl⟩
abbrev main_v87 : Ref sig .tc := ⟨.hbm, 192, rfl⟩
abbrev main_cst_28 : Ref sig .tc := ⟨.hbm, 193, rfl⟩
abbrev main_v88 : Ref sig .tc := ⟨.hbm, 194, rfl⟩
abbrev main_cst_29 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_30 : Ref sig .tc := ⟨.hbm, 201, rfl⟩
abbrev main_v94 : Ref sig .tc := ⟨.hbm, 202, rfl⟩
abbrev main_cst_31 : Ref sig .tc := ⟨.hbm, 203, rfl⟩
abbrev main_v95 : Ref sig .tc := ⟨.hbm, 204, rfl⟩
abbrev main_cst_32 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_cst_33 : Ref sig .tc := ⟨.hbm, 216, rfl⟩
abbrev main_v106 : Ref sig .tc := ⟨.hbm, 217, rfl⟩
abbrev main_cst_34 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_cst_35 : Ref sig .tc := ⟨.hbm, 231, rfl⟩
abbrev main_v119 : Ref sig .tc := ⟨.hbm, 232, rfl⟩
abbrev main_v120 : Ref sig .tc := ⟨.hbm, 233, rfl⟩
abbrev main_cst_36 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_cst_37 : Ref sig .tc := ⟨.hbm, 238, rfl⟩
abbrev main_v124 : Ref sig .tc := ⟨.hbm, 239, rfl⟩
abbrev main_c_38 : Ref sig .tc := ⟨.hbm, 240, rfl⟩
abbrev main_v125_0 : Ref sig .tc := ⟨.hbm, 241, rfl⟩
abbrev main_v125_1 : Ref sig .tc := ⟨.hbm, 242, rfl⟩
abbrev main_v125_2 : Ref sig .tc := ⟨.hbm, 243, rfl⟩
abbrev main_v125_3 : Ref sig .tc := ⟨.hbm, 244, rfl⟩
abbrev main_v125_4 : Ref sig .tc := ⟨.hbm, 245, rfl⟩
abbrev main_v125_5 : Ref sig .tc := ⟨.hbm, 246, rfl⟩
abbrev main_v125_6 : Ref sig .tc := ⟨.hbm, 247, rfl⟩
abbrev main_v125_7 : Ref sig .tc := ⟨.hbm, 248, rfl⟩
abbrev main_v125_8 : Ref sig .tc := ⟨.hbm, 249, rfl⟩
abbrev main_v125_9 : Ref sig .tc := ⟨.hbm, 250, rfl⟩
abbrev main_v125_10 : Ref sig .tc := ⟨.hbm, 251, rfl⟩
abbrev main_while1c_c_55 : Ref sig .tc := ⟨.hbm, 252, rfl⟩
abbrev main_while1c_v137 : Ref sig .tc := ⟨.hbm, 253, rfl⟩
abbrev main_while1b_c_55 : Ref sig .tc := ⟨.hbm, 254, rfl⟩
abbrev main_while1b_v137 : Ref sig .tc := ⟨.hbm, 255, rfl⟩
abbrev main_while1b_c_56 : Ref sig .tc := ⟨.hbm, 256, rfl⟩
abbrev main_while1b_v138 : Ref sig .tc := ⟨.hbm, 257, rfl⟩
abbrev main_while1b_call8_c : Ref sig .tc := ⟨.hbm, 258, rfl⟩
abbrev main_while1b_call8_c_0 : Ref sig .tc := ⟨.hbm, 259, rfl⟩
abbrev main_while1b_call8_c_1 : Ref sig .tc := ⟨.hbm, 260, rfl⟩
abbrev main_while1b_call8_v0 : Ref sig .tc := ⟨.hbm, 261, rfl⟩
abbrev main_while1b_v139 : Ref sig .tc := ⟨.hbm, 262, rfl⟩
abbrev main_while1b_call9_c : Ref sig .tc := ⟨.hbm, 263, rfl⟩
abbrev main_while1b_call9_c_0 : Ref sig .tc := ⟨.hbm, 264, rfl⟩
abbrev main_while1b_call9_v0 : Ref sig .tc := ⟨.hbm, 265, rfl⟩
abbrev main_while1b_v140 : Ref sig .tc := ⟨.hbm, 266, rfl⟩
abbrev main_while1b_call10_c : Ref sig .tc := ⟨.hbm, 267, rfl⟩
abbrev main_while1b_call10_c_0 : Ref sig .tc := ⟨.hbm, 268, rfl⟩
abbrev main_while1b_call10_c_1 : Ref sig .tc := ⟨.hbm, 269, rfl⟩
abbrev main_while1b_call10_v0 : Ref sig .tc := ⟨.hbm, 270, rfl⟩
abbrev main_while1b_v141 : Ref sig .tc := ⟨.hbm, 271, rfl⟩
abbrev main_while1b_call11_c : Ref sig .tc := ⟨.hbm, 272, rfl⟩
abbrev main_while1b_call11_c_0 : Ref sig .tc := ⟨.hbm, 273, rfl⟩
abbrev main_while1b_call11_v0 : Ref sig .tc := ⟨.hbm, 274, rfl⟩
abbrev main_while1b_v142 : Ref sig .tc := ⟨.hbm, 275, rfl⟩
abbrev main_while1b_v143 : Ref sig .tc := ⟨.hbm, 276, rfl⟩
abbrev main_while1b_v144 : Ref sig .tc := ⟨.hbm, 277, rfl⟩
abbrev main_while1b_v145 : Ref sig .tc := ⟨.hbm, 278, rfl⟩
abbrev main_while1b_v146 : Ref sig .tc := ⟨.hbm, 279, rfl⟩
abbrev main_while1b_cst_57 : Ref sig .tc := ⟨.hbm, 280, rfl⟩
abbrev main_while1b_v147 : Ref sig .tc := ⟨.hbm, 281, rfl⟩
abbrev main_while1b_v148 : Ref sig .tc := ⟨.hbm, 282, rfl⟩
abbrev main_while1b_cst_58 : Ref sig .tc := ⟨.hbm, 283, rfl⟩
abbrev main_while1b_v149 : Ref sig .tc := ⟨.hbm, 284, rfl⟩
abbrev main_while1b_v150 : Ref sig .tc := ⟨.hbm, 285, rfl⟩
abbrev main_while1b_v151 : Ref sig .tc := ⟨.hbm, 286, rfl⟩
abbrev main_while1b_v152 : Ref sig .tc := ⟨.hbm, 287, rfl⟩
abbrev main_while1b_v153 : Ref sig .tc := ⟨.hbm, 288, rfl⟩
abbrev main_while1b_v154 : Ref sig .tc := ⟨.hbm, 289, rfl⟩
abbrev main_while1b_v155 : Ref sig .tc := ⟨.hbm, 290, rfl⟩
abbrev main_while1b_v156 : Ref sig .tc := ⟨.hbm, 291, rfl⟩
abbrev main_while1b_v157 : Ref sig .tc := ⟨.hbm, 292, rfl⟩
abbrev main_while1b_v158 : Ref sig .tc := ⟨.hbm, 293, rfl⟩
abbrev main_while1b_v159 : Ref sig .tc := ⟨.hbm, 294, rfl⟩
abbrev main_while1b_v160 : Ref sig .tc := ⟨.hbm, 295, rfl⟩
abbrev main_while1b_call12_cst : Ref sig .tc := ⟨.hbm, 296, rfl⟩
abbrev main_while1b_call12_v0 : Ref sig .tc := ⟨.hbm, 297, rfl⟩
abbrev main_while1b_v161 : Ref sig .tc := ⟨.hbm, 298, rfl⟩
abbrev main_while1b_v162 : Ref sig .tc := ⟨.hbm, 299, rfl⟩
abbrev main_while1b_v163 : Ref sig .tc := ⟨.hbm, 300, rfl⟩
abbrev main_while1b_cst_59 : Ref sig .tc := ⟨.hbm, 301, rfl⟩
abbrev main_while1b_v164 : Ref sig .tc := ⟨.hbm, 302, rfl⟩
abbrev main_while1b_v165 : Ref sig .tc := ⟨.hbm, 303, rfl⟩
abbrev main_while1b_v166 : Ref sig .tc := ⟨.hbm, 304, rfl⟩
abbrev main_while1b_v167 : Ref sig .tc := ⟨.hbm, 305, rfl⟩
abbrev main_while1b_cst_60 : Ref sig .tc := ⟨.hbm, 306, rfl⟩
abbrev main_while1b_v168 : Ref sig .tc := ⟨.hbm, 307, rfl⟩
abbrev main_while1b_v169 : Ref sig .tc := ⟨.hbm, 308, rfl⟩
abbrev main_while1b_call13_v0 : Ref sig .tc := ⟨.hbm, 309, rfl⟩
abbrev main_while1b_call13_c : Ref sig .tc := ⟨.hbm, 310, rfl⟩
abbrev main_while1b_call13_c_0 : Ref sig .tc := ⟨.hbm, 311, rfl⟩
abbrev main_while1b_v170 : Ref sig .tc := ⟨.hbm, 312, rfl⟩
abbrev main_while1b_c_61 : Ref sig .tc := ⟨.hbm, 313, rfl⟩
abbrev main_while1b_v171 : Ref sig .tc := ⟨.hbm, 314, rfl⟩
abbrev main_cst_39 : Ref sig .tc := ⟨.hbm, 315, rfl⟩
abbrev main_v126 : Ref sig .tc := ⟨.hbm, 316, rfl⟩
abbrev main_call14_cst : Ref sig .tc := ⟨.hbm, 317, rfl⟩
abbrev main_call14_v0 : Ref sig .tc := ⟨.hbm, 318, rfl⟩
abbrev main_v127 : Ref sig .tc := ⟨.hbm, 319, rfl⟩
abbrev main_v128 : Ref sig .tc := ⟨.hbm, 320, rfl⟩
abbrev main_cst_40 : Ref sig .tc := ⟨.hbm, 321, rfl⟩
abbrev main_v129 : Ref sig .tc := ⟨.hbm, 322, rfl⟩
abbrev main_v130 : Ref sig .tc := ⟨.hbm, 323, rfl⟩
abbrev main_cst_41 : Ref sig .tc := ⟨.hbm, 324, rfl⟩
abbrev main_v131 : Ref sig .tc := ⟨.hbm, 325, rfl⟩
abbrev main_v132 : Ref sig .tc := ⟨.hbm, 326, rfl⟩
abbrev main_v133 : Ref sig .tc := ⟨.hbm, 327, rfl⟩
abbrev main_cst_42 : Ref sig .tc := ⟨.hbm, 328, rfl⟩
abbrev main_v134 : Ref sig .tc := ⟨.hbm, 329, rfl⟩
abbrev main_cst_43 : Ref sig .tc := ⟨.hbm, 330, rfl⟩
abbrev main_v135 : Ref sig .tc := ⟨.hbm, 331, rfl⟩
abbrev main_cst_44 : Ref sig .tc := ⟨.hbm, 332, rfl⟩
abbrev main_v136 : Ref sig .tc := ⟨.hbm, 333, rfl⟩

abbrev nD : Nat := 1
abbrev τ : Topo := Topo.v7x

variable {F : FTy → Type} [FloatOps F]

def κ : String → Option EReal := fun
  | "log_zero" => some ⊥
  | _ => none

abbrev main_while0_count : Scf.Loop 32 := ⟨0#32, 2047#32, 1#32⟩

abbrev main_while1_count : Scf.Loop 32 := ⟨0#32, 2047#32, 1#32⟩
-- ==== Proof.RefChain.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! The reference's operations, stretch by stretch, and @main and the two loop bodies as chains of the stretches. -/

abbrev main_part0_ops0 : List (HloOp τ sig (Elt F)) :=
  ( StableHlo.nullary main_v0 (iotaInDim S64 32 0)
  :: StableHlo.nullary main_c (constantI S_ 32 0#32)
  :: StableHlo.unary main_c main_v1 (broadcastInDim S64x256 ![] bcast_S_S64x256 : (⟨S_, .i32⟩ : BufTy).Contents (Elt F) → (⟨S64x256, .i32⟩ : BufTy).Contents (Elt F))
  :: StableHlo.unary main_v1 main_v2 (broadcastInDim S64x256x1 ![0, 1] bcast_S64x256_S64x256x1_0_1 : (⟨S64x256, .i32⟩ : BufTy).Contents (Elt F) → (⟨S64x256x1, .i32⟩ : BufTy).Contents (Elt F))
  :: StableHlo.unary main_arg1 main_v3 (broadcastInDim S64x256x1 ![0, 1] bcast_S64x256_S64x256x1_0_1 : (⟨S64x256, .i32⟩ : BufTy).Contents (Elt F) → (⟨S64x256x1, .i32⟩ : BufTy).Contents (Elt F))
  :: StableHlo.binary main_v2 main_v3 main_v4 ((fun a b => concatenate S64x256x2 2 [⟨S64x256x1, a⟩, ⟨S64x256x1, b⟩] concatenates_S64x256x1_S64x256x1_S64x256x2_d2) : (⟨S64x256x1, .i32⟩ : BufTy).Contents (Elt F) → (⟨S64x256x1, .i32⟩ : BufTy).Contents (Elt F) → (⟨S64x256x2, .i32⟩ : BufTy).Contents (Elt F))
  :: StableHlo.reshape main_v4 main_v5 (rfl : (.i32 : EltTy) = .i32) shapeCasts_S64x256x2_S64x512
  :: StableHlo.unary main_v1 main_v6 ((extractStridedSlice S64x1 ![0, 0] · slices_S64x256_S64x1_0_0) : (⟨S64x256, .i32⟩ : BufTy).Contents (Elt F) → (⟨S64x1, .i32⟩ : BufTy).Contents (Elt F))
  :: StableHlo.binary main_v5 main_v6 main_v7 ((fun a b => concatenate S64x513 1 [⟨S64x512, a⟩, ⟨S64x1, b⟩] concatenates_S64x512_S64x1_S64x513_d1) : (⟨S64x512, .i32⟩ : BufTy).Contents (Elt F) → (⟨S64x1, .i32⟩ : BufTy).Contents (Elt F) → (⟨S64x513, .i32⟩ : BufTy).Contents (Elt F))
  :: StableHlo.nullary main_c_0 (constantI S_ 1 0#1)
  :: StableHlo.unary main_c_0 main_v8 (broadcastInDim S64x2 ![] bcast_S_S64x2 : (⟨S_, .i1⟩ : BufTy).Contents (Elt F) → (⟨S64x2, .i1⟩ : BufTy).Contents (Elt F))
  :: StableHlo.unary main_v7 main_v9 ((extractStridedSlice S64x511 ![0, 2] · slices_S64x513_S64x511_0_2) : (⟨S64x513, .i32⟩ : BufTy).Contents (Elt F) → (⟨S64x511, .i32⟩ : BufTy).Contents (Elt F))
  :: StableHlo.nullary main_c_1 (constantI S_ 32 0#32)
  :: StableHlo.unary main_c_1 main_v10 (broadcastInDim S64x511 ![] bcast_S_S64x511 : (⟨S_, .i32⟩ : BufTy).Contents (Elt F) → (⟨S64x511, .i32⟩ : BufTy).Contents (Elt F))
  :: StableHlo.binary main_v9 main_v10 main_v11 (cmpi .ne : (⟨S64x511, .i32⟩ : BufTy).Contents (Elt F) → (⟨S64x511, .i32⟩ : BufTy).Contents (Elt F) → (⟨S64x511, .i1⟩ : BufTy).Contents (Elt F))
  :: StableHlo.unary main_v7 main_v12 ((extractStridedSlice S64x511 ![0, 2] · slices_S64x513_S64x511_0_2) : (⟨S64x513, .i32⟩ : BufTy).Contents (Elt F) → (⟨S64x511, .i32⟩ : BufTy).Contents (Elt F))
  :: StableHlo.unary main_v7 main_v13 ((extractStridedSlice S64x511 ![0, 0] · slices_S64x513_S64x511_0_0) : (⟨S64x513, .i32⟩ : BufTy).Contents (Elt F) → (⟨S64x511, .i32⟩ : BufTy).Contents (Elt F))
  :: StableHlo.binary main_v12 main_v13 main_v14 (cmpi .ne : (⟨S64x511, .i32⟩ : BufTy).Contents (Elt F) → (⟨S64x511, .i32⟩ : BufTy).Contents (Elt F) → (⟨S64x511, .i1⟩ : BufTy).Contents (Elt F))
  :: StableHlo.binary main_v11 main_v14 main_v15 (andi : (⟨S64x511, .i1⟩ : BufTy).Contents (Elt F) → (⟨S64x511, .i1⟩ : BufTy).Contents (Elt F) → (⟨S64x511, .i1⟩ : BufTy).Contents (Elt F))
  :: StableHlo.binary main_v8 main_v15 main_v16 ((fun a b => concatenate S64x513 1 [⟨S64x2, a⟩, ⟨S64x511, b⟩] concatenates_S64x2_S64x511_S64x513_d1) : (⟨S64x2, .i1⟩ : BufTy).Contents (Elt F) → (⟨S64x511, .i1⟩ : BufTy).Contents (Elt F) → (⟨S64x513, .i1⟩ : BufTy).Contents (Elt F))
  :: StableHlo.unary main_v0 main_v17 (broadcastInDim S64x1 ![0] bcast_S64_S64x1_0 : (⟨S64, .i32⟩ : BufTy).Contents (Elt F) → (⟨S64x1, .i32⟩ : BufTy).Contents (Elt F))
  :: StableHlo.nullary main_c_2 (constantI S_ 32 0#32)
  :: StableHlo.unary main_c_2 main_v18 (broadcastInDim S64x1 ![] bcast_S_S64x1 : (⟨S_, .i32⟩ : BufTy).Contents (Elt F) → (⟨S64x1, .i32⟩ : BufTy).Contents (Elt F))
  :: StableHlo.binary main_v17 main_v18 main_v19 (cmpi .slt : (⟨S64x1, .i32⟩ : BufTy).Contents (Elt F) → (⟨S64x1, .i32⟩ : BufTy).Contents (Elt F) → (⟨S64x1, .i1⟩ : BufTy).Contents (Elt F))
  :: StableHlo.nullary main_c_3 (constantI S_ 32 64#32)
  :: StableHlo.unary main_c_3 main_v20 (broadcastInDim S64x1 ![] bcast_S_S64x1 : (⟨S_, .i32⟩ : BufTy).Contents (Elt F) → (⟨S64x1, .i32⟩ : BufTy).Contents (Elt F))
  :: StableHlo.binary main_v17 main_v20 main_v21 (addi : (⟨S64x1, .i32⟩ : BufTy).Contents (Elt F) → (⟨S64x1, .i32⟩ : BufTy).Contents (Elt F) → (⟨S64x1, .i32⟩ : BufTy).Contents (Elt F))
  :: StableHlo.ternary main_v19 main_v21 main_v17 main_v22 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F))
  :: StableHlo.nullary main_c_4 (constantI S_ 32 0#32)
  :: StableHlo.unary main_c_4 main_v23 (broadcastInDim S64x513 ![] bcast_S_S64x513 : (⟨S_, .i32⟩ : BufTy).Contents (Elt F) → (⟨S64x513, .i32⟩ : BufTy).Contents (Elt F))
  :: StableHlo.binary main_v7 main_v23 main_v24 (cmpi .slt : (⟨S64x513, .i32⟩ : BufTy).Contents (Elt F) → (⟨S64x513, .i32⟩ : BufTy).Contents (Elt F) → (⟨S64x513, .i1⟩ : BufTy).Contents (Elt F))
  :: StableHlo.nullary main_c_5 (constantI S_ 32 128#32)
  :: StableHlo.unary main_c_5 main_v25 (broadcastInDim S64x513 ![] bcast_S_S64x513 : (⟨S_, .i32⟩ : BufTy).Contents (Elt F) → (⟨S64x513, .i32⟩ : BufTy).Contents (Elt F))
  :: StableHlo.binary main_v7 main_v25 main_v26 (addi : (⟨S64x513, .i32⟩ : BufTy).Contents (Elt F) → (⟨S64x513, .i32⟩ : BufTy).Contents (Elt F) → (⟨S64x513, .i32⟩ : BufTy).Contents (Elt F))
  :: StableHlo.ternary main_v24 main_v26 main_v7 main_v27 (select : (⟨S64x513, .i1⟩ : BufTy).Contents (Elt F) → (⟨S64x513, .i32⟩ : BufTy).Contents (Elt F) → (⟨S64x513, .i32⟩ : BufTy).Contents (Elt F) → (⟨S64x513, .i32⟩ : BufTy).Contents (Elt F))
  :: StableHlo.unary main_v22 main_v28 (broadcastInDim S64x513 ![0, 1] bcast_S64x1_S64x513_0_1 : (⟨S64x1, .i32⟩ : BufTy).Contents (Elt F) → (⟨S64x513, .i32⟩ : BufTy).Contents (Elt F))
  :: StableHlo.unary main_v28 main_v29 (broadcastInDim S64x513x1 ![0, 1] bcast_S64x513_S64x513x1_0_1 : (⟨S64x513, .i32⟩ : BufTy).Contents (Elt F) → (⟨S64x513x1, .i32⟩ : BufTy).Contents (Elt F))
  :: StableHlo.unary main_v27 main_v30 (broadcastInDim S64x513x1 ![0, 1] bcast_S64x513_S64x513x1_0_1 : (⟨S64x513, .i32⟩ : BufTy).Contents (Elt F) → (⟨S64x513x1, .i32⟩ : BufTy).Contents (Elt F))
  :: StableHlo.binary main_v29 main_v30 main_v31 ((fun a b => concatenate S64x513x2 2 [⟨S64x513x1, a⟩, ⟨S64x513x1, b⟩] concatenates_S64x513x1_S64x513x1_S64x513x2_d2) : (⟨S64x513x1, .i32⟩ : BufTy).Contents (Elt F) → (⟨S64x513x1, .i32⟩ : BufTy).Contents (Elt F) → (⟨S64x513x2, .i32⟩ : BufTy).Contents (Elt F))
  :: StableHlo.binary main_arg0 main_v31 main_v32 ((fun x i => Host.gather gather_S2048x64x128_S64x513x2_S2048x64x513_0_12_n_n_12_2_204811 x i) : (⟨S2048x64x128, .f32⟩ : BufTy).Contents (Elt F) → (⟨S64x513x2, .i32⟩ : BufTy).Contents (Elt F) → (⟨S2048x64x513, .f32⟩ : BufTy).Contents (Elt F))
  :: StableHlo.nullary main_v33 (iotaInDim S513 32 0)
  :: StableHlo.nullary main_c_6 (constantI S_ 32 2#32)
  :: StableHlo.unary main_c_6 main_v34 (broadcastInDim S513 ![] bcast_S_S513 : (⟨S_, .i32⟩ : BufTy).Contents (Elt F) → (⟨S513, .i32⟩ : BufTy).Contents (Elt F))
  :: StableHlo.binary main_v33 main_v34 main_v35 (cmpi .slt : (⟨S513, .i32⟩ : BufTy).Contents (Elt F) → (⟨S513, .i32⟩ : BufTy).Contents (Elt F) → (⟨S513, .i1⟩ : BufTy).Contents (Elt F))
  :: StableHlo.unary main_v32 main_v36 ((extractStridedSlice S1x64x513 ![0, 0, 0] · slices_S2048x64x513_S1x64x513_0_0_0) : (⟨S2048x64x513, .f32⟩ : BufTy).Contents (Elt F) → (⟨S1x64x513, .f32⟩ : BufTy).Contents (Elt F))
  :: StableHlo.reshape main_v36 main_v37 (rfl : (.f32 : EltTy) = .f32) shapeCasts_S1x64x513_S64x513
  :: StableHlo.nullary main_cst (constant S_ .f32 0xFF800000#32)
  :: [] )
theorem main_part0_ops0_sub : (main_part0_ops0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.reshape_bufs_sub .., StableHlo.nullary_bufs_sub ..⟩
abbrev main_part0_ops1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v35 : StableHlo.TRef sig ⟨S513, .i1⟩) (.of main_v38_1 : StableHlo.TRef sig ⟨S64x513, .i1⟩) (broadcastInDim S64x513 ![1] bcast_S513_S64x513_1),
    StableHlo.TRef.unary (.of main_call0_v0 : StableHlo.TRef sig ⟨S_, .f32⟩) (.of main_call0_v2 : StableHlo.TRef sig ⟨S64x513, .f32⟩) (broadcastInDim S64x513 ![] bcast_S_S64x513),
    StableHlo.TRef.ternary (.of main_v38_1 : StableHlo.TRef sig ⟨S64x513, .i1⟩) (.of main_v37 : StableHlo.TRef sig ⟨S64x513, .f32⟩) (.of main_call0_v2 : StableHlo.TRef sig ⟨S64x513, .f32⟩) (.of main_v38_0 : StableHlo.TRef sig ⟨S64x513, .f32⟩) select,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_v38_2 : StableHlo.TRef sig ⟨S64x513, .f32⟩) (broadcastInDim S64x513 ![] bcast_S_S64x513) ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩
abbrev main_part0_ops2 : List (HloOp τ sig (Elt F)) :=
  [ StableHlo.unary main_v32 main_v39 ((extractStridedSlice S2047x64x513 ![1, 0, 0] · slices_S2048x64x513_S2047x64x513_1_0_0) : (⟨S2048x64x513, .f32⟩ : BufTy).Contents (Elt F) → (⟨S2047x64x513, .f32⟩ : BufTy).Contents (Elt F)),
    StableHlo.nullary main_cst_7 (constant S_ .f32 0xFF800000#32),
    StableHlo.unary main_cst_7 main_v40 (broadcastInDim S64x1 ![] bcast_S_S64x1 : (⟨S_, .f32⟩ : BufTy).Contents (Elt F) → (⟨S64x1, .f32⟩ : BufTy).Contents (Elt F)),
    StableHlo.unary main_v40 main_v41 (id : (⟨S64x1, .f32⟩ : BufTy).Contents (Elt F) → (⟨S64x1, .f32⟩ : BufTy).Contents (Elt F)),
    StableHlo.nullary main_cst_8 (constant S_ .f32 0x00000000#32),
    StableHlo.unary main_cst_8 main_v42 (broadcastInDim S64x1 ![] bcast_S_S64x1 : (⟨S_, .f32⟩ : BufTy).Contents (Elt F) → (⟨S64x1, .f32⟩ : BufTy).Contents (Elt F)),
    StableHlo.nullary main_cst_9 (constant S_ .f32 0xFF800000#32),
    StableHlo.unary main_cst_9 main_v43 (broadcastInDim S64x2 ![] bcast_S_S64x2 : (⟨S_, .f32⟩ : BufTy).Contents (Elt F) → (⟨S64x2, .f32⟩ : BufTy).Contents (Elt F)),
    StableHlo.unary main_v43 main_v44 (id : (⟨S64x2, .f32⟩ : BufTy).Contents (Elt F) → (⟨S64x2, .f32⟩ : BufTy).Contents (Elt F)),
    StableHlo.nullary main_cst_10 (constant S_ .f32 0x00000000#32),
    StableHlo.unary main_cst_10 main_v45 (broadcastInDim S64x2 ![] bcast_S_S64x2 : (⟨S_, .f32⟩ : BufTy).Contents (Elt F) → (⟨S64x2, .f32⟩ : BufTy).Contents (Elt F)),
    StableHlo.nullary main_cst_11 (constant S_ .f32 0xFF800000#32) ]
theorem main_part0_ops2_sub : (main_part0_ops2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub ..⟩
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl
abbrev main_part1_ops0 : List (HloOp τ sig (Elt F)) :=
  [ StableHlo.TRef.unary (.of main_cst_11 : StableHlo.TRef sig ⟨S_, .f32⟩) (.of main_call1_v0 : StableHlo.TRef sig ⟨S_, .f32⟩) id,
    StableHlo.TRef.unary (.of main_call1_v0 : StableHlo.TRef sig ⟨S_, .f32⟩) (.of main_v46_1 : StableHlo.TRef sig ⟨S64x513, .f32⟩) (broadcastInDim S64x513 ![] bcast_S_S64x513),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_v46_0 : StableHlo.TRef sig ⟨S64x513, .f32⟩) (broadcastInDim S64x513 ![] bcast_S_S64x513) ]
theorem main_part1_ops0_sub : (main_part1_ops0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub ..⟩
abbrev main_part1_ops1 : List (HloOp τ sig (Elt F)) :=
  [ StableHlo.nullary main_cst_12 (constant S_ .f32 0x00000000#32),
    StableHlo.unary main_cst_12 main_v47 (broadcastInDim S2047x3x64x513 ![] bcast_S_S2047x3x64x513 : (⟨S_, .f32⟩ : BufTy).Contents (Elt F) → (⟨S2047x3x64x513, .f32⟩ : BufTy).Contents (Elt F)),
    StableHlo.nullary main_cst_13 (constant S_ .f32 0x00000000#32),
    StableHlo.unary main_cst_13 main_v48 (broadcastInDim S2047x64x513 ![] bcast_S_S2047x64x513 : (⟨S_, .f32⟩ : BufTy).Contents (Elt F) → (⟨S2047x64x513, .f32⟩ : BufTy).Contents (Elt F)),
    StableHlo.nullary main_cst_14 (constant S_ .f32 0x00000000#32),
    StableHlo.unary main_cst_14 main_v49 (broadcastInDim S2047x3x64x513 ![] bcast_S_S2047x3x64x513 : (⟨S_, .f32⟩ : BufTy).Contents (Elt F) → (⟨S2047x3x64x513, .f32⟩ : BufTy).Contents (Elt F)),
    StableHlo.nullary main_cst_15 (constant S_ .f32 0x00000000#32),
    StableHlo.unary main_cst_15 main_v50 (broadcastInDim S2047x64x513 ![] bcast_S_S2047x64x513 : (⟨S_, .f32⟩ : BufTy).Contents (Elt F) → (⟨S2047x64x513, .f32⟩ : BufTy).Contents (Elt F)),
    StableHlo.nullary main_c_16 (constantI S_ 32 0#32),
    StableHlo.unary main_v39 main_v51_0 id,
    StableHlo.unary main_v41 main_v51_1 id,
    StableHlo.unary main_v44 main_v51_2 id,
    StableHlo.unary main_v16 main_v51_3 id,
    StableHlo.unary main_v46_1 main_v51_4 id,
    StableHlo.unary main_c_16 main_v51_5 id,
    StableHlo.unary main_v38_0 main_v51_6 id,
    StableHlo.unary main_v47 main_v51_7 id,
    StableHlo.unary main_v48 main_v51_8 id,
    StableHlo.unary main_v49 main_v51_9 id,
    StableHlo.unary main_v50 main_v51_10 id ]
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev main_part1_ops2 : List (HloOp τ sig (Elt F)) :=
  ( StableHlo.nullary main_c_17 (constantI S_ 32 2#32)
  :: StableHlo.unary main_c_17 main_v52 (broadcastInDim S64 ![] bcast_S_S64 : (⟨S_, .i32⟩ : BufTy).Contents (Elt F) → (⟨S64, .i32⟩ : BufTy).Contents (Elt F))
  :: StableHlo.binary main_v52 main_arg3 main_v53 (muli : (⟨S64, .i32⟩ : BufTy).Contents (Elt F) → (⟨S64, .i32⟩ : BufTy).Contents (Elt F) → (⟨S64, .i32⟩ : BufTy).Contents (Elt F))
  :: StableHlo.nullary main_c_18 (constantI S_ 32 0#32)
  :: StableHlo.unary main_c_18 main_v54 (broadcastInDim S64 ![] bcast_S_S64 : (⟨S_, .i32⟩ : BufTy).Contents (Elt F) → (⟨S64, .i32⟩ : BufTy).Contents (Elt F))
  :: StableHlo.binary main_v0 main_v54 main_v55 (cmpi .slt : (⟨S64, .i32⟩ : BufTy).Contents (Elt F) → (⟨S64, .i32⟩ : BufTy).Contents (Elt F) → (⟨S64, .i1⟩ : BufTy).Contents (Elt F))
  :: StableHlo.nullary main_c_19 (constantI S_ 32 64#32)
  :: StableHlo.unary main_c_19 main_v56 (broadcastInDim S64 ![] bcast_S_S64 : (⟨S_, .i32⟩ : BufTy).Contents (Elt F) → (⟨S64, .i32⟩ : BufTy).Contents (Elt F))
  :: StableHlo.binary main_v0 main_v56 main_v57 (addi : (⟨S64, .i32⟩ : BufTy).Contents (Elt F) → (⟨S64, .i32⟩ : BufTy).Contents (Elt F) → (⟨S64, .i32⟩ : BufTy).Contents (Elt F))
  :: StableHlo.ternary main_v55 main_v57 main_v0 main_v58 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_20 (constantI S_ 32 0#32)
  :: StableHlo.unary main_c_20 main_v59 (broadcastInDim S64 ![] bcast_S_S64 : (⟨S_, .i32⟩ : BufTy).Contents (Elt F) → (⟨S64, .i32⟩ : BufTy).Contents (Elt F))
  :: StableHlo.binary main_v53 main_v59 main_v60 (cmpi .slt : (⟨S64, .i32⟩ : BufTy).Contents (Elt F) → (⟨S64, .i32⟩ : BufTy).Contents (Elt F) → (⟨S64, .i1⟩ : BufTy).Contents (Elt F))
  :: StableHlo.nullary main_c_21 (constantI S_ 32 513#32)
  :: StableHlo.unary main_c_21 main_v61 (broadcastInDim S64 ![] bcast_S_S64 : (⟨S_, .i32⟩ : BufTy).Contents (Elt F) → (⟨S64, .i32⟩ : BufTy).Contents (Elt F))
  :: StableHlo.binary main_v53 main_v61 main_v62 (addi : (⟨S64, .i32⟩ : BufTy).Contents (Elt F) → (⟨S64, .i32⟩ : BufTy).Contents (Elt F) → (⟨S64, .i32⟩ : BufTy).Contents (Elt F))
  :: StableHlo.ternary main_v60 main_v62 main_v53 main_v63 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v58 main_v64 (broadcastInDim S64x1 ![0] bcast_S64_S64x1_0 : (⟨S64, .i32⟩ : BufTy).Contents (Elt F) → (⟨S64x1, .i32⟩ : BufTy).Contents (Elt F))
  :: StableHlo.unary main_v63 main_v65 (broadcastInDim S64x1 ![0] bcast_S64_S64x1_0 : (⟨S64, .i32⟩ : BufTy).Contents (Elt F) → (⟨S64x1, .i32⟩ : BufTy).Contents (Elt F))
  :: StableHlo.binary main_v64 main_v65 main_v66 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v51_6 main_v66 main_v67 ((fun x i => Host.gather gather_S64x513_S64x2_S64_n_01_n_n_01_1_11 x i) : (⟨S64x513, .f32⟩ : BufTy).Contents (Elt F) → (⟨S64x2, .i32⟩ : BufTy).Contents (Elt F) → (⟨S64, .f32⟩ : BufTy).Contents (Elt F))
  :: StableHlo.nullary main_c_22 (constantI S_ 32 1#32)
  :: StableHlo.unary main_c_22 main_v68 (broadcastInDim S64 ![] bcast_S_S64 : (⟨S_, .i32⟩ : BufTy).Contents (Elt F) → (⟨S64, .i32⟩ : BufTy).Contents (Elt F))
  :: StableHlo.binary main_v53 main_v68 main_v69 (subi : (⟨S64, .i32⟩ : BufTy).Contents (Elt F) → (⟨S64, .i32⟩ : BufTy).Contents (Elt F) → (⟨S64, .i32⟩ : BufTy).Contents (Elt F))
  :: StableHlo.nullary main_c_23 (constantI S_ 32 0#32)
  :: StableHlo.unary main_c_23 main_v70 (broadcastInDim S64 ![] bcast_S_S64 : (⟨S_, .i32⟩ : BufTy).Contents (Elt F) → (⟨S64, .i32⟩ : BufTy).Contents (Elt F))
  :: StableHlo.binary main_v0 main_v70 main_v71 (cmpi .slt : (⟨S64, .i32⟩ : BufTy).Contents (Elt F) → (⟨S64, .i32⟩ : BufTy).Contents (Elt F) → (⟨S64, .i1⟩ : BufTy).Contents (Elt F))
  :: StableHlo.nullary main_c_24 (constantI S_ 32 64#32)
  :: StableHlo.unary main_c_24 main_v72 (broadcastInDim S64 ![] bcast_S_S64 : (⟨S_, .i32⟩ : BufTy).Contents (Elt F) → (⟨S64, .i32⟩ : BufTy).Contents (Elt F))
  :: StableHlo.binary main_v0 main_v72 main_v73 (addi : (⟨S64, .i32⟩ : BufTy).Contents (Elt F) → (⟨S64, .i32⟩ : BufTy).Contents (Elt F) → (⟨S64, .i32⟩ : BufTy).Contents (Elt F))
  :: StableHlo.ternary main_v71 main_v73 main_v0 main_v74 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.nullary main_c_25 (constantI S_ 32 0#32)
  :: StableHlo.unary main_c_25 main_v75 (broadcastInDim S64 ![] bcast_S_S64 : (⟨S_, .i32⟩ : BufTy).Contents (Elt F) → (⟨S64, .i32⟩ : BufTy).Contents (Elt F))
  :: StableHlo.binary main_v69 main_v75 main_v76 (cmpi .slt : (⟨S64, .i32⟩ : BufTy).Contents (Elt F) → (⟨S64, .i32⟩ : BufTy).Contents (Elt F) → (⟨S64, .i1⟩ : BufTy).Contents (Elt F))
  :: StableHlo.nullary main_c_26 (constantI S_ 32 513#32)
  :: StableHlo.unary main_c_26 main_v77 (broadcastInDim S64 ![] bcast_S_S64 : (⟨S_, .i32⟩ : BufTy).Contents (Elt F) → (⟨S64, .i32⟩ : BufTy).Contents (Elt F))
  :: StableHlo.binary main_v69 main_v77 main_v78 (addi : (⟨S64, .i32⟩ : BufTy).Contents (Elt F) → (⟨S64, .i32⟩ : BufTy).Contents (Elt F) → (⟨S64, .i32⟩ : BufTy).Contents (Elt F))
  :: StableHlo.ternary main_v76 main_v78 main_v69 main_v79 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: [] )
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem main_part1_chain (c : Dev nD) : main_part1 (F := F) c = (Pipeline.chainK
  [ StableHlo.seq main_part1_ops0,
    StableHlo.seq main_part1_ops1,
    HostLoop.enter 0 ]
  (StableHlo.seq main_part1_ops2) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons, Pipeline.chainK_cons]
  chain_rfl
abbrev main_part2_ops0 : List (HloOp τ sig (Elt F)) :=
  ( StableHlo.unary main_v74 main_v80 (broadcastInDim S64x1 ![0] bcast_S64_S64x1_0 : (⟨S64, .i32⟩ : BufTy).Contents (Elt F) → (⟨S64x1, .i32⟩ : BufTy).Contents (Elt F))
  :: StableHlo.unary main_v79 main_v81 (broadcastInDim S64x1 ![0] bcast_S64_S64x1_0 : (⟨S64, .i32⟩ : BufTy).Contents (Elt F) → (⟨S64x1, .i32⟩ : BufTy).Contents (Elt F))
  :: StableHlo.binary main_v80 main_v81 main_v82 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))
  :: StableHlo.binary main_v51_6 main_v82 main_v83 ((fun x i => Host.gather gather_S64x513_S64x2_S64_n_01_n_n_01_1_11 x i) : (⟨S64x513, .f32⟩ : BufTy).Contents (Elt F) → (⟨S64x2, .i32⟩ : BufTy).Contents (Elt F) → (⟨S64, .f32⟩ : BufTy).Contents (Elt F))
  :: StableHlo.binary main_v67 main_v83 main_v84 (maximumf : (⟨S64, .f32⟩ : BufTy).Contents (Elt F) → (⟨S64, .f32⟩ : BufTy).Contents (Elt F) → (⟨S64, .f32⟩ : BufTy).Contents (Elt F))
  :: StableHlo.binary main_v67 main_v83 main_v85 (cmpf .ogt : (⟨S64, .f32⟩ : BufTy).Contents (Elt F) → (⟨S64, .f32⟩ : BufTy).Contents (Elt F) → (⟨S64, .i1⟩ : BufTy).Contents (Elt F))
  :: StableHlo.binary main_v67 main_v83 main_v86 (cmpf .oeq : (⟨S64, .f32⟩ : BufTy).Contents (Elt F) → (⟨S64, .f32⟩ : BufTy).Contents (Elt F) → (⟨S64, .i1⟩ : BufTy).Contents (Elt F))
  :: StableHlo.nullary main_cst_27 (constant S_ .f32 0x3F800000#32)
  :: StableHlo.unary main_cst_27 main_v87 (broadcastInDim S64 ![] bcast_S_S64 : (⟨S_, .f32⟩ : BufTy).Contents (Elt F) → (⟨S64, .f32⟩ : BufTy).Contents (Elt F))
  :: StableHlo.nullary main_cst_28 (constant S_ .f32 0x00000000#32)
  :: StableHlo.unary main_cst_28 main_v88 (broadcastInDim S64 ![] bcast_S_S64 : (⟨S_, .f32⟩ : BufTy).Contents (Elt F) → (⟨S64, .f32⟩ : BufTy).Contents (Elt F))
  :: StableHlo.nullary main_cst_29 (constant S_ .f32 0x3F000000#32)
  :: StableHlo.unary main_cst_29 main_v89 (broadcastInDim S64 ![] bcast_S_S64 : (⟨S_, .f32⟩ : BufTy).Contents (Elt F) → (⟨S64, .f32⟩ : BufTy).Contents (Elt F))
  :: StableHlo.ternary main_v86 main_v89 main_v88 main_v90 (select : (⟨S64, .i1⟩ : BufTy).Contents (Elt F) → (⟨S64, .f32⟩ : BufTy).Contents (Elt F) → (⟨S64, .f32⟩ : BufTy).Contents (Elt F) → (⟨S64, .f32⟩ : BufTy).Contents (Elt F))
  :: StableHlo.ternary main_v85 main_v87 main_v90 main_v91 (select : (⟨S64, .i1⟩ : BufTy).Contents (Elt F) → (⟨S64, .f32⟩ : BufTy).Contents (Elt F) → (⟨S64, .f32⟩ : BufTy).Contents (Elt F) → (⟨S64, .f32⟩ : BufTy).Contents (Elt F))
  :: StableHlo.binary main_v83 main_v67 main_v92 (cmpf .ogt : (⟨S64, .f32⟩ : BufTy).Contents (Elt F) → (⟨S64, .f32⟩ : BufTy).Contents (Elt F) → (⟨S64, .i1⟩ : BufTy).Contents (Elt F))
  :: StableHlo.binary main_v83 main_v67 main_v93 (cmpf .oeq : (⟨S64, .f32⟩ : BufTy).Contents (Elt F) → (⟨S64, .f32⟩ : BufTy).Contents (Elt F) → (⟨S64, .i1⟩ : BufTy).Contents (Elt F))
  :: StableHlo.nullary main_cst_30 (constant S_ .f32 0x3F800000#32)
  :: StableHlo.unary main_cst_30 main_v94 (broadcastInDim S64 ![] bcast_S_S64 : (⟨S_, .f32⟩ : BufTy).Contents (Elt F) → (⟨S64, .f32⟩ : BufTy).Contents (Elt F))
  :: StableHlo.nullary main_cst_31 (constant S_ .f32 0x00000000#32)
  :: StableHlo.unary main_cst_31 main_v95 (broadcastInDim S64 ![] bcast_S_S64 : (⟨S_, .f32⟩ : BufTy).Contents (Elt F) → (⟨S64, .f32⟩ : BufTy).Contents (Elt F))
  :: StableHlo.nullary main_cst_32 (constant S_ .f32 0x3F000000#32)
  :: StableHlo.unary main_cst_32 main_v96 (broadcastInDim S64 ![] bcast_S_S64 : (⟨S_, .f32⟩ : BufTy).Contents (Elt F) → (⟨S64, .f32⟩ : BufTy).Contents (Elt F))
  :: StableHlo.ternary main_v93 main_v96 main_v95 main_v97 (select : (⟨S64, .i1⟩ : BufTy).Contents (Elt F) → (⟨S64, .f32⟩ : BufTy).Contents (Elt F) → (⟨S64, .f32⟩ : BufTy).Contents (Elt F) → (⟨S64, .f32⟩ : BufTy).Contents (Elt F))
  :: StableHlo.ternary main_v92 main_v94 main_v97 main_v98 (select : (⟨S64, .i1⟩ : BufTy).Contents (Elt F) → (⟨S64, .f32⟩ : BufTy).Contents (Elt F) → (⟨S64, .f32⟩ : BufTy).Contents (Elt F) → (⟨S64, .f32⟩ : BufTy).Contents (Elt F))
  :: StableHlo.binary main_v67 main_v84 main_v99 (subf : (⟨S64, .f32⟩ : BufTy).Contents (Elt F) → (⟨S64, .f32⟩ : BufTy).Contents (Elt F) → (⟨S64, .f32⟩ : BufTy).Contents (Elt F))
  :: StableHlo.unary main_v99 main_v100 (Host.exp : (⟨S64, .f32⟩ : BufTy).Contents (Elt F) → (⟨S64, .f32⟩ : BufTy).Contents (Elt F))
  :: StableHlo.binary main_v83 main_v84 main_v101 (subf : (⟨S64, .f32⟩ : BufTy).Contents (Elt F) → (⟨S64, .f32⟩ : BufTy).Contents (Elt F) → (⟨S64, .f32⟩ : BufTy).Contents (Elt F))
  :: StableHlo.unary main_v101 main_v102 (Host.exp : (⟨S64, .f32⟩ : BufTy).Contents (Elt F) → (⟨S64, .f32⟩ : BufTy).Contents (Elt F))
  :: StableHlo.binary main_v100 main_v102 main_v103 (addf : (⟨S64, .f32⟩ : BufTy).Contents (Elt F) → (⟨S64, .f32⟩ : BufTy).Contents (Elt F) → (⟨S64, .f32⟩ : BufTy).Contents (Elt F))
  :: StableHlo.unary main_v103 main_v104 (Host.log : (⟨S64, .f32⟩ : BufTy).Contents (Elt F) → (⟨S64, .f32⟩ : BufTy).Contents (Elt F))
  :: StableHlo.binary main_v84 main_v104 main_v105 (addf : (⟨S64, .f32⟩ : BufTy).Contents (Elt F) → (⟨S64, .f32⟩ : BufTy).Contents (Elt F) → (⟨S64, .f32⟩ : BufTy).Contents (Elt F))
  :: StableHlo.nullary main_cst_33 (constant S_ .f32 0x00000000#32)
  :: StableHlo.binary main_v105 main_cst_33 main_v106 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F))
  :: StableHlo.nullary main_cst_34 (constant S_ .f32 0x3F800000#32)
  :: StableHlo.unary main_cst_34 main_v107 (broadcastInDim S64 ![] bcast_S_S64 : (⟨S_, .f32⟩ : BufTy).Contents (Elt F) → (⟨S64, .f32⟩ : BufTy).Contents (Elt F))
  :: StableHlo.binary main_v107 main_v103 main_v108 (Host.divf : (⟨S64, .f32⟩ : BufTy).Contents (Elt F) → (⟨S64, .f32⟩ : BufTy).Contents (Elt F) → (⟨S64, .f32⟩ : BufTy).Contents (Elt F))
  :: StableHlo.binary main_v108 main_v102 main_v109 (mulf : (⟨S64, .f32⟩ : BufTy).Contents (Elt F) → (⟨S64, .f32⟩ : BufTy).Contents (Elt F) → (⟨S64, .f32⟩ : BufTy).Contents (Elt F))
  :: StableHlo.unary main_v109 main_v110 (Host.negf : (⟨S64, .f32⟩ : BufTy).Contents (Elt F) → (⟨S64, .f32⟩ : BufTy).Contents (Elt F))
  :: StableHlo.binary main_v107 main_v110 main_v111 (addf : (⟨S64, .f32⟩ : BufTy).Contents (Elt F) → (⟨S64, .f32⟩ : BufTy).Contents (Elt F) → (⟨S64, .f32⟩ : BufTy).Contents (Elt F))
  :: StableHlo.binary main_v108 main_v100 main_v112 (mulf : (⟨S64, .f32⟩ : BufTy).Contents (Elt F) → (⟨S64, .f32⟩ : BufTy).Contents (Elt F) → (⟨S64, .f32⟩ : BufTy).Contents (Elt F))
  :: StableHlo.unary main_v112 main_v113 (Host.negf : (⟨S64, .f32⟩ : BufTy).Contents (Elt F) → (⟨S64, .f32⟩ : BufTy).Contents (Elt F))
  :: StableHlo.binary main_v111 main_v113 main_v114 (addf : (⟨S64, .f32⟩ : BufTy).Contents (Elt F) → (⟨S64, .f32⟩ : BufTy).Contents (Elt F) → (⟨S64, .f32⟩ : BufTy).Contents (Elt F))
  :: StableHlo.binary main_v114 main_v98 main_v115 (mulf : (⟨S64, .f32⟩ : BufTy).Contents (Elt F) → (⟨S64, .f32⟩ : BufTy).Contents (Elt F) → (⟨S64, .f32⟩ : BufTy).Contents (Elt F))
  :: StableHlo.binary main_v109 main_v115 main_v116 (addf : (⟨S64, .f32⟩ : BufTy).Contents (Elt F) → (⟨S64, .f32⟩ : BufTy).Contents (Elt F) → (⟨S64, .f32⟩ : BufTy).Contents (Elt F))
  :: StableHlo.binary main_v114 main_v91 main_v117 (mulf : (⟨S64, .f32⟩ : BufTy).Contents (Elt F) → (⟨S64, .f32⟩ : BufTy).Contents (Elt F) → (⟨S64, .f32⟩ : BufTy).Contents (Elt F))
  :: StableHlo.binary main_v112 main_v117 main_v118 (addf : (⟨S64, .f32⟩ : BufTy).Contents (Elt F) → (⟨S64, .f32⟩ : BufTy).Contents (Elt F) → (⟨S64, .f32⟩ : BufTy).Contents (Elt F))
  :: StableHlo.nullary main_cst_35 (constant S_ .f32 0x00000000#32)
  :: StableHlo.unary main_cst_35 main_v119 (broadcastInDim S64x513 ![] bcast_S_S64x513 : (⟨S_, .f32⟩ : BufTy).Contents (Elt F) → (⟨S64x513, .f32⟩ : BufTy).Contents (Elt F))
  :: StableHlo.ternary main_v119 main_v82 main_v116 main_v120 ((fun x i u => Host.scatterAdd scatter_S64x513_S64x2_S64_n_01_01_1 x i u) : (⟨S64x513, .f32⟩ : BufTy).Contents (Elt F) → (⟨S64x2, .i32⟩ : BufTy).Contents (Elt F) → (⟨S64, .f32⟩ : BufTy).Contents (Elt F) → (⟨S64x513, .f32⟩ : BufTy).Contents (Elt F))
  :: StableHlo.nullary main_cst_36 (constant S_ .f32 0x00000000#32)
  :: StableHlo.unary main_cst_36 main_v121 (broadcastInDim S64x513 ![] bcast_S_S64x513 : (⟨S_, .f32⟩ : BufTy).Contents (Elt F) → (⟨S64x513, .f32⟩ : BufTy).Contents (Elt F))
  :: StableHlo.ternary main_v121 main_v66 main_v118 main_v122 ((fun x i u => Host.scatterAdd scatter_S64x513_S64x2_S64_n_01_01_1 x i u) : (⟨S64x513, .f32⟩ : BufTy).Contents (Elt F) → (⟨S64x2, .i32⟩ : BufTy).Contents (Elt F) → (⟨S64, .f32⟩ : BufTy).Contents (Elt F) → (⟨S64x513, .f32⟩ : BufTy).Contents (Elt F))
  :: StableHlo.binary main_v120 main_v122 main_v123 (addf : (⟨S64x513, .f32⟩ : BufTy).Contents (Elt F) → (⟨S64x513, .f32⟩ : BufTy).Contents (Elt F) → (⟨S64x513, .f32⟩ : BufTy).Contents (Elt F))
  :: StableHlo.nullary main_cst_37 (constant S_ .f32 0x00000000#32)
  :: StableHlo.unary main_cst_37 main_v124 (broadcastInDim S2047x64x513 ![] bcast_S_S2047x64x513 : (⟨S_, .f32⟩ : BufTy).Contents (Elt F) → (⟨S2047x64x513, .f32⟩ : BufTy).Contents (Elt F))
  :: StableHlo.nullary main_c_38 (constantI S_ 32 0#32)
  :: StableHlo.unary main_v51_7 main_v125_0 id
  :: StableHlo.unary main_v51_8 main_v125_1 id
  :: StableHlo.unary main_v51_9 main_v125_2 id
  :: [] )
theorem main_part2_ops0_sub : (main_part2_ops0 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.ternary_bufs_sub .., StableHlo.ternary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.ternary_bufs_sub .., StableHlo.ternary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.ternary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub ..⟩
theorem main_part2_chain (c : Dev nD) : main_part2 (F := F) c = (Pipeline.chainK
  [  ]
  (StableHlo.seq main_part2_ops0) : Prog (TpuEff nD τ sig (Elt F) (HostLoop.Sig (Pipeline.Sig Λ₀ (Fin 0) fun p => (pcfgs (F := F) p).Adm) 2) .tc) PUnit) := by
  chain_rfl
abbrev main_part3_ops0 : List (HloOp τ sig (Elt F)) :=
  [ StableHlo.unary main_v51_10 main_v125_3 id,
    StableHlo.unary main_v42 main_v125_4 id,
    StableHlo.unary main_v45 main_v125_5 id,
    StableHlo.unary main_v16 main_v125_6 id,
    StableHlo.unary main_v46_0 main_v125_7 id,
    StableHlo.unary main_c_38 main_v125_8 id,
    StableHlo.unary main_v123 main_v125_9 id,
    StableHlo.unary main_v124 main_v125_10 id ]
theorem main_part3_ops0_sub : (main_part3_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev main_part3_ops1 : List (HloOp τ sig (Elt F)) :=
  [ StableHlo.nullary main_cst_39 (constant S_ .f32 0x00000000#32),
    StableHlo.binary main_v125_10 main_cst_39 main_v126 ((fun x v => pad S2048x64x513 ![1, 0, 0] ![0, 0, 0] ![0, 0, 0] x v pads_S2047x64x513_S2048x64x513_100_000_000 h_S_) : (⟨S2047x64x513, .f32⟩ : BufTy).Contents (Elt F) → (⟨S_, .f32⟩ : BufTy).Contents (Elt F) → (⟨S2048x64x513, .f32⟩ : BufTy).Contents (Elt F)) ]
theorem main_part3_ops1_sub : (main_part3_ops1 : List (HloOp τ sig (Elt F))).Forall fun op => op.bufs ⊆ StableHlo.tcRefs τ sig :=
  ⟨StableHlo.nullary_bufs_sub .., StableHlo.binary_bufs_sub ..⟩
abbrev main_part3_ops2 : List (HloOp τ sig (Elt F)) :=
  [ StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S64x513, .f32⟩) (broadcastInDim S64x513 ![] bcast_S_S64x513),
    StableHlo.TRef.ternary (.of main_v38_1 : StableHlo.TRef sig ⟨S64x513, .i1⟩) (.of main_v125_9 : StableHlo.TRef sig ⟨S64x513, .f32⟩) (.of main_call14_v0 : StableHlo.TRef sig ⟨S64x513, .f32⟩) (.of main_v127 : StableHlo.TRef sig ⟨S64x513, .f32⟩) select ]
theorem main_part3_ops2_sub : (main_part3_ops2 : List (HloOp τ sig (Elt F))).Forall fun op => op.bufs ⊆ StableHlo.tcRefs τ sig :=
  ⟨StableHlo.nullary_bufs_sub .., StableHlo.unary_bufs_sub .., StableHlo.ternary_bufs_sub ..⟩
abbrev main_part3_ops3 : List (HloOp τ sig (Elt F)) :=
  [ StableHlo.unary main_v127 main_v128 (broadcastInDim S1x64x513 ![1, 2] bcast_S64x513_S1x64x513_1_2 : (⟨S64x513, .f32⟩ : BufTy).Contents (Elt F) → (⟨S1x64x513, .f32⟩ : BufTy).Contents (Elt F)),
    StableHlo.nullary main_cst_40 (constant S_ .f32 0x00000000#32),
    StableHlo.binary main_v128 main_cst_40 main_v129 ((fun x v => pad S2048x64x513 ![0, 0, 0] ![2047, 0, 0] ![0, 0, 0] x v pads_S1x64x513_S2048x64x513_020470_000_000 h_S_) : (⟨S1x64x513, .f32⟩ : BufTy).Contents (Elt F) → (⟨S_, .f32⟩ : BufTy).Contents (Elt F) → (⟨S2048x64x513, .f32⟩ : BufTy).Contents (Elt F)),
    StableHlo.binary main_v126 main_v129 main_v130 (addf : (⟨S2048x64x513, .f32⟩ : BufTy).Contents (Elt F) → (⟨S2048x64x513, .f32⟩ : BufTy).Contents (Elt F) → (⟨S2048x64x513, .f32⟩ : BufTy).Contents (Elt F)),
    StableHlo.nullary main_cst_41 (constant S_ .f32 0x00000000#32),
    StableHlo.unary main_cst_41 main_v131 (broadcastInDim S2048x64x128 ![] bcast_S_S2048x64x128 : (⟨S_, .f32⟩ : BufTy).Contents (Elt F) → (⟨S2048x64x128, .f32⟩ : BufTy).Contents (Elt F)),
    StableHlo.ternary main_v131 main_v31 main_v130 main_v132 ((fun x i u => Host.scatterAdd scatter_S2048x64x128_S64x513x2_S2048x64x513_0_12_12_2 x i u) : (⟨S2048x64x128, .f32⟩ : BufTy).Contents (Elt F) → (⟨S64x513x2, .i32⟩ : BufTy).Contents (Elt F) → (⟨S2048x64x513, .f32⟩ : BufTy).Contents (Elt F) → (⟨S2048x64x128, .f32⟩ : BufTy).Contents (Elt F)),
    StableHlo.binary main_v132 main_arg0 main_v133 (mulf : (⟨S2048x64x128, .f32⟩ : BufTy).Contents (Elt F) → (⟨S2048x64x128, .f32⟩ : BufTy).Contents (Elt F) → (⟨S2048x64x128, .f32⟩ : BufTy).Contents (Elt F)),
    StableHlo.nullary main_cst_42 (constant S_ .f32 0x00000000#32),
    StableHlo.binary main_v133 main_cst_42 main_v134 ((fun x v => Host.reduceAdd x v reducesTo_S2048x64x128_S_d0_1_2 h_S_) : (⟨S2048x64x128, .f32⟩ : BufTy).Contents (Elt F) → (⟨S_, .f32⟩ : BufTy).Contents (Elt F) → (⟨S_, .f32⟩ : BufTy).Contents (Elt F)),
    StableHlo.nullary main_cst_43 (constant S_ .f32 0x42800000#32),
    StableHlo.binary main_v134 main_cst_43 main_v135 (Host.divf : (⟨S_, .f32⟩ : BufTy).Contents (Elt F) → (⟨S_, .f32⟩ : BufTy).Contents (Elt F) → (⟨S_, .f32⟩ : BufTy).Contents (Elt F)),
    StableHlo.nullary main_cst_44 (constant S_ .f32 0xC0800000#32),
    StableHlo.binary main_v135 main_cst_44 main_v136 (Host.divf : (⟨S_, .f32⟩ : BufTy).Contents (Elt F) → (⟨S_, .f32⟩ : BufTy).Contents (Elt F) → (⟨S_, .f32⟩ : BufTy).Contents (Elt F)) ]
theorem main_part3_ops3_sub : (main_part3_ops3 : List (HloOp τ sig (Elt F))).Forall fun op => op.bufs ⊆ StableHlo.tcRefs τ sig :=
  ⟨StableHlo.unary_bufs_sub .., StableHlo.nullary_bufs_sub .., StableHlo.binary_bufs_sub .., StableHlo.binary_bufs_sub .., StableHlo.nullary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩
theorem main_part3_chain (c : Dev nD) : main_part3 (F := F) c = (Pipeline.chain
  [ StableHlo.seq main_part3_ops0,
    HostLoop.enter 1,
    StableHlo.seq main_part3_ops1,
    StableHlo.seq main_part3_ops2,
    StableHlo.seq main_part3_ops3 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl
theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    HostLoop.enter 0,
    StableHlo.seq main_part1_ops2,
    StableHlo.seq main_part2_ops0,
    StableHlo.seq main_part3_ops0,
    HostLoop.enter 1,
    StableHlo.seq main_part3_ops1,
    StableHlo.seq main_part3_ops2,
    StableHlo.seq main_part3_ops3 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl
abbrev while0Ops0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v51_0 : StableHlo.TRef sig ⟨S2047x64x513, .f32⟩) ![(.of main_v51_5 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x64x513, .f32⟩) (fun x i => Host.dynamicSlice S1x64x513 x (fun k => (i k (Shape.Idx.first h_S_)).toInt) sliceFits_S2047x64x513_S1x64x513),
    StableHlo.TRef.reshape (.of main_while0b_call2_v0 : StableHlo.TRef sig ⟨S1x64x513, .f32⟩) (.of main_while0b_v137 : StableHlo.TRef sig ⟨S64x513, .f32⟩) (rfl : (.f32 : EltTy) = .f32) shapeCasts_S1x64x513_S64x513 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev while0Ops0_1 : List (HloOp τ sig (Elt F)) :=
  [ StableHlo.unary main_v51_6 main_while0b_v138 ((extractStridedSlice S64x512 ![0, 0] · slices_S64x513_S64x512_0_0) : (⟨S64x513, .f32⟩ : BufTy).Contents (Elt F) → (⟨S64x512, .f32⟩ : BufTy).Contents (Elt F)),
    StableHlo.binary main_v51_1 main_while0b_v138 main_while0b_v139 ((fun a b => concatenate S64x513 1 [⟨S64x1, a⟩, ⟨S64x512, b⟩] concatenates_S64x1_S64x512_S64x513_d1) : (⟨S64x1, .f32⟩ : BufTy).Contents (Elt F) → (⟨S64x512, .f32⟩ : BufTy).Contents (Elt F) → (⟨S64x513, .f32⟩ : BufTy).Contents (Elt F)),
    StableHlo.unary main_v51_6 main_while0b_v140 ((extractStridedSlice S64x511 ![0, 0] · slices_S64x513_S64x511_0_0) : (⟨S64x513, .f32⟩ : BufTy).Contents (Elt F) → (⟨S64x511, .f32⟩ : BufTy).Contents (Elt F)),
    StableHlo.binary main_v51_2 main_while0b_v140 main_while0b_v141 ((fun a b => concatenate S64x513 1 [⟨S64x2, a⟩, ⟨S64x511, b⟩] concatenates_S64x2_S64x511_S64x513_d1) : (⟨S64x2, .f32⟩ : BufTy).Contents (Elt F) → (⟨S64x511, .f32⟩ : BufTy).Contents (Elt F) → (⟨S64x513, .f32⟩ : BufTy).Contents (Elt F)) ]
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
abbrev while0Ops0_2 : List (HloOp τ sig (Elt F)) :=
  [ StableHlo.TRef.ternary (.of main_v51_3 : StableHlo.TRef sig ⟨S64x513, .i1⟩) (.of main_while0b_v141 : StableHlo.TRef sig ⟨S64x513, .f32⟩) (.of main_v51_4 : StableHlo.TRef sig ⟨S64x513, .f32⟩) (.of main_while0b_v142 : StableHlo.TRef sig ⟨S64x513, .f32⟩) select ]
theorem while0Ops0_2_sub : (while0Ops0_2 : List (HloOp τ sig (Elt F))).Forall fun op => op.bufs ⊆ StableHlo.tcRefs τ sig :=
  StableHlo.ternary_bufs_sub ..
abbrev while0Ops0_3 : List (HloOp τ sig (Elt F)) :=
  [ StableHlo.unary main_v51_6 main_while0b_v143 (broadcastInDim S1x64x513 ![1, 2] bcast_S64x513_S1x64x513_1_2 : (⟨S64x513, .f32⟩ : BufTy).Contents (Elt F) → (⟨S1x64x513, .f32⟩ : BufTy).Contents (Elt F)),
    StableHlo.unary main_while0b_v139 main_while0b_v144 (broadcastInDim S1x64x513 ![1, 2] bcast_S64x513_S1x64x513_1_2 : (⟨S64x513, .f32⟩ : BufTy).Contents (Elt F) → (⟨S1x64x513, .f32⟩ : BufTy).Contents (Elt F)),
    StableHlo.unary main_while0b_v142 main_while0b_v145 (broadcastInDim S1x64x513 ![1, 2] bcast_S64x513_S1x64x513_1_2 : (⟨S64x513, .f32⟩ : BufTy).Contents (Elt F) → (⟨S1x64x513, .f32⟩ : BufTy).Contents (Elt F)),
    StableHlo.nary ![main_while0b_v143, main_while0b_v144, main_while0b_v145] main_while0b_v146 (fun u => (concatenate S3x64x513 0 [⟨S1x64x513, (u 0 : (⟨S1x64x513, .f32⟩ : BufTy).Contents (Elt F))⟩, ⟨S1x64x513, (u 1 : (⟨S1x64x513, .f32⟩ : BufTy).Contents (Elt F))⟩, ⟨S1x64x513, (u 2 : (⟨S1x64x513, .f32⟩ : BufTy).Contents (Elt F))⟩] concatenates_S1x64x513_S1x64x513_S1x64x513_S3x64x513_d0 : (⟨S3x64x513, .f32⟩ : BufTy).Contents (Elt F))),
    StableHlo.nullary main_while0b_cst_55 (constant S_ .f32 0xFF800000#32),
    StableHlo.binary main_while0b_v146 main_while0b_cst_55 main_while0b_v147 ((fun x v => Host.reduce FloatOps.maximumf x v reducesTo_S3x64x513_S64x513_d0 h_S_) : (⟨S3x64x513, .f32⟩ : BufTy).Contents (Elt F) → (⟨S_, .f32⟩ : BufTy).Contents (Elt F) → (⟨S64x513, .f32⟩ : BufTy).Contents (Elt F)),
    StableHlo.reshape main_while0b_v147 main_while0b_v148 (rfl : (.f32 : EltTy) = .f32) shapeCasts_S64x513_S1x64x513,
    StableHlo.unary main_while0b_v148 main_while0b_v149 (broadcastInDim S3x64x513 ![0, 1, 2] bcast_S1x64x513_S3x64x513_0_1_2 : (⟨S1x64x513, .f32⟩ : BufTy).Contents (Elt F) → (⟨S3x64x513, .f32⟩ : BufTy).Contents (Elt F)),
    StableHlo.binary main_while0b_v146 main_while0b_v149 main_while0b_v150 (cmpf .oeq : (⟨S3x64x513, .f32⟩ : BufTy).Contents (Elt F) → (⟨S3x64x513, .f32⟩ : BufTy).Contents (Elt F) → (⟨S3x64x513, .i1⟩ : BufTy).Contents (Elt F)),
    StableHlo.unary main_while0b_v150 main_while0b_v151 (uitofp .f32 : (⟨S3x64x513, .i1⟩ : BufTy).Contents (Elt F) → (⟨S3x64x513, .f32⟩ : BufTy).Contents (Elt F)),
    StableHlo.nullary main_while0b_cst_56 (constant S_ .f32 0x00000000#32),
    StableHlo.binary main_while0b_v151 main_while0b_cst_56 main_while0b_v152 ((fun x v => Host.reduceAdd x v reducesTo_S3x64x513_S64x513_d0 h_S_) : (⟨S3x64x513, .f32⟩ : BufTy).Contents (Elt F) → (⟨S_, .f32⟩ : BufTy).Contents (Elt F) → (⟨S64x513, .f32⟩ : BufTy).Contents (Elt F)),
    StableHlo.unary main_while0b_v147 main_while0b_v153 (broadcastInDim S1x64x513 ![1, 2] bcast_S64x513_S1x64x513_1_2 : (⟨S64x513, .f32⟩ : BufTy).Contents (Elt F) → (⟨S1x64x513, .f32⟩ : BufTy).Contents (Elt F)),
    StableHlo.unary main_while0b_v153 main_while0b_v154 (broadcastInDim S3x64x513 ![0, 1, 2] bcast_S1x64x513_S3x64x513_0_1_2 : (⟨S1x64x513, .f32⟩ : BufTy).Contents (Elt F) → (⟨S3x64x513, .f32⟩ : BufTy).Contents (Elt F)),
    StableHlo.binary main_while0b_v146 main_while0b_v154 main_while0b_v155 (subf : (⟨S3x64x513, .f32⟩ : BufTy).Contents (Elt F) → (⟨S3x64x513, .f32⟩ : BufTy).Contents (Elt F) → (⟨S3x64x513, .f32⟩ : BufTy).Contents (Elt F)),
    StableHlo.unary main_while0b_v155 main_while0b_v156 (Host.exp : (⟨S3x64x513, .f32⟩ : BufTy).Contents (Elt F) → (⟨S3x64x513, .f32⟩ : BufTy).Contents (Elt F)),
    StableHlo.nullary main_while0b_cst_57 (constant S_ .f32 0x00000000#32),
    StableHlo.binary main_while0b_v156 main_while0b_cst_57 main_while0b_v157 ((fun x v => Host.reduceAdd x v reducesTo_S3x64x513_S64x513_d0 h_S_) : (⟨S3x64x513, .f32⟩ : BufTy).Contents (Elt F) → (⟨S_, .f32⟩ : BufTy).Contents (Elt F) → (⟨S64x513, .f32⟩ : BufTy).Contents (Elt F)),
    StableHlo.unary main_while0b_v157 main_while0b_v158 (Host.log : (⟨S64x513, .f32⟩ : BufTy).Contents (Elt F) → (⟨S64x513, .f32⟩ : BufTy).Contents (Elt F)),
    StableHlo.binary main_while0b_v147 main_while0b_v158 main_while0b_v159 (addf : (⟨S64x513, .f32⟩ : BufTy).Contents (Elt F) → (⟨S64x513, .f32⟩ : BufTy).Contents (Elt F) → (⟨S64x513, .f32⟩ : BufTy).Contents (Elt F)),
    StableHlo.binary main_while0b_v159 main_while0b_v137 main_while0b_v160 (addf : (⟨S64x513, .f32⟩ : BufTy).Contents (Elt F) → (⟨S64x513, .f32⟩ : BufTy).Contents (Elt F) → (⟨S64x513, .f32⟩ : BufTy).Contents (Elt F)) ]
theorem while0Ops0_3_sub : (while0Ops0_3 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.nullary_bufs_sub .., StableHlo.binary_bufs_sub .., StableHlo.reshape_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub ..⟩
abbrev while0Ops0_4 : List (HloOp τ sig (Elt F)) :=
  [ StableHlo.TRef.unary (.of main_while0b_v151 : StableHlo.TRef sig ⟨S3x64x513, .f32⟩) (.of main_while0b_call4_v0 : StableHlo.TRef sig ⟨S1x3x64x513, .f32⟩) (broadcastInDim S1x3x64x513 ![1, 2, 3] bcast_S3x64x513_S1x3x64x513_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v51_7 : StableHlo.TRef sig ⟨S2047x3x64x513, .f32⟩) (.of main_while0b_call4_v0 : StableHlo.TRef sig ⟨S1x3x64x513, .f32⟩) ![(.of main_v51_5 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v161 : StableHlo.TRef sig ⟨S2047x3x64x513, .f32⟩) (fun x u i => Host.dynamicUpdateSlice x u (fun k => (i k (Shape.Idx.first h_S_)).toInt) updateFits_S2047x3x64x513_S1x3x64x513) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
abbrev while0Ops0_5 : List (HloOp τ sig (Elt F)) :=
  [ StableHlo.TRef.unary (.of main_while0b_v152 : StableHlo.TRef sig ⟨S64x513, .f32⟩) (.of main_while0b_call5_v0 : StableHlo.TRef sig ⟨S1x64x513, .f32⟩) (broadcastInDim S1x64x513 ![1, 2] bcast_S64x513_S1x64x513_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v51_8 : StableHlo.TRef sig ⟨S2047x64x513, .f32⟩) (.of main_while0b_call5_v0 : StableHlo.TRef sig ⟨S1x64x513, .f32⟩) ![(.of main_v51_5 : StableHlo.TRef sig ⟨S_, .i32⟩), (.of main_while0b_call5_c : StableHlo.TRef sig ⟨S_, .i32⟩), (.of main_while0b_call5_c_0 : StableHlo.TRef sig ⟨S_, .i32⟩)] (.of main_while0b_v162 : StableHlo.TRef sig ⟨S2047x64x513, .f32⟩) (fun x u i => Host.dynamicUpdateSlice x u (fun k => (i k (Shape.Idx.first h_S_)).toInt) updateFits_S2047x64x513_S1x64x513) ]
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev while0Ops0_6 : List (HloOp τ sig (Elt F)) :=
  [ StableHlo.TRef.unary (.of main_while0b_v156 : StableHlo.TRef sig ⟨S3x64x513, .f32⟩) (.of main_while0b_call6_v0 : StableHlo.TRef sig ⟨S1x3x64x513, .f32⟩) (broadcastInDim S1x3x64x513 ![1, 2, 3] bcast_S3x64x513_S1x3x64x513_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v51_9 : StableHlo.TRef sig ⟨S2047x3x64x513, .f32⟩) (.of main_while0b_call6_v0 : StableHlo.TRef sig ⟨S1x3x64x513, .f32⟩) ![(.of main_v51_5 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v163 : StableHlo.TRef sig ⟨S2047x3x64x513, .f32⟩) (fun x u i => Host.dynamicUpdateSlice x u (fun k => (i k (Shape.Idx.first h_S_)).toInt) updateFits_S2047x3x64x513_S1x3x64x513) ]
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
abbrev while0Ops0_7 : List (HloOp τ sig (Elt F)) :=
  [ StableHlo.TRef.unary (.of main_while0b_v157 : StableHlo.TRef sig ⟨S64x513, .f32⟩) (.of main_while0b_call7_v0 : StableHlo.TRef sig ⟨S1x64x513, .f32⟩) (broadcastInDim S1x64x513 ![1, 2] bcast_S64x513_S1x64x513_1_2),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.binaryIndexed (.of main_v51_10 : StableHlo.TRef sig ⟨S2047x64x513, .f32⟩) (.of main_while0b_call7_v0 : StableHlo.TRef sig ⟨S1x64x513, .f32⟩) ![(.of main_v51_5 : StableHlo.TRef sig ⟨S_, .i32⟩), (.of main_while0b_call7_c : StableHlo.TRef sig ⟨S_, .i32⟩), (.of main_while0b_call7_c_0 : StableHlo.TRef sig ⟨S_, .i32⟩)] (.of main_while0b_v164 : StableHlo.TRef sig ⟨S2047x64x513, .f32⟩) (fun x u i => Host.dynamicUpdateSlice x u (fun k => (i k (Shape.Idx.first h_S_)).toInt) updateFits_S2047x64x513_S1x64x513) ]
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev while0Ops0_8 : List (HloOp τ sig (Elt F)) :=
  [ StableHlo.nullary main_while0b_c_58 (constantI S_ 32 1#32),
    StableHlo.binary main_v51_5 main_while0b_c_58 main_while0b_v165 (addi : (⟨S_, .i32⟩ : BufTy).Contents (Elt F) → (⟨S_, .i32⟩ : BufTy).Contents (Elt F) → (⟨S_, .i32⟩ : BufTy).Contents (Elt F)),
    StableHlo.unary main_while0b_v165 main_v51_5 id,
    StableHlo.unary main_while0b_v160 main_v51_6 id,
    StableHlo.unary main_while0b_v161 main_v51_7 id,
    StableHlo.unary main_while0b_v162 main_v51_8 id,
    StableHlo.unary main_while0b_v163 main_v51_9 id,
    StableHlo.unary main_while0b_v164 main_v51_10 id ]
theorem while0Ops0_8_sub : (while0Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons, Pipeline.chain_cons, Pipeline.chain_cons, Pipeline.chain_cons, Pipeline.chain_cons, StableHlo.chain_seq_cons]
  chain_rfl
abbrev while1Ops0 : List (HloOp τ sig (Elt F)) :=
  [ StableHlo.nullary main_while1b_c_55 (constantI S_ 32 2047#32),
    StableHlo.binary main_while1b_c_55 main_v125_8 main_while1b_v137 (subi : (⟨S_, .i32⟩ : BufTy).Contents (Elt F) → (⟨S_, .i32⟩ : BufTy).Contents (Elt F) → (⟨S_, .i32⟩ : BufTy).Contents (Elt F)),
    StableHlo.nullary main_while1b_c_56 (constantI S_ 32 1#32),
    StableHlo.binary main_while1b_v137 main_while1b_c_56 main_while1b_v138 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
abbrev while1Ops0_1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.unaryIndexed (.of main_v125_0 : StableHlo.TRef sig ⟨S2047x3x64x513, .f32⟩) ![(.of main_while1b_v138 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩)] (.of main_while1b_call8_v0 : StableHlo.TRef sig ⟨S1x3x64x513, .f32⟩) (fun x i => Host.dynamicSlice S1x3x64x513 x (fun k => (i k (Shape.Idx.first h_S_)).toInt) sliceFits_S2047x3x64x513_S1x3x64x513),
    StableHlo.TRef.reshape (.of main_while1b_call8_v0 : StableHlo.TRef sig ⟨S1x3x64x513, .f32⟩) (.of main_while1b_v139 : StableHlo.TRef sig ⟨S3x64x513, .f32⟩) (rfl : (.f32 : EltTy) = .f32) shapeCasts_S1x3x64x513_S3x64x513 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
abbrev while1Ops0_2 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v125_1 : StableHlo.TRef sig ⟨S2047x64x513, .f32⟩) ![(.of main_while1b_v138 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x64x513, .f32⟩) (fun x i => Host.dynamicSlice S1x64x513 x (fun k => (i k (Shape.Idx.first h_S_)).toInt) sliceFits_S2047x64x513_S1x64x513),
    StableHlo.TRef.reshape (.of main_while1b_call9_v0 : StableHlo.TRef sig ⟨S1x64x513, .f32⟩) (.of main_while1b_v140 : StableHlo.TRef sig ⟨S64x513, .f32⟩) (rfl : (.f32 : EltTy) = .f32) shapeCasts_S1x64x513_S64x513 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev while1Ops0_3 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v125_2 : StableHlo.TRef sig ⟨S2047x3x64x513, .f32⟩) ![(.of main_while1b_v138 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x3x64x513, .f32⟩) (fun x i => Host.dynamicSlice S1x3x64x513 x (fun k => (i k (Shape.Idx.first h_S_)).toInt) sliceFits_S2047x3x64x513_S1x3x64x513),
    StableHlo.TRef.reshape (.of main_while1b_call10_v0 : StableHlo.TRef sig ⟨S1x3x64x513, .f32⟩) (.of main_while1b_v141 : StableHlo.TRef sig ⟨S3x64x513, .f32⟩) (rfl : (.f32 : EltTy) = .f32) shapeCasts_S1x3x64x513_S3x64x513 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
abbrev while1Ops0_4 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.unaryIndexed (.of main_v125_3 : StableHlo.TRef sig ⟨S2047x64x513, .f32⟩) ![(.of main_while1b_v138 : StableHlo.TRef sig ⟨S_, .i32⟩), (.of main_while1b_call11_c : StableHlo.TRef sig ⟨S_, .i32⟩), (.of main_while1b_call11_c_0 : StableHlo.TRef sig ⟨S_, .i32⟩)] (.of main_while1b_call11_v0 : StableHlo.TRef sig ⟨S1x64x513, .f32⟩) (fun x i => Host.dynamicSlice S1x64x513 x (fun k => (i k (Shape.Idx.first h_S_)).toInt) sliceFits_S2047x64x513_S1x64x513),
    StableHlo.TRef.reshape (.of main_while1b_call11_v0 : StableHlo.TRef sig ⟨S1x64x513, .f32⟩) (.of main_while1b_v142 : StableHlo.TRef sig ⟨S64x513, .f32⟩) (rfl : (.f32 : EltTy) = .f32) shapeCasts_S1x64x513_S64x513 ]
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
abbrev while1Ops0_5 : List (HloOp τ sig (Elt F)) :=
  [ StableHlo.binary main_v125_9 main_while1b_v142 main_while1b_v143 (Host.divf : (⟨S64x513, .f32⟩ : BufTy).Contents (Elt F) → (⟨S64x513, .f32⟩ : BufTy).Contents (Elt F) → (⟨S64x513, .f32⟩ : BufTy).Contents (Elt F)),
    StableHlo.unary main_while1b_v143 main_while1b_v144 (broadcastInDim S3x64x513 ![1, 2] bcast_S64x513_S3x64x513_1_2 : (⟨S64x513, .f32⟩ : BufTy).Contents (Elt F) → (⟨S3x64x513, .f32⟩ : BufTy).Contents (Elt F)),
    StableHlo.binary main_while1b_v144 main_while1b_v141 main_while1b_v145 (mulf : (⟨S3x64x513, .f32⟩ : BufTy).Contents (Elt F) → (⟨S3x64x513, .f32⟩ : BufTy).Contents (Elt F) → (⟨S3x64x513, .f32⟩ : BufTy).Contents (Elt F)),
    StableHlo.unary main_while1b_v145 main_while1b_v146 (Host.negf : (⟨S3x64x513, .f32⟩ : BufTy).Contents (Elt F) → (⟨S3x64x513, .f32⟩ : BufTy).Contents (Elt F)),
    StableHlo.nullary main_while1b_cst_57 (constant S_ .f32 0x00000000#32),
    StableHlo.binary main_while1b_v146 main_while1b_cst_57 main_while1b_v147 ((fun x v => Host.reduceAdd x v reducesTo_S3x64x513_S64x513_d0 h_S_) : (⟨S3x64x513, .f32⟩ : BufTy).Contents (Elt F) → (⟨S_, .f32⟩ : BufTy).Contents (Elt F) → (⟨S64x513, .f32⟩ : BufTy).Contents (Elt F)),
    StableHlo.reshape main_while1b_v147 main_while1b_v148 (rfl : (.f32 : EltTy) = .f32) shapeCasts_S64x513_S1x64x513,
    StableHlo.nullary main_while1b_cst_58 (constant S_ .f32 0x00000000#32),
    StableHlo.binary main_while1b_v148 main_while1b_cst_58 main_while1b_v149 ((fun x v => Host.reduceAdd x v reducesTo_S1x64x513_S64x513_d0 h_S_) : (⟨S1x64x513, .f32⟩ : BufTy).Contents (Elt F) → (⟨S_, .f32⟩ : BufTy).Contents (Elt F) → (⟨S64x513, .f32⟩ : BufTy).Contents (Elt F)),
    StableHlo.binary main_v125_9 main_while1b_v149 main_while1b_v150 (addf : (⟨S64x513, .f32⟩ : BufTy).Contents (Elt F) → (⟨S64x513, .f32⟩ : BufTy).Contents (Elt F) → (⟨S64x513, .f32⟩ : BufTy).Contents (Elt F)),
    StableHlo.binary main_while1b_v150 main_while1b_v140 main_while1b_v151 (Host.divf : (⟨S64x513, .f32⟩ : BufTy).Contents (Elt F) → (⟨S64x513, .f32⟩ : BufTy).Contents (Elt F) → (⟨S64x513, .f32⟩ : BufTy).Contents (Elt F)),
    StableHlo.unary main_while1b_v151 main_while1b_v152 (broadcastInDim S3x64x513 ![1, 2] bcast_S64x513_S3x64x513_1_2 : (⟨S64x513, .f32⟩ : BufTy).Contents (Elt F) → (⟨S3x64x513, .f32⟩ : BufTy).Contents (Elt F)),
    StableHlo.binary main_while1b_v152 main_while1b_v139 main_while1b_v153 (mulf : (⟨S3x64x513, .f32⟩ : BufTy).Contents (Elt F) → (⟨S3x64x513, .f32⟩ : BufTy).Contents (Elt F) → (⟨S3x64x513, .f32⟩ : BufTy).Contents (Elt F)),
    StableHlo.binary main_while1b_v145 main_while1b_v153 main_while1b_v154 (addf : (⟨S3x64x513, .f32⟩ : BufTy).Contents (Elt F) → (⟨S3x64x513, .f32⟩ : BufTy).Contents (Elt F) → (⟨S3x64x513, .f32⟩ : BufTy).Contents (Elt F)),
    StableHlo.unary main_while1b_v154 main_while1b_v155 ((extractStridedSlice S1x64x513 ![0, 0, 0] · slices_S3x64x513_S1x64x513_0_0_0) : (⟨S3x64x513, .f32⟩ : BufTy).Contents (Elt F) → (⟨S1x64x513, .f32⟩ : BufTy).Contents (Elt F)),
    StableHlo.reshape main_while1b_v155 main_while1b_v156 (rfl : (.f32 : EltTy) = .f32) shapeCasts_S1x64x513_S64x513,
    StableHlo.unary main_while1b_v154 main_while1b_v157 ((extractStridedSlice S1x64x513 ![1, 0, 0] · slices_S3x64x513_S1x64x513_1_0_0) : (⟨S3x64x513, .f32⟩ : BufTy).Contents (Elt F) → (⟨S1x64x513, .f32⟩ : BufTy).Contents (Elt F)),
    StableHlo.reshape main_while1b_v157 main_while1b_v158 (rfl : (.f32 : EltTy) = .f32) shapeCasts_S1x64x513_S64x513,
    StableHlo.unary main_while1b_v154 main_while1b_v159 ((extractStridedSlice S1x64x513 ![2, 0, 0] · slices_S3x64x513_S1x64x513_2_0_0) : (⟨S3x64x513, .f32⟩ : BufTy).Contents (Elt F) → (⟨S1x64x513, .f32⟩ : BufTy).Contents (Elt F)),
    StableHlo.reshape main_while1b_v159 main_while1b_v160 (rfl : (.f32 : EltTy) = .f32) shapeCasts_S1x64x513_S64x513 ]
theorem while1Ops0_5_sub : (while1Ops0_5 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.nullary_bufs_sub .., StableHlo.binary_bufs_sub .., StableHlo.reshape_bufs_sub .., StableHlo.nullary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub ..⟩
abbrev while1Ops0_6 : List (HloOp τ sig (Elt F)) :=
  [ StableHlo.TRef.nullary (.of main_while1b_call12_cst : StableHlo.TRef sig ⟨S_, .f32⟩) (constant S_ .f32 0x00000000#32),
    StableHlo.TRef.unary (.of main_while1b_call12_cst : StableHlo.TRef sig ⟨S_, .f32⟩) (.of main_while1b_call12_v0 : StableHlo.TRef sig ⟨S64x513, .f32⟩) (broadcastInDim S64x513 ![] bcast_S_S64x513),
    StableHlo.TRef.ternary (.of main_v125_6 : StableHlo.TRef sig ⟨S64x513, .i1⟩) (.of main_while1b_v160 : StableHlo.TRef sig ⟨S64x513, .f32⟩) (.of main_while1b_call12_v0 : StableHlo.TRef sig ⟨S64x513, .f32⟩) (.of main_while1b_v161 : StableHlo.TRef sig ⟨S64x513, .f32⟩) select ]
theorem while1Ops0_6_sub : (while1Ops0_6 : List (HloOp τ sig (Elt F))).Forall fun op => op.bufs ⊆ StableHlo.tcRefs τ sig :=
  ⟨StableHlo.nullary_bufs_sub .., StableHlo.unary_bufs_sub .., StableHlo.ternary_bufs_sub ..⟩
abbrev while1Ops0_7 : List (HloOp τ sig (Elt F)) :=
  [ StableHlo.unary main_while1b_v161 main_while1b_v162 ((extractStridedSlice S64x2 ![0, 0] · slices_S64x513_S64x2_0_0) : (⟨S64x513, .f32⟩ : BufTy).Contents (Elt F) → (⟨S64x2, .f32⟩ : BufTy).Contents (Elt F)),
    StableHlo.unary main_while1b_v161 main_while1b_v163 ((extractStridedSlice S64x511 ![0, 2] · slices_S64x513_S64x511_0_2) : (⟨S64x513, .f32⟩ : BufTy).Contents (Elt F) → (⟨S64x511, .f32⟩ : BufTy).Contents (Elt F)),
    StableHlo.nullary main_while1b_cst_59 (constant S_ .f32 0x00000000#32),
    StableHlo.binary main_while1b_v163 main_while1b_cst_59 main_while1b_v164 ((fun x v => pad S64x513 ![0, 0] ![0, 2] ![0, 0] x v pads_S64x511_S64x513_000_020 h_S_) : (⟨S64x511, .f32⟩ : BufTy).Contents (Elt F) → (⟨S_, .f32⟩ : BufTy).Contents (Elt F) → (⟨S64x513, .f32⟩ : BufTy).Contents (Elt F)),
    StableHlo.binary main_while1b_v156 main_while1b_v164 main_while1b_v165 (addf : (⟨S64x513, .f32⟩ : BufTy).Contents (Elt F) → (⟨S64x513, .f32⟩ : BufTy).Contents (Elt F) → (⟨S64x513, .f32⟩ : BufTy).Contents (Elt F)),
    StableHlo.unary main_while1b_v158 main_while1b_v166 ((extractStridedSlice S64x1 ![0, 0] · slices_S64x513_S64x1_0_0) : (⟨S64x513, .f32⟩ : BufTy).Contents (Elt F) → (⟨S64x1, .f32⟩ : BufTy).Contents (Elt F)),
    StableHlo.unary main_while1b_v158 main_while1b_v167 ((extractStridedSlice S64x512 ![0, 1] · slices_S64x513_S64x512_0_1) : (⟨S64x513, .f32⟩ : BufTy).Contents (Elt F) → (⟨S64x512, .f32⟩ : BufTy).Contents (Elt F)),
    StableHlo.nullary main_while1b_cst_60 (constant S_ .f32 0x00000000#32),
    StableHlo.binary main_while1b_v167 main_while1b_cst_60 main_while1b_v168 ((fun x v => pad S64x513 ![0, 0] ![0, 1] ![0, 0] x v pads_S64x512_S64x513_000_010 h_S_) : (⟨S64x512, .f32⟩ : BufTy).Contents (Elt F) → (⟨S_, .f32⟩ : BufTy).Contents (Elt F) → (⟨S64x513, .f32⟩ : BufTy).Contents (Elt F)),
    StableHlo.binary main_while1b_v165 main_while1b_v168 main_while1b_v169 (addf : (⟨S64x513, .f32⟩ : BufTy).Contents (Elt F) → (⟨S64x513, .f32⟩ : BufTy).Contents (Elt F) → (⟨S64x513, .f32⟩ : BufTy).Contents (Elt F)) ]
theorem while1Ops0_7_sub : (while1Ops0_7 : List (HloOp τ sig (Elt F))).Forall fun op => op.bufs ⊆ StableHlo.tcRefs τ sig :=
  ⟨StableHlo.unary_bufs_sub .., StableHlo.unary_bufs_sub .., StableHlo.nullary_bufs_sub .., StableHlo.binary_bufs_sub .., StableHlo.binary_bufs_sub .., StableHlo.unary_bufs_sub .., StableHlo.unary_bufs_sub .., StableHlo.nullary_bufs_sub .., StableHlo.binary_bufs_sub .., StableHlo.binary_bufs_sub ..⟩
abbrev while1Ops0_8 : List (HloOp τ sig (Elt F)) :=
  [ StableHlo.TRef.unary (.of main_v125_9 : StableHlo.TRef sig ⟨S64x513, .f32⟩) (.of main_while1b_call13_v0 : StableHlo.TRef sig ⟨S1x64x513, .f32⟩) (broadcastInDim S1x64x513 ![1, 2] bcast_S64x513_S1x64x513_1_2),
    StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.binaryIndexed (.of main_v125_10 : StableHlo.TRef sig ⟨S2047x64x513, .f32⟩) (.of main_while1b_call13_v0 : StableHlo.TRef sig ⟨S1x64x513, .f32⟩) ![(.of main_while1b_v138 : StableHlo.TRef sig ⟨S_, .i32⟩), (.of main_while1b_call13_c : StableHlo.TRef sig ⟨S_, .i32⟩), (.of main_while1b_call13_c_0 : StableHlo.TRef sig ⟨S_, .i32⟩)] (.of main_while1b_v170 : StableHlo.TRef sig ⟨S2047x64x513, .f32⟩) (fun x u i => Host.dynamicUpdateSlice x u (fun k => (i k (Shape.Idx.first h_S_)).toInt) updateFits_S2047x64x513_S1x64x513) ]
theorem while1Ops0_8_sub : (while1Ops0_8 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev while1Ops0_9 : List (HloOp τ sig (Elt F)) :=
  [ StableHlo.nullary main_while1b_c_61 (constantI S_ 32 1#32),
    StableHlo.binary main_v125_8 main_while1b_c_61 main_while1b_v171 (addi : (⟨S_, .i32⟩ : BufTy).Contents (Elt F) → (⟨S_, .i32⟩ : BufTy).Contents (Elt F) → (⟨S_, .i32⟩ : BufTy).Contents (Elt F)),
    StableHlo.unary main_while1b_v171 main_v125_8 id,
    StableHlo.unary main_while1b_v169 main_v125_9 id,
    StableHlo.unary main_while1b_v170 main_v125_10 id ]
theorem while1Ops0_9_sub : (while1Ops0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, StableHlo.chain_seq_cons, Pipeline.chain_cons, StableHlo.chain_seq_cons]
  chain_rfl

theorem main_part0_ops0_fresh : (main_part0_ops0 : List (HloOp τ sig (Elt F))).Forall fun op => op.fresh = ∅ := forall_fresh_of_map rfl
theorem main_part0_ops1_fresh : (main_part0_ops1 : List (HloOp τ sig (Elt F))).Forall fun op => op.fresh = ∅ := forall_fresh_of_map rfl
theorem main_part0_ops2_fresh : (main_part0_ops2 : List (HloOp τ sig (Elt F))).Forall fun op => op.fresh = ∅ := forall_fresh_of_map rfl
theorem main_part1_ops0_fresh : (main_part1_ops0 : List (HloOp τ sig (Elt F))).Forall fun op => op.fresh = ∅ := forall_fresh_of_map rfl
theorem main_part1_ops1_fresh : (main_part1_ops1 : List (HloOp τ sig (Elt F))).Forall fun op => op.fresh = ∅ := forall_fresh_of_map rfl
theorem main_part1_ops2_fresh : (main_part1_ops2 : List (HloOp τ sig (Elt F))).Forall fun op => op.fresh = ∅ := forall_fresh_of_map rfl
theorem main_part2_ops0_fresh : (main_part2_ops0 : List (HloOp τ sig (Elt F))).Forall fun op => op.fresh = ∅ := forall_fresh_of_map rfl
theorem main_part3_ops0_fresh : (main_part3_ops0 : List (HloOp τ sig (Elt F))).Forall fun op => op.fresh = ∅ := forall_fresh_of_map rfl
theorem main_part3_ops1_fresh : (main_part3_ops1 : List (HloOp τ sig (Elt F))).Forall fun op => op.fresh = ∅ := forall_fresh_of_map rfl
theorem main_part3_ops2_fresh : (main_part3_ops2 : List (HloOp τ sig (Elt F))).Forall fun op => op.fresh = ∅ := forall_fresh_of_map rfl
theorem main_part3_ops3_fresh : (main_part3_ops3 : List (HloOp τ sig (Elt F))).Forall fun op => op.fresh = ∅ := forall_fresh_of_map rfl
theorem while0Ops0_fresh : (while0Ops0 : List (HloOp τ sig (Elt F))).Forall fun op => op.fresh = ∅ := forall_fresh_of_map rfl
theorem while0Ops0_1_fresh : (while0Ops0_1 : List (HloOp τ sig (Elt F))).Forall fun op => op.fresh = ∅ := forall_fresh_of_map rfl
theorem while0Ops0_2_fresh : (while0Ops0_2 : List (HloOp τ sig (Elt F))).Forall fun op => op.fresh = ∅ := forall_fresh_of_map rfl
theorem while0Ops0_3_fresh : (while0Ops0_3 : List (HloOp τ sig (Elt F))).Forall fun op => op.fresh = ∅ := forall_fresh_of_map rfl
theorem while0Ops0_4_fresh : (while0Ops0_4 : List (HloOp τ sig (Elt F))).Forall fun op => op.fresh = ∅ := forall_fresh_of_map rfl
theorem while0Ops0_5_fresh : (while0Ops0_5 : List (HloOp τ sig (Elt F))).Forall fun op => op.fresh = ∅ := forall_fresh_of_map rfl
theorem while0Ops0_6_fresh : (while0Ops0_6 : List (HloOp τ sig (Elt F))).Forall fun op => op.fresh = ∅ := forall_fresh_of_map rfl
theorem while0Ops0_7_fresh : (while0Ops0_7 : List (HloOp τ sig (Elt F))).Forall fun op => op.fresh = ∅ := forall_fresh_of_map rfl
theorem while0Ops0_8_fresh : (while0Ops0_8 : List (HloOp τ sig (Elt F))).Forall fun op => op.fresh = ∅ := forall_fresh_of_map rfl
theorem while1Ops0_fresh : (while1Ops0 : List (HloOp τ sig (Elt F))).Forall fun op => op.fresh = ∅ := forall_fresh_of_map rfl
theorem while1Ops0_1_fresh : (while1Ops0_1 : List (HloOp τ sig (Elt F))).Forall fun op => op.fresh = ∅ := forall_fresh_of_map rfl
theorem while1Ops0_2_fresh : (while1Ops0_2 : List (HloOp τ sig (Elt F))).Forall fun op => op.fresh = ∅ := forall_fresh_of_map rfl
theorem while1Ops0_3_fresh : (while1Ops0_3 : List (HloOp τ sig (Elt F))).Forall fun op => op.fresh = ∅ := forall_fresh_of_map rfl
theorem while1Ops0_4_fresh : (while1Ops0_4 : List (HloOp τ sig (Elt F))).Forall fun op => op.fresh = ∅ := forall_fresh_of_map rfl
theorem while1Ops0_5_fresh : (while1Ops0_5 : List (HloOp τ sig (Elt F))).Forall fun op => op.fresh = ∅ := forall_fresh_of_map rfl
theorem while1Ops0_6_fresh : (while1Ops0_6 : List (HloOp τ sig (Elt F))).Forall fun op => op.fresh = ∅ := forall_fresh_of_map rfl
theorem while1Ops0_7_fresh : (while1Ops0_7 : List (HloOp τ sig (Elt F))).Forall fun op => op.fresh = ∅ := forall_fresh_of_map rfl
theorem while1Ops0_8_fresh : (while1Ops0_8 : List (HloOp τ sig (Elt F))).Forall fun op => op.fresh = ∅ := forall_fresh_of_map rfl
theorem while1Ops0_9_fresh : (while1Ops0_9 : List (HloOp τ sig (Elt F))).Forall fun op => op.fresh = ∅ := forall_fresh_of_map rfl

/-- The stretches of section Pre, in order. -/
abbrev itemsPre : List (List (HloOp τ sig (Elt F))) := [main_part0_ops0, main_part0_ops1, main_part0_ops2, main_part1_ops0, main_part1_ops1]
/-- Each of them is a plain line of host operations. -/
theorem plainPre : Plain (itemsPre (F := F)) := (.cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part1_ops0_sub (hf := List.forall_iff_forall_mem.mp main_part1_ops0_fresh) (.cons main_part1_ops1_sub (hf := List.forall_iff_forall_mem.mp main_part1_ops1_fresh) .nil)))))
/-- The stretches of section Mid, in order. -/
abbrev itemsMid : List (List (HloOp τ sig (Elt F))) := [main_part1_ops2, main_part2_ops0, main_part3_ops0]
/-- Each of them is a plain line of host operations. -/
theorem plainMid : Plain (itemsMid (F := F)) := (.cons main_part1_ops2_sub (hf := List.forall_iff_forall_mem.mp main_part1_ops2_fresh) (.cons main_part2_ops0_sub (hf := List.forall_iff_forall_mem.mp main_part2_ops0_fresh) (.cons main_part3_ops0_sub (hf := List.forall_iff_forall_mem.mp main_part3_ops0_fresh) .nil)))
/-- The stretches of section Post, in order. -/
abbrev itemsPost : List (List (HloOp τ sig (Elt F))) := [main_part3_ops1, main_part3_ops2, main_part3_ops3]
/-- Each of them is a plain line of host operations. -/
theorem plainPost : Plain (itemsPost (F := F)) := (.cons main_part3_ops1_sub (hf := List.forall_iff_forall_mem.mp main_part3_ops1_fresh) (.cons main_part3_ops2_sub (hf := List.forall_iff_forall_mem.mp main_part3_ops2_fresh) (.cons main_part3_ops3_sub (hf := List.forall_iff_forall_mem.mp main_part3_ops3_fresh) .nil)))
/-- The stretches of section B0, in order. -/
abbrev itemsB0 : List (List (HloOp τ sig (Elt F))) := [while0Ops0, while0Ops0_1, while0Ops0_2, while0Ops0_3, while0Ops0_4, while0Ops0_5, while0Ops0_6, while0Ops0_7, while0Ops0_8]
/-- Each of them is a plain line of host operations. -/
theorem plainB0 : Plain (itemsB0 (F := F)) := (.cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) .nil)))))))))
/-- The stretches of section B1, in order. -/
abbrev itemsB1 : List (List (HloOp τ sig (Elt F))) := [while1Ops0, while1Ops0_1, while1Ops0_2, while1Ops0_3, while1Ops0_4, while1Ops0_5, while1Ops0_6, while1Ops0_7, while1Ops0_8, while1Ops0_9]
/-- Each of them is a plain line of host operations. -/
theorem plainB1 : Plain (itemsB1 (F := F)) := (.cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) .nil))))))))))

end Cert.ReferenceIdeal.Gen
-- ==== Proof.RefSsa.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter
public import proofs.«01_k».proof.Proof.RefChain

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-! Reading a line of operations that each write a buffer of their own: what an operation leaves in its buffer is its
    function of what the whole line leaves in its operands (or of what they held at the start). -/
section Ssa

variable {ops : List (HloOp τ sig (Elt F))} {W : List (Ref sig .tc)}

theorem ini (hW : ops.map HloOp.writes = W.map fun r => {Proc.devRef (τ := τ) .tc r}) (i : ℕ) (r : Ref sig .tc)
    (h : r ∉ W.take i) (V : Valuation τ sig (Elt F)) : upto ops V i (Proc.devRef .tc r) = V (Proc.devRef .tc r) :=
  upto_unwritten (W.take i) (by rw [List.map_take, hW, List.map_take]) h V

theorem fin (hW : ops.map HloOp.writes = W.map fun r => {Proc.devRef (τ := τ) .tc r}) (i : ℕ) (r : Ref sig .tc)
    (h : r ∉ W.drop i) (V : Valuation τ sig (Elt F)) :
    upto ops V i (Proc.devRef .tc r) = after ops V (Proc.devRef .tc r) := by
  have h1 : after ops V = after (ops.drop i) (upto ops V i) := by
    have := after_append (ops.take i) (ops.drop i) V
    rwa [List.take_append_drop] at this
  rw [h1]
  exact (after_unwritten (W.drop i) (by rw [List.map_drop, hW, List.map_drop]) h _).symm

theorem lst (hW : ops.map HloOp.writes = W.map fun r => {Proc.devRef (τ := τ) .tc r}) (i : ℕ) {r : Ref sig .tc}
    {op : HloOp τ sig (Elt F)} {rest : List (HloOp τ sig (Elt F))} (hd : ops.drop i = op :: rest)
    (h : r ∉ W.drop (i + 1)) (V : Valuation τ sig (Elt F)) :
    after ops V (Proc.devRef .tc r) = op.result (upto ops V i) (Proc.devRef .tc r) :=
  after_last_write (W.drop (i + 1)) hd (by
    have : rest = ops.drop (i + 1) := by rw [← List.drop_drop, hd]; rfl
    rw [this, List.map_drop, hW, List.map_drop]) h V

variable (hW : ops.map HloOp.writes = W.map fun r => {Proc.devRef (τ := τ) .tc r}) (i : ℕ)
  {x a b c y : Ref sig .tc} {rest : List (HloOp τ sig (Elt F))}
include hW

theorem s_nullary {v : y.ty.Contents (Elt F)} {hy} (hd : ops.drop i = nullary y v hy :: rest) (h : y ∉ W.drop (i + 1))
    (V : Valuation τ sig (Elt F)) : after ops V (Proc.devRef .tc y) = v :=
  (lst hW i hd h V).trans (nullary_result ..)
theorem s_unary {f : x.ty.Contents (Elt F) → y.ty.Contents (Elt F)} {hx hy} (hd : ops.drop i = unary x y f hx hy :: rest)
    (h : y ∉ W.drop (i + 1)) (V : Valuation τ sig (Elt F)) :
    after ops V (Proc.devRef .tc y) = f (upto ops V i (Proc.devRef .tc x)) :=
  (lst hW i hd h V).trans (unary_result ..)
theorem s_binary {f : a.ty.Contents (Elt F) → b.ty.Contents (Elt F) → y.ty.Contents (Elt F)} {ha hb hy}
    (hd : ops.drop i = binary a b y f ha hb hy :: rest) (h : y ∉ W.drop (i + 1)) (V : Valuation τ sig (Elt F)) :
    after ops V (Proc.devRef .tc y) = f (upto ops V i (Proc.devRef .tc a)) (upto ops V i (Proc.devRef .tc b)) :=
  (lst hW i hd h V).trans (binary_result ..)
theorem s_ternary {f : c.ty.Contents (Elt F) → a.ty.Contents (Elt F) → b.ty.Contents (Elt F) → y.ty.Contents (Elt F)}
    {hc ha hb hy} (hd : ops.drop i = ternary c a b y f hc ha hb hy :: rest) (h : y ∉ W.drop (i + 1))
    (V : Valuation τ sig (Elt F)) : after ops V (Proc.devRef .tc y)
      = f (upto ops V i (Proc.devRef .tc c)) (upto ops V i (Proc.devRef .tc a)) (upto ops V i (Proc.devRef .tc b)) :=
  (lst hW i hd h V).trans (ternary_result ..)
theorem s_reshape {he hn hx hy} (hd : ops.drop i = reshape (Val := Elt F) x y he hn hx hy :: rest) (h : y ∉ W.drop (i + 1))
    (V : Valuation τ sig (Elt F)) : after ops V (Proc.devRef .tc y)
      = fun j => he ▸ shapeCast y.ty.shape (upto ops V i (Proc.devRef .tc x)) hn j :=
  (lst hW i hd h V).trans (reshape_result ..)
theorem s_nary {n : ℕ} {xs : Fin n → Ref sig .tc} {f : ((k : Fin n) → (xs k).ty.Contents (Elt F)) → y.ty.Contents (Elt F)}
    {hxs hy} (hd : ops.drop i = nary xs y f hxs hy :: rest) (h : y ∉ W.drop (i + 1)) (V : Valuation τ sig (Elt F)) :
    after ops V (Proc.devRef .tc y) = f (fun k => upto ops V i (Proc.devRef .tc (xs k))) :=
  (lst hW i hd h V).trans (nary_result ..)
theorem s_unaryIndexed {n : ℕ} {ix : Fin n → Ref sig .tc} {T : BufTy}
    {f : a.ty.Contents (Elt F) → (Fin n → T.Contents (Elt F)) → y.ty.Contents (Elt F)} {hT ha hix hy}
    (hd : ops.drop i = unaryIndexed a ix T y f hT ha hix hy :: rest) (h : y ∉ W.drop (i + 1)) (V : Valuation τ sig (Elt F)) :
    after ops V (Proc.devRef .tc y) = f (upto ops V i (Proc.devRef .tc a))
      (fun k => cast (congrArg (fun U : BufTy => U.Contents (Elt F)) (hT k)) (upto ops V i (Proc.devRef .tc (ix k)))) :=
  (lst hW i hd h V).trans (unaryIndexed_result ..)
theorem s_binaryIndexed {n : ℕ} {ix : Fin n → Ref sig .tc} {T : BufTy}
    {f : a.ty.Contents (Elt F) → b.ty.Contents (Elt F) → (Fin n → T.Contents (Elt F)) → y.ty.Contents (Elt F)}
    {hT ha hb hix hy} (hd : ops.drop i = binaryIndexed a b ix T y f hT ha hb hix hy :: rest) (h : y ∉ W.drop (i + 1))
    (V : Valuation τ sig (Elt F)) :
    after ops V (Proc.devRef .tc y) = f (upto ops V i (Proc.devRef .tc a)) (upto ops V i (Proc.devRef .tc b))
      (fun k => cast (congrArg (fun U : BufTy => U.Contents (Elt F)) (hT k)) (upto ops V i (Proc.devRef .tc (ix k)))) :=
  (lst hW i hd h V).trans (binaryIndexed_result ..)

end Ssa

end Cert.ReferenceIdeal.Gen
-- ==== Proof.RefOpsPre.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter
public import proofs.«01_k».proof.Proof.RefSsa

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! One equation for each operation of these sections of the reference. -/

namespace Pre
/-- The section's operations in one line. -/
abbrev ops : List (HloOp τ sig (Elt F)) := itemsPre.flatten
/-- What they write, in order. -/
abbrev W : List (Ref sig .tc) := [main_v0, main_c, main_v1, main_v2, main_v3, main_v4, main_v5, main_v6, main_v7, main_c_0, main_v8, main_v9, main_c_1, main_v10, main_v11, main_v12, main_v13, main_v14, main_v15, main_v16, main_v17, main_c_2, main_v18, main_v19, main_c_3, main_v20, main_v21, main_v22, main_c_4, main_v23, main_v24, main_c_5, main_v25, main_v26, main_v27, main_v28, main_v29, main_v30, main_v31, main_v32, main_v33, main_c_6, main_v34, main_v35, main_v36, main_v37, main_cst, main_call0_v0, main_v38_1, main_call0_v2, main_v38_0, main_call0_cst, main_v38_2, main_v39, main_cst_7, main_v40, main_v41, main_cst_8, main_v42, main_cst_9, main_v43, main_v44, main_cst_10, main_v45, main_cst_11, main_call1_v0, main_v46_1, main_call1_cst, main_v46_0, main_cst_12, main_v47, main_cst_13, main_v48, main_cst_14, main_v49, main_cst_15, main_v50, main_c_16, main_v51_0, main_v51_1, main_v51_2, main_v51_3, main_v51_4, main_v51_5, main_v51_6, main_v51_7, main_v51_8, main_v51_9, main_v51_10]
theorem hW : (ops (F := F)).map HloOp.writes = W.map fun r => {Proc.devRef (τ := τ) .tc r} := rfl
variable (V : Valuation τ sig (Elt F))
theorem e_main_v0 : after ops V (Proc.devRef .tc main_v0) = iotaInDim S64 32 0 := by
  exact s_nullary hW 0 rfl (by decide +kernel) V
theorem e_main_c : after ops V (Proc.devRef .tc main_c) = constantI S_ 32 0#32 := by
  exact s_nullary hW 1 rfl (by decide +kernel) V
theorem e_main_v1 : after ops V (Proc.devRef .tc main_v1) = broadcastInDim S64x256 ![] bcast_S_S64x256 (after ops V (Proc.devRef .tc main_c)) := by
  rw [s_unary hW 2 rfl (by decide +kernel) V, fin hW 2 main_c (by decide +kernel)] <;> (generalize after ops V = X; rfl)
theorem e_main_v2 : after ops V (Proc.devRef .tc main_v2) = broadcastInDim S64x256x1 ![0, 1] bcast_S64x256_S64x256x1_0_1 (after ops V (Proc.devRef .tc main_v1)) := by
  rw [s_unary hW 3 rfl (by decide +kernel) V, fin hW 3 main_v1 (by decide +kernel)] <;> (generalize after ops V = X; rfl)
theorem e_main_v3 : after ops V (Proc.devRef .tc main_v3) = broadcastInDim S64x256x1 ![0, 1] bcast_S64x256_S64x256x1_0_1 (V (Proc.devRef .tc main_arg1)) := by
  rw [s_unary hW 4 rfl (by decide +kernel) V, ini hW 4 main_arg1 (by decide +kernel)] <;> (generalize after ops V = X; rfl)
theorem e_main_v4 : after ops V (Proc.devRef .tc main_v4) = concatenate S64x256x2 2 [⟨S64x256x1, (after ops V (Proc.devRef .tc main_v2))⟩, ⟨S64x256x1, (after ops V (Proc.devRef .tc main_v3))⟩] concatenates_S64x256x1_S64x256x1_S64x256x2_d2 := by
  rw [s_binary hW 5 rfl (by decide +kernel) V, fin hW 5 main_v2 (by decide +kernel), fin hW 5 main_v3 (by decide +kernel)] <;> (generalize after ops V = X; rfl)
theorem e_main_v5 : after ops V (Proc.devRef .tc main_v5) = shapeCast _ (after ops V (Proc.devRef .tc main_v4)) shapeCasts_S64x256x2_S64x512 := by
  rw [s_reshape hW 6 rfl (by decide +kernel) V, fin hW 6 main_v4 (by decide +kernel)] <;> (generalize after ops V = X; rfl)
theorem e_main_v6 : after ops V (Proc.devRef .tc main_v6) = extractStridedSlice S64x1 ![0, 0] (after ops V (Proc.devRef .tc main_v1)) slices_S64x256_S64x1_0_0 := by
  rw [s_unary hW 7 rfl (by decide +kernel) V, fin hW 7 main_v1 (by decide +kernel)] <;> (generalize after ops V = X; rfl)
theorem e_main_v7 : after ops V (Proc.devRef .tc main_v7) = concatenate S64x513 1 [⟨S64x512, (after ops V (Proc.devRef .tc main_v5))⟩, ⟨S64x1, (after ops V (Proc.devRef .tc main_v6))⟩] concatenates_S64x512_S64x1_S64x513_d1 := by
  rw [s_binary hW 8 rfl (by decide +kernel) V, fin hW 8 main_v5 (by decide +kernel), fin hW 8 main_v6 (by decide +kernel)] <;> (generalize after ops V = X; rfl)
theorem e_main_c_0 : after ops V (Proc.devRef .tc main_c_0) = constantI S_ 1 0#1 := by
  exact s_nullary hW 9 rfl (by decide +kernel) V
theorem e_main_v8 : after ops V (Proc.devRef .tc main_v8) = broadcastInDim S64x2 ![] bcast_S_S64x2 (after ops V (Proc.devRef .tc main_c_0)) := by
  rw [s_unary hW 10 rfl (by decide +kernel) V, fin hW 10 main_c_0 (by decide +kernel)] <;> (generalize after ops V = X; rfl)
theorem e_main_v9 : after ops V (Proc.devRef .tc main_v9) = extractStridedSlice S64x511 ![0, 2] (after ops V (Proc.devRef .tc main_v7)) slices_S64x513_S64x511_0_2 := by
  rw [s_unary hW 11 rfl (by decide +kernel) V, fin hW 11 main_v7 (by decide +kernel)] <;> (generalize after ops V = X; rfl)
theorem e_main_c_1 : after ops V (Proc.devRef .tc main_c_1) = constantI S_ 32 0#32 := by
  exact s_nullary hW 12 rfl (by decide +kernel) V
theorem e_main_v10 : after ops V (Proc.devRef .tc main_v10) = broadcastInDim S64x511 ![] bcast_S_S64x511 (after ops V (Proc.devRef .tc main_c_1)) := by
  rw [s_unary hW 13 rfl (by decide +kernel) V, fin hW 13 main_c_1 (by decide +kernel)] <;> (generalize after ops V = X; rfl)
theorem e_main_v11 : after ops V (Proc.devRef .tc main_v11) = cmpi .ne (after ops V (Proc.devRef .tc main_v9)) (after ops V (Proc.devRef .tc main_v10)) := by
  rw [s_binary hW 14 rfl (by decide +kernel) V, fin hW 14 main_v9 (by decide +kernel), fin hW 14 main_v10 (by decide +kernel)] <;> (generalize after ops V = X; rfl)
theorem e_main_v12 : after ops V (Proc.devRef .tc main_v12) = extractStridedSlice S64x511 ![0, 2] (after ops V (Proc.devRef .tc main_v7)) slices_S64x513_S64x511_0_2 := by
  rw [s_unary hW 15 rfl (by decide +kernel) V, fin hW 15 main_v7 (by decide +kernel)] <;> (generalize after ops V = X; rfl)
theorem e_main_v13 : after ops V (Proc.devRef .tc main_v13) = extractStridedSlice S64x511 ![0, 0] (after ops V (Proc.devRef .tc main_v7)) slices_S64x513_S64x511_0_0 := by
  rw [s_unary hW 16 rfl (by decide +kernel) V, fin hW 16 main_v7 (by decide +kernel)] <;> (generalize after ops V = X; rfl)
theorem e_main_v14 : after ops V (Proc.devRef .tc main_v14) = cmpi .ne (after ops V (Proc.devRef .tc main_v12)) (after ops V (Proc.devRef .tc main_v13)) := by
  rw [s_binary hW 17 rfl (by decide +kernel) V, fin hW 17 main_v12 (by decide +kernel), fin hW 17 main_v13 (by decide +kernel)] <;> (generalize after ops V = X; rfl)
theorem e_main_v15 : after ops V (Proc.devRef .tc main_v15) = andi (after ops V (Proc.devRef .tc main_v11)) (after ops V (Proc.devRef .tc main_v14)) := by
  rw [s_binary hW 18 rfl (by decide +kernel) V, fin hW 18 main_v11 (by decide +kernel), fin hW 18 main_v14 (by decide +kernel)] <;> (generalize after ops V = X; rfl)
theorem e_main_v16 : after ops V (Proc.devRef .tc main_v16) = concatenate S64x513 1 [⟨S64x2, (after ops V (Proc.devRef .tc main_v8))⟩, ⟨S64x511, (after ops V (Proc.devRef .tc main_v15))⟩] concatenates_S64x2_S64x511_S64x513_d1 := by
  rw [s_binary hW 19 rfl (by decide +kernel) V, fin hW 19 main_v8 (by decide +kernel), fin hW 19 main_v15 (by decide +kernel)] <;> (generalize after ops V = X; rfl)
theorem e_main_v17 : after ops V (Proc.devRef .tc main_v17) = broadcastInDim S64x1 ![0] bcast_S64_S64x1_0 (after ops V (Proc.devRef .tc main_v0)) := by
  rw [s_unary hW 20 rfl (by decide +kernel) V, fin hW 20 main_v0 (by decide +kernel)] <;> (generalize after ops V = X; rfl)
theorem e_main_c_2 : after ops V (Proc.devRef .tc main_c_2) = constantI S_ 32 0#32 := by
  exact s_nullary hW 21 rfl (by decide +kernel) V
theorem e_main_v18 : after ops V (Proc.devRef .tc main_v18) = broadcastInDim S64x1 ![] bcast_S_S64x1 (after ops V (Proc.devRef .tc main_c_2)) := by
  rw [s_unary hW 22 rfl (by decide +kernel) V, fin hW 22 main_c_2 (by decide +kernel)] <;> (generalize after ops V = X; rfl)
theorem e_main_v19 : after ops V (Proc.devRef .tc main_v19) = cmpi .slt (after ops V (Proc.devRef .tc main_v17)) (after ops V (Proc.devRef .tc main_v18)) := by
  rw [s_binary hW 23 rfl (by decide +kernel) V, fin hW 23 main_v17 (by decide +kernel), fin hW 23 main_v18 (by decide +kernel)] <;> (generalize after ops V = X; rfl)
theorem e_main_c_3 : after ops V (Proc.devRef .tc main_c_3) = constantI S_ 32 64#32 := by
  exact s_nullary hW 24 rfl (by decide +kernel) V
theorem e_main_v20 : after ops V (Proc.devRef .tc main_v20) = broadcastInDim S64x1 ![] bcast_S_S64x1 (after ops V (Proc.devRef .tc main_c_3)) := by
  rw [s_unary hW 25 rfl (by decide +kernel) V, fin hW 25 main_c_3 (by decide +kernel)] <;> (generalize after ops V = X; rfl)
theorem e_main_v21 : after ops V (Proc.devRef .tc main_v21) = addi (after ops V (Proc.devRef .tc main_v17)) (after ops V (Proc.devRef .tc main_v20)) := by
  rw [s_binary hW 26 rfl (by decide +kernel) V, fin hW 26 main_v17 (by decide +kernel), fin hW 26 main_v20 (by decide +kernel)] <;> (generalize after ops V = X; rfl)
theorem e_main_v22 : after ops V (Proc.devRef .tc main_v22) = select (after ops V (Proc.devRef .tc main_v19)) (after ops V (Proc.devRef .tc main_v21)) (after ops V (Proc.devRef .tc main_v17)) := by
  rw [s_ternary hW 27 rfl (by decide +kernel) V, fin hW 27 main_v19 (by decide +kernel), fin hW 27 main_v21 (by decide +kernel), fin hW 27 main_v17 (by decide +kernel)] <;> (generalize after ops V = X; rfl)
theorem e_main_c_4 : after ops V (Proc.devRef .tc main_c_4) = constantI S_ 32 0#32 := by
  exact s_nullary hW 28 rfl (by decide +kernel) V
theorem e_main_v23 : after ops V (Proc.devRef .tc main_v23) = broadcastInDim S64x513 ![] bcast_S_S64x513 (after ops V (Proc.devRef .tc main_c_4)) := by
  rw [s_unary hW 29 rfl (by decide +kernel) V, fin hW 29 main_c_4 (by decide +kernel)] <;> (generalize after ops V = X; rfl)
theorem e_main_v24 : after ops V (Proc.devRef .tc main_v24) = cmpi .slt (after ops V (Proc.devRef .tc main_v7)) (after ops V (Proc.devRef .tc main_v23)) := by
  rw [s_binary hW 30 rfl (by decide +kernel) V, fin hW 30 main_v7 (by decide +kernel), fin hW 30 main_v23 (by decide +kernel)] <;> (generalize after ops V = X; rfl)
theorem e_main_c_5 : after ops V (Proc.devRef .tc main_c_5) = constantI S_ 32 128#32 := by
  exact s_nullary hW 31 rfl (by decide +kernel) V
theorem e_main_v25 : after ops V (Proc.devRef .tc main_v25) = broadcastInDim S64x513 ![] bcast_S_S64x513 (after ops V (Proc.devRef .tc main_c_5)) := by
  rw [s_unary hW 32 rfl (by decide +kernel) V, fin hW 32 main_c_5 (by decide +kernel)] <;> (generalize after ops V = X; rfl)
theorem e_main_v26 : after ops V (Proc.devRef .tc main_v26) = addi (after ops V (Proc.devRef .tc main_v7)) (after ops V (Proc.devRef .tc main_v25)) := by
  rw [s_binary hW 33 rfl (by decide +kernel) V, fin hW 33 main_v7 (by decide +kernel), fin hW 33 main_v25 (by decide +kernel)] <;> (generalize after ops V = X; rfl)
theorem e_main_v27 : after ops V (Proc.devRef .tc main_v27) = select (after ops V (Proc.devRef .tc main_v24)) (after ops V (Proc.devRef .tc main_v26)) (after ops V (Proc.devRef .tc main_v7)) := by
  rw [s_ternary hW 34 rfl (by decide +kernel) V, fin hW 34 main_v24 (by decide +kernel), fin hW 34 main_v26 (by decide +kernel), fin hW 34 main_v7 (by decide +kernel)] <;> (generalize after ops V = X; rfl)
theorem e_main_v28 : after ops V (Proc.devRef .tc main_v28) = broadcastInDim S64x513 ![0, 1] bcast_S64x1_S64x513_0_1 (after ops V (Proc.devRef .tc main_v22)) := by
  rw [s_unary hW 35 rfl (by decide +kernel) V, fin hW 35 main_v22 (by decide +kernel)] <;> (generalize after ops V = X; rfl)
theorem e_main_v29 : after ops V (Proc.devRef .tc main_v29) = broadcastInDim S64x513x1 ![0, 1] bcast_S64x513_S64x513x1_0_1 (after ops V (Proc.devRef .tc main_v28)) := by
  rw [s_unary hW 36 rfl (by decide +kernel) V, fin hW 36 main_v28 (by decide +kernel)] <;> (generalize after ops V = X; rfl)
theorem e_main_v30 : after ops V (Proc.devRef .tc main_v30) = broadcastInDim S64x513x1 ![0, 1] bcast_S64x513_S64x513x1_0_1 (after ops V (Proc.devRef .tc main_v27)) := by
  rw [s_unary hW 37 rfl (by decide +kernel) V, fin hW 37 main_v27 (by decide +kernel)] <;> (generalize after ops V = X; rfl)
theorem e_main_v31 : after ops V (Proc.devRef .tc main_v31) = concatenate S64x513x2 2 [⟨S64x513x1, (after ops V (Proc.devRef .tc main_v29))⟩, ⟨S64x513x1, (after ops V (Proc.devRef .tc main_v30))⟩] concatenates_S64x513x1_S64x513x1_S64x513x2_d2 := by
  rw [s_binary hW 38 rfl (by decide +kernel) V, fin hW 38 main_v29 (by decide +kernel), fin hW 38 main_v30 (by decide +kernel)] <;> (generalize after ops V = X; rfl)
theorem e_main_v32 : after ops V (Proc.devRef .tc main_v32) = Host.gather gather_S2048x64x128_S64x513x2_S2048x64x513_0_12_n_n_12_2_204811 (V (Proc.devRef .tc main_arg0)) (after ops V (Proc.devRef .tc main_v31)) := by
  rw [s_binary hW 39 rfl (by decide +kernel) V, ini hW 39 main_arg0 (by decide +kernel), fin hW 39 main_v31 (by decide +kernel)] <;> (generalize after ops V = X; rfl)
theorem e_main_v33 : after ops V (Proc.devRef .tc main_v33) = iotaInDim S513 32 0 := by
  exact s_nullary hW 40 rfl (by decide +kernel) V
theorem e_main_c_6 : after ops V (Proc.devRef .tc main_c_6) = constantI S_ 32 2#32 := by
  exact s_nullary hW 41 rfl (by decide +kernel) V
theorem e_main_v34 : after ops V (Proc.devRef .tc main_v34) = broadcastInDim S513 ![] bcast_S_S513 (after ops V (Proc.devRef .tc main_c_6)) := by
  rw [s_unary hW 42 rfl (by decide +kernel) V, fin hW 42 main_c_6 (by decide +kernel)] <;> (generalize after ops V = X; rfl)
theorem e_main_v35 : after ops V (Proc.devRef .tc main_v35) = cmpi .slt (after ops V (Proc.devRef .tc main_v33)) (after ops V (Proc.devRef .tc main_v34)) := by
  rw [s_binary hW 43 rfl (by decide +kernel) V, fin hW 43 main_v33 (by decide +kernel), fin hW 43 main_v34 (by decide +kernel)] <;> (generalize after ops V = X; rfl)
theorem e_main_v36 : after ops V (Proc.devRef .tc main_v36) = extractStridedSlice S1x64x513 ![0, 0, 0] (after ops V (Proc.devRef .tc main_v32)) slices_S2048x64x513_S1x64x513_0_0_0 := by
  rw [s_unary hW 44 rfl (by decide +kernel) V, fin hW 44 main_v32 (by decide +kernel)] <;> (generalize after ops V = X; rfl)
theorem e_main_v37 : after ops V (Proc.devRef .tc main_v37) = shapeCast _ (after ops V (Proc.devRef .tc main_v36)) shapeCasts_S1x64x513_S64x513 := by
  rw [s_reshape hW 45 rfl (by decide +kernel) V, fin hW 45 main_v36 (by decide +kernel)] <;> (generalize after ops V = X; rfl)
theorem e_main_cst : after ops V (Proc.devRef .tc main_cst) = constant S_ .f32 0xFF800000#32 := by
  exact s_nullary hW 46 rfl (by decide +kernel) V
theorem e_main_call0_v0 : after ops V (Proc.devRef .tc main_call0_v0) = id (after ops V (Proc.devRef .tc main_cst)) := by
  rw [s_unary hW 47 rfl (by decide +kernel) V, fin hW 47 main_cst (by decide +kernel)] <;> (generalize after ops V = X; rfl)
theorem e_main_v38_1 : after ops V (Proc.devRef .tc main_v38_1) = broadcastInDim S64x513 ![1] bcast_S513_S64x513_1 (after ops V (Proc.devRef .tc main_v35)) := by
  rw [s_unary hW 48 rfl (by decide +kernel) V, fin hW 48 main_v35 (by decide +kernel)] <;> (generalize after ops V = X; rfl)
theorem e_main_call0_v2 : after ops V (Proc.devRef .tc main_call0_v2) = broadcastInDim S64x513 ![] bcast_S_S64x513 (after ops V (Proc.devRef .tc main_call0_v0)) := by
  rw [s_unary hW 49 rfl (by decide +kernel) V, fin hW 49 main_call0_v0 (by decide +kernel)] <;> (generalize after ops V = X; rfl)
theorem e_main_v38_0 : after ops V (Proc.devRef .tc main_v38_0) = select (after ops V (Proc.devRef .tc main_v38_1)) (after ops V (Proc.devRef .tc main_v37)) (after ops V (Proc.devRef .tc main_call0_v2)) := by
  rw [s_ternary hW 50 rfl (by decide +kernel) V, fin hW 50 main_v38_1 (by decide +kernel), fin hW 50 main_v37 (by decide +kernel), fin hW 50 main_call0_v2 (by decide +kernel)] <;> (generalize after ops V = X; rfl)
theorem e_main_call0_cst : after ops V (Proc.devRef .tc main_call0_cst) = constant S_ .f32 0x00000000#32 := by
  exact s_nullary hW 51 rfl (by decide +kernel) V
theorem e_main_v38_2 : after ops V (Proc.devRef .tc main_v38_2) = broadcastInDim S64x513 ![] bcast_S_S64x513 (after ops V (Proc.devRef .tc main_call0_cst)) := by
  rw [s_unary hW 52 rfl (by decide +kernel) V, fin hW 52 main_call0_cst (by decide +kernel)] <;> (generalize after ops V = X; rfl)
theorem e_main_v39 : after ops V (Proc.devRef .tc main_v39) = extractStridedSlice S2047x64x513 ![1, 0, 0] (after ops V (Proc.devRef .tc main_v32)) slices_S2048x64x513_S2047x64x513_1_0_0 := by
  rw [s_unary hW 53 rfl (by decide +kernel) V, fin hW 53 main_v32 (by decide +kernel)] <;> (generalize after ops V = X; rfl)
theorem e_main_cst_7 : after ops V (Proc.devRef .tc main_cst_7) = constant S_ .f32 0xFF800000#32 := by
  exact s_nullary hW 54 rfl (by decide +kernel) V
theorem e_main_v40 : after ops V (Proc.devRef .tc main_v40) = broadcastInDim S64x1 ![] bcast_S_S64x1 (after ops V (Proc.devRef .tc main_cst_7)) := by
  rw [s_unary hW 55 rfl (by decide +kernel) V, fin hW 55 main_cst_7 (by decide +kernel)] <;> (generalize after ops V = X; rfl)
theorem e_main_v41 : after ops V (Proc.devRef .tc main_v41) = id (after ops V (Proc.devRef .tc main_v40)) := by
  rw [s_unary hW 56 rfl (by decide +kernel) V, fin hW 56 main_v40 (by decide +kernel)] <;> (generalize after ops V = X; rfl)
theorem e_main_cst_8 : after ops V (Proc.devRef .tc main_cst_8) = constant S_ .f32 0x00000000#32 := by
  exact s_nullary hW 57 rfl (by decide +kernel) V
theorem e_main_v42 : after ops V (Proc.devRef .tc main_v42) = broadcastInDim S64x1 ![] bcast_S_S64x1 (after ops V (Proc.devRef .tc main_cst_8)) := by
  rw [s_unary hW 58 rfl (by decide +kernel) V, fin hW 58 main_cst_8 (by decide +kernel)] <;> (generalize after ops V = X; rfl)
theorem e_main_cst_9 : after ops V (Proc.devRef .tc main_cst_9) = constant S_ .f32 0xFF800000#32 := by
  exact s_nullary hW 59 rfl (by decide +kernel) V
theorem e_main_v43 : after ops V (Proc.devRef .tc main_v43) = broadcastInDim S64x2 ![] bcast_S_S64x2 (after ops V (Proc.devRef .tc main_cst_9)) := by
  rw [s_unary hW 60 rfl (by decide +kernel) V, fin hW 60 main_cst_9 (by decide +kernel)] <;> (generalize after ops V = X; rfl)
theorem e_main_v44 : after ops V (Proc.devRef .tc main_v44) = id (after ops V (Proc.devRef .tc main_v43)) := by
  rw [s_unary hW 61 rfl (by decide +kernel) V, fin hW 61 main_v43 (by decide +kernel)] <;> (generalize after ops V = X; rfl)
theorem e_main_cst_10 : after ops V (Proc.devRef .tc main_cst_10) = constant S_ .f32 0x00000000#32 := by
  exact s_nullary hW 62 rfl (by decide +kernel) V
theorem e_main_v45 : after ops V (Proc.devRef .tc main_v45) = broadcastInDim S64x2 ![] bcast_S_S64x2 (after ops V (Proc.devRef .tc main_cst_10)) := by
  rw [s_unary hW 63 rfl (by decide +kernel) V, fin hW 63 main_cst_10 (by decide +kernel)] <;> (generalize after ops V = X; rfl)
theorem e_main_cst_11 : after ops V (Proc.devRef .tc main_cst_11) = constant S_ .f32 0xFF800000#32 := by
  exact s_nullary hW 64 rfl (by decide +kernel) V
theorem e_main_call1_v0 : after ops V (Proc.devRef .tc main_call1_v0) = id (after ops V (Proc.devRef .tc main_cst_11)) := by
  rw [s_unary hW 65 rfl (by decide +kernel) V, fin hW 65 main_cst_11 (by decide +kernel)] <;> (generalize after ops V = X; rfl)
theorem e_main_v46_1 : after ops V (Proc.devRef .tc main_v46_1) = broadcastInDim S64x513 ![] bcast_S_S64x513 (after ops V (Proc.devRef .tc main_call1_v0)) := by
  rw [s_unary hW 66 rfl (by decide +kernel) V, fin hW 66 main_call1_v0 (by decide +kernel)] <;> (generalize after ops V = X; rfl)
theorem e_main_call1_cst : after ops V (Proc.devRef .tc main_call1_cst) = constant S_ .f32 0x00000000#32 := by
  exact s_nullary hW 67 rfl (by decide +kernel) V
theorem e_main_v46_0 : after ops V (Proc.devRef .tc main_v46_0) = broadcastInDim S64x513 ![] bcast_S_S64x513 (after ops V (Proc.devRef .tc main_call1_cst)) := by
  rw [s_unary hW 68 rfl (by decide +kernel) V, fin hW 68 main_call1_cst (by decide +kernel)] <;> (generalize after ops V = X; rfl)
theorem e_main_cst_12 : after ops V (Proc.devRef .tc main_cst_12) = constant S_ .f32 0x00000000#32 := by
  exact s_nullary hW 69 rfl (by decide +kernel) V
theorem e_main_v47 : after ops V (Proc.devRef .tc main_v47) = broadcastInDim S2047x3x64x513 ![] bcast_S_S2047x3x64x513 (after ops V (Proc.devRef .tc main_cst_12)) := by
  rw [s_unary hW 70 rfl (by decide +kernel) V, fin hW 70 main_cst_12 (by decide +kernel)] <;> (generalize after ops V = X; rfl)
theorem e_main_cst_13 : after ops V (Proc.devRef .tc main_cst_13) = constant S_ .f32 0x00000000#32 := by
  exact s_nullary hW 71 rfl (by decide +kernel) V
theorem e_main_v48 : after ops V (Proc.devRef .tc main_v48) = broadcastInDim S2047x64x513 ![] bcast_S_S2047x64x513 (after ops V (Proc.devRef .tc main_cst_13)) := by
  rw [s_unary hW 72 rfl (by decide +kernel) V, fin hW 72 main_cst_13 (by decide +kernel)] <;> (generalize after ops V = X; rfl)
theorem e_main_cst_14 : after ops V (Proc.devRef .tc main_cst_14) = constant S_ .f32 0x00000000#32 := by
  exact s_nullary hW 73 rfl (by decide +kernel) V
theorem e_main_v49 : after ops V (Proc.devRef .tc main_v49) = broadcastInDim S2047x3x64x513 ![] bcast_S_S2047x3x64x513 (after ops V (Proc.devRef .tc main_cst_14)) := by
  rw [s_unary hW 74 rfl (by decide +kernel) V, fin hW 74 main_cst_14 (by decide +kernel)] <;> (generalize after ops V = X; rfl)
theorem e_main_cst_15 : after ops V (Proc.devRef .tc main_cst_15) = constant S_ .f32 0x00000000#32 := by
  exact s_nullary hW 75 rfl (by decide +kernel) V
theorem e_main_v50 : after ops V (Proc.devRef .tc main_v50) = broadcastInDim S2047x64x513 ![] bcast_S_S2047x64x513 (after ops V (Proc.devRef .tc main_cst_15)) := by
  rw [s_unary hW 76 rfl (by decide +kernel) V, fin hW 76 main_cst_15 (by decide +kernel)] <;> (generalize after ops V = X; rfl)
theorem e_main_c_16 : after ops V (Proc.devRef .tc main_c_16) = constantI S_ 32 0#32 := by
  exact s_nullary hW 77 rfl (by decide +kernel) V
theorem e_main_v51_0 : after ops V (Proc.devRef .tc main_v51_0) = id (after ops V (Proc.devRef .tc main_v39)) := by
  rw [s_unary hW 78 rfl (by decide +kernel) V, fin hW 78 main_v39 (by decide +kernel)] <;> (generalize after ops V = X; rfl)
theorem e_main_v51_1 : after ops V (Proc.devRef .tc main_v51_1) = id (after ops V (Proc.devRef .tc main_v41)) := by
  rw [s_unary hW 79 rfl (by decide +kernel) V, fin hW 79 main_v41 (by decide +kernel)] <;> (generalize after ops V = X; rfl)
theorem e_main_v51_2 : after ops V (Proc.devRef .tc main_v51_2) = id (after ops V (Proc.devRef .tc main_v44)) := by
  rw [s_unary hW 80 rfl (by decide +kernel) V, fin hW 80 main_v44 (by decide +kernel)] <;> (generalize after ops V = X; rfl)
theorem e_main_v51_3 : after ops V (Proc.devRef .tc main_v51_3) = id (after ops V (Proc.devRef .tc main_v16)) := by
  rw [s_unary hW 81 rfl (by decide +kernel) V, fin hW 81 main_v16 (by decide +kernel)] <;> (generalize after ops V = X; rfl)
theorem e_main_v51_4 : after ops V (Proc.devRef .tc main_v51_4) = id (after ops V (Proc.devRef .tc main_v46_1)) := by
  rw [s_unary hW 82 rfl (by decide +kernel) V, fin hW 82 main_v46_1 (by decide +kernel)] <;> (generalize after ops V = X; rfl)
theorem e_main_v51_5 : after ops V (Proc.devRef .tc main_v51_5) = id (after ops V (Proc.devRef .tc main_c_16)) := by
  rw [s_unary hW 83 rfl (by decide +kernel) V, fin hW 83 main_c_16 (by decide +kernel)] <;> (generalize after ops V = X; rfl)
theorem e_main_v51_6 : after ops V (Proc.devRef .tc main_v51_6) = id (after ops V (Proc.devRef .tc main_v38_0)) := by
  rw [s_unary hW 84 rfl (by decide +kernel) V, fin hW 84 main_v38_0 (by decide +kernel)] <;> (generalize after ops V = X; rfl)
theorem e_main_v51_7 : after ops V (Proc.devRef .tc main_v51_7) = id (after ops V (Proc.devRef .tc main_v47)) := by
  rw [s_unary hW 85 rfl (by decide +kernel) V, fin hW 85 main_v47 (by decide +kernel)] <;> (generalize after ops V = X; rfl)
theorem e_main_v51_8 : after ops V (Proc.devRef .tc main_v51_8) = id (after ops V (Proc.devRef .tc main_v48)) := by
  rw [s_unary hW 86 rfl (by decide +kernel) V, fin hW 86 main_v48 (by decide +kernel)] <;> (generalize after ops V = X; rfl)
theorem e_main_v51_9 : after ops V (Proc.devRef .tc main_v51_9) = id (after ops V (Proc.devRef .tc main_v49)) := by
  rw [s_unary hW 87 rfl (by decide +kernel) V, fin hW 87 main_v49 (by decide +kernel)] <;> (generalize after ops V = X; rfl)
theorem e_main_v51_10 : after ops V (Proc.devRef .tc main_v51_10) = id (after ops V (Proc.devRef .tc main_v50)) := by
  rw [s_unary hW 88 rfl (by decide +kernel) V, fin hW 88 main_v50 (by decide +kernel)] <;> (generalize after ops V = X; rfl)
end Pre

end Cert.ReferenceIdeal.Gen
-- ==== Proof.RefOpsBody.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter
public import proofs.«01_k».proof.Proof.RefSsa

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! One equation for each operation of these sections of the reference. -/

namespace B0
/-- The section's operations in one line. -/
abbrev ops : List (HloOp τ sig (Elt F)) := itemsB0.flatten
/-- What they write, in order. -/
abbrev W : List (Ref sig .tc) := [main_while0b_call2_c, main_while0b_call2_c_0, main_while0b_call2_v0, main_while0b_v137, main_while0b_v138, main_while0b_v139, main_while0b_v140, main_while0b_v141, main_while0b_v142, main_while0b_v143, main_while0b_v144, main_while0b_v145, main_while0b_v146, main_while0b_cst_55, main_while0b_v147, main_while0b_v148, main_while0b_v149, main_while0b_v150, main_while0b_v151, main_while0b_cst_56, main_while0b_v152, main_while0b_v153, main_while0b_v154, main_while0b_v155, main_while0b_v156, main_while0b_cst_57, main_while0b_v157, main_while0b_v158, main_while0b_v159, main_while0b_v160, main_while0b_call4_v0, main_while0b_call4_c, main_while0b_call4_c_0, main_while0b_call4_c_1, main_while0b_v161, main_while0b_call5_v0, main_while0b_call5_c, main_while0b_call5_c_0, main_while0b_v162, main_while0b_call6_v0, main_while0b_call6_c, main_while0b_call6_c_0, main_while0b_call6_c_1, main_while0b_v163, main_while0b_call7_v0, main_while0b_call7_c, main_while0b_call7_c_0, main_while0b_v164, main_while0b_c_58, main_while0b_v165, main_v51_5, main_v51_6, main_v51_7, main_v51_8, main_v51_9, main_v51_10]
theorem hW : (ops (F := F)).map HloOp.writes = W.map fun r => {Proc.devRef (τ := τ) .tc r} := rfl
variable (V : Valuation τ sig (Elt F))
theorem e_main_while0b_call2_c : after ops V (Proc.devRef .tc main_while0b_call2_c) = constantI S_ 32 0#32 := by
  exact s_nullary hW 0 rfl (by decide +kernel) V
theorem e_main_while0b_call2_c_0 : after ops V (Proc.devRef .tc main_while0b_call2_c_0) = constantI S_ 32 0#32 := by
  exact s_nullary hW 1 rfl (by decide +kernel) V
theorem e_main_while0b_call2_v0 : after ops V (Proc.devRef .tc main_while0b_call2_v0) = Host.dynamicSlice S1x64x513 (V (Proc.devRef .tc main_v51_0)) (fun k => (((![V (Proc.devRef .tc main_v51_5), after ops V (Proc.devRef .tc main_while0b_call2_c), after ops V (Proc.devRef .tc main_while0b_call2_c_0)] : Fin 3 → (⟨S_, .i32⟩ : BufTy).Contents (Elt F))) k (Shape.Idx.first h_S_)).toInt) sliceFits_S2047x64x513_S1x64x513 := by
  have h0 : upto ops V 2 (Proc.devRef .tc main_v51_0) = V (Proc.devRef .tc main_v51_0) := ini hW 2 main_v51_0 (by decide +kernel) V
  have h1 : upto ops V 2 (Proc.devRef .tc main_v51_5) = V (Proc.devRef .tc main_v51_5) := ini hW 2 main_v51_5 (by decide +kernel) V
  have h2 : upto ops V 2 (Proc.devRef .tc main_while0b_call2_c) = after ops V (Proc.devRef .tc main_while0b_call2_c) := fin hW 2 main_while0b_call2_c (by decide +kernel) V
  have h3 : upto ops V 2 (Proc.devRef .tc main_while0b_call2_c_0) = after ops V (Proc.devRef .tc main_while0b_call2_c_0) := fin hW 2 main_while0b_call2_c_0 (by decide +kernel) V
  rw [lst hW 2 rfl (by decide +kernel) V, ← h0, ← h1, ← h2, ← h3]
  generalize upto ops V 2 = X
  after_results_entrywise [cast_eq]
theorem e_main_while0b_v137 : after ops V (Proc.devRef .tc main_while0b_v137) = shapeCast S64x513 (after ops V (Proc.devRef .tc main_while0b_call2_v0)) shapeCasts_S1x64x513_S64x513 := by
  rw [s_reshape hW 3 rfl (by decide +kernel) V, fin hW 3 main_while0b_call2_v0 (by decide +kernel)] <;> (generalize after ops V = X; rfl)
theorem e_main_while0b_v138 : after ops V (Proc.devRef .tc main_while0b_v138) = extractStridedSlice S64x512 ![0, 0] (V (Proc.devRef .tc main_v51_6)) slices_S64x513_S64x512_0_0 := by
  rw [s_unary hW 4 rfl (by decide +kernel) V, ini hW 4 main_v51_6 (by decide +kernel)] <;> (generalize after ops V = X; rfl)
theorem e_main_while0b_v139 : after ops V (Proc.devRef .tc main_while0b_v139) = concatenate S64x513 1 [⟨S64x1, (V (Proc.devRef .tc main_v51_1))⟩, ⟨S64x512, (after ops V (Proc.devRef .tc main_while0b_v138))⟩] concatenates_S64x1_S64x512_S64x513_d1 := by
  rw [s_binary hW 5 rfl (by decide +kernel) V, ini hW 5 main_v51_1 (by decide +kernel), fin hW 5 main_while0b_v138 (by decide +kernel)] <;> (generalize after ops V = X; rfl)
theorem e_main_while0b_v140 : after ops V (Proc.devRef .tc main_while0b_v140) = extractStridedSlice S64x511 ![0, 0] (V (Proc.devRef .tc main_v51_6)) slices_S64x513_S64x511_0_0 := by
  rw [s_unary hW 6 rfl (by decide +kernel) V, ini hW 6 main_v51_6 (by decide +kernel)] <;> (generalize after ops V = X; rfl)
theorem e_main_while0b_v141 : after ops V (Proc.devRef .tc main_while0b_v141) = concatenate S64x513 1 [⟨S64x2, (V (Proc.devRef .tc main_v51_2))⟩, ⟨S64x511, (after ops V (Proc.devRef .tc main_while0b_v140))⟩] concatenates_S64x2_S64x511_S64x513_d1 := by
  rw [s_binary hW 7 rfl (by decide +kernel) V, ini hW 7 main_v51_2 (by decide +kernel), fin hW 7 main_while0b_v140 (by decide +kernel)] <;> (generalize after ops V = X; rfl)
theorem e_main_while0b_v142 : after ops V (Proc.devRef .tc main_while0b_v142) = select (V (Proc.devRef .tc main_v51_3)) (after ops V (Proc.devRef .tc main_while0b_v141)) (V (Proc.devRef .tc main_v51_4)) := by
  rw [s_ternary hW 8 rfl (by decide +kernel) V, ini hW 8 main_v51_3 (by decide +kernel), fin hW 8 main_while0b_v141 (by decide +kernel), ini hW 8 main_v51_4 (by decide +kernel)] <;> (generalize after ops V = X; rfl)
theorem e_main_while0b_v143 : after ops V (Proc.devRef .tc main_while0b_v143) = broadcastInDim S1x64x513 ![1, 2] bcast_S64x513_S1x64x513_1_2 (V (Proc.devRef .tc main_v51_6)) := by
  rw [s_unary hW 9 rfl (by decide +kernel) V, ini hW 9 main_v51_6 (by decide +kernel)] <;> (generalize after ops V = X; rfl)
theorem e_main_while0b_v144 : after ops V (Proc.devRef .tc main_while0b_v144) = broadcastInDim S1x64x513 ![1, 2] bcast_S64x513_S1x64x513_1_2 (after ops V (Proc.devRef .tc main_while0b_v139)) := by
  rw [s_unary hW 10 rfl (by decide +kernel) V, fin hW 10 main_while0b_v139 (by decide +kernel)] <;> (generalize after ops V = X; rfl)
theorem e_main_while0b_v145 : after ops V (Proc.devRef .tc main_while0b_v145) = broadcastInDim S1x64x513 ![1, 2] bcast_S64x513_S1x64x513_1_2 (after ops V (Proc.devRef .tc main_while0b_v142)) := by
  rw [s_unary hW 11 rfl (by decide +kernel) V, fin hW 11 main_while0b_v142 (by decide +kernel)] <;> (generalize after ops V = X; rfl)
theorem e_main_while0b_v146 : after ops V (Proc.devRef .tc main_while0b_v146) = (concatenate S3x64x513 0 [⟨S1x64x513, ((after ops V (Proc.devRef .tc main_while0b_v143)) : (⟨S1x64x513, .f32⟩ : BufTy).Contents (Elt F))⟩, ⟨S1x64x513, ((after ops V (Proc.devRef .tc main_while0b_v144)) : (⟨S1x64x513, .f32⟩ : BufTy).Contents (Elt F))⟩, ⟨S1x64x513, ((after ops V (Proc.devRef .tc main_while0b_v145)) : (⟨S1x64x513, .f32⟩ : BufTy).Contents (Elt F))⟩] concatenates_S1x64x513_S1x64x513_S1x64x513_S3x64x513_d0 : (⟨S3x64x513, .f32⟩ : BufTy).Contents (Elt F)) := by
  have h0 : upto ops V 12 (Proc.devRef .tc main_while0b_v143) = after ops V (Proc.devRef .tc main_while0b_v143) := fin hW 12 main_while0b_v143 (by decide +kernel) V
  have h1 : upto ops V 12 (Proc.devRef .tc main_while0b_v144) = after ops V (Proc.devRef .tc main_while0b_v144) := fin hW 12 main_while0b_v144 (by decide +kernel) V
  have h2 : upto ops V 12 (Proc.devRef .tc main_while0b_v145) = after ops V (Proc.devRef .tc main_while0b_v145) := fin hW 12 main_while0b_v145 (by decide +kernel) V
  rw [s_nary hW 12 rfl (by decide +kernel) V, ← h0, ← h1, ← h2] <;> (generalize upto ops V 12 = X; rfl)
theorem e_main_while0b_cst_55 : after ops V (Proc.devRef .tc main_while0b_cst_55) = constant S_ .f32 0xFF800000#32 := by
  exact s_nullary hW 13 rfl (by decide +kernel) V
theorem e_main_while0b_v147 : after ops V (Proc.devRef .tc main_while0b_v147) = Host.reduce FloatOps.maximumf (after ops V (Proc.devRef .tc main_while0b_v146)) (after ops V (Proc.devRef .tc main_while0b_cst_55)) reducesTo_S3x64x513_S64x513_d0 h_S_ := by
  rw [s_binary hW 14 rfl (by decide +kernel) V, fin hW 14 main_while0b_v146 (by decide +kernel), fin hW 14 main_while0b_cst_55 (by decide +kernel)] <;> (generalize after ops V = X; rfl)
theorem e_main_while0b_v148 : after ops V (Proc.devRef .tc main_while0b_v148) = shapeCast _ (after ops V (Proc.devRef .tc main_while0b_v147)) shapeCasts_S64x513_S1x64x513 := by
  rw [s_reshape hW 15 rfl (by decide +kernel) V, fin hW 15 main_while0b_v147 (by decide +kernel)] <;> (generalize after ops V = X; rfl)
theorem e_main_while0b_v149 : after ops V (Proc.devRef .tc main_while0b_v149) = broadcastInDim S3x64x513 ![0, 1, 2] bcast_S1x64x513_S3x64x513_0_1_2 (after ops V (Proc.devRef .tc main_while0b_v148)) := by
  rw [s_unary hW 16 rfl (by decide +kernel) V, fin hW 16 main_while0b_v148 (by decide +kernel)] <;> (generalize after ops V = X; rfl)
theorem e_main_while0b_v150 : after ops V (Proc.devRef .tc main_while0b_v150) = cmpf .oeq (after ops V (Proc.devRef .tc main_while0b_v146)) (after ops V (Proc.devRef .tc main_while0b_v149)) := by
  rw [s_binary hW 17 rfl (by decide +kernel) V, fin hW 17 main_while0b_v146 (by decide +kernel), fin hW 17 main_while0b_v149 (by decide +kernel)] <;> (generalize after ops V = X; rfl)
theorem e_main_while0b_v151 : after ops V (Proc.devRef .tc main_while0b_v151) = uitofp .f32 (after ops V (Proc.devRef .tc main_while0b_v150)) := by
  rw [s_unary hW 18 rfl (by decide +kernel) V, fin hW 18 main_while0b_v150 (by decide +kernel)] <;> (generalize after ops V = X; rfl)
theorem e_main_while0b_cst_56 : after ops V (Proc.devRef .tc main_while0b_cst_56) = constant S_ .f32 0x00000000#32 := by
  exact s_nullary hW 19 rfl (by decide +kernel) V
theorem e_main_while0b_v152 : after ops V (Proc.devRef .tc main_while0b_v152) = Host.reduceAdd (after ops V (Proc.devRef .tc main_while0b_v151)) (after ops V (Proc.devRef .tc main_while0b_cst_56)) reducesTo_S3x64x513_S64x513_d0 h_S_ := by
  rw [s_binary hW 20 rfl (by decide +kernel) V, fin hW 20 main_while0b_v151 (by decide +kernel), fin hW 20 main_while0b_cst_56 (by decide +kernel)] <;> (generalize after ops V = X; rfl)
theorem e_main_while0b_v153 : after ops V (Proc.devRef .tc main_while0b_v153) = broadcastInDim S1x64x513 ![1, 2] bcast_S64x513_S1x64x513_1_2 (after ops V (Proc.devRef .tc main_while0b_v147)) := by
  rw [s_unary hW 21 rfl (by decide +kernel) V, fin hW 21 main_while0b_v147 (by decide +kernel)] <;> (generalize after ops V = X; rfl)
theorem e_main_while0b_v154 : after ops V (Proc.devRef .tc main_while0b_v154) = broadcastInDim S3x64x513 ![0, 1, 2] bcast_S1x64x513_S3x64x513_0_1_2 (after ops V (Proc.devRef .tc main_while0b_v153)) := by
  rw [s_unary hW 22 rfl (by decide +kernel) V, fin hW 22 main_while0b_v153 (by decide +kernel)] <;> (generalize after ops V = X; rfl)
theorem e_main_while0b_v155 : after ops V (Proc.devRef .tc main_while0b_v155) = subf (after ops V (Proc.devRef .tc main_while0b_v146)) (after ops V (Proc.devRef .tc main_while0b_v154)) := by
  rw [s_binary hW 23 rfl (by decide +kernel) V, fin hW 23 main_while0b_v146 (by decide +kernel), fin hW 23 main_while0b_v154 (by decide +kernel)] <;> (generalize after ops V = X; rfl)
theorem e_main_while0b_v156 : after ops V (Proc.devRef .tc main_while0b_v156) = Host.exp (after ops V (Proc.devRef .tc main_while0b_v155)) := by
  rw [s_unary hW 24 rfl (by decide +kernel) V, fin hW 24 main_while0b_v155 (by decide +kernel)] <;> (generalize after ops V = X; rfl)
theorem e_main_while0b_cst_57 : after ops V (Proc.devRef .tc main_while0b_cst_57) = constant S_ .f32 0x00000000#32 := by
  exact s_nullary hW 25 rfl (by decide +kernel) V
theorem e_main_while0b_v157 : after ops V (Proc.devRef .tc main_while0b_v157) = Host.reduceAdd (after ops V (Proc.devRef .tc main_while0b_v156)) (after ops V (Proc.devRef .tc main_while0b_cst_57)) reducesTo_S3x64x513_S64x513_d0 h_S_ := by
  rw [s_binary hW 26 rfl (by decide +kernel) V, fin hW 26 main_while0b_v156 (by decide +kernel), fin hW 26 main_while0b_cst_57 (by decide +kernel)] <;> (generalize after ops V = X; rfl)
theorem e_main_while0b_v158 : after ops V (Proc.devRef .tc main_while0b_v158) = Host.log (after ops V (Proc.devRef .tc main_while0b_v157)) := by
  rw [s_unary hW 27 rfl (by decide +kernel) V, fin hW 27 main_while0b_v157 (by decide +kernel)] <;> (generalize after ops V = X; rfl)
theorem e_main_while0b_v159 : after ops V (Proc.devRef .tc main_while0b_v159) = addf (after ops V (Proc.devRef .tc main_while0b_v147)) (after ops V (Proc.devRef .tc main_while0b_v158)) := by
  rw [s_binary hW 28 rfl (by decide +kernel) V, fin hW 28 main_while0b_v147 (by decide +kernel), fin hW 28 main_while0b_v158 (by decide +kernel)] <;> (generalize after ops V = X; rfl)
theorem e_main_while0b_v160 : after ops V (Proc.devRef .tc main_while0b_v160) = addf (after ops V (Proc.devRef .tc main_while0b_v159)) (after ops V (Proc.devRef .tc main_while0b_v137)) := by
  rw [s_binary hW 29 rfl (by decide +kernel) V, fin hW 29 main_while0b_v159 (by decide +kernel), fin hW 29 main_while0b_v137 (by decide +kernel)] <;> (generalize after ops V = X; rfl)
theorem e_main_while0b_call4_v0 : after ops V (Proc.devRef .tc main_while0b_call4_v0) = broadcastInDim S1x3x64x513 ![1, 2, 3] bcast_S3x64x513_S1x3x64x513_1_2_3 (after ops V (Proc.devRef .tc main_while0b_v151)) := by
  rw [s_unary hW 30 rfl (by decide +kernel) V, fin hW 30 main_while0b_v151 (by decide +kernel)] <;> (generalize after ops V = X; rfl)
theorem e_main_while0b_call4_c : after ops V (Proc.devRef .tc main_while0b_call4_c) = constantI S_ 32 0#32 := by
  exact s_nullary hW 31 rfl (by decide +kernel) V
theorem e_main_while0b_call4_c_0 : after ops V (Proc.devRef .tc main_while0b_call4_c_0) = constantI S_ 32 0#32 := by
  exact s_nullary hW 32 rfl (by decide +kernel) V
theorem e_main_while0b_call4_c_1 : after ops V (Proc.devRef .tc main_while0b_call4_c_1) = constantI S_ 32 0#32 := by
  exact s_nullary hW 33 rfl (by decide +kernel) V
theorem e_main_while0b_v161 : after ops V (Proc.devRef .tc main_while0b_v161) = Host.dynamicUpdateSlice (V (Proc.devRef .tc main_v51_7)) (after ops V (Proc.devRef .tc main_while0b_call4_v0)) (fun k => (((![V (Proc.devRef .tc main_v51_5), after ops V (Proc.devRef .tc main_while0b_call4_c), after ops V (Proc.devRef .tc main_while0b_call4_c_0), after ops V (Proc.devRef .tc main_while0b_call4_c_1)] : Fin 4 → (⟨S_, .i32⟩ : BufTy).Contents (Elt F))) k (Shape.Idx.first h_S_)).toInt) updateFits_S2047x3x64x513_S1x3x64x513 := by
  have h0 : upto ops V 34 (Proc.devRef .tc main_v51_7) = V (Proc.devRef .tc main_v51_7) := ini hW 34 main_v51_7 (by decide +kernel) V
  have h1 : upto ops V 34 (Proc.devRef .tc main_while0b_call4_v0) = after ops V (Proc.devRef .tc main_while0b_call4_v0) := fin hW 34 main_while0b_call4_v0 (by decide +kernel) V
  have h2 : upto ops V 34 (Proc.devRef .tc main_v51_5) = V (Proc.devRef .tc main_v51_5) := ini hW 34 main_v51_5 (by decide +kernel) V
  have h3 : upto ops V 34 (Proc.devRef .tc main_while0b_call4_c) = after ops V (Proc.devRef .tc main_while0b_call4_c) := fin hW 34 main_while0b_call4_c (by decide +kernel) V
  have h4 : upto ops V 34 (Proc.devRef .tc main_while0b_call4_c_0) = after ops V (Proc.devRef .tc main_while0b_call4_c_0) := fin hW 34 main_while0b_call4_c_0 (by decide +kernel) V
  have h5 : upto ops V 34 (Proc.devRef .tc main_while0b_call4_c_1) = after ops V (Proc.devRef .tc main_while0b_call4_c_1) := fin hW 34 main_while0b_call4_c_1 (by decide +kernel) V
  rw [lst hW 34 rfl (by decide +kernel) V, ← h0, ← h1, ← h2, ← h3, ← h4, ← h5]
  generalize upto ops V 34 = X
  after_results_entrywise [cast_eq]
theorem e_main_while0b_call5_v0 : after ops V (Proc.devRef .tc main_while0b_call5_v0) = broadcastInDim S1x64x513 ![1, 2] bcast_S64x513_S1x64x513_1_2 (after ops V (Proc.devRef .tc main_while0b_v152)) := by
  rw [s_unary hW 35 rfl (by decide +kernel) V, fin hW 35 main_while0b_v152 (by decide +kernel)] <;> (generalize after ops V = X; rfl)
theorem e_main_while0b_call5_c : after ops V (Proc.devRef .tc main_while0b_call5_c) = constantI S_ 32 0#32 := by
  exact s_nullary hW 36 rfl (by decide +kernel) V
theorem e_main_while0b_call5_c_0 : after ops V (Proc.devRef .tc main_while0b_call5_c_0) = constantI S_ 32 0#32 := by
  exact s_nullary hW 37 rfl (by decide +kernel) V
theorem e_main_while0b_v162 : after ops V (Proc.devRef .tc main_while0b_v162) = Host.dynamicUpdateSlice (V (Proc.devRef .tc main_v51_8)) (after ops V (Proc.devRef .tc main_while0b_call5_v0)) (fun k => (((![V (Proc.devRef .tc main_v51_5), after ops V (Proc.devRef .tc main_while0b_call5_c), after ops V (Proc.devRef .tc main_while0b_call5_c_0)] : Fin 3 → (⟨S_, .i32⟩ : BufTy).Contents (Elt F))) k (Shape.Idx.first h_S_)).toInt) updateFits_S2047x64x513_S1x64x513 := by
  have h0 : upto ops V 38 (Proc.devRef .tc main_v51_8) = V (Proc.devRef .tc main_v51_8) := ini hW 38 main_v51_8 (by decide +kernel) V
  have h1 : upto ops V 38 (Proc.devRef .tc main_while0b_call5_v0) = after ops V (Proc.devRef .tc main_while0b_call5_v0) := fin hW 38 main_while0b_call5_v0 (by decide +kernel) V
  have h2 : upto ops V 38 (Proc.devRef .tc main_v51_5) = V (Proc.devRef .tc main_v51_5) := ini hW 38 main_v51_5 (by decide +kernel) V
  have h3 : upto ops V 38 (Proc.devRef .tc main_while0b_call5_c) = after ops V (Proc.devRef .tc main_while0b_call5_c) := fin hW 38 main_while0b_call5_c (by decide +kernel) V
  have h4 : upto ops V 38 (Proc.devRef .tc main_while0b_call5_c_0) = after ops V (Proc.devRef .tc main_while0b_call5_c_0) := fin hW 38 main_while0b_call5_c_0 (by decide +kernel) V
  rw [lst hW 38 rfl (by decide +kernel) V, ← h0, ← h1, ← h2, ← h3, ← h4]
  generalize upto ops V 38 = X
  after_results_entrywise [cast_eq]
theorem e_main_while0b_call6_v0 : after ops V (Proc.devRef .tc main_while0b_call6_v0) = broadcastInDim S1x3x64x513 ![1, 2, 3] bcast_S3x64x513_S1x3x64x513_1_2_3 (after ops V (Proc.devRef .tc main_while0b_v156)) := by
  rw [s_unary hW 39 rfl (by decide +kernel) V, fin hW 39 main_while0b_v156 (by decide +kernel)] <;> (generalize after ops V = X; rfl)
theorem e_main_while0b_call6_c : after ops V (Proc.devRef .tc main_while0b_call6_c) = constantI S_ 32 0#32 := by
  exact s_nullary hW 40 rfl (by decide +kernel) V
theorem e_main_while0b_call6_c_0 : after ops V (Proc.devRef .tc main_while0b_call6_c_0) = constantI S_ 32 0#32 := by
  exact s_nullary hW 41 rfl (by decide +kernel) V
theorem e_main_while0b_call6_c_1 : after ops V (Proc.devRef .tc main_while0b_call6_c_1) = constantI S_ 32 0#32 := by
  exact s_nullary hW 42 rfl (by decide +kernel) V
theorem e_main_while0b_v163 : after ops V (Proc.devRef .tc main_while0b_v163) = Host.dynamicUpdateSlice (V (Proc.devRef .tc main_v51_9)) (after ops V (Proc.devRef .tc main_while0b_call6_v0)) (fun k => (((![V (Proc.devRef .tc main_v51_5), after ops V (Proc.devRef .tc main_while0b_call6_c), after ops V (Proc.devRef .tc main_while0b_call6_c_0), after ops V (Proc.devRef .tc main_while0b_call6_c_1)] : Fin 4 → (⟨S_, .i32⟩ : BufTy).Contents (Elt F))) k (Shape.Idx.first h_S_)).toInt) updateFits_S2047x3x64x513_S1x3x64x513 := by
  have h0 : upto ops V 43 (Proc.devRef .tc main_v51_9) = V (Proc.devRef .tc main_v51_9) := ini hW 43 main_v51_9 (by decide +kernel) V
  have h1 : upto ops V 43 (Proc.devRef .tc main_while0b_call6_v0) = after ops V (Proc.devRef .tc main_while0b_call6_v0) := fin hW 43 main_while0b_call6_v0 (by decide +kernel) V
  have h2 : upto ops V 43 (Proc.devRef .tc main_v51_5) = V (Proc.devRef .tc main_v51_5) := ini hW 43 main_v51_5 (by decide +kernel) V
  have h3 : upto ops V 43 (Proc.devRef .tc main_while0b_call6_c) = after ops V (Proc.devRef .tc main_while0b_call6_c) := fin hW 43 main_while0b_call6_c (by decide +kernel) V
  have h4 : upto ops V 43 (Proc.devRef .tc main_while0b_call6_c_0) = after ops V (Proc.devRef .tc main_while0b_call6_c_0) := fin hW 43 main_while0b_call6_c_0 (by decide +kernel) V
  have h5 : upto ops V 43 (Proc.devRef .tc main_while0b_call6_c_1) = after ops V (Proc.devRef .tc main_while0b_call6_c_1) := fin hW 43 main_while0b_call6_c_1 (by decide +kernel) V
  rw [lst hW 43 rfl (by decide +kernel) V, ← h0, ← h1, ← h2, ← h3, ← h4, ← h5]
  generalize upto ops V 43 = X
  after_results_entrywise [cast_eq]
theorem e_main_while0b_call7_v0 : after ops V (Proc.devRef .tc main_while0b_call7_v0) = broadcastInDim S1x64x513 ![1, 2] bcast_S64x513_S1x64x513_1_2 (after ops V (Proc.devRef .tc main_while0b_v157)) := by
  rw [s_unary hW 44 rfl (by decide +kernel) V, fin hW 44 main_while0b_v157 (by decide +kernel)] <;> (generalize after ops V = X; rfl)
theorem e_main_while0b_call7_c : after ops V (Proc.devRef .tc main_while0b_call7_c) = constantI S_ 32 0#32 := by
  exact s_nullary hW 45 rfl (by decide +kernel) V
theorem e_main_while0b_call7_c_0 : after ops V (Proc.devRef .tc main_while0b_call7_c_0) = constantI S_ 32 0#32 := by
  exact s_nullary hW 46 rfl (by decide +kernel) V
theorem e_main_while0b_v164 : after ops V (Proc.devRef .tc main_while0b_v164) = Host.dynamicUpdateSlice (V (Proc.devRef .tc main_v51_10)) (after ops V (Proc.devRef .tc main_while0b_call7_v0)) (fun k => (((![V (Proc.devRef .tc main_v51_5), after ops V (Proc.devRef .tc main_while0b_call7_c), after ops V (Proc.devRef .tc main_while0b_call7_c_0)] : Fin 3 → (⟨S_, .i32⟩ : BufTy).Contents (Elt F))) k (Shape.Idx.first h_S_)).toInt) updateFits_S2047x64x513_S1x64x513 := by
  have h0 : upto ops V 47 (Proc.devRef .tc main_v51_10) = V (Proc.devRef .tc main_v51_10) := ini hW 47 main_v51_10 (by decide +kernel) V
  have h1 : upto ops V 47 (Proc.devRef .tc main_while0b_call7_v0) = after ops V (Proc.devRef .tc main_while0b_call7_v0) := fin hW 47 main_while0b_call7_v0 (by decide +kernel) V
  have h2 : upto ops V 47 (Proc.devRef .tc main_v51_5) = V (Proc.devRef .tc main_v51_5) := ini hW 47 main_v51_5 (by decide +kernel) V
  have h3 : upto ops V 47 (Proc.devRef .tc main_while0b_call7_c) = after ops V (Proc.devRef .tc main_while0b_call7_c) := fin hW 47 main_while0b_call7_c (by decide +kernel) V
  have h4 : upto ops V 47 (Proc.devRef .tc main_while0b_call7_c_0) = after ops V (Proc.devRef .tc main_while0b_call7_c_0) := fin hW 47 main_while0b_call7_c_0 (by decide +kernel) V
  rw [lst hW 47 rfl (by decide +kernel) V, ← h0, ← h1, ← h2, ← h3, ← h4]
  generalize upto ops V 47 = X
  after_results_entrywise [cast_eq]
theorem e_main_while0b_c_58 : after ops V (Proc.devRef .tc main_while0b_c_58) = constantI S_ 32 1#32 := by
  exact s_nullary hW 48 rfl (by decide +kernel) V
theorem e_main_while0b_v165 : after ops V (Proc.devRef .tc main_while0b_v165) = addi (V (Proc.devRef .tc main_v51_5)) (after ops V (Proc.devRef .tc main_while0b_c_58)) := by
  rw [s_binary hW 49 rfl (by decide +kernel) V, ini hW 49 main_v51_5 (by decide +kernel), fin hW 49 main_while0b_c_58 (by decide +kernel)] <;> (generalize after ops V = X; rfl)
theorem e_main_v51_5 : after ops V (Proc.devRef .tc main_v51_5) = id (after ops V (Proc.devRef .tc main_while0b_v165)) := by
  rw [s_unary hW 50 rfl (by decide +kernel) V, fin hW 50 main_while0b_v165 (by decide +kernel)] <;> (generalize after ops V = X; rfl)
theorem e_main_v51_6 : after ops V (Proc.devRef .tc main_v51_6) = id (after ops V (Proc.devRef .tc main_while0b_v160)) := by
  rw [s_unary hW 51 rfl (by decide +kernel) V, fin hW 51 main_while0b_v160 (by decide +kernel)] <;> (generalize after ops V = X; rfl)
theorem e_main_v51_7 : after ops V (Proc.devRef .tc main_v51_7) = id (after ops V (Proc.devRef .tc main_while0b_v161)) := by
  rw [s_unary hW 52 rfl (by decide +kernel) V, fin hW 52 main_while0b_v161 (by decide +kernel)] <;> (generalize after ops V = X; rfl)
theorem e_main_v51_8 : after ops V (Proc.devRef .tc main_v51_8) = id (after ops V (Proc.devRef .tc main_while0b_v162)) := by
  rw [s_unary hW 53 rfl (by decide +kernel) V, fin hW 53 main_while0b_v162 (by decide +kernel)] <;> (generalize after ops V = X; rfl)
theorem e_main_v51_9 : after ops V (Proc.devRef .tc main_v51_9) = id (after ops V (Proc.devRef .tc main_while0b_v163)) := by
  rw [s_unary hW 54 rfl (by decide +kernel) V, fin hW 54 main_while0b_v163 (by decide +kernel)] <;> (generalize after ops V = X; rfl)
theorem e_main_v51_10 : after ops V (Proc.devRef .tc main_v51_10) = id (after ops V (Proc.devRef .tc main_while0b_v164)) := by
  rw [s_unary hW 55 rfl (by decide +kernel) V, fin hW 55 main_while0b_v164 (by decide +kernel)] <;> (generalize after ops V = X; rfl)
end B0

namespace B1
/-- The section's operations in one line. -/
abbrev ops : List (HloOp τ sig (Elt F)) := itemsB1.flatten
/-- What they write, in order. -/
abbrev W : List (Ref sig .tc) := [main_while1b_c_55, main_while1b_v137, main_while1b_c_56, main_while1b_v138, main_while1b_call8_c, main_while1b_call8_c_0, main_while1b_call8_c_1, main_while1b_call8_v0, main_while1b_v139, main_while1b_call9_c, main_while1b_call9_c_0, main_while1b_call9_v0, main_while1b_v140, main_while1b_call10_c, main_while1b_call10_c_0, main_while1b_call10_c_1, main_while1b_call10_v0, main_while1b_v141, main_while1b_call11_c, main_while1b_call11_c_0, main_while1b_call11_v0, main_while1b_v142, main_while1b_v143, main_while1b_v144, main_while1b_v145, main_while1b_v146, main_while1b_cst_57, main_while1b_v147, main_while1b_v148, main_while1b_cst_58, main_while1b_v149, main_while1b_v150, main_while1b_v151, main_while1b_v152, main_while1b_v153, main_while1b_v154, main_while1b_v155, main_while1b_v156, main_while1b_v157, main_while1b_v158, main_while1b_v159, main_while1b_v160, main_while1b_call12_cst, main_while1b_call12_v0, main_while1b_v161, main_while1b_v162, main_while1b_v163, main_while1b_cst_59, main_while1b_v164, main_while1b_v165, main_while1b_v166, main_while1b_v167, main_while1b_cst_60, main_while1b_v168, main_while1b_v169, main_while1b_call13_v0, main_while1b_call13_c, main_while1b_call13_c_0, main_while1b_v170, main_while1b_c_61, main_while1b_v171, main_v125_8, main_v125_9, main_v125_10]
theorem hW : (ops (F := F)).map HloOp.writes = W.map fun r => {Proc.devRef (τ := τ) .tc r} := rfl
variable (V : Valuation τ sig (Elt F))
theorem e_main_while1b_c_55 : after ops V (Proc.devRef .tc main_while1b_c_55) = constantI S_ 32 2047#32 := by
  exact s_nullary hW 0 rfl (by decide +kernel) V
theorem e_main_while1b_v137 : after ops V (Proc.devRef .tc main_while1b_v137) = subi (after ops V (Proc.devRef .tc main_while1b_c_55)) (V (Proc.devRef .tc main_v125_8)) := by
  rw [s_binary hW 1 rfl (by decide +kernel) V, fin hW 1 main_while1b_c_55 (by decide +kernel), ini hW 1 main_v125_8 (by decide +kernel)] <;> (generalize after ops V = X; rfl)
theorem e_main_while1b_c_56 : after ops V (Proc.devRef .tc main_while1b_c_56) = constantI S_ 32 1#32 := by
  exact s_nullary hW 2 rfl (by decide +kernel) V
theorem e_main_while1b_v138 : after ops V (Proc.devRef .tc main_while1b_v138) = subi (after ops V (Proc.devRef .tc main_while1b_v137)) (after ops V (Proc.devRef .tc main_while1b_c_56)) := by
  rw [s_binary hW 3 rfl (by decide +kernel) V, fin hW 3 main_while1b_v137 (by decide +kernel), fin hW 3 main_while1b_c_56 (by decide +kernel)] <;> (generalize after ops V = X; rfl)
theorem e_main_while1b_call8_c : after ops V (Proc.devRef .tc main_while1b_call8_c) = constantI S_ 32 0#32 := by
  exact s_nullary hW 4 rfl (by decide +kernel) V
theorem e_main_while1b_call8_c_0 : after ops V (Proc.devRef .tc main_while1b_call8_c_0) = constantI S_ 32 0#32 := by
  exact s_nullary hW 5 rfl (by decide +kernel) V
theorem e_main_while1b_call8_c_1 : after ops V (Proc.devRef .tc main_while1b_call8_c_1) = constantI S_ 32 0#32 := by
  exact s_nullary hW 6 rfl (by decide +kernel) V
theorem e_main_while1b_call8_v0 : after ops V (Proc.devRef .tc main_while1b_call8_v0) = Host.dynamicSlice S1x3x64x513 (V (Proc.devRef .tc main_v125_0)) (fun k => (((![after ops V (Proc.devRef .tc main_while1b_v138), after ops V (Proc.devRef .tc main_while1b_call8_c), after ops V (Proc.devRef .tc main_while1b_call8_c_0), after ops V (Proc.devRef .tc main_while1b_call8_c_1)] : Fin 4 → (⟨S_, .i32⟩ : BufTy).Contents (Elt F))) k (Shape.Idx.first h_S_)).toInt) sliceFits_S2047x3x64x513_S1x3x64x513 := by
  have h0 : upto ops V 7 (Proc.devRef .tc main_v125_0) = V (Proc.devRef .tc main_v125_0) := ini hW 7 main_v125_0 (by decide +kernel) V
  have h1 : upto ops V 7 (Proc.devRef .tc main_while1b_v138) = after ops V (Proc.devRef .tc main_while1b_v138) := fin hW 7 main_while1b_v138 (by decide +kernel) V
  have h2 : upto ops V 7 (Proc.devRef .tc main_while1b_call8_c) = after ops V (Proc.devRef .tc main_while1b_call8_c) := fin hW 7 main_while1b_call8_c (by decide +kernel) V
  have h3 : upto ops V 7 (Proc.devRef .tc main_while1b_call8_c_0) = after ops V (Proc.devRef .tc main_while1b_call8_c_0) := fin hW 7 main_while1b_call8_c_0 (by decide +kernel) V
  have h4 : upto ops V 7 (Proc.devRef .tc main_while1b_call8_c_1) = after ops V (Proc.devRef .tc main_while1b_call8_c_1) := fin hW 7 main_while1b_call8_c_1 (by decide +kernel) V
  rw [lst hW 7 rfl (by decide +kernel) V, ← h0, ← h1, ← h2, ← h3, ← h4]
  generalize upto ops V 7 = X
  after_results_entrywise [cast_eq]
theorem e_main_while1b_v139 : after ops V (Proc.devRef .tc main_while1b_v139) = shapeCast S3x64x513 (after ops V (Proc.devRef .tc main_while1b_call8_v0)) shapeCasts_S1x3x64x513_S3x64x513 := by
  rw [s_reshape hW 8 rfl (by decide +kernel) V, fin hW 8 main_while1b_call8_v0 (by decide +kernel)] <;> (generalize after ops V = X; rfl)
theorem e_main_while1b_call9_c : after ops V (Proc.devRef .tc main_while1b_call9_c) = constantI S_ 32 0#32 := by
  exact s_nullary hW 9 rfl (by decide +kernel) V
theorem e_main_while1b_call9_c_0 : after ops V (Proc.devRef .tc main_while1b_call9_c_0) = constantI S_ 32 0#32 := by
  exact s_nullary hW 10 rfl (by decide +kernel) V
theorem e_main_while1b_call9_v0 : after ops V (Proc.devRef .tc main_while1b_call9_v0) = Host.dynamicSlice S1x64x513 (V (Proc.devRef .tc main_v125_1)) (fun k => (((![after ops V (Proc.devRef .tc main_while1b_v138), after ops V (Proc.devRef .tc main_while1b_call9_c), after ops V (Proc.devRef .tc main_while1b_call9_c_0)] : Fin 3 → (⟨S_, .i32⟩ : BufTy).Contents (Elt F))) k (Shape.Idx.first h_S_)).toInt) sliceFits_S2047x64x513_S1x64x513 := by
  have h0 : upto ops V 11 (Proc.devRef .tc main_v125_1) = V (Proc.devRef .tc main_v125_1) := ini hW 11 main_v125_1 (by decide +kernel) V
  have h1 : upto ops V 11 (Proc.devRef .tc main_while1b_v138) = after ops V (Proc.devRef .tc main_while1b_v138) := fin hW 11 main_while1b_v138 (by decide +kernel) V
  have h2 : upto ops V 11 (Proc.devRef .tc main_while1b_call9_c) = after ops V (Proc.devRef .tc main_while1b_call9_c) := fin hW 11 main_while1b_call9_c (by decide +kernel) V
  have h3 : upto ops V 11 (Proc.devRef .tc main_while1b_call9_c_0) = after ops V (Proc.devRef .tc main_while1b_call9_c_0) := fin hW 11 main_while1b_call9_c_0 (by decide +kernel) V
  rw [lst hW 11 rfl (by decide +kernel) V, ← h0, ← h1, ← h2, ← h3]
  generalize upto ops V 11 = X
  after_results_entrywise [cast_eq]
theorem e_main_while1b_v140 : after ops V (Proc.devRef .tc main_while1b_v140) = shapeCast S64x513 (after ops V (Proc.devRef .tc main_while1b_call9_v0)) shapeCasts_S1x64x513_S64x513 := by
  rw [s_reshape hW 12 rfl (by decide +kernel) V, fin hW 12 main_while1b_call9_v0 (by decide +kernel)] <;> (generalize after ops V = X; rfl)
theorem e_main_while1b_call10_c : after ops V (Proc.devRef .tc main_while1b_call10_c) = constantI S_ 32 0#32 := by
  exact s_nullary hW 13 rfl (by decide +kernel) V
theorem e_main_while1b_call10_c_0 : after ops V (Proc.devRef .tc main_while1b_call10_c_0) = constantI S_ 32 0#32 := by
  exact s_nullary hW 14 rfl (by decide +kernel) V
theorem e_main_while1b_call10_c_1 : after ops V (Proc.devRef .tc main_while1b_call10_c_1) = constantI S_ 32 0#32 := by
  exact s_nullary hW 15 rfl (by decide +kernel) V
theorem e_main_while1b_call10_v0 : after ops V (Proc.devRef .tc main_while1b_call10_v0) = Host.dynamicSlice S1x3x64x513 (V (Proc.devRef .tc main_v125_2)) (fun k => (((![after ops V (Proc.devRef .tc main_while1b_v138), after ops V (Proc.devRef .tc main_while1b_call10_c), after ops V (Proc.devRef .tc main_while1b_call10_c_0), after ops V (Proc.devRef .tc main_while1b_call10_c_1)] : Fin 4 → (⟨S_, .i32⟩ : BufTy).Contents (Elt F))) k (Shape.Idx.first h_S_)).toInt) sliceFits_S2047x3x64x513_S1x3x64x513 := by
  have h0 : upto ops V 16 (Proc.devRef .tc main_v125_2) = V (Proc.devRef .tc main_v125_2) := ini hW 16 main_v125_2 (by decide +kernel) V
  have h1 : upto ops V 16 (Proc.devRef .tc main_while1b_v138) = after ops V (Proc.devRef .tc main_while1b_v138) := fin hW 16 main_while1b_v138 (by decide +kernel) V
  have h2 : upto ops V 16 (Proc.devRef .tc main_while1b_call10_c) = after ops V (Proc.devRef .tc main_while1b_call10_c) := fin hW 16 main_while1b_call10_c (by decide +kernel) V
  have h3 : upto ops V 16 (Proc.devRef .tc main_while1b_call10_c_0) = after ops V (Proc.devRef .tc main_while1b_call10_c_0) := fin hW 16 main_while1b_call10_c_0 (by decide +kernel) V
  have h4 : upto ops V 16 (Proc.devRef .tc main_while1b_call10_c_1) = after ops V (Proc.devRef .tc main_while1b_call10_c_1) := fin hW 16 main_while1b_call10_c_1 (by decide +kernel) V
  rw [lst hW 16 rfl (by decide +kernel) V, ← h0, ← h1, ← h2, ← h3, ← h4]
  generalize upto ops V 16 = X
  after_results_entrywise [cast_eq]
theorem e_main_while1b_v141 : after ops V (Proc.devRef .tc main_while1b_v141) = shapeCast S3x64x513 (after ops V (Proc.devRef .tc main_while1b_call10_v0)) shapeCasts_S1x3x64x513_S3x64x513 := by
  rw [s_reshape hW 17 rfl (by decide +kernel) V, fin hW 17 main_while1b_call10_v0 (by decide +kernel)] <;> (generalize after ops V = X; rfl)
theorem e_main_while1b_call11_c : after ops V (Proc.devRef .tc main_while1b_call11_c) = constantI S_ 32 0#32 := by
  exact s_nullary hW 18 rfl (by decide +kernel) V
theorem e_main_while1b_call11_c_0 : after ops V (Proc.devRef .tc main_while1b_call11_c_0) = constantI S_ 32 0#32 := by
  exact s_nullary hW 19 rfl (by decide +kernel) V
theorem e_main_while1b_call11_v0 : after ops V (Proc.devRef .tc main_while1b_call11_v0) = Host.dynamicSlice S1x64x513 (V (Proc.devRef .tc main_v125_3)) (fun k => (((![after ops V (Proc.devRef .tc main_while1b_v138), after ops V (Proc.devRef .tc main_while1b_call11_c), after ops V (Proc.devRef .tc main_while1b_call11_c_0)] : Fin 3 → (⟨S_, .i32⟩ : BufTy).Contents (Elt F))) k (Shape.Idx.first h_S_)).toInt) sliceFits_S2047x64x513_S1x64x513 := by
  have h0 : upto ops V 20 (Proc.devRef .tc main_v125_3) = V (Proc.devRef .tc main_v125_3) := ini hW 20 main_v125_3 (by decide +kernel) V
  have h1 : upto ops V 20 (Proc.devRef .tc main_while1b_v138) = after ops V (Proc.devRef .tc main_while1b_v138) := fin hW 20 main_while1b_v138 (by decide +kernel) V
  have h2 : upto ops V 20 (Proc.devRef .tc main_while1b_call11_c) = after ops V (Proc.devRef .tc main_while1b_call11_c) := fin hW 20 main_while1b_call11_c (by decide +kernel) V
  have h3 : upto ops V 20 (Proc.devRef .tc main_while1b_call11_c_0) = after ops V (Proc.devRef .tc main_while1b_call11_c_0) := fin hW 20 main_while1b_call11_c_0 (by decide +kernel) V
  rw [lst hW 20 rfl (by decide +kernel) V, ← h0, ← h1, ← h2, ← h3]
  generalize upto ops V 20 = X
  after_results_entrywise [cast_eq]
theorem e_main_while1b_v142 : after ops V (Proc.devRef .tc main_while1b_v142) = shapeCast S64x513 (after ops V (Proc.devRef .tc main_while1b_call11_v0)) shapeCasts_S1x64x513_S64x513 := by
  rw [s_reshape hW 21 rfl (by decide +kernel) V, fin hW 21 main_while1b_call11_v0 (by decide +kernel)] <;> (generalize after ops V = X; rfl)
theorem e_main_while1b_v143 : after ops V (Proc.devRef .tc main_while1b_v143) = Host.divf (V (Proc.devRef .tc main_v125_9)) (after ops V (Proc.devRef .tc main_while1b_v142)) := by
  rw [s_binary hW 22 rfl (by decide +kernel) V, ini hW 22 main_v125_9 (by decide +kernel), fin hW 22 main_while1b_v142 (by decide +kernel)] <;> (generalize after ops V = X; rfl)
theorem e_main_while1b_v144 : after ops V (Proc.devRef .tc main_while1b_v144) = broadcastInDim S3x64x513 ![1, 2] bcast_S64x513_S3x64x513_1_2 (after ops V (Proc.devRef .tc main_while1b_v143)) := by
  rw [s_unary hW 23 rfl (by decide +kernel) V, fin hW 23 main_while1b_v143 (by decide +kernel)] <;> (generalize after ops V = X; rfl)
theorem e_main_while1b_v145 : after ops V (Proc.devRef .tc main_while1b_v145) = mulf (after ops V (Proc.devRef .tc main_while1b_v144)) (after ops V (Proc.devRef .tc main_while1b_v141)) := by
  rw [s_binary hW 24 rfl (by decide +kernel) V, fin hW 24 main_while1b_v144 (by decide +kernel), fin hW 24 main_while1b_v141 (by decide +kernel)] <;> (generalize after ops V = X; rfl)
theorem e_main_while1b_v146 : after ops V (Proc.devRef .tc main_while1b_v146) = Host.negf (after ops V (Proc.devRef .tc main_while1b_v145)) := by
  rw [s_unary hW 25 rfl (by decide +kernel) V, fin hW 25 main_while1b_v145 (by decide +kernel)] <;> (generalize after ops V = X; rfl)
theorem e_main_while1b_cst_57 : after ops V (Proc.devRef .tc main_while1b_cst_57) = constant S_ .f32 0x00000000#32 := by
  exact s_nullary hW 26 rfl (by decide +kernel) V
theorem e_main_while1b_v147 : after ops V (Proc.devRef .tc main_while1b_v147) = Host.reduceAdd (after ops V (Proc.devRef .tc main_while1b_v146)) (after ops V (Proc.devRef .tc main_while1b_cst_57)) reducesTo_S3x64x513_S64x513_d0 h_S_ := by
  rw [s_binary hW 27 rfl (by decide +kernel) V, fin hW 27 main_while1b_v146 (by decide +kernel), fin hW 27 main_while1b_cst_57 (by decide +kernel)] <;> (generalize after ops V = X; rfl)
theorem e_main_while1b_v148 : after ops V (Proc.devRef .tc main_while1b_v148) = shapeCast _ (after ops V (Proc.devRef .tc main_while1b_v147)) shapeCasts_S64x513_S1x64x513 := by
  rw [s_reshape hW 28 rfl (by decide +kernel) V, fin hW 28 main_while1b_v147 (by decide +kernel)] <;> (generalize after ops V = X; rfl)
theorem e_main_while1b_cst_58 : after ops V (Proc.devRef .tc main_while1b_cst_58) = constant S_ .f32 0x00000000#32 := by
  exact s_nullary hW 29 rfl (by decide +kernel) V
theorem e_main_while1b_v149 : after ops V (Proc.devRef .tc main_while1b_v149) = Host.reduceAdd (after ops V (Proc.devRef .tc main_while1b_v148)) (after ops V (Proc.devRef .tc main_while1b_cst_58)) reducesTo_S1x64x513_S64x513_d0 h_S_ := by
  rw [s_binary hW 30 rfl (by decide +kernel) V, fin hW 30 main_while1b_v148 (by decide +kernel), fin hW 30 main_while1b_cst_58 (by decide +kernel)] <;> (generalize after ops V = X; rfl)
theorem e_main_while1b_v150 : after ops V (Proc.devRef .tc main_while1b_v150) = addf (V (Proc.devRef .tc main_v125_9)) (after ops V (Proc.devRef .tc main_while1b_v149)) := by
  rw [s_binary hW 31 rfl (by decide +kernel) V, ini hW 31 main_v125_9 (by decide +kernel), fin hW 31 main_while1b_v149 (by decide +kernel)] <;> (generalize after ops V = X; rfl)
theorem e_main_while1b_v151 : after ops V (Proc.devRef .tc main_while1b_v151) = Host.divf (after ops V (Proc.devRef .tc main_while1b_v150)) (after ops V (Proc.devRef .tc main_while1b_v140)) := by
  rw [s_binary hW 32 rfl (by decide +kernel) V, fin hW 32 main_while1b_v150 (by decide +kernel), fin hW 32 main_while1b_v140 (by decide +kernel)] <;> (generalize after ops V = X; rfl)
theorem e_main_while1b_v152 : after ops V (Proc.devRef .tc main_while1b_v152) = broadcastInDim S3x64x513 ![1, 2] bcast_S64x513_S3x64x513_1_2 (after ops V (Proc.devRef .tc main_while1b_v151)) := by
  rw [s_unary hW 33 rfl (by decide +kernel) V, fin hW 33 main_while1b_v151 (by decide +kernel)] <;> (generalize after ops V = X; rfl)
theorem e_main_while1b_v153 : after ops V (Proc.devRef .tc main_while1b_v153) = mulf (after ops V (Proc.devRef .tc main_while1b_v152)) (after ops V (Proc.devRef .tc main_while1b_v139)) := by
  rw [s_binary hW 34 rfl (by decide +kernel) V, fin hW 34 main_while1b_v152 (by decide +kernel), fin hW 34 main_while1b_v139 (by decide +kernel)] <;> (generalize after ops V = X; rfl)
theorem e_main_while1b_v154 : after ops V (Proc.devRef .tc main_while1b_v154) = addf (after ops V (Proc.devRef .tc main_while1b_v145)) (after ops V (Proc.devRef .tc main_while1b_v153)) := by
  rw [s_binary hW 35 rfl (by decide +kernel) V, fin hW 35 main_while1b_v145 (by decide +kernel), fin hW 35 main_while1b_v153 (by decide +kernel)] <;> (generalize after ops V = X; rfl)
theorem e_main_while1b_v155 : after ops V (Proc.devRef .tc main_while1b_v155) = extractStridedSlice S1x64x513 ![0, 0, 0] (after ops V (Proc.devRef .tc main_while1b_v154)) slices_S3x64x513_S1x64x513_0_0_0 := by
  rw [s_unary hW 36 rfl (by decide +kernel) V, fin hW 36 main_while1b_v154 (by decide +kernel)] <;> (generalize after ops V = X; rfl)
theorem e_main_while1b_v156 : after ops V (Proc.devRef .tc main_while1b_v156) = shapeCast _ (after ops V (Proc.devRef .tc main_while1b_v155)) shapeCasts_S1x64x513_S64x513 := by
  rw [s_reshape hW 37 rfl (by decide +kernel) V, fin hW 37 main_while1b_v155 (by decide +kernel)] <;> (generalize after ops V = X; rfl)
theorem e_main_while1b_v157 : after ops V (Proc.devRef .tc main_while1b_v157) = extractStridedSlice S1x64x513 ![1, 0, 0] (after ops V (Proc.devRef .tc main_while1b_v154)) slices_S3x64x513_S1x64x513_1_0_0 := by
  rw [s_unary hW 38 rfl (by decide +kernel) V, fin hW 38 main_while1b_v154 (by decide +kernel)] <;> (generalize after ops V = X; rfl)
theorem e_main_while1b_v158 : after ops V (Proc.devRef .tc main_while1b_v158) = shapeCast _ (after ops V (Proc.devRef .tc main_while1b_v157)) shapeCasts_S1x64x513_S64x513 := by
  rw [s_reshape hW 39 rfl (by decide +kernel) V, fin hW 39 main_while1b_v157 (by decide +kernel)] <;> (generalize after ops V = X; rfl)
theorem e_main_while1b_v159 : after ops V (Proc.devRef .tc main_while1b_v159) = extractStridedSlice S1x64x513 ![2, 0, 0] (after ops V (Proc.devRef .tc main_while1b_v154)) slices_S3x64x513_S1x64x513_2_0_0 := by
  rw [s_unary hW 40 rfl (by decide +kernel) V, fin hW 40 main_while1b_v154 (by decide +kernel)] <;> (generalize after ops V = X; rfl)
theorem e_main_while1b_v160 : after ops V (Proc.devRef .tc main_while1b_v160) = shapeCast _ (after ops V (Proc.devRef .tc main_while1b_v159)) shapeCasts_S1x64x513_S64x513 := by
  rw [s_reshape hW 41 rfl (by decide +kernel) V, fin hW 41 main_while1b_v159 (by decide +kernel)] <;> (generalize after ops V = X; rfl)
theorem e_main_while1b_call12_cst : after ops V (Proc.devRef .tc main_while1b_call12_cst) = constant S_ .f32 0x00000000#32 := by
  exact s_nullary hW 42 rfl (by decide +kernel) V
theorem e_main_while1b_call12_v0 : after ops V (Proc.devRef .tc main_while1b_call12_v0) = broadcastInDim S64x513 ![] bcast_S_S64x513 (after ops V (Proc.devRef .tc main_while1b_call12_cst)) := by
  rw [s_unary hW 43 rfl (by decide +kernel) V, fin hW 43 main_while1b_call12_cst (by decide +kernel)] <;> (generalize after ops V = X; rfl)
theorem e_main_while1b_v161 : after ops V (Proc.devRef .tc main_while1b_v161) = select (V (Proc.devRef .tc main_v125_6)) (after ops V (Proc.devRef .tc main_while1b_v160)) (after ops V (Proc.devRef .tc main_while1b_call12_v0)) := by
  rw [s_ternary hW 44 rfl (by decide +kernel) V, ini hW 44 main_v125_6 (by decide +kernel), fin hW 44 main_while1b_v160 (by decide +kernel), fin hW 44 main_while1b_call12_v0 (by decide +kernel)] <;> (generalize after ops V = X; rfl)
theorem e_main_while1b_v162 : after ops V (Proc.devRef .tc main_while1b_v162) = extractStridedSlice S64x2 ![0, 0] (after ops V (Proc.devRef .tc main_while1b_v161)) slices_S64x513_S64x2_0_0 := by
  rw [s_unary hW 45 rfl (by decide +kernel) V, fin hW 45 main_while1b_v161 (by decide +kernel)] <;> (generalize after ops V = X; rfl)
theorem e_main_while1b_v163 : after ops V (Proc.devRef .tc main_while1b_v163) = extractStridedSlice S64x511 ![0, 2] (after ops V (Proc.devRef .tc main_while1b_v161)) slices_S64x513_S64x511_0_2 := by
  rw [s_unary hW 46 rfl (by decide +kernel) V, fin hW 46 main_while1b_v161 (by decide +kernel)] <;> (generalize after ops V = X; rfl)
theorem e_main_while1b_cst_59 : after ops V (Proc.devRef .tc main_while1b_cst_59) = constant S_ .f32 0x00000000#32 := by
  exact s_nullary hW 47 rfl (by decide +kernel) V
theorem e_main_while1b_v164 : after ops V (Proc.devRef .tc main_while1b_v164) = pad S64x513 ![0, 0] ![0, 2] ![0, 0] (after ops V (Proc.devRef .tc main_while1b_v163)) (after ops V (Proc.devRef .tc main_while1b_cst_59)) pads_S64x511_S64x513_000_020 h_S_ := by
  rw [s_binary hW 48 rfl (by decide +kernel) V, fin hW 48 main_while1b_v163 (by decide +kernel), fin hW 48 main_while1b_cst_59 (by decide +kernel)] <;> (generalize after ops V = X; rfl)
theorem e_main_while1b_v165 : after ops V (Proc.devRef .tc main_while1b_v165) = addf (after ops V (Proc.devRef .tc main_while1b_v156)) (after ops V (Proc.devRef .tc main_while1b_v164)) := by
  rw [s_binary hW 49 rfl (by decide +kernel) V, fin hW 49 main_while1b_v156 (by decide +kernel), fin hW 49 main_while1b_v164 (by decide +kernel)] <;> (generalize after ops V = X; rfl)
theorem e_main_while1b_v166 : after ops V (Proc.devRef .tc main_while1b_v166) = extractStridedSlice S64x1 ![0, 0] (after ops V (Proc.devRef .tc main_while1b_v158)) slices_S64x513_S64x1_0_0 := by
  rw [s_unary hW 50 rfl (by decide +kernel) V, fin hW 50 main_while1b_v158 (by decide +kernel)] <;> (generalize after ops V = X; rfl)
theorem e_main_while1b_v167 : after ops V (Proc.devRef .tc main_while1b_v167) = extractStridedSlice S64x512 ![0, 1] (after ops V (Proc.devRef .tc main_while1b_v158)) slices_S64x513_S64x512_0_1 := by
  rw [s_unary hW 51 rfl (by decide +kernel) V, fin hW 51 main_while1b_v158 (by decide +kernel)] <;> (generalize after ops V = X; rfl)
theorem e_main_while1b_cst_60 : after ops V (Proc.devRef .tc main_while1b_cst_60) = constant S_ .f32 0x00000000#32 := by
  exact s_nullary hW 52 rfl (by decide +kernel) V
theorem e_main_while1b_v168 : after ops V (Proc.devRef .tc main_while1b_v168) = pad S64x513 ![0, 0] ![0, 1] ![0, 0] (after ops V (Proc.devRef .tc main_while1b_v167)) (after ops V (Proc.devRef .tc main_while1b_cst_60)) pads_S64x512_S64x513_000_010 h_S_ := by
  rw [s_binary hW 53 rfl (by decide +kernel) V, fin hW 53 main_while1b_v167 (by decide +kernel), fin hW 53 main_while1b_cst_60 (by decide +kernel)] <;> (generalize after ops V = X; rfl)
theorem e_main_while1b_v169 : after ops V (Proc.devRef .tc main_while1b_v169) = addf (after ops V (Proc.devRef .tc main_while1b_v165)) (after ops V (Proc.devRef .tc main_while1b_v168)) := by
  rw [s_binary hW 54 rfl (by decide +kernel) V, fin hW 54 main_while1b_v165 (by decide +kernel), fin hW 54 main_while1b_v168 (by decide +kernel)] <;> (generalize after ops V = X; rfl)
theorem e_main_while1b_call13_v0 : after ops V (Proc.devRef .tc main_while1b_call13_v0) = broadcastInDim S1x64x513 ![1, 2] bcast_S64x513_S1x64x513_1_2 (V (Proc.devRef .tc main_v125_9)) := by
  rw [s_unary hW 55 rfl (by decide +kernel) V, ini hW 55 main_v125_9 (by decide +kernel)] <;> (generalize after ops V = X; rfl)
theorem e_main_while1b_call13_c : after ops V (Proc.devRef .tc main_while1b_call13_c) = constantI S_ 32 0#32 := by
  exact s_nullary hW 56 rfl (by decide +kernel) V
theorem e_main_while1b_call13_c_0 : after ops V (Proc.devRef .tc main_while1b_call13_c_0) = constantI S_ 32 0#32 := by
  exact s_nullary hW 57 rfl (by decide +kernel) V
theorem e_main_while1b_v170 : after ops V (Proc.devRef .tc main_while1b_v170) = Host.dynamicUpdateSlice (V (Proc.devRef .tc main_v125_10)) (after ops V (Proc.devRef .tc main_while1b_call13_v0)) (fun k => (((![after ops V (Proc.devRef .tc main_while1b_v138), after ops V (Proc.devRef .tc main_while1b_call13_c), after ops V (Proc.devRef .tc main_while1b_call13_c_0)] : Fin 3 → (⟨S_, .i32⟩ : BufTy).Contents (Elt F))) k (Shape.Idx.first h_S_)).toInt) updateFits_S2047x64x513_S1x64x513 := by
  have h0 : upto ops V 58 (Proc.devRef .tc main_v125_10) = V (Proc.devRef .tc main_v125_10) := ini hW 58 main_v125_10 (by decide +kernel) V
  have h1 : upto ops V 58 (Proc.devRef .tc main_while1b_call13_v0) = after ops V (Proc.devRef .tc main_while1b_call13_v0) := fin hW 58 main_while1b_call13_v0 (by decide +kernel) V
  have h2 : upto ops V 58 (Proc.devRef .tc main_while1b_v138) = after ops V (Proc.devRef .tc main_while1b_v138) := fin hW 58 main_while1b_v138 (by decide +kernel) V
  have h3 : upto ops V 58 (Proc.devRef .tc main_while1b_call13_c) = after ops V (Proc.devRef .tc main_while1b_call13_c) := fin hW 58 main_while1b_call13_c (by decide +kernel) V
  have h4 : upto ops V 58 (Proc.devRef .tc main_while1b_call13_c_0) = after ops V (Proc.devRef .tc main_while1b_call13_c_0) := fin hW 58 main_while1b_call13_c_0 (by decide +kernel) V
  rw [lst hW 58 rfl (by decide +kernel) V, ← h0, ← h1, ← h2, ← h3, ← h4]
  generalize upto ops V 58 = X
  after_results_entrywise [cast_eq]
theorem e_main_while1b_c_61 : after ops V (Proc.devRef .tc main_while1b_c_61) = constantI S_ 32 1#32 := by
  exact s_nullary hW 59 rfl (by decide +kernel) V
theorem e_main_while1b_v171 : after ops V (Proc.devRef .tc main_while1b_v171) = addi (V (Proc.devRef .tc main_v125_8)) (after ops V (Proc.devRef .tc main_while1b_c_61)) := by
  rw [s_binary hW 60 rfl (by decide +kernel) V, ini hW 60 main_v125_8 (by decide +kernel), fin hW 60 main_while1b_c_61 (by decide +kernel)] <;> (generalize after ops V = X; rfl)
theorem e_main_v125_8 : after ops V (Proc.devRef .tc main_v125_8) = id (after ops V (Proc.devRef .tc main_while1b_v171)) := by
  rw [s_unary hW 61 rfl (by decide +kernel) V, fin hW 61 main_while1b_v171 (by decide +kernel)] <;> (generalize after ops V = X; rfl)
theorem e_main_v125_9 : after ops V (Proc.devRef .tc main_v125_9) = id (after ops V (Proc.devRef .tc main_while1b_v169)) := by
  rw [s_unary hW 62 rfl (by decide +kernel) V, fin hW 62 main_while1b_v169 (by decide +kernel)] <;> (generalize after ops V = X; rfl)
theorem e_main_v125_10 : after ops V (Proc.devRef .tc main_v125_10) = id (after ops V (Proc.devRef .tc main_while1b_v170)) := by
  rw [s_unary hW 63 rfl (by decide +kernel) V, fin hW 63 main_while1b_v170 (by decide +kernel)] <;> (generalize after ops V = X; rfl)
end B1

end Cert.ReferenceIdeal.Gen
-- ==== Proof.Dual.lean ====
/-
  The mathematics of the two programs, for one sequence of the batch, over the real numbers. The scores of the states are
  logarithms of the path weights `P`; the kernel carries the directional derivative `D` of the logarithm forward in
  time, the reference carries the cotangent `C` backward. `duality` says that the two give the same number.
-/
module

public import Mathlib.Analysis.SpecialFunctions.Log.Basic
public import Mathlib.Analysis.SpecialFunctions.Exp
public import Mathlib.Algebra.BigOperators.Ring.Finset

@[expose] public section

noncomputable section

namespace Cert.Ctc

/-- The value one state to the left; nothing to the left of state 0. -/
def sh1 (f : ℕ → ℝ) (s : ℕ) : ℝ := if s = 0 then 0 else f (s - 1)

/-- The value two states to the left where that transition is allowed. -/
def sh2 (ok : ℕ → Bool) (f : ℕ → ℝ) (s : ℕ) : ℝ := if ok s then f (s - 2) else 0

/-- The sum of the weights of a state's three predecessors. -/
def tot (ok : ℕ → Bool) (f : ℕ → ℝ) (s : ℕ) : ℝ := f s + sh1 f s + sh2 ok f s

/-- The weight of all paths that are in state `s` at time `t`. -/
def P (E : ℕ → ℕ → ℝ) (ok : ℕ → Bool) : ℕ → ℕ → ℝ
  | 0, s => if s < 2 then Real.exp (E 0 s) else 0
  | t + 1, s => tot ok (P E ok t) s * Real.exp (E (t + 1) s)

/-- The derivative of the logarithm of the weight along the emissions themselves. -/
def D (E : ℕ → ℕ → ℝ) (ok : ℕ → Bool) : ℕ → ℕ → ℝ
  | 0, s => if s < 2 then E 0 s else 0
  | t + 1, s => (P E ok t s * D E ok t s + sh1 (P E ok t) s * D E ok t (s - 1)
      + sh2 ok (P E ok t) s * D E ok t (s - 2)) / tot ok (P E ok t) s + E (t + 1) s

/-- The cotangent, `k` steps back from the last time `N`, of `n` states. -/
def C (E : ℕ → ℕ → ℝ) (ok : ℕ → Bool) (N n : ℕ) (init : ℕ → ℝ) : ℕ → ℕ → ℝ
  | 0, s => init s
  | k + 1, s => C E ok N n init k s * (P E ok (N - 1 - k) s / tot ok (P E ok (N - 1 - k)) s)
      + (if s + 2 < n then C E ok N n init k (s + 2)
          * (sh2 ok (P E ok (N - 1 - k)) (s + 2) / tot ok (P E ok (N - 1 - k)) (s + 2)) else 0)
      + (if s + 1 < n then C E ok N n init k (s + 1)
          * (sh1 (P E ok (N - 1 - k)) (s + 1) / tot ok (P E ok (N - 1 - k)) (s + 1)) else 0)

variable {E : ℕ → ℕ → ℝ} {ok : ℕ → Bool}

theorem sh1_nonneg {f : ℕ → ℝ} (h : ∀ s, 0 ≤ f s) (s : ℕ) : 0 ≤ sh1 f s := by
  unfold sh1; split <;> simp [h]

theorem sh2_nonneg {f : ℕ → ℝ} (h : ∀ s, 0 ≤ f s) (s : ℕ) : 0 ≤ sh2 ok f s := by
  unfold sh2; split <;> simp [h]

theorem tot_nonneg {f : ℕ → ℝ} (h : ∀ s, 0 ≤ f s) (s : ℕ) : 0 ≤ tot ok f s :=
  add_nonneg (add_nonneg (h s) (sh1_nonneg h s)) (sh2_nonneg h s)

theorem P_nonneg : ∀ t s, 0 ≤ P E ok t s
  | 0, s => by unfold P; split <;> [exact (Real.exp_pos _).le; exact le_rfl]
  | t + 1, s => by
    unfold P; exact mul_nonneg (tot_nonneg (P_nonneg t) s) (Real.exp_pos _).le

/-- A state is reached once enough time has passed. -/
theorem P_pos : ∀ t s, s ≤ t + 1 → 0 < P E ok t s
  | 0, s, h => by unfold P; rw [if_pos (by omega)]; exact Real.exp_pos _
  | t + 1, s, h => by
    unfold P
    refine mul_pos ?_ (Real.exp_pos _)
    have h0 := P_nonneg (E := E) (ok := ok) t
    have h2 := sh2_nonneg (ok := ok) h0 s
    unfold tot
    rcases Nat.lt_or_ge (t + 1) s with hs | hs
    · have : 0 < sh1 (P E ok t) s := by
        unfold sh1; rw [if_neg (by omega)]; exact P_pos t _ (by omega)
      have := h0 s
      linarith
    · have := P_pos t s hs
      have := sh1_nonneg h0 s
      linarith

/-- An unreached state carries no cotangent. -/
theorem C_zero {N n : ℕ} {init : ℕ → ℝ} (hi : ∀ s, s < n → P E ok N s = 0 → init s = 0) :
    ∀ k, k ≤ N → ∀ s, s < n → P E ok (N - k) s = 0 → C E ok N n init k s = 0
  | 0, _, s, hs, h => by unfold C; exact hi s hs h
  | k + 1, hk, s, hs, h => by
    have e : N - (k + 1) = N - 1 - k := by omega
    rw [e] at h
    unfold C
    have h2 : sh2 ok (P E ok (N - 1 - k)) (s + 2) = 0 := by
      unfold sh2; split <;> simp [h]
    have h1 : sh1 (P E ok (N - 1 - k)) (s + 1) = 0 := by
      unfold sh1; simp [h]
    rw [h, h1, h2]; simp

theorem tot_eq_zero_of {t s : ℕ} (h : tot ok (P E ok t) s = 0) : P E ok (t + 1) s = 0 := by
  unfold P; rw [h, zero_mul]

open Finset in
/-- One step: what the cotangent and the derivative pair to, one step further back. -/
theorem pair_step (hok : ∀ s, ok s = true → 2 ≤ s) {N n : ℕ} {init : ℕ → ℝ} (k : ℕ) (hk : k < N) :
    ∑ s ∈ range n, C E ok N n init k s * D E ok (N - k) s
      = ∑ s ∈ range n, C E ok N n init k s * E (N - k) s
        + ∑ s ∈ range n, C E ok N n init (k + 1) s * D E ok (N - (k + 1)) s := by
  obtain ⟨t, ht⟩ : ∃ t, N - k = t + 1 := ⟨N - k - 1, by omega⟩
  have e1 : N - (k + 1) = t := by omega
  have e2 : N - 1 - k = t := by omega
  rw [e1, ht]
  have hD : ∀ s, D E ok (t + 1) s = (P E ok t s * D E ok t s + sh1 (P E ok t) s * D E ok t (s - 1)
      + sh2 ok (P E ok t) s * D E ok t (s - 2)) / tot ok (P E ok t) s + E (t + 1) s := fun s => rfl
  have hC : ∀ s, C E ok N n init (k + 1) s = C E ok N n init k s * (P E ok t s / tot ok (P E ok t) s)
      + (if s + 2 < n then C E ok N n init k (s + 2)
          * (sh2 ok (P E ok t) (s + 2) / tot ok (P E ok t) (s + 2)) else 0)
      + (if s + 1 < n then C E ok N n init k (s + 1)
          * (sh1 (P E ok t) (s + 1) / tot ok (P E ok t) (s + 1)) else 0) := fun s => by rw [← e2]; rfl
  simp only [hD, hC]
  generalize C E ok N n init k = c
  generalize D E ok t = d
  generalize P E ok t = p
  generalize tot ok p = q
  have s1 : ∀ f : ℕ → ℝ, f 0 = 0 → ∑ s ∈ range n, f s = ∑ s ∈ range n, if s + 1 < n then f (s + 1) else 0 := by
    intro f h0
    cases n with
    | zero => simp
    | succ n =>
      rw [sum_range_succ', h0, add_zero, sum_range_succ]
      rw [if_neg (by omega), add_zero]
      refine sum_congr rfl fun s hs => ?_
      rw [if_pos (by have := mem_range.1 hs; omega)]
  have s2 : ∀ f : ℕ → ℝ, f 0 = 0 → f 1 = 0 →
      ∑ s ∈ range n, f s = ∑ s ∈ range n, if s + 2 < n then f (s + 2) else 0 := by
    intro f h0 h1
    rw [s1 f h0, s1 _ (by simp [h1])]
    refine sum_congr rfl fun s hs => ?_
    by_cases h : s + 2 < n
    · have h' : s + 1 < n := by omega
      have h'' : s + 1 + 1 < n := by omega
      simp only [h, h', h'', if_true]
    · have h'' : ¬ s + 1 + 1 < n := by omega
      simp only [h, h'', if_false, ite_self]
  have hz : sh2 ok p 0 = 0 ∧ sh2 ok p 1 = 0 := by
    constructor <;> (unfold sh2; rw [if_neg]; intro h; have := hok _ h; omega)
  have a1 := s1 (fun s => c s * (sh1 p s / q s) * d (s - 1)) (by simp [sh1])
  have a2 := s2 (fun s => c s * (sh2 ok p s / q s) * d (s - 2)) (by simp [hz.1]) (by simp [hz.2])
  have l : ∀ s, c s * ((p s * d s + sh1 p s * d (s - 1) + sh2 ok p s * d (s - 2)) / q s + E (t + 1) s)
      = c s * E (t + 1) s + c s * (p s / q s) * d s + c s * (sh1 p s / q s) * d (s - 1)
        + c s * (sh2 ok p s / q s) * d (s - 2) := fun s => by ring
  simp only [l, sum_add_distrib, a1, a2, add_mul, ite_mul, zero_mul]
  simp only [Nat.add_sub_cancel]
  ring

open Finset in
/-- The two ways of differentiating give one number. -/
theorem duality (hok : ∀ s, ok s = true → 2 ≤ s) {N n : ℕ} {init : ℕ → ℝ} :
    ∑ s ∈ range n, init s * D E ok N s
      = ∑ k ∈ range N, ∑ s ∈ range n, C E ok N n init k s * E (N - k) s
        + ∑ s ∈ range n, C E ok N n init N s * D E ok 0 s := by
  have key : ∀ k, k ≤ N → ∑ s ∈ range n, init s * D E ok N s
      = ∑ j ∈ range k, ∑ s ∈ range n, C E ok N n init j s * E (N - j) s
        + ∑ s ∈ range n, C E ok N n init k s * D E ok (N - k) s := by
    intro k
    induction k with
    | zero => intro _; rw [sum_range_zero, zero_add]; rfl
    | succ k ih =>
      intro hk
      rw [ih (by omega), pair_step hok k (by omega), sum_range_succ, add_assoc]
  have := key N le_rfl
  rwa [Nat.sub_self] at this

/-- The cotangent the reference stores in row `r` of the emissions: the step's cotangent, and in row 0 only the states
    that start a path. -/
def G (E : ℕ → ℕ → ℝ) (ok : ℕ → Bool) (N n : ℕ) (init : ℕ → ℝ) (r s : ℕ) : ℝ :=
  if r = 0 then (if s < 2 then C E ok N n init N s else 0) else C E ok N n init (N - r) s

open Finset in
theorem duality_rows (hok : ∀ s, ok s = true → 2 ≤ s) {N n : ℕ} {init : ℕ → ℝ} :
    ∑ s ∈ range n, init s * D E ok N s
      = ∑ r ∈ range (N + 1), ∑ s ∈ range n, G E ok N n init r s * E r s := by
  rw [duality hok, sum_range_succ']
  congr 1
  · rw [← sum_range_reflect]
    refine sum_congr rfl fun r hr => sum_congr rfl fun s _ => ?_
    have hr' := mem_range.1 hr
    unfold G
    rw [if_neg (by omega)]
    have : N - (r + 1) = N - 1 - r := by omega
    rw [this]
    have : N - (N - 1 - r) = r + 1 := by omega
    rw [this]
  · refine sum_congr rfl fun s _ => ?_
    unfold G D
    rw [if_pos rfl]
    split <;> simp

/-- The weights with which the two final states enter. -/
def wt (a b : ℝ) (i j s : ℕ) : ℝ := (if s = i then a / (a + b) else 0) + (if s = j then b / (a + b) else 0)

open Finset in
theorem sum_wt (a b : ℝ) (i j n : ℕ) (hi : i < n) (hj : j < n) (f : ℕ → ℝ) :
    ∑ s ∈ range n, wt a b i j s * f s = (a * f i + b * f j) / (a + b) := by
  unfold wt
  simp only [add_mul, sum_add_distrib, ite_mul, zero_mul, sum_ite_eq', mem_range, hi, hj, if_true]
  ring

end Cert.Ctc

end
-- ==== Proof.Lse.lean ====
/-
  One step of the two programs at the exact instance, for one state: logarithms of nonnegative reals as extended reals, the
  maximum subtracted before the exponentials and added after the logarithm.
-/
module

public import Idealize.ShloMosaic.PureOps.Ideal
public import proofs.«01_k».proof.Proof.Dual

@[expose] public section

noncomputable section

namespace Cert.Ctc

open Idealize.ShloMosaic

/-- The logarithm of a nonnegative real: `⊥` at zero. -/
def L (r : ℝ) : EReal := Ideal.log (r : EReal)

theorem L_zero : L 0 = ⊥ := by
  show (if (0:ℝ) ≤ 0 then (⊥ : EReal) else _) = ⊥
  rw [if_pos le_rfl]

theorem L_pos {r : ℝ} (h : 0 < r) : L r = (Real.log r : ℝ) := by
  show (if r ≤ 0 then (⊥ : EReal) else _) = _
  rw [if_neg (not_le.2 h)]

theorem L_exp (e : ℝ) : L (Real.exp e) = (e : EReal) := by
  rw [L_pos (Real.exp_pos e), Real.log_exp]

theorem L_mono {a b : ℝ} (ha : 0 ≤ a) (h : a ≤ b) : L a ≤ L b := by
  rcases ha.eq_or_lt with rfl | h0
  · rw [L_zero]; exact bot_le
  · rw [L_pos h0, L_pos (h0.trans_le h)]
    exact EReal.coe_le_coe_iff.2 (Real.log_le_log h0 h)

theorem L_max {a b : ℝ} (ha : 0 ≤ a) (hb : 0 ≤ b) : max (L a) (L b) = L (max a b) := by
  rcases le_total a b with h | h
  · rw [max_eq_right h, max_eq_right (L_mono ha h)]
  · rw [max_eq_left h, max_eq_left (L_mono hb h)]

theorem exp_bot : Ideal.exp ⊥ = 0 := rfl

/-- The exponential of a logarithm less a larger one. -/
theorem exp_L_sub {x M : ℝ} (hx : 0 ≤ x) (hM : x ≤ M) : Ideal.exp (L x - L M) = ((x / M : ℝ) : EReal) := by
  rcases hx.eq_or_lt with rfl | h0
  · rw [L_zero, zero_div, EReal.bot_sub, exp_bot]; rfl
  · rw [L_pos h0, L_pos (h0.trans_le hM), ← EReal.coe_sub]
    show ((Real.exp _ : ℝ) : EReal) = _
    rw [Real.exp_sub, Real.exp_log h0, Real.exp_log (h0.trans_le hM)]

/-- The maximum put back. -/
theorem L_add_log {S M : ℝ} (hS : 0 ≤ S) (hM : 0 ≤ M) (h : M = 0 → S = 0) :
    L M + Ideal.log ((S / M : ℝ) : EReal) = L S := by
  rcases hM.eq_or_lt with rfl | h0
  · rw [h rfl, L_zero, EReal.bot_add]
  · rcases hS.eq_or_lt with rfl | h1
    · rw [zero_div]; show L M + L 0 = L 0
      rw [L_zero, EReal.add_bot]
    · show L M + L (S / M) = _
      rw [L_pos h0, L_pos h1, L_pos (div_pos h1 h0), ← EReal.coe_add, Real.log_div h1.ne' h0.ne']
      congr 1; ring

theorem L_add_coe {S : ℝ} (hS : 0 ≤ S) (e : ℝ) : L S + (e : EReal) = L (S * Real.exp e) := by
  rcases hS.eq_or_lt with rfl | h0
  · rw [zero_mul, L_zero, EReal.bot_add]
  · rw [L_pos h0, L_pos (mul_pos h0 (Real.exp_pos e)), ← EReal.coe_add,
      Real.log_mul h0.ne' (Real.exp_pos e).ne', Real.log_exp]

theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The largest of the three. -/
def mx (x y z : ℝ) : ℝ := max (max x y) z

theorem mx_nonneg {x y z : ℝ} (hx : 0 ≤ x) : 0 ≤ mx x y z := hx.trans ((le_max_left x y).trans (le_max_left _ z))
theorem le_mx1 (x y z : ℝ) : x ≤ mx x y z := (le_max_left x y).trans (le_max_left _ z)
theorem le_mx2 (x y z : ℝ) : y ≤ mx x y z := (le_max_right x y).trans (le_max_left _ z)
theorem le_mx3 (x y z : ℝ) : z ≤ mx x y z := le_max_right _ z

theorem L_mx {x y z : ℝ} (hx : 0 ≤ x) (hy : 0 ≤ y) (hz : 0 ≤ z) :
    max (max (L x) (L y)) (L z) = L (mx x y z) := by
  rw [L_max hx hy, L_max (hx.trans (le_max_left x y)) hz]; rfl

/-- The sum of the three exponentials. -/
theorem den_eq (x y z : ℝ) : ((x / mx x y z : ℝ) : EReal) + ((y / mx x y z : ℝ) : EReal) + ((z / mx x y z : ℝ) : EReal)
    = (((x + y + z) / mx x y z : ℝ) : EReal) := by
  rw [← EReal.coe_add, ← EReal.coe_add]; congr 1; ring

theorem sum_zero_of_mx {x y z : ℝ} (hx : 0 ≤ x) (hy : 0 ≤ y) (hz : 0 ≤ z) (h : mx x y z = 0) : x + y + z = 0 := by
  have := le_mx1 x y z; have := le_mx2 x y z; have := le_mx3 x y z
  linarith

theorem mx_pos_of_sum {x y z : ℝ} (hx : 0 ≤ x) (h : 0 < x + y + z) : 0 < mx x y z := by
  have := le_mx1 x y z; have := le_mx2 x y z; have := le_mx3 x y z
  by_contra hn
  have : mx x y z ≤ 0 := not_lt.1 hn
  linarith

/-- The forward step of the score. -/
theorem score_step {x y z : ℝ} (hx : 0 ≤ x) (hy : 0 ≤ y) (hz : 0 ≤ z) (e : ℝ) :
    L (mx x y z) + Ideal.log (((x / mx x y z : ℝ) : EReal) + ((y / mx x y z : ℝ) : EReal) + ((z / mx x y z : ℝ) : EReal))
      + (e : EReal) = L ((x + y + z) * Real.exp e) := by
  have hs : 0 ≤ x + y + z := by linarith
  rw [den_eq, L_add_log hs (mx_nonneg hx) (sum_zero_of_mx hx hy hz), L_add_coe hs]

/-- A product with a weight, where only a nonzero weight says anything about the other factor. -/
theorem weight_mul {x M : ℝ} {d : ℝ} {v : EReal} (h : x ≠ 0 → v = (d : EReal)) :
    ((x / M : ℝ) : EReal) * v = ((x / M * d : ℝ) : EReal) := by
  by_cases hx : x = 0
  · rw [hx, zero_div, zero_mul]; exact zero_mul v
  · rw [h hx, EReal.coe_mul]

/-- The forward step of the derivative, at a state that is reached. -/
theorem tangent_step {x y z : ℝ} (hx : 0 ≤ x) (hs : 0 < x + y + z) (e : ℝ) {d1 d2 d3 : ℝ} {v1 v2 v3 : EReal}
    (h1 : x ≠ 0 → v1 = (d1 : EReal)) (h2 : y ≠ 0 → v2 = (d2 : EReal)) (h3 : z ≠ 0 → v3 = (d3 : EReal)) :
    Ideal.div (((x / mx x y z : ℝ) : EReal) * v1 + ((y / mx x y z : ℝ) : EReal) * v2 + ((z / mx x y z : ℝ) : EReal) * v3)
      (((x / mx x y z : ℝ) : EReal) + ((y / mx x y z : ℝ) : EReal) + ((z / mx x y z : ℝ) : EReal)) + (e : EReal)
      = (((x * d1 + y * d2 + z * d3) / (x + y + z) + e : ℝ) : EReal) := by
  have hM := mx_pos_of_sum hx hs
  rw [den_eq, weight_mul h1, weight_mul h2, weight_mul h3, ← EReal.coe_add, ← EReal.coe_add,
    div_coe (div_pos hs hM).ne', ← EReal.coe_add]
  congr 2
  field_simp

/-- The backward step of the reference at one state: its cotangent times the weight of a predecessor. -/
theorem cot_mul {x S M c : ℝ} (hx : 0 ≤ x) (hM : 0 ≤ M) (hSM : M = 0 → S = 0) (hS : S = 0 → x = 0 ∧ c = 0) (hSp : 0 ≤ S)
    (hMS : 0 < S → 0 < M) :
    Ideal.div (c : EReal) ((S / M : ℝ) : EReal) * ((x / M : ℝ) : EReal) = ((c * (x / S) : ℝ) : EReal) := by
  rcases hSp.eq_or_lt with h | h
  · obtain ⟨h1, h2⟩ := hS h.symm
    rw [h1, h2, zero_div, zero_mul]; exact mul_zero _
  · have := hMS h
    rw [div_coe (div_pos h this).ne', ← EReal.coe_mul]
    congr 1
    field_simp

/-- The count of the largest among the three, as the reference carries it, is a positive real. -/
theorem max_terms_cancel {a b c : ℝ} {g n : EReal} (h : (g : EReal) = ((a + b + c : ℝ) : EReal)) (hn : 0 < n) :
    Ideal.div (g + (-(a : EReal) + -(b : EReal) + -(c : EReal))) n = 0 := by
  have : g + (-(a : EReal) + -(b : EReal) + -(c : EReal)) = 0 := by
    rw [h]
    exact_mod_cast (by ring : a + b + c + (-a + -b + -c) = 0)
  rw [this]
  unfold Ideal.div
  rw [if_neg hn.ne', zero_mul]

end Cert.Ctc

end
-- ==== Proof.RefDyn.lean ====
/-
  The reference's indexed reads and writes of one row of a stored array, at an index: a dynamic slice of one row and the
  update of one row, at a start that is in range.
-/
module

public import proofs.«01_k».proof.ReferenceIdeal
public import Idealize.ShloMosaic.Lib.Pointwise

@[expose] public section

set_option maxRecDepth 16384

noncomputable section

namespace Cert.ReferenceIdeal.Gen

open Idealize.ShloMosaic Cert.ReferenceIdeal

variable {α : Type}

/-- A loop counter's word as an integer. -/
theorem iv_toInt {k : ℕ} (hk : k < 4096) : (Scf.iv 0#32 1#32 k).toInt = (k : ℤ) := by
  have : (Scf.iv 0#32 1#32 k) = BitVec.ofNat 32 k := by
    unfold Scf.iv; simp
  rw [this, BitVec.toInt_eq_toNat_of_lt] <;> rw [BitVec.toNat_ofNat, Nat.mod_eq_of_lt (by omega)]
  omega

theorem nat_toInt {k : ℕ} (hk : k < 4096) : (BitVec.ofNat 32 k).toInt = (k : ℤ) := by
  rw [BitVec.toInt_eq_toNat_of_lt] <;> rw [BitVec.toNat_ofNat, Nat.mod_eq_of_lt (by omega)]
  omega

theorem slice3_at (x : S2047x64x513.Idx → α) (st : Fin 3 → ℤ) (hf hc) {k : ℕ} (hk : k < 2047) (h0 : st 0 = k) (h1 : st 1 = 0)
    (h2 : st 2 = 0) (b : Fin 64) (s : Fin 513) :
    shapeCast S64x513 (Host.dynamicSlice S1x64x513 x st hf) hc (ix2 b s) = x (ix3 ⟨k, hk⟩ b s) := by
  have e0 := Host.clampedStart_of_le (s := S2047x64x513) (t := S1x64x513) rfl st 0 k h0 (by show k + 1 ≤ 2047; omega)
  have e1 := Host.clampedStart_of_le (s := S2047x64x513) (t := S1x64x513) rfl st 1 0 h1 (by decide)
  have e2 := Host.clampedStart_of_le (s := S2047x64x513) (t := S1x64x513) rfl st 2 0 h2 (by decide)
  pointwise
  congr 1
  refine (ix3_inj _ _ _ _ _ _).2 ?_
  refine ⟨Fin.ext ?_, Fin.ext ?_, Fin.ext ?_⟩
  · exact e0
  · show _ + _ = _; rw [e1, Nat.zero_add]
  · show _ + _ = _; rw [e2, Nat.zero_add]

theorem slice4_at (x : S2047x3x64x513.Idx → α) (st : Fin 4 → ℤ) (hf hc) {k : ℕ} (hk : k < 2047) (h0 : st 0 = k) (h1 : st 1 = 0)
    (h2 : st 2 = 0) (h3 : st 3 = 0) (i : Fin 3) (b : Fin 64) (s : Fin 513) :
    shapeCast S3x64x513 (Host.dynamicSlice S1x3x64x513 x st hf) hc (ix3 i b s) = x (ix4 ⟨k, hk⟩ i b s) := by
  have e0 := Host.clampedStart_of_le (s := S2047x3x64x513) (t := S1x3x64x513) rfl st 0 k h0 (by show k + 1 ≤ 2047; omega)
  have e1 := Host.clampedStart_of_le (s := S2047x3x64x513) (t := S1x3x64x513) rfl st 1 0 h1 (by decide)
  have e2 := Host.clampedStart_of_le (s := S2047x3x64x513) (t := S1x3x64x513) rfl st 2 0 h2 (by decide)
  have e3 := Host.clampedStart_of_le (s := S2047x3x64x513) (t := S1x3x64x513) rfl st 3 0 h3 (by decide)
  pointwise
  congr 1
  refine (ix4_inj _ _ _ _ _ _ _ _).2 ?_
  refine ⟨Fin.ext ?_, Fin.ext ?_, Fin.ext ?_, Fin.ext ?_⟩
  · exact e0
  · show _ + _ = _; rw [e1, Nat.zero_add]
  · show _ + _ = _; rw [e2, Nat.zero_add]
  · show _ + _ = _; rw [e3, Nat.zero_add]

theorem update3_at (x : S2047x64x513.Idx → α) (u : S1x64x513.Idx → α) (st : Fin 3 → ℤ) (hf) {k : ℕ} (hk : k < 2047)
    (h0 : st 0 = k) (h1 : st 1 = 0) (h2 : st 2 = 0) (j : Fin 2047) (b : Fin 64) (s : Fin 513) :
    Host.dynamicUpdateSlice x u st hf (ix3 j b s) = if (j : ℕ) = k then u (ix3 0 b s) else x (ix3 j b s) := by
  have e0 := Host.clampedStart_of_le (s := S2047x64x513) (t := S1x64x513) rfl st 0 k h0 (by show k + 1 ≤ 2047; omega)
  have e1 := Host.clampedStart_of_le (s := S2047x64x513) (t := S1x64x513) rfl st 1 0 h1 (by decide)
  have e2 := Host.clampedStart_of_le (s := S2047x64x513) (t := S1x64x513) rfl st 2 0 h2 (by decide)
  pointwise
  by_cases h : (j : ℕ) = k
  · rw [if_pos h]
    refine (dif_pos ?_).trans (congrArg u ?_)
    · rw [e0, e1, e2]; omega
    · refine (ix3_inj _ _ _ _ _ _).2 ⟨Subsingleton.elim _ _, Fin.ext ?_, Fin.ext ?_⟩
      · show _ - _ = _; rw [e1, Nat.sub_zero]
      · show _ - _ = _; rw [e2, Nat.sub_zero]
  · rw [if_neg h]
    refine dif_neg ?_
    rw [e0, e1, e2]; omega

theorem update4_at (x : S2047x3x64x513.Idx → α) (u : S1x3x64x513.Idx → α) (st : Fin 4 → ℤ) (hf) {k : ℕ} (hk : k < 2047)
    (h0 : st 0 = k) (h1 : st 1 = 0) (h2 : st 2 = 0) (h3 : st 3 = 0) (j : Fin 2047) (i : Fin 3) (b : Fin 64) (s : Fin 513) :
    Host.dynamicUpdateSlice x u st hf (ix4 j i b s) = if (j : ℕ) = k then u (ix4 0 i b s) else x (ix4 j i b s) := by
  have e0 := Host.clampedStart_of_le (s := S2047x3x64x513) (t := S1x3x64x513) rfl st 0 k h0 (by show k + 1 ≤ 2047; omega)
  have e1 := Host.clampedStart_of_le (s := S2047x3x64x513) (t := S1x3x64x513) rfl st 1 0 h1 (by decide)
  have e2 := Host.clampedStart_of_le (s := S2047x3x64x513) (t := S1x3x64x513) rfl st 2 0 h2 (by decide)
  have e3 := Host.clampedStart_of_le (s := S2047x3x64x513) (t := S1x3x64x513) rfl st 3 0 h3 (by decide)
  pointwise
  by_cases h : (j : ℕ) = k
  · rw [if_pos h]
    refine (dif_pos ?_).trans (congrArg u ?_)
    · rw [e0, e1, e2, e3]; omega
    · refine (ix4_inj _ _ _ _ _ _ _ _).2 ⟨Subsingleton.elim _ _, Fin.ext ?_, Fin.ext ?_, Fin.ext ?_⟩
      · show _ - _ = _; rw [e1, Nat.sub_zero]
      · show _ - _ = _; rw [e2, Nat.sub_zero]
      · show _ - _ = _; rw [e3, Nat.sub_zero]
  · rw [if_neg h]
    refine dif_neg ?_
    rw [e0, e1, e2, e3]; omega

end Cert.ReferenceIdeal.Gen

end
-- ==== Proof.RefFwd.lean ====
/-
  One trip of the reference's forward loop at the exact instance, read at an index: the scores move on one time step and
  the step's exponentials, their sums and the counts of the largest are stored for the way back.
-/
module

public import proofs.«01_k».proof.Proof.RefOpsBody
public import proofs.«01_k».proof.Proof.Lse
public import proofs.«01_k».proof.Proof.RefDyn
public import Idealize.ShloMosaic.Lib.Pointwise
public import Idealize.ShloMosaic.Lib.Tactic.CleanTypes

@[expose] public section

set_option maxRecDepth 16384

noncomputable section

namespace Cert.ReferenceIdeal.Gen

open Idealize.ShloMosaic Idealize.SL.Sem Idealize.ShloMosaic.StableHlo Cert.ReferenceIdeal Cert.Ctc

/-- The word for minus infinity. -/
theorem ofBits_ninf : Ideal.ofBits .f32 0xFF800000#32 = (⊥ : EReal) := by
  simp [Ideal.ofBits, Ideal.ieee]

/-- The three predecessors' weights of a state. -/
def pred (ok : ℕ → Bool) (p : ℕ → ℝ) (i s : ℕ) : ℝ := if i = 0 then p s else if i = 1 then sh1 p s else sh2 ok p s

/-- The largest of them. -/
def mxp (ok : ℕ → Bool) (p : ℕ → ℝ) (s : ℕ) : ℝ := mx (p s) (sh1 p s) (sh2 ok p s)

theorem pred_nonneg {ok : ℕ → Bool} {p : ℕ → ℝ} (hp : ∀ s, 0 ≤ p s) (i s : ℕ) : 0 ≤ pred ok p i s := by
  unfold pred
  split
  · exact hp s
  · split
    · exact sh1_nonneg hp s
    · exact sh2_nonneg hp s

theorem pred_le {ok : ℕ → Bool} {p : ℕ → ℝ} (i s : ℕ) : pred ok p i s ≤ mxp ok p s := by
  unfold pred
  split
  · exact le_mx1 _ _ _
  · split
    · exact le_mx2 _ _ _
    · exact le_mx3 _ _ _

namespace B0

variable (V : Valuation τ sig (Elt Ideal))

/-- What a trip is entered with: the scores of the sequence `b`, and the constants of the loop. -/
structure Entry (ok : Fin 64 → ℕ → Bool) (p : Fin 64 → ℕ → ℝ) : Prop where
  two : ∀ b s, ok b s = true → 2 ≤ s
  pos : ∀ b s, 0 ≤ p b s
  score : ∀ (b : Fin 64) (s : Fin 513), @Eq EReal (V (Proc.devRef .tc main_v51_6) (ix2 b s)) (L (p b s))
  skip : ∀ (b : Fin 64) (s : Fin 513), @Eq (BitVec 1) (V (Proc.devRef .tc main_v51_3) (ix2 b s)) (BitVec.ofBool (ok b s))
  neg1 : ∀ (b : Fin 64) (s : Fin 1), @Eq EReal (V (Proc.devRef .tc main_v51_1) (ix2 b s)) ⊥
  neg2 : ∀ (b : Fin 64) (s : Fin 2), @Eq EReal (V (Proc.devRef .tc main_v51_2) (ix2 b s)) ⊥
  neg4 : ∀ (b : Fin 64) (s : Fin 513), @Eq EReal (V (Proc.devRef .tc main_v51_4) (ix2 b s)) ⊥

variable {V} {ok : Fin 64 → ℕ → Bool} {p : Fin 64 → ℕ → ℝ}

theorem Entry.score' (h : Entry V ok p) (b : Fin 64) (s : Fin 513) (n : ℕ) (hn : (s : ℕ) = n) :
    @Eq EReal (V (Proc.devRef .tc main_v51_6) (ix2 b s)) (L (p b n)) := hn ▸ h.score b s

theorem pred_at (h : Entry V ok p) (i : Fin 3) (b : Fin 64) (s : Fin 513) :
    @Eq EReal (after ops V (Proc.devRef .tc main_while0b_v146) (ix3 i b s)) (L (pred (ok b) (p b) i s)) := by
  rw [e_main_while0b_v146, e_main_while0b_v143, e_main_while0b_v144, e_main_while0b_v145, e_main_while0b_v142,
    e_main_while0b_v141, e_main_while0b_v140, e_main_while0b_v139, e_main_while0b_v138]
  pointwise
  by_cases h0 : (i : ℕ) < 1
  · refine (dif_pos h0).trans ((h.score b s).trans ?_)
    unfold pred; rw [if_pos (by omega)]
  · refine (dif_neg h0).trans ?_
    by_cases h1 : (i : ℕ) - 1 < 1
    · refine (dif_pos h1).trans ?_
      have e : pred (ok b) (p b) i s = sh1 (p b) s := by
        unfold pred; rw [if_neg (by omega), if_pos (by omega)]
      rw [e]; unfold sh1
      by_cases hs : (s : ℕ) < 1
      · refine (dif_pos hs).trans ((h.neg1 b _).trans ?_)
        rw [if_pos (by omega), L_zero]
      · refine (dif_neg hs).trans ((h.score' b _ (s - 1) rfl).trans ?_)
        rw [if_neg (by omega)]
    · refine (dif_neg h1).trans ?_
      have e : pred (ok b) (p b) i s = sh2 (ok b) (p b) s := by
        unfold pred; rw [if_neg (by omega), if_neg (by omega)]
      rw [e]; unfold sh2
      have hk := h.skip b s
      rcases ho : ok b s with _ | _
      · rw [ho] at hk
        refine (congrArg (fun c => Scalar.select c _ _) hk).trans ((h.neg4 b s).trans ?_)
        rw [if_neg (by decide), L_zero]
      · have := h.two b s ho
        rw [ho] at hk
        refine (congrArg (fun c => Scalar.select c _ _) hk).trans ?_
        refine (dif_neg (by omega : ¬ (s : ℕ) < 2)).trans ((h.score' b _ (s - 2) rfl).trans ?_)
        rw [if_pos rfl]

theorem max_at (h : Entry V ok p) (b : Fin 64) (s : Fin 513) :
    @Eq EReal (after ops V (Proc.devRef .tc main_while0b_v147) (ix2 b s)) (L (mxp (ok b) (p b) s)) := by
  rw [e_main_while0b_v147, e_main_while0b_cst_55]
  clean_types
  pointwise
  rw [ofBits_ninf]
  refine (congrArg (fun f => Finset.fold max (⊥ : EReal) f Finset.univ) (funext fun x : Fin 3 => pred_at h x b s)).trans ?_
  rw [show (Finset.univ : Finset (Fin 3)) = {0, 1, 2} from rfl]
  rw [Finset.fold_insert (by decide), Finset.fold_insert (by decide), Finset.fold_singleton]
  rw [max_bot_right]
  show max (L (p b s)) (max (L (sh1 (p b) s)) (L (sh2 (ok b) (p b) s))) = _
  rw [← max_assoc, L_mx (h.pos b s) (sh1_nonneg (h.pos b) s) (sh2_nonneg (h.pos b) s)]
  rfl

theorem exp_at (h : Entry V ok p) (i : Fin 3) (b : Fin 64) (s : Fin 513) :
    @Eq EReal (after ops V (Proc.devRef .tc main_while0b_v156) (ix3 i b s))
      ((pred (ok b) (p b) i s / mxp (ok b) (p b) s : ℝ) : EReal) := by
  rw [e_main_while0b_v156, e_main_while0b_v155, e_main_while0b_v154, e_main_while0b_v153]
  pointwise
  rw [pred_at h, max_at h]
  exact exp_L_sub (pred_nonneg (h.pos b) _ _) (pred_le _ _)

theorem den_at (h : Entry V ok p) (b : Fin 64) (s : Fin 513) :
    @Eq EReal (after ops V (Proc.devRef .tc main_while0b_v157) (ix2 b s))
      ((tot (ok b) (p b) s / mxp (ok b) (p b) s : ℝ) : EReal) := by
  rw [e_main_while0b_v157, e_main_while0b_cst_57]
  pointwise
  refine (Finset.sum_congr rfl fun x _ => exp_at h x b s).trans ?_
  rw [Fin.sum_univ_three]
  exact den_eq _ _ _

theorem count_at (h : Entry V ok p) (b : Fin 64) (s : Fin 513) :
    @LT.lt EReal _ 0 (after ops V (Proc.devRef .tc main_while0b_v152) (ix2 b s)) := by
  rw [e_main_while0b_v152, e_main_while0b_cst_56, e_main_while0b_v151, e_main_while0b_v150, e_main_while0b_v149,
    e_main_while0b_v148]
  pointwise
  have key : ∀ x : Fin 3, pred (ok b) (p b) x s = mxp (ok b) (p b) s →
      @LT.lt EReal _ 0 (∑ x : Fin 3, (((BitVec.ofBool (decide (L (pred (ok b) (p b) x s) = L (mxp (ok b) (p b) s)))).toNat : ℝ) : EReal)) := by
    intro x hx
    have hnn : ∀ i ∈ (Finset.univ : Finset (Fin 3)),
        (0 : EReal) ≤ (((BitVec.ofBool (decide (L (pred (ok b) (p b) i s) = L (mxp (ok b) (p b) s)))).toNat : ℝ) : EReal) :=
      fun i _ => by exact_mod_cast Nat.zero_le _
    refine lt_of_lt_of_le ?_ (Finset.single_le_sum hnn (Finset.mem_univ x))
    rw [hx, decide_eq_true rfl]
    show (0 : EReal) < (((1 : ℕ) : ℝ) : EReal)
    norm_num
  refine lt_of_lt_of_eq ?_ (Finset.sum_congr rfl fun x _ =>
    congrArg₂ (fun u v : EReal => (((BitVec.ofBool (decide (u = v))).toNat : ℝ) : EReal)) (pred_at h x b s).symm (max_at h b s).symm)
  rcases max_choice (max (p b s) (sh1 (p b) s)) (sh2 (ok b) (p b) s) with h1 | h1
  · rcases max_choice (p b s) (sh1 (p b) s) with h2 | h2
    · exact key 0 (by unfold mxp mx; rw [h1, h2]; rfl)
    · exact key 1 (by unfold mxp mx; rw [h1, h2]; rfl)
  · exact key 2 (by unfold mxp mx; rw [h1]; rfl)

/-- The entry of a trip whose counter holds `k`. -/
abbrev Ctr (V : Valuation τ sig (Elt Ideal)) (k : ℕ) : Prop := V (Proc.devRef .tc main_v51_5) = fun _ => Scf.iv 0#32 1#32 k

theorem score_at (h : Entry V ok p) {k : ℕ} (hk : k < 2047) (hc : Ctr V k)
    {e : Fin 64 → ℕ → ℝ}
    (he : ∀ (b : Fin 64) (s : Fin 513), @Eq EReal (V (Proc.devRef .tc main_v51_0) (ix3 ⟨k, hk⟩ b s)) (e b s : ℝ))
    (b : Fin 64) (s : Fin 513) :
    @Eq EReal (after ops V (Proc.devRef .tc main_v51_6) (ix2 b s)) (L (tot (ok b) (p b) s * Real.exp (e b s))) := by
  have hs : @Eq EReal (after ops V (Proc.devRef .tc main_while0b_v137) (ix2 b s)) (e b s : ℝ) := by
    rw [e_main_while0b_v137, e_main_while0b_call2_v0, hc, e_main_while0b_call2_c, e_main_while0b_call2_c_0]
    exact (slice3_at _ _ _ _ hk (iv_toInt (by omega)) rfl rfl b s).trans (he b s)
  rw [e_main_v51_6, id_eq, e_main_while0b_v160, e_main_while0b_v159, e_main_while0b_v158]
  pointwise
  rw [max_at h, den_at h, hs]
  have hp := h.pos b
  unfold mxp
  rw [L_add_log (tot_nonneg hp s) (mx_nonneg (hp s)) (sum_zero_of_mx (hp s) (sh1_nonneg hp s) (sh2_nonneg hp s)),
    L_add_coe (tot_nonneg hp s)]

theorem stored_exp (h : Entry V ok p) {k : ℕ} (hk : k < 2047) (hc : Ctr V k) (j : Fin 2047) (i : Fin 3) (b : Fin 64) (s : Fin 513) :
    @Eq EReal (after ops V (Proc.devRef .tc main_v51_9) (ix4 j i b s))
      (if (j : ℕ) = k then ((pred (ok b) (p b) i s / mxp (ok b) (p b) s : ℝ) : EReal) else V (Proc.devRef .tc main_v51_9) (ix4 j i b s)) := by
  rw [e_main_v51_9, id_eq, e_main_while0b_v163, hc, e_main_while0b_call6_c, e_main_while0b_call6_c_0, e_main_while0b_call6_c_1,
    e_main_while0b_call6_v0]
  refine (update4_at _ _ _ _ hk (iv_toInt (by omega)) rfl rfl rfl j i b s).trans ?_
  refine if_congr Iff.rfl ?_ rfl
  pointwise
  exact exp_at h i b s

theorem stored_den (h : Entry V ok p) {k : ℕ} (hk : k < 2047) (hc : Ctr V k) (j : Fin 2047) (b : Fin 64) (s : Fin 513) :
    @Eq EReal (after ops V (Proc.devRef .tc main_v51_10) (ix3 j b s))
      (if (j : ℕ) = k then ((tot (ok b) (p b) s / mxp (ok b) (p b) s : ℝ) : EReal) else V (Proc.devRef .tc main_v51_10) (ix3 j b s)) := by
  rw [e_main_v51_10, id_eq, e_main_while0b_v164, hc, e_main_while0b_call7_c, e_main_while0b_call7_c_0, e_main_while0b_call7_v0]
  refine (update3_at _ _ _ _ hk (iv_toInt (by omega)) rfl rfl j b s).trans ?_
  refine if_congr Iff.rfl ?_ rfl
  pointwise
  exact den_at h b s

theorem stored_count (h : Entry V ok p) {k : ℕ} (hk : k < 2047) (hc : Ctr V k) (j : Fin 2047) (b : Fin 64) (s : Fin 513) :
    (j : ℕ) = k ∧ @LT.lt EReal _ 0 (after ops V (Proc.devRef .tc main_v51_8) (ix3 j b s))
      ∨ (j : ℕ) ≠ k ∧ @Eq EReal (after ops V (Proc.devRef .tc main_v51_8) (ix3 j b s)) (V (Proc.devRef .tc main_v51_8) (ix3 j b s)) := by
  rw [e_main_v51_8, id_eq, e_main_while0b_v162, hc, e_main_while0b_call5_c, e_main_while0b_call5_c_0, e_main_while0b_call5_v0]
  have hu := fun x u => update3_at (α := EReal) x u updateFits_S2047x64x513_S1x64x513 hk (st := fun k_1 => ((![fun _ => Scf.iv 0#32 1#32 k, constantI S_ 32 0#32, constantI S_ 32 0#32] : Fin 3 → (⟨S_, .i32⟩ : BufTy).Contents (Elt Ideal)) k_1 (Shape.Idx.first h_S_)).toInt) (iv_toInt (by omega)) rfl rfl j b s
  by_cases hj : (j : ℕ) = k
  · refine Or.inl ⟨hj, lt_of_lt_of_eq ?_ (hu _ _).symm⟩
    rw [if_pos hj]
    pointwise
    exact count_at h b s
  · refine Or.inr ⟨hj, (hu _ _).trans ?_⟩
    rw [if_neg hj]

end B0

end Cert.ReferenceIdeal.Gen

end
-- ==== Proof.RefBwd.lean ====
/-
  One trip of the reference's backward loop at the exact instance, read at an index: the cotangent moves one time step
  back, and the one it came with is stored. What passes through the maximum cancels.
-/
module

public import proofs.«01_k».proof.Proof.RefFwd

@[expose] public section

set_option maxRecDepth 16384

noncomputable section

namespace Cert.ReferenceIdeal.Gen

open Idealize.ShloMosaic Idealize.SL.Sem Idealize.ShloMosaic.StableHlo Cert.ReferenceIdeal Cert.Ctc

theorem tot_pred (ok : ℕ → Bool) (p : ℕ → ℝ) (s : ℕ) : pred ok p 0 s + pred ok p 1 s + pred ok p 2 s = tot ok p s := rfl

namespace B1

variable (V : Valuation τ sig (Elt Ideal))

/-- What a trip that goes back over step `t` is entered with. -/
structure Entry (ok : Fin 64 → ℕ → Bool) (p c : Fin 64 → ℕ → ℝ) (t : Fin 2047) : Prop where
  pos : ∀ b s, 0 ≤ p b s
  ctr : V (Proc.devRef .tc main_v125_8) = fun _ => Scf.iv 0#32 1#32 (2046 - t)
  skip : ∀ (b : Fin 64) (s : Fin 513), @Eq (BitVec 1) (V (Proc.devRef .tc main_v125_6) (ix2 b s)) (BitVec.ofBool (ok b s))
  cot : ∀ (b : Fin 64) (s : Fin 513), @Eq EReal (V (Proc.devRef .tc main_v125_9) (ix2 b s)) (c b s : ℝ)
  exps : ∀ (i : Fin 3) (b : Fin 64) (s : Fin 513), @Eq EReal (V (Proc.devRef .tc main_v125_2) (ix4 t i b s))
    ((pred (ok b) (p b) i s / mxp (ok b) (p b) s : ℝ) : EReal)
  den : ∀ (b : Fin 64) (s : Fin 513), @Eq EReal (V (Proc.devRef .tc main_v125_3) (ix3 t b s))
    ((tot (ok b) (p b) s / mxp (ok b) (p b) s : ℝ) : EReal)
  count : ∀ (b : Fin 64) (s : Fin 513), @LT.lt EReal _ 0 (V (Proc.devRef .tc main_v125_1) (ix3 t b s))
  zero : ∀ (b : Fin 64) (s : Fin 513), tot (ok b) (p b) s = 0 → c b s = 0

variable {V} {ok : Fin 64 → ℕ → Bool} {p c : Fin 64 → ℕ → ℝ} {t : Fin 2047}

/-- The row a trip reads. -/
theorem row_word (h : Entry V ok p c t) :
    after ops V (Proc.devRef .tc main_while1b_v138) = fun _ => BitVec.ofNat 32 t := by
  rw [e_main_while1b_v138, e_main_while1b_v137, e_main_while1b_c_55, e_main_while1b_c_56, h.ctr]
  have e : (2047#32 - Scf.iv 0#32 1#32 (2046 - (t : ℕ)) - 1#32 : BitVec 32) = BitVec.ofNat 32 t := by
    unfold Scf.iv
    have ht := t.isLt
    apply BitVec.eq_of_toNat_eq
    simp only [BitVec.toNat_sub, BitVec.toNat_add, BitVec.toNat_mul, BitVec.toNat_ofNat]
    omega
  exact funext fun _ => e

theorem exp_at (h : Entry V ok p c t) (i : Fin 3) (b : Fin 64) (s : Fin 513) :
    @Eq EReal (after ops V (Proc.devRef .tc main_while1b_v141) (ix3 i b s))
      ((pred (ok b) (p b) i s / mxp (ok b) (p b) s : ℝ) : EReal) := by
  rw [e_main_while1b_v141, e_main_while1b_call10_v0, row_word h, e_main_while1b_call10_c, e_main_while1b_call10_c_0, e_main_while1b_call10_c_1]
  exact (slice4_at _ _ _ _ t.isLt (nat_toInt (by omega)) rfl rfl rfl i b s).trans (h.exps i b s)

theorem den_at (h : Entry V ok p c t) (b : Fin 64) (s : Fin 513) :
    @Eq EReal (after ops V (Proc.devRef .tc main_while1b_v142) (ix2 b s))
      ((tot (ok b) (p b) s / mxp (ok b) (p b) s : ℝ) : EReal) := by
  rw [e_main_while1b_v142, e_main_while1b_call11_v0, row_word h, e_main_while1b_call11_c, e_main_while1b_call11_c_0]
  exact (slice3_at _ _ _ _ t.isLt (nat_toInt (by omega)) rfl rfl b s).trans (h.den b s)

theorem count_at (h : Entry V ok p c t) (b : Fin 64) (s : Fin 513) :
    @LT.lt EReal _ 0 (after ops V (Proc.devRef .tc main_while1b_v140) (ix2 b s)) := by
  rw [e_main_while1b_v140, e_main_while1b_call9_v0, row_word h, e_main_while1b_call9_c, e_main_while1b_call9_c_0]
  exact lt_of_lt_of_eq (h.count b s) (slice3_at _ _ _ _ t.isLt (nat_toInt (by omega)) rfl rfl b s).symm

/-- A state's cotangent, shared out among its predecessors. -/
theorem share_at (h : Entry V ok p c t) (i : Fin 3) (b : Fin 64) (s : Fin 513) :
    @Eq EReal (after ops V (Proc.devRef .tc main_while1b_v145) (ix3 i b s))
      ((c b s * (pred (ok b) (p b) i s / tot (ok b) (p b) s) : ℝ) : EReal) := by
  rw [e_main_while1b_v145, e_main_while1b_v144, e_main_while1b_v143]
  pointwise
  rw [exp_at h, den_at h, h.cot]
  have hp := h.pos b
  have hn := tot_nonneg (ok := ok b) hp s
  refine cot_mul (pred_nonneg hp i s) (mx_nonneg (hp s))
    (sum_zero_of_mx (hp s) (sh1_nonneg hp s) (sh2_nonneg hp s)) (fun h0 => ⟨?_, h.zero b s h0⟩) hn
    (fun h0 => mx_pos_of_sum (hp s) h0)
  have h1 := sh1_nonneg hp s
  have h2 := sh2_nonneg (ok := ok b) hp s
  have h3 := hp s
  have h4 : p b s + sh1 (p b) s + sh2 (ok b) (p b) s = 0 := h0
  unfold pred
  split
  · linarith
  · split <;> linarith

/-- What passes through the maximum is nothing. -/
theorem max_share_at (h : Entry V ok p c t) (b : Fin 64) (s : Fin 513) :
    @Eq EReal (after ops V (Proc.devRef .tc main_while1b_v151) (ix2 b s)) 0 := by
  rw [e_main_while1b_v151, e_main_while1b_v150, e_main_while1b_v149, e_main_while1b_cst_58, e_main_while1b_v148,
    e_main_while1b_v147, e_main_while1b_cst_57, e_main_while1b_v146]
  clean_types
  pointwise
  have hs : (∑ x : Fin 3, -(@id EReal (after ops V (Proc.devRef .tc main_while1b_v145) (ix3 x b s))))
      = -((c b s * (pred (ok b) (p b) 0 s / tot (ok b) (p b) s) : ℝ) : EReal)
        + -((c b s * (pred (ok b) (p b) 1 s / tot (ok b) (p b) s) : ℝ) : EReal)
        + -((c b s * (pred (ok b) (p b) 2 s / tot (ok b) (p b) s) : ℝ) : EReal) := by
    rw [Fin.sum_univ_three]
    simp only [id]
    rw [share_at h, share_at h, share_at h]
    rfl
  have hg : (@id EReal (V (Proc.devRef .tc main_v125_9) (ix2 b s)))
      = ((c b s * (pred (ok b) (p b) 0 s / tot (ok b) (p b) s) + c b s * (pred (ok b) (p b) 1 s / tot (ok b) (p b) s)
        + c b s * (pred (ok b) (p b) 2 s / tot (ok b) (p b) s) : ℝ) : EReal) := by
    refine (h.cot b s).trans ?_
    congr 1
    by_cases h0 : tot (ok b) (p b) s = 0
    · rw [h.zero b s h0]; ring
    · rw [← mul_add, ← mul_add, ← add_div, ← add_div, tot_pred, div_self h0, mul_one]
  refine Eq.trans ?_ (max_terms_cancel hg (count_at h b s))
  refine congrArg (fun x : EReal => Ideal.div (@id EReal (V (Proc.devRef .tc main_v125_9) (ix2 b s)) + x) _) ?_
  exact (Fin.sum_univ_one _).trans hs

theorem step_at (h : Entry V ok p c t) (i : Fin 3) (b : Fin 64) (s : Fin 513) :
    @Eq EReal (after ops V (Proc.devRef .tc main_while1b_v154) (ix3 i b s))
      ((c b s * (pred (ok b) (p b) i s / tot (ok b) (p b) s) : ℝ) : EReal) := by
  rw [e_main_while1b_v154, e_main_while1b_v153, e_main_while1b_v152]
  pointwise
  rw [share_at h, max_share_at h]
  refine (congrArg (fun x : EReal => _ + x) (zero_mul _)).trans (add_zero _)

theorem cot_at (h : Entry V ok p c t) (b : Fin 64) (s : Fin 513) :
    @Eq EReal (after ops V (Proc.devRef .tc main_v125_9) (ix2 b s))
      ((c b s * (p b s / tot (ok b) (p b) s)
        + (if (s : ℕ) + 2 < 513 then c b (s + 2) * (sh2 (ok b) (p b) (s + 2) / tot (ok b) (p b) (s + 2)) else 0)
        + (if (s : ℕ) + 1 < 513 then c b (s + 1) * (sh1 (p b) (s + 1) / tot (ok b) (p b) (s + 1)) else 0) : ℝ) : EReal) := by
  rw [e_main_v125_9, id_eq, e_main_while1b_v169, e_main_while1b_v168, e_main_while1b_cst_60, e_main_while1b_v167,
    e_main_while1b_v165, e_main_while1b_v164, e_main_while1b_cst_59, e_main_while1b_v163, e_main_while1b_v161,
    e_main_while1b_call12_v0, e_main_while1b_call12_cst, e_main_while1b_v160, e_main_while1b_v159,
    e_main_while1b_v158, e_main_while1b_v157, e_main_while1b_v156, e_main_while1b_v155]
  clean_types
  pointwise
  have e2 : @Eq EReal (if hs : (s : ℕ) < 511 then
        Scalar.select (V (Proc.devRef .tc main_v125_6) (ix2 b ⟨2 + (s : ℕ), by omega⟩))
          (after ops V (Proc.devRef .tc main_while1b_v154) (ix3 2 b ⟨2 + (s : ℕ), by omega⟩)) (0 : EReal) else 0)
      ((if (s : ℕ) + 2 < 513 then c b (s + 2) * (sh2 (ok b) (p b) (s + 2) / tot (ok b) (p b) (s + 2)) else 0 : ℝ) : EReal) := by
    by_cases hs : (s : ℕ) < 511
    · rw [dif_pos hs, if_pos (by omega)]
      have hk := h.skip b ⟨2 + (s : ℕ), by omega⟩
      have hv := step_at h 2 b ⟨2 + (s : ℕ), by omega⟩
      have hn : 2 + (s : ℕ) = s + 2 := by omega
      simp only [hn] at hk hv ⊢
      refine (congrArg (fun x => Scalar.select x _ _) hk).trans ?_
      rcases ho : ok b (s + 2) with _ | _
      · unfold sh2
        rw [ho, if_neg (by decide), zero_div, mul_zero]
        rfl
      · exact hv
    · rw [dif_neg hs, if_neg (by omega)]; rfl
  have e1 : @Eq EReal (if hs : (s : ℕ) < 512 then
        @id EReal (after ops V (Proc.devRef .tc main_while1b_v154) (ix3 1 b ⟨1 + (s : ℕ), by omega⟩)) else 0)
      ((if (s : ℕ) + 1 < 513 then c b (s + 1) * (sh1 (p b) (s + 1) / tot (ok b) (p b) (s + 1)) else 0 : ℝ) : EReal) := by
    by_cases hs : (s : ℕ) < 512
    · rw [dif_pos hs, if_pos (by omega)]
      have hv := step_at h 1 b ⟨1 + (s : ℕ), by omega⟩
      have hn : 1 + (s : ℕ) = s + 1 := by omega
      simp only [hn] at hv ⊢
      exact hv
    · rw [dif_neg hs, if_neg (by omega)]; rfl
  rw [EReal.coe_add, EReal.coe_add, ← e1, ← e2]
  refine congrArg (fun x : EReal => x + _ + _) ?_
  exact step_at h 0 b s

theorem stored_at (h : Entry V ok p c t) (j : Fin 2047) (b : Fin 64) (s : Fin 513) :
    @Eq EReal (after ops V (Proc.devRef .tc main_v125_10) (ix3 j b s))
      (if (j : ℕ) = t then ((c b s : ℝ) : EReal) else V (Proc.devRef .tc main_v125_10) (ix3 j b s)) := by
  rw [e_main_v125_10, id_eq, e_main_while1b_v170, row_word h, e_main_while1b_call13_c, e_main_while1b_call13_c_0, e_main_while1b_call13_v0]
  refine (update3_at _ _ _ _ t.isLt (nat_toInt (by omega)) rfl rfl j b s).trans ?_
  refine if_congr Iff.rfl ?_ rfl
  pointwise
  exact h.cot b s

end B1

end Cert.ReferenceIdeal.Gen

end
-- ==== Proof.RefIdx.lean ====
/-
  The reference's gathers and scatters read at an index, wherever the index words they go by are known.
-/
module

public import proofs.«01_k».proof.Proof.RefBwd
public import Idealize.ShloMosaic.Lib.Routing.OpsPair

@[expose] public section

set_option maxRecDepth 16384

noncomputable section

namespace Cert.ReferenceIdeal.Gen

open Idealize.ShloMosaic Idealize.SL.Sem Idealize.ShloMosaic.StableHlo Cert.ReferenceIdeal Cert.Ctc

/-- The emissions: one entry of the log probabilities for each time, sequence and state. -/
theorem gather3_at {α : Type} (x : S2048x64x128.Idx → α) (idx : IVec S64x513x2 32) (t : Fin 2048) (b : Fin 64) (s : Fin 513)
    (b' : Fin 64) (n : Fin 128) (h0 : (idx (ix3 b s 0)).toInt = b') (h1 : (idx (ix3 b s 1)).toInt = n) :
    Host.gather gather_S2048x64x128_S64x513x2_S2048x64x513_0_12_n_n_12_2_204811 x idx (ix3 t b s) = x (ix3 t b' n) := by
  unfold Host.gather
  refine congrArg x (funext fun a => Fin.ext ?_)
  have hb := b'.isLt
  have hn := n.isLt
  match a with
  | ⟨0, _⟩ => exact (by rfl : _ = 0 + 0 + (t : ℕ)).trans (by simp [ix3])
  | ⟨1, _⟩ =>
    have e : gather_S2048x64x128_S64x513x2_S2048x64x513_0_12_n_n_12_2_204811.siIdx (ix3 t b s) ⟨0, by decide⟩ = ix3 b s 0 := by
      funext a; match a with
      | ⟨0, _⟩ => rfl
      | ⟨1, _⟩ => rfl
      | ⟨2, _⟩ => rfl
    refine (by rfl : _ = min (idx (gather_S2048x64x128_S64x513x2_S2048x64x513_0_12_n_n_12_2_204811.siIdx (ix3 t b s) ⟨0, by decide⟩)).toInt.toNat 63 + 0 + 0).trans ?_
    rw [e, h0]
    show min (b' : ℤ).toNat 63 + 0 + 0 = (b' : ℕ)
    omega
  | ⟨2, _⟩ =>
    have e : gather_S2048x64x128_S64x513x2_S2048x64x513_0_12_n_n_12_2_204811.siIdx (ix3 t b s) ⟨1, by decide⟩ = ix3 b s 1 := by
      funext a; match a with
      | ⟨0, _⟩ => rfl
      | ⟨1, _⟩ => rfl
      | ⟨2, _⟩ => rfl
    refine (by rfl : _ = min (idx (gather_S2048x64x128_S64x513x2_S2048x64x513_0_12_n_n_12_2_204811.siIdx (ix3 t b s) ⟨1, by decide⟩)).toInt.toNat 127 + 0 + 0).trans ?_
    rw [e, h1]
    show min (n : ℤ).toNat 127 + 0 + 0 = (n : ℕ)
    omega

/-- One state's score for each sequence. -/
theorem gather2_at {α : Type} (x : S64x513.Idx → α) (idx : IVec S64x2 32) (b : Fin 64) (b' : Fin 64) (n : Fin 513)
    (h0 : (idx (ix2 b 0)).toInt = b') (h1 : (idx (ix2 b 1)).toInt = n) :
    Host.gather gather_S64x513_S64x2_S64_n_01_n_n_01_1_11 x idx (ix1 b) = x (ix2 b' n) := by
  unfold Host.gather
  refine congrArg x (funext fun a => Fin.ext ?_)
  have hb := b'.isLt
  have hn := n.isLt
  match a with
  | ⟨0, _⟩ =>
    have e : gather_S64x513_S64x2_S64_n_01_n_n_01_1_11.siIdx (ix1 b) ⟨0, by decide⟩ = ix2 b 0 := by
      funext a; match a with
      | ⟨0, _⟩ => rfl
      | ⟨1, _⟩ => rfl
    refine (by rfl : _ = min (idx (gather_S64x513_S64x2_S64_n_01_n_n_01_1_11.siIdx (ix1 b) ⟨0, by decide⟩)).toInt.toNat 63 + 0 + 0).trans ?_
    rw [e, h0]
    show min (b' : ℤ).toNat 63 + 0 + 0 = (b' : ℕ)
    omega
  | ⟨1, _⟩ =>
    have e : gather_S64x513_S64x2_S64_n_01_n_n_01_1_11.siIdx (ix1 b) ⟨1, by decide⟩ = ix2 b 1 := by
      funext a; match a with
      | ⟨0, _⟩ => rfl
      | ⟨1, _⟩ => rfl
    refine (by rfl : _ = min (idx (gather_S64x513_S64x2_S64_n_01_n_n_01_1_11.siIdx (ix1 b) ⟨1, by decide⟩)).toInt.toNat 512 + 0 + 0).trans ?_
    rw [e, h1]
    show min (n : ℤ).toNat 512 + 0 + 0 = (n : ℕ)
    omega

/-- Where an update of the initial cotangent lands. -/
theorem lands2 (idx : IVec S64x2 32) (b : Fin 64) (b' : Fin 64) (n : Fin 513) :
    scatter_S64x513_S64x2_S64_n_01_01_1.resultIdx? (ix1 b) idx = some (ix2 b' n)
      ↔ (idx (ix2 b 0)).toInt = b' ∧ (idx (ix2 b 1)).toInt = n := by
  rw [Routing.resultIdx?_eq_some]
  have e0 : scatter_S64x513_S64x2_S64_n_01_01_1.siIdx (ix1 b) ⟨0, by decide⟩ = ix2 b 0 := by
    funext a; match a with
    | ⟨0, _⟩ => rfl
    | ⟨1, _⟩ => rfl
  have e1 : scatter_S64x513_S64x2_S64_n_01_01_1.siIdx (ix1 b) ⟨1, by decide⟩ = ix2 b 1 := by
    funext a; match a with
    | ⟨0, _⟩ => rfl
    | ⟨1, _⟩ => rfl
  have s0 : scatter_S64x513_S64x2_S64_n_01_01_1.start (ix1 b) idx 0 + ((scatter_S64x513_S64x2_S64_n_01_01_1.window (ix1 b) 0 : ℕ) : ℤ) = (idx (ix2 b 0)).toInt := by
    rw [← e0]; exact Int.add_zero _
  have s1 : scatter_S64x513_S64x2_S64_n_01_01_1.start (ix1 b) idx 1 + ((scatter_S64x513_S64x2_S64_n_01_01_1.window (ix1 b) 1 : ℕ) : ℤ) = (idx (ix2 b 1)).toInt := by
    rw [← e1]; exact Int.add_zero _
  constructor
  · intro h; exact ⟨s0.symm.trans (h 0), s1.symm.trans (h 1)⟩
  · intro h a
    match a with
    | ⟨0, _⟩ => exact s0.trans h.1
    | ⟨1, _⟩ => exact s1.trans h.2

/-- Where an update of the gradient lands. -/
theorem lands3 (idx : IVec S64x513x2 32) (t : Fin 2048) (b : Fin 64) (s : Fin 513) (t' : Fin 2048) (b' : Fin 64) (n : Fin 128) :
    scatter_S2048x64x128_S64x513x2_S2048x64x513_0_12_12_2.resultIdx? (ix3 t b s) idx = some (ix3 t' b' n)
      ↔ t = t' ∧ (idx (ix3 b s 0)).toInt = b' ∧ (idx (ix3 b s 1)).toInt = n := by
  rw [Routing.resultIdx?_eq_some]
  have e0 : scatter_S2048x64x128_S64x513x2_S2048x64x513_0_12_12_2.siIdx (ix3 t b s) ⟨0, by decide⟩ = ix3 b s 0 := by
    funext a; match a with
    | ⟨0, _⟩ => rfl
    | ⟨1, _⟩ => rfl
    | ⟨2, _⟩ => rfl
  have e1 : scatter_S2048x64x128_S64x513x2_S2048x64x513_0_12_12_2.siIdx (ix3 t b s) ⟨1, by decide⟩ = ix3 b s 1 := by
    funext a; match a with
    | ⟨0, _⟩ => rfl
    | ⟨1, _⟩ => rfl
    | ⟨2, _⟩ => rfl
  have s2 : scatter_S2048x64x128_S64x513x2_S2048x64x513_0_12_12_2.start (ix3 t b s) idx 0 + ((scatter_S2048x64x128_S64x513x2_S2048x64x513_0_12_12_2.window (ix3 t b s) 0 : ℕ) : ℤ) = (t : ℕ) :=
    Int.zero_add _
  have s0 : scatter_S2048x64x128_S64x513x2_S2048x64x513_0_12_12_2.start (ix3 t b s) idx 1 + ((scatter_S2048x64x128_S64x513x2_S2048x64x513_0_12_12_2.window (ix3 t b s) 1 : ℕ) : ℤ) = (idx (ix3 b s 0)).toInt := by
    rw [← e0]; exact Int.add_zero _
  have s1 : scatter_S2048x64x128_S64x513x2_S2048x64x513_0_12_12_2.start (ix3 t b s) idx 2 + ((scatter_S2048x64x128_S64x513x2_S2048x64x513_0_12_12_2.window (ix3 t b s) 2 : ℕ) : ℤ) = (idx (ix3 b s 1)).toInt := by
    rw [← e1]; exact Int.add_zero _
  constructor
  · intro h; exact ⟨Fin.ext (by exact_mod_cast s2.symm.trans (h 0)), s0.symm.trans (h 1), s1.symm.trans (h 2)⟩
  · intro h a
    match a with
    | ⟨0, _⟩ => exact s2.trans (by rw [h.1]; rfl)
    | ⟨1, _⟩ => exact s0.trans h.2.1
    | ⟨2, _⟩ => exact s1.trans h.2.2

end Cert.ReferenceIdeal.Gen

end
-- ==== Proof.Data.lean ====
/-
  The arguments as numbers: each sequence's labels, emissions, skips and length, and the two sums that the kernel and the
  reference make of them, which are equal.
-/
module

public import proofs.«01_k».proof.Proof.Dual
public import proofs.«01_k».proof.Proof.Lse

@[expose] public section

noncomputable section

namespace Cert.Ctc

open Idealize.ShloMosaic

/-- The last two operations of both programs: the division by the number of sequences, then by −4. -/
def scaled (r : EReal) : EReal := Ideal.div (Ideal.div r (Ideal.ofBits .f32 0x42800000#32)) (Ideal.ofBits .f32 0xC0800000#32)

/-- The arguments the result depends on. -/
structure Data where
  x : Fin 2048 → Fin 64 → Fin 128 → EReal
  tg : Fin 64 → Fin 256 → BitVec 32
  tl : Fin 64 → BitVec 32

namespace Data

/-- The precondition, of the numbers. -/
structure Ok (d : Data) : Prop where
  fin : ∀ t b n, ∃ r : ℝ, d.x t b n = r
  tg : ∀ b j, (d.tg b j).toNat < 128
  tl1 : ∀ b, 1 ≤ (d.tl b).toNat
  tl2 : ∀ b, (d.tl b).toNat ≤ 256

variable (d : Data)

/-- The label of a state: a target at the odd ones, the blank elsewhere. -/
def lab (b : Fin 64) (s : ℕ) : ℕ := if h : s % 2 = 1 ∧ s < 513 then (d.tg b ⟨(s - 1) / 2, by omega⟩).toNat else 0

/-- A state may be entered from two before it. -/
def ok (b : Fin 64) (s : ℕ) : Bool := decide (2 ≤ s ∧ d.lab b s ≠ 0 ∧ d.lab b s ≠ d.lab b (s - 2))

/-- The emission of a state at a time. -/
def E (b : Fin 64) (t s : ℕ) : ℝ := if h : t < 2048 ∧ d.lab b s < 128 then (d.x ⟨t, h.1⟩ b ⟨d.lab b s, h.2⟩).toReal else 0

/-- The last label's state. -/
def hi (b : Fin 64) : ℕ := 2 * (d.tl b).toNat

/-- The path weights of a sequence. -/
def p (b : Fin 64) (t s : ℕ) : ℝ := P (d.E b) (d.ok b) t s

/-- The weight each state has in the logarithm of the end's weight. -/
def init (b : Fin 64) (s : ℕ) : ℝ := wt (d.p b 2047 (d.hi b)) (d.p b 2047 (d.hi b - 1)) (d.hi b) (d.hi b - 1) s

/-- The kernel's sum for a sequence. -/
def contrib (b : Fin 64) : ℝ :=
  (d.p b 2047 (d.hi b) * D (d.E b) (d.ok b) 2047 (d.hi b) + d.p b 2047 (d.hi b - 1) * D (d.E b) (d.ok b) 2047 (d.hi b - 1))
    / (d.p b 2047 (d.hi b) + d.p b 2047 (d.hi b - 1))

variable {d}

theorem ok_two (b : Fin 64) (s : ℕ) (h : d.ok b s = true) : 2 ≤ s := (of_decide_eq_true h).1

theorem p_nonneg (b : Fin 64) (t s : ℕ) : 0 ≤ d.p b t s := P_nonneg _ _

theorem lab_lt (h : d.Ok) (b : Fin 64) (s : ℕ) : d.lab b s < 128 := by
  unfold lab
  split
  · exact h.tg _ _
  · decide

theorem E_eq (h : d.Ok) (t : Fin 2048) (b : Fin 64) (s : ℕ) (n : Fin 128) (hn : (n : ℕ) = d.lab b s) :
    d.x t b n = (d.E b t s : ℝ) := by
  unfold E
  rw [dif_pos ⟨t.isLt, lab_lt h b s⟩]
  obtain ⟨r, hr⟩ := h.fin t b n
  have e : (⟨d.lab b s, lab_lt h b s⟩ : Fin 128) = n := Fin.ext hn.symm
  rw [e]
  show _ = ((d.x t b n).toReal : EReal)
  rw [hr, EReal.toReal_coe]

/-- The reference's sum and the kernel's. -/
theorem total_eq (h : d.Ok) :
    ∑ b : Fin 64, ∑ r ∈ Finset.range 2048, ∑ s ∈ Finset.range 513, G (d.E b) (d.ok b) 2047 513 (d.init b) r s * d.E b r s
      = ∑ b : Fin 64, d.contrib b := by
  refine Finset.sum_congr rfl fun b _ => ?_
  have h1 := h.tl1 b
  have h2 := h.tl2 b
  rw [← duality_rows (N := 2047) (ok_two b)]
  exact sum_wt _ _ _ _ _ (by unfold hi; omega) (by unfold hi; omega) _

end Data

end Cert.Ctc

end
-- ==== Proof.RefPre.lean ====
/-
  What the reference has ready before its forward loop, at an index: the labels, the skips, the emissions, the first scores.
-/
module

public import proofs.«01_k».proof.Proof.RefOpsPre
public import proofs.«01_k».proof.Proof.RefIdx
public import proofs.«01_k».proof.Proof.Data

@[expose] public section

set_option maxRecDepth 16384

noncomputable section

namespace Cert.ReferenceIdeal.Gen

open Idealize.ShloMosaic Idealize.SL.Sem Idealize.ShloMosaic.StableHlo Cert.ReferenceIdeal Cert.Ctc

/-- The reference's arguments hold the numbers. -/
structure Holds (V : Valuation τ sig (Elt Ideal)) (d : Data) : Prop where
  x : ∀ t b n, @Eq EReal (V (Proc.devRef .tc main_arg0) (ix3 t b n)) (d.x t b n)
  tg : ∀ b j, @Eq (BitVec 32) (V (Proc.devRef .tc main_arg1) (ix2 b j)) (d.tg b j)
  tl : ∀ b, @Eq (BitVec 32) (V (Proc.devRef .tc main_arg3) (ix1 b)) (d.tl b)

namespace Pre

variable {V : Valuation τ sig (Elt Ideal)} {d : Data}

theorem lab_at (h : Holds V d) (b : Fin 64) (s : Fin 513) :
    @Eq (BitVec 32) (after ops V (Proc.devRef .tc main_v7) (ix2 b s)) (BitVec.ofNat 32 (d.lab b s)) := by
  rw [e_main_v7, e_main_v6, e_main_v5, e_main_v4, e_main_v3, e_main_v2, e_main_v1, e_main_c]
  pointwise
  unfold Data.lab
  by_cases h1 : (s : ℕ) < 512
  · by_cases h2 : (s : ℕ) % 2 < 1
    · rw [dif_pos h1, dif_pos h2, dif_neg (by omega)]
    · rw [dif_pos h1, dif_neg h2, dif_pos ⟨by omega, by omega⟩]
      refine (h.tg b _).trans ?_
      have e : ((s : ℕ) - 1) / 2 = (s : ℕ) / 2 := by omega
      simp only [e]
      exact (BitVec.ofNat_toNat _ _).trans (BitVec.setWidth_eq _) |>.symm
  · rw [dif_neg h1, dif_neg (by omega)]

/-- The comparisons of a state's label with the blank's and with the label two states before it. -/
theorem skip_word (m n : ℕ) {s : ℕ} (hm : m < 128) (hn : n < 128) (hs : 2 ≤ s) :
    IntOp.andi (IntOp.cmpi .ne (BitVec.ofNat 32 m) 0#32) (IntOp.cmpi .ne (BitVec.ofNat 32 m) (BitVec.ofNat 32 n))
      = BitVec.ofBool (decide (2 ≤ s ∧ m ≠ 0 ∧ m ≠ n)) := by
  have e0 : (BitVec.ofNat 32 m = 0#32) ↔ m = 0 := by
    rw [← BitVec.toNat_inj]; simp only [BitVec.toNat_ofNat]; omega
  have e1 : (BitVec.ofNat 32 m = BitVec.ofNat 32 n) ↔ m = n := by
    rw [← BitVec.toNat_inj]; simp only [BitVec.toNat_ofNat]; omega
  by_cases h0 : m = 0 <;> by_cases h1 : m = n <;> simp [IntOp.andi, IntOp.cmpi, bne, beq_eq_decide, e0, e1, h0, h1, hs]

theorem row_at (b : Fin 64) (s : Fin 513) :
    @Eq (BitVec 32) (after ops V (Proc.devRef .tc main_v31) (ix3 b s 0)) (BitVec.ofNat 32 b) := by
  rw [e_main_v31, e_main_v29, e_main_v28, e_main_v22, e_main_v21, e_main_v20, e_main_v19, e_main_v18, e_main_v17, e_main_v0, e_main_c_2, e_main_c_3]
  pointwise
  refine Routing.wrap_of_lt _ _ ?_
  have := b.isLt
  rw [BitVec.toNat_ofNat]; omega

theorem col_at (h : Holds V d) (hd : d.Ok) (b : Fin 64) (s : Fin 513) :
    @Eq (BitVec 32) (after ops V (Proc.devRef .tc main_v31) (ix3 b s 1)) (BitVec.ofNat 32 (d.lab b s)) := by
  rw [e_main_v31, e_main_v30, e_main_v27, e_main_v26, e_main_v25, e_main_v24, e_main_v23, e_main_c_4, e_main_c_5]
  pointwise
  rw [lab_at h b s]
  refine Routing.wrap_of_lt _ _ ?_
  have := Data.lab_lt hd b s
  rw [BitVec.toNat_ofNat]; omega

theorem skip_at (h : Holds V d) (hd : d.Ok) (b : Fin 64) (s : Fin 513) :
    @Eq (BitVec 1) (after ops V (Proc.devRef .tc main_v16) (ix2 b s)) (BitVec.ofBool (d.ok b s)) := by
  rw [e_main_v16, e_main_v15, e_main_v14, e_main_v13, e_main_v12, e_main_v11, e_main_v10, e_main_v9, e_main_v8, e_main_c_0, e_main_c_1]
  pointwise
  by_cases h1 : (s : ℕ) < 2
  · rw [dif_pos h1]
    unfold Data.ok
    rw [decide_eq_false (by omega)]; rfl
  · rw [dif_neg h1]
    have e : 2 + ((s : ℕ) - 2) = s := by omega
    simp only [e]
    rw [lab_at h b s, lab_at h b ⟨(s : ℕ) - 2, by omega⟩]
    have l1 := Data.lab_lt hd b s
    have l2 := Data.lab_lt hd b ((s : ℕ) - 2)
    unfold Data.ok
    exact skip_word _ _ l1 l2 (by omega)

theorem low_at (b : Fin 64) (s : Fin 513) :
    @Eq (BitVec 1) (after ops V (Proc.devRef .tc main_v38_1) (ix2 b s)) (BitVec.ofBool (decide ((s : ℕ) < 2))) := by
  rw [e_main_v38_1, e_main_v35, e_main_v34, e_main_c_6, e_main_v33]
  pointwise
  have := s.isLt
  exact WordCmp.cmpi_slt_ofNat (by omega) (by decide)

theorem first_at (h : Holds V d) (hd : d.Ok) (b : Fin 64) (s : Fin 513) :
    @Eq EReal (after ops V (Proc.devRef .tc main_v51_6) (ix2 b s)) (L (d.p b 0 s)) := by
  rw [e_main_v51_6, id_eq, e_main_v38_0, e_main_v37, e_main_v36, e_main_call0_v2, e_main_call0_v0, e_main_cst]
  pointwise
  rw [low_at]
  unfold Data.p P
  by_cases h1 : (s : ℕ) < 2
  · rw [decide_eq_true h1, if_pos h1, L_exp]
    refine (gather3_at _ _ 0 b s b ⟨_, Data.lab_lt hd b s⟩ ?_ ?_).trans ?_
    · exact (congrArg BitVec.toInt (row_at b s)).trans (nat_toInt (by omega))
    · exact (congrArg BitVec.toInt (col_at h hd b s)).trans (nat_toInt (by have := Data.lab_lt hd b s; omega))
    · exact (h.x _ _ _).trans (Data.E_eq hd _ _ _ _ rfl)
  · rw [decide_eq_false h1, if_neg h1, L_zero]
    exact ofBits_ninf

theorem emit_at (h : Holds V d) (hd : d.Ok) (t : Fin 2047) (b : Fin 64) (s : Fin 513) :
    @Eq EReal (after ops V (Proc.devRef .tc main_v51_0) (ix3 t b s)) (d.E b (t + 1) s : ℝ) := by
  rw [e_main_v51_0, id_eq, e_main_v39, e_main_v32]
  pointwise
  refine (gather3_at _ _ _ b s b ⟨_, Data.lab_lt hd b s⟩ ?_ ?_).trans ?_
  · exact (congrArg BitVec.toInt (row_at b s)).trans (nat_toInt (by omega))
  · exact (congrArg BitVec.toInt (col_at h hd b s)).trans (nat_toInt (by have := Data.lab_lt hd b s; omega))
  · refine (h.x _ _ _).trans ((Data.E_eq hd _ b s _ rfl).trans ?_)
    exact congrArg (fun n => ((d.E b n s : ℝ) : EReal)) (Nat.add_comm 1 (t : ℕ))

theorem neg1_at (b : Fin 64) (s : Fin 1) : @Eq EReal (after ops V (Proc.devRef .tc main_v51_1) (ix2 b s)) ⊥ := by
  rw [e_main_v51_1, id_eq, e_main_v41, id_eq, e_main_v40, e_main_cst_7]
  exact ofBits_ninf

theorem neg2_at (b : Fin 64) (s : Fin 2) : @Eq EReal (after ops V (Proc.devRef .tc main_v51_2) (ix2 b s)) ⊥ := by
  rw [e_main_v51_2, id_eq, e_main_v44, id_eq, e_main_v43, e_main_cst_9]
  exact ofBits_ninf

theorem neg4_at (b : Fin 64) (s : Fin 513) : @Eq EReal (after ops V (Proc.devRef .tc main_v51_4) (ix2 b s)) ⊥ := by
  rw [e_main_v51_4, id_eq, e_main_v46_1, e_main_call1_v0, id_eq, e_main_cst_11]
  exact ofBits_ninf

theorem skip_in (h : Holds V d) (hd : d.Ok) (b : Fin 64) (s : Fin 513) :
    @Eq (BitVec 1) (after ops V (Proc.devRef .tc main_v51_3) (ix2 b s)) (BitVec.ofBool (d.ok b s)) := by
  rw [e_main_v51_3, id_eq]
  exact skip_at h hd b s

/-- The first trip is entered with the first weights. -/
theorem entry (h : Holds V d) (hd : d.Ok) : B0.Entry (after ops V) d.ok fun b s => d.p b 0 s where
  two := Data.ok_two
  pos := fun b s => Data.p_nonneg b 0 s
  score := first_at h hd
  skip := skip_in h hd
  neg1 := neg1_at
  neg2 := neg2_at
  neg4 := neg4_at

end Pre

end Cert.ReferenceIdeal.Gen

end
-- ==== Proof.RefOpsMid.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter
public import proofs.«01_k».proof.Proof.RefSsa

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! One equation for each operation of these sections of the reference. -/

namespace Mid
/-- The section's operations in one line. -/
abbrev ops : List (HloOp τ sig (Elt F)) := itemsMid.flatten
/-- What they write, in order. -/
abbrev W : List (Ref sig .tc) := [main_c_17, main_v52, main_v53, main_c_18, main_v54, main_v55, main_c_19, main_v56, main_v57, main_v58, main_c_20, main_v59, main_v60, main_c_21, main_v61, main_v62, main_v63, main_v64, main_v65, main_v66, main_v67, main_c_22, main_v68, main_v69, main_c_23, main_v70, main_v71, main_c_24, main_v72, main_v73, main_v74, main_c_25, main_v75, main_v76, main_c_26, main_v77, main_v78, main_v79, main_v80, main_v81, main_v82, main_v83, main_v84, main_v85, main_v86, main_cst_27, main_v87, main_cst_28, main_v88, main_cst_29, main_v89, main_v90, main_v91, main_v92, main_v93, main_cst_30, main_v94, main_cst_31, main_v95, main_cst_32, main_v96, main_v97, main_v98, main_v99, main_v100, main_v101, main_v102, main_v103, main_v104, main_v105, main_cst_33, main_v106, main_cst_34, main_v107, main_v108, main_v109, main_v110, main_v111, main_v112, main_v113, main_v114, main_v115, main_v116, main_v117, main_v118, main_cst_35, main_v119, main_v120, main_cst_36, main_v121, main_v122, main_v123, main_cst_37, main_v124, main_c_38, main_v125_0, main_v125_1, main_v125_2, main_v125_3, main_v125_4, main_v125_5, main_v125_6, main_v125_7, main_v125_8, main_v125_9, main_v125_10]
theorem hW : (ops (F := F)).map HloOp.writes = W.map fun r => {Proc.devRef (τ := τ) .tc r} := rfl
variable (V : Valuation τ sig (Elt F))
theorem e_main_c_17 : after ops V (Proc.devRef .tc main_c_17) = constantI S_ 32 2#32 := by
  exact s_nullary hW 0 rfl (by decide +kernel) V
theorem e_main_v52 : after ops V (Proc.devRef .tc main_v52) = broadcastInDim S64 ![] bcast_S_S64 (after ops V (Proc.devRef .tc main_c_17)) := by
  rw [s_unary hW 1 rfl (by decide +kernel) V, fin hW 1 main_c_17 (by decide +kernel)] <;> (generalize after ops V = X; rfl)
theorem e_main_v53 : after ops V (Proc.devRef .tc main_v53) = muli (after ops V (Proc.devRef .tc main_v52)) (V (Proc.devRef .tc main_arg3)) := by
  rw [s_binary hW 2 rfl (by decide +kernel) V, fin hW 2 main_v52 (by decide +kernel), ini hW 2 main_arg3 (by decide +kernel)] <;> (generalize after ops V = X; rfl)
theorem e_main_c_18 : after ops V (Proc.devRef .tc main_c_18) = constantI S_ 32 0#32 := by
  exact s_nullary hW 3 rfl (by decide +kernel) V
theorem e_main_v54 : after ops V (Proc.devRef .tc main_v54) = broadcastInDim S64 ![] bcast_S_S64 (after ops V (Proc.devRef .tc main_c_18)) := by
  rw [s_unary hW 4 rfl (by decide +kernel) V, fin hW 4 main_c_18 (by decide +kernel)] <;> (generalize after ops V = X; rfl)
theorem e_main_v55 : after ops V (Proc.devRef .tc main_v55) = cmpi .slt (V (Proc.devRef .tc main_v0)) (after ops V (Proc.devRef .tc main_v54)) := by
  rw [s_binary hW 5 rfl (by decide +kernel) V, ini hW 5 main_v0 (by decide +kernel), fin hW 5 main_v54 (by decide +kernel)] <;> (generalize after ops V = X; rfl)
theorem e_main_c_19 : after ops V (Proc.devRef .tc main_c_19) = constantI S_ 32 64#32 := by
  exact s_nullary hW 6 rfl (by decide +kernel) V
theorem e_main_v56 : after ops V (Proc.devRef .tc main_v56) = broadcastInDim S64 ![] bcast_S_S64 (after ops V (Proc.devRef .tc main_c_19)) := by
  rw [s_unary hW 7 rfl (by decide +kernel) V, fin hW 7 main_c_19 (by decide +kernel)] <;> (generalize after ops V = X; rfl)
theorem e_main_v57 : after ops V (Proc.devRef .tc main_v57) = addi (V (Proc.devRef .tc main_v0)) (after ops V (Proc.devRef .tc main_v56)) := by
  rw [s_binary hW 8 rfl (by decide +kernel) V, ini hW 8 main_v0 (by decide +kernel), fin hW 8 main_v56 (by decide +kernel)] <;> (generalize after ops V = X; rfl)
theorem e_main_v58 : after ops V (Proc.devRef .tc main_v58) = select (after ops V (Proc.devRef .tc main_v55)) (after ops V (Proc.devRef .tc main_v57)) (V (Proc.devRef .tc main_v0)) := by
  rw [s_ternary hW 9 rfl (by decide +kernel) V, fin hW 9 main_v55 (by decide +kernel), fin hW 9 main_v57 (by decide +kernel), ini hW 9 main_v0 (by decide +kernel)] <;> (generalize after ops V = X; rfl)
theorem e_main_c_20 : after ops V (Proc.devRef .tc main_c_20) = constantI S_ 32 0#32 := by
  exact s_nullary hW 10 rfl (by decide +kernel) V
theorem e_main_v59 : after ops V (Proc.devRef .tc main_v59) = broadcastInDim S64 ![] bcast_S_S64 (after ops V (Proc.devRef .tc main_c_20)) := by
  rw [s_unary hW 11 rfl (by decide +kernel) V, fin hW 11 main_c_20 (by decide +kernel)] <;> (generalize after ops V = X; rfl)
theorem e_main_v60 : after ops V (Proc.devRef .tc main_v60) = cmpi .slt (after ops V (Proc.devRef .tc main_v53)) (after ops V (Proc.devRef .tc main_v59)) := by
  rw [s_binary hW 12 rfl (by decide +kernel) V, fin hW 12 main_v53 (by decide +kernel), fin hW 12 main_v59 (by decide +kernel)] <;> (generalize after ops V = X; rfl)
theorem e_main_c_21 : after ops V (Proc.devRef .tc main_c_21) = constantI S_ 32 513#32 := by
  exact s_nullary hW 13 rfl (by decide +kernel) V
theorem e_main_v61 : after ops V (Proc.devRef .tc main_v61) = broadcastInDim S64 ![] bcast_S_S64 (after ops V (Proc.devRef .tc main_c_21)) := by
  rw [s_unary hW 14 rfl (by decide +kernel) V, fin hW 14 main_c_21 (by decide +kernel)] <;> (generalize after ops V = X; rfl)
theorem e_main_v62 : after ops V (Proc.devRef .tc main_v62) = addi (after ops V (Proc.devRef .tc main_v53)) (after ops V (Proc.devRef .tc main_v61)) := by
  rw [s_binary hW 15 rfl (by decide +kernel) V, fin hW 15 main_v53 (by decide +kernel), fin hW 15 main_v61 (by decide +kernel)] <;> (generalize after ops V = X; rfl)
theorem e_main_v63 : after ops V (Proc.devRef .tc main_v63) = select (after ops V (Proc.devRef .tc main_v60)) (after ops V (Proc.devRef .tc main_v62)) (after ops V (Proc.devRef .tc main_v53)) := by
  rw [s_ternary hW 16 rfl (by decide +kernel) V, fin hW 16 main_v60 (by decide +kernel), fin hW 16 main_v62 (by decide +kernel), fin hW 16 main_v53 (by decide +kernel)] <;> (generalize after ops V = X; rfl)
theorem e_main_v64 : after ops V (Proc.devRef .tc main_v64) = broadcastInDim S64x1 ![0] bcast_S64_S64x1_0 (after ops V (Proc.devRef .tc main_v58)) := by
  rw [s_unary hW 17 rfl (by decide +kernel) V, fin hW 17 main_v58 (by decide +kernel)] <;> (generalize after ops V = X; rfl)
theorem e_main_v65 : after ops V (Proc.devRef .tc main_v65) = broadcastInDim S64x1 ![0] bcast_S64_S64x1_0 (after ops V (Proc.devRef .tc main_v63)) := by
  rw [s_unary hW 18 rfl (by decide +kernel) V, fin hW 18 main_v63 (by decide +kernel)] <;> (generalize after ops V = X; rfl)
theorem e_main_v66 : after ops V (Proc.devRef .tc main_v66) = concatenate S64x2 1 [⟨S64x1, (after ops V (Proc.devRef .tc main_v64))⟩, ⟨S64x1, (after ops V (Proc.devRef .tc main_v65))⟩] concatenates_S64x1_S64x1_S64x2_d1 := by
  rw [s_binary hW 19 rfl (by decide +kernel) V, fin hW 19 main_v64 (by decide +kernel), fin hW 19 main_v65 (by decide +kernel)] <;> (generalize after ops V = X; rfl)
theorem e_main_v67 : after ops V (Proc.devRef .tc main_v67) = Host.gather gather_S64x513_S64x2_S64_n_01_n_n_01_1_11 (V (Proc.devRef .tc main_v51_6)) (after ops V (Proc.devRef .tc main_v66)) := by
  rw [s_binary hW 20 rfl (by decide +kernel) V, ini hW 20 main_v51_6 (by decide +kernel), fin hW 20 main_v66 (by decide +kernel)] <;> (generalize after ops V = X; rfl)
theorem e_main_c_22 : after ops V (Proc.devRef .tc main_c_22) = constantI S_ 32 1#32 := by
  exact s_nullary hW 21 rfl (by decide +kernel) V
theorem e_main_v68 : after ops V (Proc.devRef .tc main_v68) = broadcastInDim S64 ![] bcast_S_S64 (after ops V (Proc.devRef .tc main_c_22)) := by
  rw [s_unary hW 22 rfl (by decide +kernel) V, fin hW 22 main_c_22 (by decide +kernel)] <;> (generalize after ops V = X; rfl)
theorem e_main_v69 : after ops V (Proc.devRef .tc main_v69) = subi (after ops V (Proc.devRef .tc main_v53)) (after ops V (Proc.devRef .tc main_v68)) := by
  rw [s_binary hW 23 rfl (by decide +kernel) V, fin hW 23 main_v53 (by decide +kernel), fin hW 23 main_v68 (by decide +kernel)] <;> (generalize after ops V = X; rfl)
theorem e_main_c_23 : after ops V (Proc.devRef .tc main_c_23) = constantI S_ 32 0#32 := by
  exact s_nullary hW 24 rfl (by decide +kernel) V
theorem e_main_v70 : after ops V (Proc.devRef .tc main_v70) = broadcastInDim S64 ![] bcast_S_S64 (after ops V (Proc.devRef .tc main_c_23)) := by
  rw [s_unary hW 25 rfl (by decide +kernel) V, fin hW 25 main_c_23 (by decide +kernel)] <;> (generalize after ops V = X; rfl)
theorem e_main_v71 : after ops V (Proc.devRef .tc main_v71) = cmpi .slt (V (Proc.devRef .tc main_v0)) (after ops V (Proc.devRef .tc main_v70)) := by
  rw [s_binary hW 26 rfl (by decide +kernel) V, ini hW 26 main_v0 (by decide +kernel), fin hW 26 main_v70 (by decide +kernel)] <;> (generalize after ops V = X; rfl)
theorem e_main_c_24 : after ops V (Proc.devRef .tc main_c_24) = constantI S_ 32 64#32 := by
  exact s_nullary hW 27 rfl (by decide +kernel) V
theorem e_main_v72 : after ops V (Proc.devRef .tc main_v72) = broadcastInDim S64 ![] bcast_S_S64 (after ops V (Proc.devRef .tc main_c_24)) := by
  rw [s_unary hW 28 rfl (by decide +kernel) V, fin hW 28 main_c_24 (by decide +kernel)] <;> (generalize after ops V = X; rfl)
theorem e_main_v73 : after ops V (Proc.devRef .tc main_v73) = addi (V (Proc.devRef .tc main_v0)) (after ops V (Proc.devRef .tc main_v72)) := by
  rw [s_binary hW 29 rfl (by decide +kernel) V, ini hW 29 main_v0 (by decide +kernel), fin hW 29 main_v72 (by decide +kernel)] <;> (generalize after ops V = X; rfl)
theorem e_main_v74 : after ops V (Proc.devRef .tc main_v74) = select (after ops V (Proc.devRef .tc main_v71)) (after ops V (Proc.devRef .tc main_v73)) (V (Proc.devRef .tc main_v0)) := by
  rw [s_ternary hW 30 rfl (by decide +kernel) V, fin hW 30 main_v71 (by decide +kernel), fin hW 30 main_v73 (by decide +kernel), ini hW 30 main_v0 (by decide +kernel)] <;> (generalize after ops V = X; rfl)
theorem e_main_c_25 : after ops V (Proc.devRef .tc main_c_25) = constantI S_ 32 0#32 := by
  exact s_nullary hW 31 rfl (by decide +kernel) V
theorem e_main_v75 : after ops V (Proc.devRef .tc main_v75) = broadcastInDim S64 ![] bcast_S_S64 (after ops V (Proc.devRef .tc main_c_25)) := by
  rw [s_unary hW 32 rfl (by decide +kernel) V, fin hW 32 main_c_25 (by decide +kernel)] <;> (generalize after ops V = X; rfl)
theorem e_main_v76 : after ops V (Proc.devRef .tc main_v76) = cmpi .slt (after ops V (Proc.devRef .tc main_v69)) (after ops V (Proc.devRef .tc main_v75)) := by
  rw [s_binary hW 33 rfl (by decide +kernel) V, fin hW 33 main_v69 (by decide +kernel), fin hW 33 main_v75 (by decide +kernel)] <;> (generalize after ops V = X; rfl)
theorem e_main_c_26 : after ops V (Proc.devRef .tc main_c_26) = constantI S_ 32 513#32 := by
  exact s_nullary hW 34 rfl (by decide +kernel) V
theorem e_main_v77 : after ops V (Proc.devRef .tc main_v77) = broadcastInDim S64 ![] bcast_S_S64 (after ops V (Proc.devRef .tc main_c_26)) := by
  rw [s_unary hW 35 rfl (by decide +kernel) V, fin hW 35 main_c_26 (by decide +kernel)] <;> (generalize after ops V = X; rfl)
theorem e_main_v78 : after ops V (Proc.devRef .tc main_v78) = addi (after ops V (Proc.devRef .tc main_v69)) (after ops V (Proc.devRef .tc main_v77)) := by
  rw [s_binary hW 36 rfl (by decide +kernel) V, fin hW 36 main_v69 (by decide +kernel), fin hW 36 main_v77 (by decide +kernel)] <;> (generalize after ops V = X; rfl)
theorem e_main_v79 : after ops V (Proc.devRef .tc main_v79) = select (after ops V (Proc.devRef .tc main_v76)) (after ops V (Proc.devRef .tc main_v78)) (after ops V (Proc.devRef .tc main_v69)) := by
  rw [s_ternary hW 37 rfl (by decide +kernel) V, fin hW 37 main_v76 (by decide +kernel), fin hW 37 main_v78 (by decide +kernel), fin hW 37 main_v69 (by decide +kernel)] <;> (generalize after ops V = X; rfl)
theorem e_main_v80 : after ops V (Proc.devRef .tc main_v80) = broadcastInDim S64x1 ![0] bcast_S64_S64x1_0 (after ops V (Proc.devRef .tc main_v74)) := by
  rw [s_unary hW 38 rfl (by decide +kernel) V, fin hW 38 main_v74 (by decide +kernel)] <;> (generalize after ops V = X; rfl)
theorem e_main_v81 : after ops V (Proc.devRef .tc main_v81) = broadcastInDim S64x1 ![0] bcast_S64_S64x1_0 (after ops V (Proc.devRef .tc main_v79)) := by
  rw [s_unary hW 39 rfl (by decide +kernel) V, fin hW 39 main_v79 (by decide +kernel)] <;> (generalize after ops V = X; rfl)
theorem e_main_v82 : after ops V (Proc.devRef .tc main_v82) = concatenate S64x2 1 [⟨S64x1, (after ops V (Proc.devRef .tc main_v80))⟩, ⟨S64x1, (after ops V (Proc.devRef .tc main_v81))⟩] concatenates_S64x1_S64x1_S64x2_d1 := by
  rw [s_binary hW 40 rfl (by decide +kernel) V, fin hW 40 main_v80 (by decide +kernel), fin hW 40 main_v81 (by decide +kernel)] <;> (generalize after ops V = X; rfl)
theorem e_main_v83 : after ops V (Proc.devRef .tc main_v83) = Host.gather gather_S64x513_S64x2_S64_n_01_n_n_01_1_11 (V (Proc.devRef .tc main_v51_6)) (after ops V (Proc.devRef .tc main_v82)) := by
  rw [s_binary hW 41 rfl (by decide +kernel) V, ini hW 41 main_v51_6 (by decide +kernel), fin hW 41 main_v82 (by decide +kernel)] <;> (generalize after ops V = X; rfl)
theorem e_main_v84 : after ops V (Proc.devRef .tc main_v84) = maximumf (after ops V (Proc.devRef .tc main_v67)) (after ops V (Proc.devRef .tc main_v83)) := by
  rw [s_binary hW 42 rfl (by decide +kernel) V, fin hW 42 main_v67 (by decide +kernel), fin hW 42 main_v83 (by decide +kernel)] <;> (generalize after ops V = X; rfl)
theorem e_main_v85 : after ops V (Proc.devRef .tc main_v85) = cmpf .ogt (after ops V (Proc.devRef .tc main_v67)) (after ops V (Proc.devRef .tc main_v83)) := by
  rw [s_binary hW 43 rfl (by decide +kernel) V, fin hW 43 main_v67 (by decide +kernel), fin hW 43 main_v83 (by decide +kernel)] <;> (generalize after ops V = X; rfl)
theorem e_main_v86 : after ops V (Proc.devRef .tc main_v86) = cmpf .oeq (after ops V (Proc.devRef .tc main_v67)) (after ops V (Proc.devRef .tc main_v83)) := by
  rw [s_binary hW 44 rfl (by decide +kernel) V, fin hW 44 main_v67 (by decide +kernel), fin hW 44 main_v83 (by decide +kernel)] <;> (generalize after ops V = X; rfl)
theorem e_main_cst_27 : after ops V (Proc.devRef .tc main_cst_27) = constant S_ .f32 0x3F800000#32 := by
  exact s_nullary hW 45 rfl (by decide +kernel) V
theorem e_main_v87 : after ops V (Proc.devRef .tc main_v87) = broadcastInDim S64 ![] bcast_S_S64 (after ops V (Proc.devRef .tc main_cst_27)) := by
  rw [s_unary hW 46 rfl (by decide +kernel) V, fin hW 46 main_cst_27 (by decide +kernel)] <;> (generalize after ops V = X; rfl)
theorem e_main_cst_28 : after ops V (Proc.devRef .tc main_cst_28) = constant S_ .f32 0x00000000#32 := by
  exact s_nullary hW 47 rfl (by decide +kernel) V
theorem e_main_v88 : after ops V (Proc.devRef .tc main_v88) = broadcastInDim S64 ![] bcast_S_S64 (after ops V (Proc.devRef .tc main_cst_28)) := by
  rw [s_unary hW 48 rfl (by decide +kernel) V, fin hW 48 main_cst_28 (by decide +kernel)] <;> (generalize after ops V = X; rfl)
theorem e_main_cst_29 : after ops V (Proc.devRef .tc main_cst_29) = constant S_ .f32 0x3F000000#32 := by
  exact s_nullary hW 49 rfl (by decide +kernel) V
theorem e_main_v89 : after ops V (Proc.devRef .tc main_v89) = broadcastInDim S64 ![] bcast_S_S64 (after ops V (Proc.devRef .tc main_cst_29)) := by
  rw [s_unary hW 50 rfl (by decide +kernel) V, fin hW 50 main_cst_29 (by decide +kernel)] <;> (generalize after ops V = X; rfl)
theorem e_main_v90 : after ops V (Proc.devRef .tc main_v90) = select (after ops V (Proc.devRef .tc main_v86)) (after ops V (Proc.devRef .tc main_v89)) (after ops V (Proc.devRef .tc main_v88)) := by
  rw [s_ternary hW 51 rfl (by decide +kernel) V, fin hW 51 main_v86 (by decide +kernel), fin hW 51 main_v89 (by decide +kernel), fin hW 51 main_v88 (by decide +kernel)] <;> (generalize after ops V = X; rfl)
theorem e_main_v91 : after ops V (Proc.devRef .tc main_v91) = select (after ops V (Proc.devRef .tc main_v85)) (after ops V (Proc.devRef .tc main_v87)) (after ops V (Proc.devRef .tc main_v90)) := by
  rw [s_ternary hW 52 rfl (by decide +kernel) V, fin hW 52 main_v85 (by decide +kernel), fin hW 52 main_v87 (by decide +kernel), fin hW 52 main_v90 (by decide +kernel)] <;> (generalize after ops V = X; rfl)
theorem e_main_v92 : after ops V (Proc.devRef .tc main_v92) = cmpf .ogt (after ops V (Proc.devRef .tc main_v83)) (after ops V (Proc.devRef .tc main_v67)) := by
  rw [s_binary hW 53 rfl (by decide +kernel) V, fin hW 53 main_v83 (by decide +kernel), fin hW 53 main_v67 (by decide +kernel)] <;> (generalize after ops V = X; rfl)
theorem e_main_v93 : after ops V (Proc.devRef .tc main_v93) = cmpf .oeq (after ops V (Proc.devRef .tc main_v83)) (after ops V (Proc.devRef .tc main_v67)) := by
  rw [s_binary hW 54 rfl (by decide +kernel) V, fin hW 54 main_v83 (by decide +kernel), fin hW 54 main_v67 (by decide +kernel)] <;> (generalize after ops V = X; rfl)
theorem e_main_cst_30 : after ops V (Proc.devRef .tc main_cst_30) = constant S_ .f32 0x3F800000#32 := by
  exact s_nullary hW 55 rfl (by decide +kernel) V
theorem e_main_v94 : after ops V (Proc.devRef .tc main_v94) = broadcastInDim S64 ![] bcast_S_S64 (after ops V (Proc.devRef .tc main_cst_30)) := by
  rw [s_unary hW 56 rfl (by decide +kernel) V, fin hW 56 main_cst_30 (by decide +kernel)] <;> (generalize after ops V = X; rfl)
theorem e_main_cst_31 : after ops V (Proc.devRef .tc main_cst_31) = constant S_ .f32 0x00000000#32 := by
  exact s_nullary hW 57 rfl (by decide +kernel) V
theorem e_main_v95 : after ops V (Proc.devRef .tc main_v95) = broadcastInDim S64 ![] bcast_S_S64 (after ops V (Proc.devRef .tc main_cst_31)) := by
  rw [s_unary hW 58 rfl (by decide +kernel) V, fin hW 58 main_cst_31 (by decide +kernel)] <;> (generalize after ops V = X; rfl)
theorem e_main_cst_32 : after ops V (Proc.devRef .tc main_cst_32) = constant S_ .f32 0x3F000000#32 := by
  exact s_nullary hW 59 rfl (by decide +kernel) V
theorem e_main_v96 : after ops V (Proc.devRef .tc main_v96) = broadcastInDim S64 ![] bcast_S_S64 (after ops V (Proc.devRef .tc main_cst_32)) := by
  rw [s_unary hW 60 rfl (by decide +kernel) V, fin hW 60 main_cst_32 (by decide +kernel)] <;> (generalize after ops V = X; rfl)
theorem e_main_v97 : after ops V (Proc.devRef .tc main_v97) = select (after ops V (Proc.devRef .tc main_v93)) (after ops V (Proc.devRef .tc main_v96)) (after ops V (Proc.devRef .tc main_v95)) := by
  rw [s_ternary hW 61 rfl (by decide +kernel) V, fin hW 61 main_v93 (by decide +kernel), fin hW 61 main_v96 (by decide +kernel), fin hW 61 main_v95 (by decide +kernel)] <;> (generalize after ops V = X; rfl)
theorem e_main_v98 : after ops V (Proc.devRef .tc main_v98) = select (after ops V (Proc.devRef .tc main_v92)) (after ops V (Proc.devRef .tc main_v94)) (after ops V (Proc.devRef .tc main_v97)) := by
  rw [s_ternary hW 62 rfl (by decide +kernel) V, fin hW 62 main_v92 (by decide +kernel), fin hW 62 main_v94 (by decide +kernel), fin hW 62 main_v97 (by decide +kernel)] <;> (generalize after ops V = X; rfl)
theorem e_main_v99 : after ops V (Proc.devRef .tc main_v99) = subf (after ops V (Proc.devRef .tc main_v67)) (after ops V (Proc.devRef .tc main_v84)) := by
  rw [s_binary hW 63 rfl (by decide +kernel) V, fin hW 63 main_v67 (by decide +kernel), fin hW 63 main_v84 (by decide +kernel)] <;> (generalize after ops V = X; rfl)
theorem e_main_v100 : after ops V (Proc.devRef .tc main_v100) = Host.exp (after ops V (Proc.devRef .tc main_v99)) := by
  rw [s_unary hW 64 rfl (by decide +kernel) V, fin hW 64 main_v99 (by decide +kernel)] <;> (generalize after ops V = X; rfl)
theorem e_main_v101 : after ops V (Proc.devRef .tc main_v101) = subf (after ops V (Proc.devRef .tc main_v83)) (after ops V (Proc.devRef .tc main_v84)) := by
  rw [s_binary hW 65 rfl (by decide +kernel) V, fin hW 65 main_v83 (by decide +kernel), fin hW 65 main_v84 (by decide +kernel)] <;> (generalize after ops V = X; rfl)
theorem e_main_v102 : after ops V (Proc.devRef .tc main_v102) = Host.exp (after ops V (Proc.devRef .tc main_v101)) := by
  rw [s_unary hW 66 rfl (by decide +kernel) V, fin hW 66 main_v101 (by decide +kernel)] <;> (generalize after ops V = X; rfl)
theorem e_main_v103 : after ops V (Proc.devRef .tc main_v103) = addf (after ops V (Proc.devRef .tc main_v100)) (after ops V (Proc.devRef .tc main_v102)) := by
  rw [s_binary hW 67 rfl (by decide +kernel) V, fin hW 67 main_v100 (by decide +kernel), fin hW 67 main_v102 (by decide +kernel)] <;> (generalize after ops V = X; rfl)
theorem e_main_v104 : after ops V (Proc.devRef .tc main_v104) = Host.log (after ops V (Proc.devRef .tc main_v103)) := by
  rw [s_unary hW 68 rfl (by decide +kernel) V, fin hW 68 main_v103 (by decide +kernel)] <;> (generalize after ops V = X; rfl)
theorem e_main_v105 : after ops V (Proc.devRef .tc main_v105) = addf (after ops V (Proc.devRef .tc main_v84)) (after ops V (Proc.devRef .tc main_v104)) := by
  rw [s_binary hW 69 rfl (by decide +kernel) V, fin hW 69 main_v84 (by decide +kernel), fin hW 69 main_v104 (by decide +kernel)] <;> (generalize after ops V = X; rfl)
theorem e_main_cst_33 : after ops V (Proc.devRef .tc main_cst_33) = constant S_ .f32 0x00000000#32 := by
  exact s_nullary hW 70 rfl (by decide +kernel) V
theorem e_main_v106 : after ops V (Proc.devRef .tc main_v106) = Host.reduceAdd (after ops V (Proc.devRef .tc main_v105)) (after ops V (Proc.devRef .tc main_cst_33)) reducesTo_S64_S_d0 h_S_ := by
  rw [s_binary hW 71 rfl (by decide +kernel) V, fin hW 71 main_v105 (by decide +kernel), fin hW 71 main_cst_33 (by decide +kernel)] <;> (generalize after ops V = X; rfl)
theorem e_main_cst_34 : after ops V (Proc.devRef .tc main_cst_34) = constant S_ .f32 0x3F800000#32 := by
  exact s_nullary hW 72 rfl (by decide +kernel) V
theorem e_main_v107 : after ops V (Proc.devRef .tc main_v107) = broadcastInDim S64 ![] bcast_S_S64 (after ops V (Proc.devRef .tc main_cst_34)) := by
  rw [s_unary hW 73 rfl (by decide +kernel) V, fin hW 73 main_cst_34 (by decide +kernel)] <;> (generalize after ops V = X; rfl)
theorem e_main_v108 : after ops V (Proc.devRef .tc main_v108) = Host.divf (after ops V (Proc.devRef .tc main_v107)) (after ops V (Proc.devRef .tc main_v103)) := by
  rw [s_binary hW 74 rfl (by decide +kernel) V, fin hW 74 main_v107 (by decide +kernel), fin hW 74 main_v103 (by decide +kernel)] <;> (generalize after ops V = X; rfl)
theorem e_main_v109 : after ops V (Proc.devRef .tc main_v109) = mulf (after ops V (Proc.devRef .tc main_v108)) (after ops V (Proc.devRef .tc main_v102)) := by
  rw [s_binary hW 75 rfl (by decide +kernel) V, fin hW 75 main_v108 (by decide +kernel), fin hW 75 main_v102 (by decide +kernel)] <;> (generalize after ops V = X; rfl)
theorem e_main_v110 : after ops V (Proc.devRef .tc main_v110) = Host.negf (after ops V (Proc.devRef .tc main_v109)) := by
  rw [s_unary hW 76 rfl (by decide +kernel) V, fin hW 76 main_v109 (by decide +kernel)] <;> (generalize after ops V = X; rfl)
theorem e_main_v111 : after ops V (Proc.devRef .tc main_v111) = addf (after ops V (Proc.devRef .tc main_v107)) (after ops V (Proc.devRef .tc main_v110)) := by
  rw [s_binary hW 77 rfl (by decide +kernel) V, fin hW 77 main_v107 (by decide +kernel), fin hW 77 main_v110 (by decide +kernel)] <;> (generalize after ops V = X; rfl)
theorem e_main_v112 : after ops V (Proc.devRef .tc main_v112) = mulf (after ops V (Proc.devRef .tc main_v108)) (after ops V (Proc.devRef .tc main_v100)) := by
  rw [s_binary hW 78 rfl (by decide +kernel) V, fin hW 78 main_v108 (by decide +kernel), fin hW 78 main_v100 (by decide +kernel)] <;> (generalize after ops V = X; rfl)
theorem e_main_v113 : after ops V (Proc.devRef .tc main_v113) = Host.negf (after ops V (Proc.devRef .tc main_v112)) := by
  rw [s_unary hW 79 rfl (by decide +kernel) V, fin hW 79 main_v112 (by decide +kernel)] <;> (generalize after ops V = X; rfl)
theorem e_main_v114 : after ops V (Proc.devRef .tc main_v114) = addf (after ops V (Proc.devRef .tc main_v111)) (after ops V (Proc.devRef .tc main_v113)) := by
  rw [s_binary hW 80 rfl (by decide +kernel) V, fin hW 80 main_v111 (by decide +kernel), fin hW 80 main_v113 (by decide +kernel)] <;> (generalize after ops V = X; rfl)
theorem e_main_v115 : after ops V (Proc.devRef .tc main_v115) = mulf (after ops V (Proc.devRef .tc main_v114)) (after ops V (Proc.devRef .tc main_v98)) := by
  rw [s_binary hW 81 rfl (by decide +kernel) V, fin hW 81 main_v114 (by decide +kernel), fin hW 81 main_v98 (by decide +kernel)] <;> (generalize after ops V = X; rfl)
theorem e_main_v116 : after ops V (Proc.devRef .tc main_v116) = addf (after ops V (Proc.devRef .tc main_v109)) (after ops V (Proc.devRef .tc main_v115)) := by
  rw [s_binary hW 82 rfl (by decide +kernel) V, fin hW 82 main_v109 (by decide +kernel), fin hW 82 main_v115 (by decide +kernel)] <;> (generalize after ops V = X; rfl)
theorem e_main_v117 : after ops V (Proc.devRef .tc main_v117) = mulf (after ops V (Proc.devRef .tc main_v114)) (after ops V (Proc.devRef .tc main_v91)) := by
  rw [s_binary hW 83 rfl (by decide +kernel) V, fin hW 83 main_v114 (by decide +kernel), fin hW 83 main_v91 (by decide +kernel)] <;> (generalize after ops V = X; rfl)
theorem e_main_v118 : after ops V (Proc.devRef .tc main_v118) = addf (after ops V (Proc.devRef .tc main_v112)) (after ops V (Proc.devRef .tc main_v117)) := by
  rw [s_binary hW 84 rfl (by decide +kernel) V, fin hW 84 main_v112 (by decide +kernel), fin hW 84 main_v117 (by decide +kernel)] <;> (generalize after ops V = X; rfl)
theorem e_main_cst_35 : after ops V (Proc.devRef .tc main_cst_35) = constant S_ .f32 0x00000000#32 := by
  exact s_nullary hW 85 rfl (by decide +kernel) V
theorem e_main_v119 : after ops V (Proc.devRef .tc main_v119) = broadcastInDim S64x513 ![] bcast_S_S64x513 (after ops V (Proc.devRef .tc main_cst_35)) := by
  rw [s_unary hW 86 rfl (by decide +kernel) V, fin hW 86 main_cst_35 (by decide +kernel)] <;> (generalize after ops V = X; rfl)
theorem e_main_v120 : after ops V (Proc.devRef .tc main_v120) = Host.scatterAdd scatter_S64x513_S64x2_S64_n_01_01_1 (after ops V (Proc.devRef .tc main_v119)) (after ops V (Proc.devRef .tc main_v82)) (after ops V (Proc.devRef .tc main_v116)) := by
  rw [s_ternary hW 87 rfl (by decide +kernel) V, fin hW 87 main_v119 (by decide +kernel), fin hW 87 main_v82 (by decide +kernel), fin hW 87 main_v116 (by decide +kernel)] <;> (generalize after ops V = X; rfl)
theorem e_main_cst_36 : after ops V (Proc.devRef .tc main_cst_36) = constant S_ .f32 0x00000000#32 := by
  exact s_nullary hW 88 rfl (by decide +kernel) V
theorem e_main_v121 : after ops V (Proc.devRef .tc main_v121) = broadcastInDim S64x513 ![] bcast_S_S64x513 (after ops V (Proc.devRef .tc main_cst_36)) := by
  rw [s_unary hW 89 rfl (by decide +kernel) V, fin hW 89 main_cst_36 (by decide +kernel)] <;> (generalize after ops V = X; rfl)
theorem e_main_v122 : after ops V (Proc.devRef .tc main_v122) = Host.scatterAdd scatter_S64x513_S64x2_S64_n_01_01_1 (after ops V (Proc.devRef .tc main_v121)) (after ops V (Proc.devRef .tc main_v66)) (after ops V (Proc.devRef .tc main_v118)) := by
  rw [s_ternary hW 90 rfl (by decide +kernel) V, fin hW 90 main_v121 (by decide +kernel), fin hW 90 main_v66 (by decide +kernel), fin hW 90 main_v118 (by decide +kernel)] <;> (generalize after ops V = X; rfl)
theorem e_main_v123 : after ops V (Proc.devRef .tc main_v123) = addf (after ops V (Proc.devRef .tc main_v120)) (after ops V (Proc.devRef .tc main_v122)) := by
  rw [s_binary hW 91 rfl (by decide +kernel) V, fin hW 91 main_v120 (by decide +kernel), fin hW 91 main_v122 (by decide +kernel)] <;> (generalize after ops V = X; rfl)
theorem e_main_cst_37 : after ops V (Proc.devRef .tc main_cst_37) = constant S_ .f32 0x00000000#32 := by
  exact s_nullary hW 92 rfl (by decide +kernel) V
theorem e_main_v124 : after ops V (Proc.devRef .tc main_v124) = broadcastInDim S2047x64x513 ![] bcast_S_S2047x64x513 (after ops V (Proc.devRef .tc main_cst_37)) := by
  rw [s_unary hW 93 rfl (by decide +kernel) V, fin hW 93 main_cst_37 (by decide +kernel)] <;> (generalize after ops V = X; rfl)
theorem e_main_c_38 : after ops V (Proc.devRef .tc main_c_38) = constantI S_ 32 0#32 := by
  exact s_nullary hW 94 rfl (by decide +kernel) V
theorem e_main_v125_0 : after ops V (Proc.devRef .tc main_v125_0) = id (V (Proc.devRef .tc main_v51_7)) := by
  rw [s_unary hW 95 rfl (by decide +kernel) V, ini hW 95 main_v51_7 (by decide +kernel)] <;> (generalize after ops V = X; rfl)
theorem e_main_v125_1 : after ops V (Proc.devRef .tc main_v125_1) = id (V (Proc.devRef .tc main_v51_8)) := by
  rw [s_unary hW 96 rfl (by decide +kernel) V, ini hW 96 main_v51_8 (by decide +kernel)] <;> (generalize after ops V = X; rfl)
theorem e_main_v125_2 : after ops V (Proc.devRef .tc main_v125_2) = id (V (Proc.devRef .tc main_v51_9)) := by
  rw [s_unary hW 97 rfl (by decide +kernel) V, ini hW 97 main_v51_9 (by decide +kernel)] <;> (generalize after ops V = X; rfl)
theorem e_main_v125_3 : after ops V (Proc.devRef .tc main_v125_3) = id (V (Proc.devRef .tc main_v51_10)) := by
  rw [s_unary hW 98 rfl (by decide +kernel) V, ini hW 98 main_v51_10 (by decide +kernel)] <;> (generalize after ops V = X; rfl)
theorem e_main_v125_4 : after ops V (Proc.devRef .tc main_v125_4) = id (V (Proc.devRef .tc main_v42)) := by
  rw [s_unary hW 99 rfl (by decide +kernel) V, ini hW 99 main_v42 (by decide +kernel)] <;> (generalize after ops V = X; rfl)
theorem e_main_v125_5 : after ops V (Proc.devRef .tc main_v125_5) = id (V (Proc.devRef .tc main_v45)) := by
  rw [s_unary hW 100 rfl (by decide +kernel) V, ini hW 100 main_v45 (by decide +kernel)] <;> (generalize after ops V = X; rfl)
theorem e_main_v125_6 : after ops V (Proc.devRef .tc main_v125_6) = id (V (Proc.devRef .tc main_v16)) := by
  rw [s_unary hW 101 rfl (by decide +kernel) V, ini hW 101 main_v16 (by decide +kernel)] <;> (generalize after ops V = X; rfl)
theorem e_main_v125_7 : after ops V (Proc.devRef .tc main_v125_7) = id (V (Proc.devRef .tc main_v46_0)) := by
  rw [s_unary hW 102 rfl (by decide +kernel) V, ini hW 102 main_v46_0 (by decide +kernel)] <;> (generalize after ops V = X; rfl)
theorem e_main_v125_8 : after ops V (Proc.devRef .tc main_v125_8) = id (after ops V (Proc.devRef .tc main_c_38)) := by
  rw [s_unary hW 103 rfl (by decide +kernel) V, fin hW 103 main_c_38 (by decide +kernel)] <;> (generalize after ops V = X; rfl)
theorem e_main_v125_9 : after ops V (Proc.devRef .tc main_v125_9) = id (after ops V (Proc.devRef .tc main_v123)) := by
  rw [s_unary hW 104 rfl (by decide +kernel) V, fin hW 104 main_v123 (by decide +kernel)] <;> (generalize after ops V = X; rfl)
theorem e_main_v125_10 : after ops V (Proc.devRef .tc main_v125_10) = id (after ops V (Proc.devRef .tc main_v124)) := by
  rw [s_unary hW 105 rfl (by decide +kernel) V, fin hW 105 main_v124 (by decide +kernel)] <;> (generalize after ops V = X; rfl)
end Mid

namespace Post
/-- The section's operations in one line. -/
abbrev ops : List (HloOp τ sig (Elt F)) := itemsPost.flatten
/-- What they write, in order. -/
abbrev W : List (Ref sig .tc) := [main_cst_39, main_v126, main_call14_cst, main_call14_v0, main_v127, main_v128, main_cst_40, main_v129, main_v130, main_cst_41, main_v131, main_v132, main_v133, main_cst_42, main_v134, main_cst_43, main_v135, main_cst_44, main_v136]
theorem hW : (ops (F := F)).map HloOp.writes = W.map fun r => {Proc.devRef (τ := τ) .tc r} := rfl
variable (V : Valuation τ sig (Elt F))
theorem e_main_cst_39 : after ops V (Proc.devRef .tc main_cst_39) = constant S_ .f32 0x00000000#32 := by
  exact s_nullary hW 0 rfl (by decide +kernel) V
theorem e_main_v126 : after ops V (Proc.devRef .tc main_v126) = pad S2048x64x513 ![1, 0, 0] ![0, 0, 0] ![0, 0, 0] (V (Proc.devRef .tc main_v125_10)) (after ops V (Proc.devRef .tc main_cst_39)) pads_S2047x64x513_S2048x64x513_100_000_000 h_S_ := by
  rw [s_binary hW 1 rfl (by decide +kernel) V, ini hW 1 main_v125_10 (by decide +kernel), fin hW 1 main_cst_39 (by decide +kernel)] <;> (generalize after ops V = X; rfl)
theorem e_main_call14_cst : after ops V (Proc.devRef .tc main_call14_cst) = constant S_ .f32 0x00000000#32 := by
  exact s_nullary hW 2 rfl (by decide +kernel) V
theorem e_main_call14_v0 : after ops V (Proc.devRef .tc main_call14_v0) = broadcastInDim S64x513 ![] bcast_S_S64x513 (after ops V (Proc.devRef .tc main_call14_cst)) := by
  rw [s_unary hW 3 rfl (by decide +kernel) V, fin hW 3 main_call14_cst (by decide +kernel)] <;> (generalize after ops V = X; rfl)
theorem e_main_v127 : after ops V (Proc.devRef .tc main_v127) = select (V (Proc.devRef .tc main_v38_1)) (V (Proc.devRef .tc main_v125_9)) (after ops V (Proc.devRef .tc main_call14_v0)) := by
  rw [s_ternary hW 4 rfl (by decide +kernel) V, ini hW 4 main_v38_1 (by decide +kernel), ini hW 4 main_v125_9 (by decide +kernel), fin hW 4 main_call14_v0 (by decide +kernel)] <;> (generalize after ops V = X; rfl)
theorem e_main_v128 : after ops V (Proc.devRef .tc main_v128) = broadcastInDim S1x64x513 ![1, 2] bcast_S64x513_S1x64x513_1_2 (after ops V (Proc.devRef .tc main_v127)) := by
  rw [s_unary hW 5 rfl (by decide +kernel) V, fin hW 5 main_v127 (by decide +kernel)] <;> (generalize after ops V = X; rfl)
theorem e_main_cst_40 : after ops V (Proc.devRef .tc main_cst_40) = constant S_ .f32 0x00000000#32 := by
  exact s_nullary hW 6 rfl (by decide +kernel) V
theorem e_main_v129 : after ops V (Proc.devRef .tc main_v129) = pad S2048x64x513 ![0, 0, 0] ![2047, 0, 0] ![0, 0, 0] (after ops V (Proc.devRef .tc main_v128)) (after ops V (Proc.devRef .tc main_cst_40)) pads_S1x64x513_S2048x64x513_020470_000_000 h_S_ := by
  rw [s_binary hW 7 rfl (by decide +kernel) V, fin hW 7 main_v128 (by decide +kernel), fin hW 7 main_cst_40 (by decide +kernel)] <;> (generalize after ops V = X; rfl)
theorem e_main_v130 : after ops V (Proc.devRef .tc main_v130) = addf (after ops V (Proc.devRef .tc main_v126)) (after ops V (Proc.devRef .tc main_v129)) := by
  rw [s_binary hW 8 rfl (by decide +kernel) V, fin hW 8 main_v126 (by decide +kernel), fin hW 8 main_v129 (by decide +kernel)] <;> (generalize after ops V = X; rfl)
theorem e_main_cst_41 : after ops V (Proc.devRef .tc main_cst_41) = constant S_ .f32 0x00000000#32 := by
  exact s_nullary hW 9 rfl (by decide +kernel) V
theorem e_main_v131 : after ops V (Proc.devRef .tc main_v131) = broadcastInDim S2048x64x128 ![] bcast_S_S2048x64x128 (after ops V (Proc.devRef .tc main_cst_41)) := by
  rw [s_unary hW 10 rfl (by decide +kernel) V, fin hW 10 main_cst_41 (by decide +kernel)] <;> (generalize after ops V = X; rfl)
theorem e_main_v132 : after ops V (Proc.devRef .tc main_v132) = Host.scatterAdd scatter_S2048x64x128_S64x513x2_S2048x64x513_0_12_12_2 (after ops V (Proc.devRef .tc main_v131)) (V (Proc.devRef .tc main_v31)) (after ops V (Proc.devRef .tc main_v130)) := by
  rw [s_ternary hW 11 rfl (by decide +kernel) V, fin hW 11 main_v131 (by decide +kernel), ini hW 11 main_v31 (by decide +kernel), fin hW 11 main_v130 (by decide +kernel)] <;> (generalize after ops V = X; rfl)
theorem e_main_v133 : after ops V (Proc.devRef .tc main_v133) = mulf (after ops V (Proc.devRef .tc main_v132)) (V (Proc.devRef .tc main_arg0)) := by
  rw [s_binary hW 12 rfl (by decide +kernel) V, fin hW 12 main_v132 (by decide +kernel), ini hW 12 main_arg0 (by decide +kernel)] <;> (generalize after ops V = X; rfl)
theorem e_main_cst_42 : after ops V (Proc.devRef .tc main_cst_42) = constant S_ .f32 0x00000000#32 := by
  exact s_nullary hW 13 rfl (by decide +kernel) V
theorem e_main_v134 : after ops V (Proc.devRef .tc main_v134) = Host.reduceAdd (after ops V (Proc.devRef .tc main_v133)) (after ops V (Proc.devRef .tc main_cst_42)) reducesTo_S2048x64x128_S_d0_1_2 h_S_ := by
  rw [s_binary hW 14 rfl (by decide +kernel) V, fin hW 14 main_v133 (by decide +kernel), fin hW 14 main_cst_42 (by decide +kernel)] <;> (generalize after ops V = X; rfl)
theorem e_main_cst_43 : after ops V (Proc.devRef .tc main_cst_43) = constant S_ .f32 0x42800000#32 := by
  exact s_nullary hW 15 rfl (by decide +kernel) V
theorem e_main_v135 : after ops V (Proc.devRef .tc main_v135) = Host.divf (after ops V (Proc.devRef .tc main_v134)) (after ops V (Proc.devRef .tc main_cst_43)) := by
  rw [s_binary hW 16 rfl (by decide +kernel) V, fin hW 16 main_v134 (by decide +kernel), fin hW 16 main_cst_43 (by decide +kernel)] <;> (generalize after ops V = X; rfl)
theorem e_main_cst_44 : after ops V (Proc.devRef .tc main_cst_44) = constant S_ .f32 0xC0800000#32 := by
  exact s_nullary hW 17 rfl (by decide +kernel) V
theorem e_main_v136 : after ops V (Proc.devRef .tc main_v136) = Host.divf (after ops V (Proc.devRef .tc main_v135)) (after ops V (Proc.devRef .tc main_cst_44)) := by
  rw [s_binary hW 18 rfl (by decide +kernel) V, fin hW 18 main_v135 (by decide +kernel), fin hW 18 main_cst_44 (by decide +kernel)] <;> (generalize after ops V = X; rfl)
end Post

end Cert.ReferenceIdeal.Gen
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.StableHlo.RunClose
public import Idealize.ShloMosaic.Lib.Scf.ExitTest
public import Idealize.ShloMosaic.Lib.Scf.Counter
public import proofs.«01_k».proof.Proof.RefOpsPre
public import proofs.«01_k».proof.Proof.RefOpsMid
public import proofs.«01_k».proof.Proof.RefOpsBody

set_option maxRecDepth 8192

@[expose] public section

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-! The run of the reference: stretches, a counted loop of 2047 trips forwards in time, stretches, a counted loop of
    2047 trips backwards in time, stretches. -/

/-- The two operations of the first loop's condition, and of the second's. -/
abbrev cond0 : List (HloOp τ sig (Elt F)) :=
  [ nullary main_while0c_c_55 (constantI S_ 32 2047#32), binary main_v51_5 main_while0c_c_55 main_while0c_v137 (cmpi .slt) ]
abbrev cond1 : List (HloOp τ sig (Elt F)) :=
  [ nullary main_while1c_c_55 (constantI S_ 32 2047#32), binary main_v125_8 main_while1c_c_55 main_while1c_v137 (cmpi .slt) ]
abbrev cond0_W : List (Ref sig .tc) := [main_while0c_c_55, main_while0c_v137]
abbrev cond1_W : List (Ref sig .tc) := [main_while1c_c_55, main_while1c_v137]
theorem cond0_keep (V : Valuation τ sig (Elt F)) (r : Ref sig .tc) (h : r ∉ cond0_W) :
    after cond0 V (Proc.devRef .tc r) = V (Proc.devRef .tc r) := after_unwritten cond0_W rfl h V
theorem cond1_keep (V : Valuation τ sig (Elt F)) (r : Ref sig .tc) (h : r ∉ cond1_W) :
    after cond1 V (Proc.devRef .tc r) = V (Proc.devRef .tc r) := after_unwritten cond1_W rfl h V

variable (m : (ℓ : Loc nD τ sig) → Buf (Elt F) ℓ) (ρ : Dev nD → PrngReg)

/-- Every buffer at the first loop's entry, before its `k`-th condition, at the second loop's entry, before that loop's
    `k`-th condition, and at the end. -/
def in0 (c : Dev nD) : Valuation τ sig (Elt F) := afterL itemsPre (launchContents m c)
def at0 (k : ℕ) (c : Dev nD) : Valuation τ sig (Elt F) := atTrip cond0 itemsB0 (in0 m) k c
def in1 (c : Dev nD) : Valuation τ sig (Elt F) := afterL itemsMid (after cond0 (at0 m 2047 c))
def at1 (k : ℕ) (c : Dev nD) : Valuation τ sig (Elt F) := atTrip cond1 itemsB1 (in1 m) k c
def fin1 (c : Dev nD) : Valuation τ sig (Elt F) := afterL itemsPost (after cond1 (at1 m 2047 c))

theorem in0_eq (c : Dev nD) : in0 m c = after Pre.ops (launchContents m c) := by rw [in0, afterL_eq_after_flatten]
theorem in1_eq (c : Dev nD) : in1 m c = after Mid.ops (after cond0 (at0 m 2047 c)) := by rw [in1, afterL_eq_after_flatten]
theorem fin1_eq (c : Dev nD) : fin1 m c = after Post.ops (after cond1 (at1 m 2047 c)) := by rw [fin1, afterL_eq_after_flatten]
theorem at0_zero (c : Dev nD) : at0 m 0 c = in0 m c := rfl
theorem at0_succ (k : ℕ) (c : Dev nD) : at0 m (k + 1) c = after B0.ops (after cond0 (at0 m k c)) := by
  rw [at0, atTrip_succ, afterL_eq_after_flatten]; rfl
theorem at1_zero (c : Dev nD) : at1 m 0 c = in1 m c := rfl
theorem at1_succ (k : ℕ) (c : Dev nD) : at1 m (k + 1) c = after B1.ops (after cond1 (at1 m k c)) := by
  rw [at1, atTrip_succ, afterL_eq_after_flatten]; rfl

/-- Before the `k`-th condition each loop's counter is `k`. -/
theorem at0_ctr (c : Dev nD) : ∀ k, at0 m k c (Proc.devRef .tc main_v51_5) = fun _ => Scf.iv 0#32 1#32 k
  | 0 => by
    rw [at0_zero, in0_eq, Pre.e_main_v51_5, Pre.e_main_c_16, Scf.iv_zero]; rfl
  | k + 1 => by
    rw [at0_succ, B0.e_main_v51_5, B0.e_main_while0b_v165, B0.e_main_while0b_c_58, cond0_keep _ _ (by decide +kernel),
      at0_ctr c k, Scf.iv_succ]
    rfl
theorem at1_ctr (c : Dev nD) : ∀ k, at1 m k c (Proc.devRef .tc main_v125_8) = fun _ => Scf.iv 0#32 1#32 k
  | 0 => by
    rw [at1_zero, in1_eq, Mid.e_main_v125_8, Mid.e_main_c_38, Scf.iv_zero]; rfl
  | k + 1 => by
    rw [at1_succ, B1.e_main_v125_8, B1.e_main_while1b_v171, B1.e_main_while1b_c_61, cond1_keep _ _ (by decide +kernel),
      at1_ctr c k, Scf.iv_succ]
    rfl

local notation "𝕄" => MT nD τ sig Unit (Elt F) ℕ (Option PUnit) ℕ

/-- No pipeline, so nothing is admitted, no ticket is drawn and no cell has a level; what rides along beside the buffers. -/
abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0
abbrev rest (c : Dev nD) : sProp 𝕄 := iprop(∃ W, owes (c : Thread nD τ) (0 : CellTallies nD τ sig Unit) W)

set_option backward.isDefEq.respectTransparency.types false in
/-- The first loop's condition, run for the `k`-th time, says whether `k < 2047`. -/
theorem cond0_spec : LoopCond (Ix := Unit) (Name := ℕ) (U := Option PUnit) (Lvl := ℕ) (pcfgs (F := F)) defs₀ Variants.none
    loops rest (main_while0_cond (F := F)) cond0 itemsB0 (in0 m) 2047 := by
  intro k hk c bd
  have hctr := at0_ctr m c k
  rw [at0] at hctr
  unfold main_while0_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 itemsB0 (in0 m) k c) main_v51_5 HostLoop.idx0)
        (HloOp.result _ (atTrip cond0 itemsB0 (in0 m) k c) main_while0c_c_55 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  isplitl [Hh]; · rw [after_cons, after_cons, after_nil]; iexact Hh
  iexact HR

set_option backward.isDefEq.respectTransparency.types false in
/-- The second loop's condition, run for the `k`-th time, says whether `k < 2047`. -/
theorem cond1_spec : LoopCond (Ix := Unit) (Name := ℕ) (U := Option PUnit) (Lvl := ℕ) (pcfgs (F := F)) defs₀ Variants.none
    loops rest (main_while1_cond (F := F)) cond1 itemsB1 (in1 m) 2047 := by
  intro k hk c bd
  have hctr := at1_ctr m c k
  rw [at1] at hctr
  unfold main_while1_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 itemsB1 (in1 m) k c) main_v125_8 HostLoop.idx0)
        (HloOp.result _ (atTrip cond1 itemsB1 (in1 m) k c) main_while1c_c_55 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  isplitl [Hh]; · rw [after_cons, after_cons, after_nil]; iexact Hh
  iexact HR

/-- @main as segments: stretches, the first loop, stretches, the second loop, stretches. -/
def segs : List (Pipeline.CSeg (pcfgs (F := F)) noAdm defs₀ Variants.none noL noLv loops noTk) :=
  segsOf _ _ _ _ _ _ _ _ rest itemsPre plainPre (launchContents m)
    ++ loopSeg _ _ _ _ _ _ _ _ 0 main_while0_cond main_while0_body rfl cond0 itemsB0 plainB0 while0_body_chain 2047 (in0 m) rest (cond0_spec m)
      :: (segsOf _ _ _ _ _ _ _ _ rest itemsMid plainMid (fun c => after cond0 (at0 m 2047 c))
        ++ loopSeg _ _ _ _ _ _ _ _ 1 main_while1_cond main_while1_body rfl cond1 itemsB1 plainB1 while1_body_chain 2047 (in1 m) rest (cond1_spec m)
          :: segsOf _ _ _ _ _ _ _ _ rest itemsPost plainPost (fun c => after cond1 (at1 m 2047 c)))

theorem segs_prog : (segs m).map Pipeline.CSeg.prog
    = (itemsPre.map fun ops => (seq ops : Prog _ PUnit)) ++ HostLoop.enter 0
      :: ((itemsMid.map fun ops => (seq ops : Prog _ PUnit)) ++ HostLoop.enter 1 :: itemsPost.map fun ops => (seq ops : Prog _ PUnit)) := by
  unfold segs
  rw [List.map_append, List.map_cons, List.map_append, List.map_cons, segsOf_prog, segsOf_prog, segsOf_prog]
  rfl

theorem main_segs (c : Dev nD) : main (F := F) c = Pipeline.chain ((segs m).map Pipeline.CSeg.prog) := by
  rw [segs_prog, main_chain_windows]; rfl

theorem segs_chains : Pipeline.CSeg.Chains (fun c => iprop(held (c : Thread nD τ) (Pipeline.ucRefs τ sig) (launchContents m c) ∗ rest c))
    (segs m)
    (fun c => iprop(iprop(held (c : Thread nD τ) (Pipeline.ucRefs τ sig) (fin1 m c)) ∗ ∃ W, owes (c : Thread nD τ) (0 : CellTallies nD τ sig Unit) W)) := by
  unfold segs
  exact Pipeline.CSeg.Chains.append (segsOf_chains _ _ _ _ _ _ _ _ rest itemsPre plainPre _) ⟨fun _ => .rfl,
    Pipeline.CSeg.Chains.append (segsOf_chains _ _ _ _ _ _ _ _ rest itemsMid plainMid _) ⟨fun _ => .rfl,
      segsOf_chains _ _ _ _ _ _ _ _ rest itemsPost plainPost _⟩⟩

/-- The reference's run: it ends with every buffer that holds a value of the program at `fin1`. -/
theorem run_fin : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin1 m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noL noLv loops noTk m ρ main (segs m)
    (fun c Q => by
      rw [main_segs m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ rest c))
    (Tₙ := fun c => iprop(held (c : Thread nD τ) (Pipeline.ucRefs τ sig) (fin1 m c)))
    (hch := segs_chains m)
    (hinit := by
      refine Pipeline.initEach noL noLv fun c => ?_
      rw [show unscopedBufs c (fun b => m ((c : Thread nD τ).loc b)) = held (c : Thread nD τ) (Pipeline.ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = fin1 m c b)
    (hfin := fun c s' => by
      unfold held
      iintro ⟨Hh, HSI⟩
      ihave Hr := (pointsTo_read_all (Pipeline.ucRefs τ sig) (fun b => ((c : Dev nD), b)) (fun b => fin1 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- A buffer no operation of the reference writes ends as it began: the arguments in particular. -/
theorem fin1_arg (c : Dev nD) (r : Ref sig .tc) (h : r ∉ Pre.W ++ Mid.W ++ Post.W ++ B0.W ++ B1.W ++ cond0_W ++ cond1_W) :
    fin1 m c (Proc.devRef .tc r) = m ((c.tc : Thread nD τ).loc r) := by
  simp only [List.mem_append, not_or] at h
  obtain ⟨⟨⟨⟨⟨⟨h1, h2⟩, h3⟩, h4⟩, h5⟩, h6⟩, h7⟩ := h
  have a0 : ∀ k, at0 m k c (Proc.devRef .tc r) = in0 m c (Proc.devRef .tc r) := fun k => by
    induction k with
    | zero => rfl
    | succ k ih => rw [at0_succ, after_unwritten B0.W B0.hW h4, cond0_keep _ _ h6, ih]
  have a1 : ∀ k, at1 m k c (Proc.devRef .tc r) = in1 m c (Proc.devRef .tc r) := fun k => by
    induction k with
    | zero => rfl
    | succ k ih => rw [at1_succ, after_unwritten B1.W B1.hW h5, cond1_keep _ _ h7, ih]
  rw [fin1_eq, after_unwritten Post.W Post.hW h3, cond1_keep _ _ h7, a1, in1_eq, after_unwritten Mid.W Mid.hW h2,
    cond0_keep _ _ h6, a0, in0_eq, after_unwritten Pre.W Pre.hW h1]

end Cert.ReferenceIdeal.Gen
-- ==== Proof.RefLoopFwd.lean ====
/-
  The reference's forward loop: before its `k`-th trip the scores are the logarithms of the path weights at time `k`, and
  what each earlier step left for the way back is stored.
-/
module

public import proofs.«01_k».proof.Proof.RefPre
public import proofs.«01_k».proof.Proof.RefRun

@[expose] public section

set_option maxRecDepth 16384

noncomputable section

namespace Cert.ReferenceIdeal.Gen

open Idealize.ShloMosaic Idealize.SL.Sem Idealize.ShloMosaic.StableHlo Cert.ReferenceIdeal Cert.Ctc

/-- The state before the `k`-th trip of the forward loop. -/
structure Inv0 (V : Valuation τ sig (Elt Ideal)) (d : Data) (k : ℕ) : Prop where
  entry : B0.Entry V d.ok fun b s => d.p b k s
  emit : ∀ (t : Fin 2047) (b : Fin 64) (s : Fin 513), @Eq EReal (V (Proc.devRef .tc main_v51_0) (ix3 t b s)) (d.E b (t + 1) s : ℝ)
  exps : ∀ (j : Fin 2047), (j : ℕ) < k → ∀ (i : Fin 3) (b : Fin 64) (s : Fin 513),
    @Eq EReal (V (Proc.devRef .tc main_v51_9) (ix4 j i b s)) ((pred (d.ok b) (d.p b j) i s / mxp (d.ok b) (d.p b j) s : ℝ) : EReal)
  den : ∀ (j : Fin 2047), (j : ℕ) < k → ∀ (b : Fin 64) (s : Fin 513),
    @Eq EReal (V (Proc.devRef .tc main_v51_10) (ix3 j b s)) ((tot (d.ok b) (d.p b j) s / mxp (d.ok b) (d.p b j) s : ℝ) : EReal)
  count : ∀ (j : Fin 2047), (j : ℕ) < k → ∀ (b : Fin 64) (s : Fin 513),
    @LT.lt EReal _ 0 (V (Proc.devRef .tc main_v51_8) (ix3 j b s))

variable {V : Valuation τ sig (Elt Ideal)} {d : Data}

/-- The state is that of these buffers alone. -/
theorem Inv0.congr {V' : Valuation τ sig (Elt Ideal)} {k : ℕ} (h : Inv0 V d k)
    (e0 : V' (Proc.devRef .tc main_v51_0) = V (Proc.devRef .tc main_v51_0))
    (e1 : V' (Proc.devRef .tc main_v51_1) = V (Proc.devRef .tc main_v51_1))
    (e2 : V' (Proc.devRef .tc main_v51_2) = V (Proc.devRef .tc main_v51_2))
    (e3 : V' (Proc.devRef .tc main_v51_3) = V (Proc.devRef .tc main_v51_3))
    (e4 : V' (Proc.devRef .tc main_v51_4) = V (Proc.devRef .tc main_v51_4))
    (e6 : V' (Proc.devRef .tc main_v51_6) = V (Proc.devRef .tc main_v51_6))
    (e8 : V' (Proc.devRef .tc main_v51_8) = V (Proc.devRef .tc main_v51_8))
    (e9 : V' (Proc.devRef .tc main_v51_9) = V (Proc.devRef .tc main_v51_9))
    (e10 : V' (Proc.devRef .tc main_v51_10) = V (Proc.devRef .tc main_v51_10)) : Inv0 V' d k where
  entry := {
    two := h.entry.two
    pos := h.entry.pos
    score := fun b s => (congrFun e6 _).trans (h.entry.score b s)
    skip := fun b s => (congrFun e3 _).trans (h.entry.skip b s)
    neg1 := fun b s => (congrFun e1 _).trans (h.entry.neg1 b s)
    neg2 := fun b s => (congrFun e2 _).trans (h.entry.neg2 b s)
    neg4 := fun b s => (congrFun e4 _).trans (h.entry.neg4 b s) }
  emit := fun t b s => (congrFun e0 _).trans (h.emit t b s)
  exps := fun j hj i b s => (congrFun e9 _).trans (h.exps j hj i b s)
  den := fun j hj b s => (congrFun e10 _).trans (h.den j hj b s)
  count := fun j hj b s => lt_of_lt_of_eq (h.count j hj b s) (congrFun e8 _).symm

theorem Inv0.cond {k : ℕ} (h : Inv0 V d k) : Inv0 (after cond0 V) d k :=
  h.congr (cond0_keep _ _ (by decide +kernel)) (cond0_keep _ _ (by decide +kernel)) (cond0_keep _ _ (by decide +kernel))
    (cond0_keep _ _ (by decide +kernel)) (cond0_keep _ _ (by decide +kernel)) (cond0_keep _ _ (by decide +kernel))
    (cond0_keep _ _ (by decide +kernel)) (cond0_keep _ _ (by decide +kernel)) (cond0_keep _ _ (by decide +kernel))

/-- One trip. -/
theorem Inv0.step {k : ℕ} (h : Inv0 V d k) (hk : k < 2047) (hc : B0.Ctr V k) : Inv0 (after B0.ops V) d (k + 1) where
  entry := {
    two := h.entry.two
    pos := fun b s => Data.p_nonneg b (k + 1) s
    score := fun b s => B0.score_at h.entry hk hc (e := fun b s => d.E b (k + 1) s) (fun b s => h.emit ⟨k, hk⟩ b s) b s
    skip := fun b s => (congrFun (after_unwritten B0.W B0.hW (by decide +kernel) V) _).trans (h.entry.skip b s)
    neg1 := fun b s => (congrFun (after_unwritten B0.W B0.hW (by decide +kernel) V) _).trans (h.entry.neg1 b s)
    neg2 := fun b s => (congrFun (after_unwritten B0.W B0.hW (by decide +kernel) V) _).trans (h.entry.neg2 b s)
    neg4 := fun b s => (congrFun (after_unwritten B0.W B0.hW (by decide +kernel) V) _).trans (h.entry.neg4 b s) }
  emit := fun t b s => (congrFun (after_unwritten B0.W B0.hW (by decide +kernel) V) _).trans (h.emit t b s)
  exps := fun j hj i b s => by
    refine (B0.stored_exp h.entry hk hc j i b s).trans ?_
    by_cases e : (j : ℕ) = k
    · rw [if_pos e, e]
    · rw [if_neg e]; exact h.exps j (by omega) i b s
  den := fun j hj b s => by
    refine (B0.stored_den h.entry hk hc j b s).trans ?_
    by_cases e : (j : ℕ) = k
    · rw [if_pos e, e]
    · rw [if_neg e]; exact h.den j (by omega) b s
  count := fun j hj b s => by
    rcases B0.stored_count h.entry hk hc j b s with e | e
    · exact e.2
    · exact lt_of_lt_of_eq (h.count j (by omega) b s) e.2.symm

variable (m : (ℓ : Loc nD τ sig) → Buf (Elt Ideal) ℓ) (c : Dev nD)

theorem at0_inv (h : Holds (launchContents m c) d) (hd : d.Ok) : ∀ k, k ≤ 2047 → Inv0 (at0 m k c) d k
  | 0, _ => by
    rw [at0_zero, in0_eq]
    exact {
      entry := Pre.entry h hd
      emit := Pre.emit_at h hd
      exps := fun j hj => absurd hj (by omega)
      den := fun j hj => absurd hj (by omega)
      count := fun j hj => absurd hj (by omega) }
  | k + 1, hk => by
    rw [at0_succ]
    refine (at0_inv h hd k (by omega)).cond.step (by omega) ?_
    exact (cond0_keep _ _ (by decide +kernel)).trans (at0_ctr m c k)

/-- A buffer neither the loop nor its condition writes. -/
theorem at0_keep (r : Ref sig .tc) (h : r ∉ B0.W) (h' : r ∉ cond0_W) : ∀ k, at0 m k c (Proc.devRef .tc r) = in0 m c (Proc.devRef .tc r)
  | 0 => rfl
  | k + 1 => by rw [at0_succ, after_unwritten B0.W B0.hW h, cond0_keep _ _ h', at0_keep r h h' k]

theorem at1_keep (r : Ref sig .tc) (h : r ∉ B1.W) (h' : r ∉ cond1_W) : ∀ k, at1 m k c (Proc.devRef .tc r) = in1 m c (Proc.devRef .tc r)
  | 0 => rfl
  | k + 1 => by rw [at1_succ, after_unwritten B1.W B1.hW h, cond1_keep _ _ h', at1_keep r h h' k]

end Cert.ReferenceIdeal.Gen

end
-- ==== Proof.RefMid.lean ====
/-
  What the reference makes between its loops, at an index: how the logarithm of the end's weight depends on each state's score.
-/
module

public import proofs.«01_k».proof.Proof.RefLoopFwd

@[expose] public section

set_option maxRecDepth 16384

noncomputable section

namespace Cert.ReferenceIdeal.Gen

open Idealize.ShloMosaic Idealize.SL.Sem Idealize.ShloMosaic.StableHlo Cert.ReferenceIdeal Cert.Ctc

/-- The word for zero. -/
theorem ofBits_zero : Ideal.ofBits .f32 0#32 = (0 : EReal) := by
  simp [Ideal.ofBits, Ideal.ieee]

/-- The weights of a sum of two exponentials; what passes through their maximum cancels. -/
theorem end_exp {x y : ℝ} (hx : 0 < x) (hy : 0 < y) :
    Ideal.exp (L x - max (L x) (L y)) = ((x / max x y : ℝ) : EReal)
      ∧ Ideal.exp (L y - max (L x) (L y)) = ((y / max x y : ℝ) : EReal) := by
  rw [L_max hx.le hy.le]
  exact ⟨exp_L_sub hx.le (le_max_left x y), exp_L_sub hy.le (le_max_right x y)⟩

theorem end_share {x y : ℝ} (hx : 0 < x) (hy : 0 < y) (w : EReal) :
    Ideal.div 1 (((x / max x y : ℝ) : EReal) + ((y / max x y : ℝ) : EReal)) * ((y / max x y : ℝ) : EReal)
        + (1 + -(Ideal.div 1 (((x / max x y : ℝ) : EReal) + ((y / max x y : ℝ) : EReal)) * ((y / max x y : ℝ) : EReal))
          + -(Ideal.div 1 (((x / max x y : ℝ) : EReal) + ((y / max x y : ℝ) : EReal)) * ((x / max x y : ℝ) : EReal))) * w
      = ((y / (x + y) : ℝ) : EReal)
    ∧ Ideal.div 1 (((x / max x y : ℝ) : EReal) + ((y / max x y : ℝ) : EReal)) * ((x / max x y : ℝ) : EReal)
        + (1 + -(Ideal.div 1 (((x / max x y : ℝ) : EReal) + ((y / max x y : ℝ) : EReal)) * ((y / max x y : ℝ) : EReal))
          + -(Ideal.div 1 (((x / max x y : ℝ) : EReal) + ((y / max x y : ℝ) : EReal)) * ((x / max x y : ℝ) : EReal))) * w
      = ((x / (x + y) : ℝ) : EReal) := by
  have hM : 0 < max x y := hx.trans_le (le_max_left x y)
  have hs : 0 < x + y := by linarith
  have hq : x / max x y + y / max x y ≠ 0 := by positivity
  have e1 : Ideal.div 1 (((x / max x y : ℝ) : EReal) + ((y / max x y : ℝ) : EReal))
      = ((1 / (x / max x y + y / max x y) : ℝ) : EReal) := by
    rw [← EReal.coe_add]; exact div_coe hq
  have ey : 1 / (x / max x y + y / max x y) * (y / max x y) = y / (x + y) := by
    field_simp
  have ex : 1 / (x / max x y + y / max x y) * (x / max x y) = x / (x + y) := by
    field_simp
  rw [e1, ← EReal.coe_mul, ← EReal.coe_mul, ey, ex]
  have e0 : (1 + -((y / (x + y) : ℝ) : EReal) + -((x / (x + y) : ℝ) : EReal)) = 0 := by
    rw [← EReal.coe_one, ← EReal.coe_neg, ← EReal.coe_neg, ← EReal.coe_add, ← EReal.coe_add, ← EReal.coe_zero]
    congr 1
    field_simp
    ring
  rw [e0, zero_mul, add_zero, add_zero]
  exact ⟨rfl, rfl⟩

/-- One number added for each sequence, at the state its words name. -/
theorem scatter2_at (x : FVec Ideal S64x513 .f32) (hx : ∀ i, @Eq EReal (x i) 0) (idx : IVec S64x2 32) (upd : FVec Ideal S64 .f32) (n : Fin 64 → ℕ)
    (h0 : ∀ b : Fin 64, (idx (ix2 b 0)).toInt = b) (h1 : ∀ b : Fin 64, (idx (ix2 b 1)).toInt = n b) (b : Fin 64) (s : Fin 513) :
    @Eq EReal (Host.scatterAdd scatter_S64x513_S64x2_S64_n_01_01_1 x idx upd (ix2 b s)) (if (s : ℕ) = n b then upd (ix1 b) else 0) := by
  have e : @Eq EReal (Host.scatterAdd scatter_S64x513_S64x2_S64_n_01_01_1 x idx upd (ix2 b s))
      (x (ix2 b s) + ∑ j ∈ Finset.univ.filter (fun j => scatter_S64x513_S64x2_S64_n_01_01_1.resultIdx? j idx = some (ix2 b s)), upd j) := rfl
  refine e.trans ?_
  rw [hx, zero_add, Finset.sum_filter]
  have hl : ∀ b', scatter_S64x513_S64x2_S64_n_01_01_1.resultIdx? (ix1 b') idx = some (ix2 b s) ↔ b' = b ∧ (s : ℕ) = n b' := by
    intro b'
    rw [lands2, h0, h1]
    constructor
    · intro h; exact ⟨Fin.ext (by exact_mod_cast h.1), by exact_mod_cast h.2.symm⟩
    · intro h; exact ⟨by rw [h.1], by rw [h.2]⟩
  refine (Finset.sum_eq_single (ix1 b) ?_ ?_).trans ?_
  · intro j _ hj
    refine if_neg fun h => hj ?_
    rw [eq_ix1 j] at h ⊢
    rw [((hl _).1 h).1]
  · intro h; exact absurd (Finset.mem_univ _) h
  · refine if_congr ((hl b).trans (and_iff_right rfl)) rfl rfl

namespace Mid

/-- What the section reads. -/
structure Entry (V : Valuation τ sig (Elt Ideal)) (d : Data) : Prop where
  row : ∀ b : Fin 64, @Eq (BitVec 32) (V (Proc.devRef .tc main_v0) (ix1 b)) (BitVec.ofNat 32 b)
  tl : ∀ b, @Eq (BitVec 32) (V (Proc.devRef .tc main_arg3) (ix1 b)) (d.tl b)
  score : ∀ (b : Fin 64) (s : Fin 513), @Eq EReal (V (Proc.devRef .tc main_v51_6) (ix2 b s)) (L (d.p b 2047 s))

variable {V : Valuation τ sig (Elt Ideal)} {d : Data}

theorem row66 (h : Entry V d) (b : Fin 64) :
    @Eq (BitVec 32) (after ops V (Proc.devRef .tc main_v66) (ix2 b 0)) (BitVec.ofNat 32 b) := by
  rw [e_main_v66, e_main_v64, e_main_v58, e_main_v57, e_main_v56, e_main_v55, e_main_v54, e_main_c_18, e_main_c_19]
  pointwise
  rw [h.row b]
  refine Routing.wrap_of_lt _ _ ?_
  have := b.isLt
  rw [BitVec.toNat_ofNat]; omega

theorem row82 (h : Entry V d) (b : Fin 64) :
    @Eq (BitVec 32) (after ops V (Proc.devRef .tc main_v82) (ix2 b 0)) (BitVec.ofNat 32 b) := by
  rw [e_main_v82, e_main_v80, e_main_v74, e_main_v73, e_main_v72, e_main_v71, e_main_v70, e_main_c_23, e_main_c_24]
  pointwise
  rw [h.row b]
  refine Routing.wrap_of_lt _ _ ?_
  have := b.isLt
  rw [BitVec.toNat_ofNat]; omega

theorem two_tl (h : Entry V d) (hd : d.Ok) (b : Fin 64) :
    @Eq (BitVec 32) (after ops V (Proc.devRef .tc main_v53) (ix1 b)) (BitVec.ofNat 32 (d.hi b)) := by
  rw [e_main_v53, e_main_v52, e_main_c_17]
  pointwise
  rw [h.tl b]
  have := hd.tl2 b
  unfold Data.hi
  apply BitVec.eq_of_toNat_eq
  simp only [IntOp.muli, BitVec.toNat_mul, BitVec.toNat_ofNat]

theorem col66 (h : Entry V d) (hd : d.Ok) (b : Fin 64) :
    @Eq (BitVec 32) (after ops V (Proc.devRef .tc main_v66) (ix2 b 1)) (BitVec.ofNat 32 (d.hi b)) := by
  rw [e_main_v66, e_main_v65, e_main_v63, e_main_v62, e_main_v61, e_main_v60, e_main_v59, e_main_c_20, e_main_c_21]
  pointwise
  rw [two_tl h hd]
  refine Routing.wrap_of_lt _ _ ?_
  have := hd.tl2 b
  rw [BitVec.toNat_ofNat]; unfold Data.hi; omega

theorem col82 (h : Entry V d) (hd : d.Ok) (b : Fin 64) :
    @Eq (BitVec 32) (after ops V (Proc.devRef .tc main_v82) (ix2 b 1)) (BitVec.ofNat 32 (d.hi b - 1)) := by
  rw [e_main_v82, e_main_v81, e_main_v79, e_main_v78, e_main_v77, e_main_v76, e_main_v75, e_main_c_25, e_main_c_26,
    e_main_v69, e_main_v68, e_main_c_22]
  pointwise
  rw [two_tl h hd]
  have h1 := hd.tl1 b
  have h2 := hd.tl2 b
  have e : IntOp.subi (BitVec.ofNat 32 (d.hi b)) 1#32 = BitVec.ofNat 32 (d.hi b - 1) := by
    unfold Data.hi
    apply BitVec.eq_of_toNat_eq
    simp only [IntOp.subi, BitVec.toNat_sub, BitVec.toNat_ofNat]
    omega
  rw [e]
  refine Routing.wrap_of_lt _ _ ?_
  rw [BitVec.toNat_ofNat]; unfold Data.hi; omega

theorem hi_lt (hd : d.Ok) (b : Fin 64) : d.hi b < 513 := by
  have := hd.tl2 b
  unfold Data.hi; omega

theorem hi_pos (hd : d.Ok) (b : Fin 64) : 2 ≤ d.hi b := by
  have := hd.tl1 b
  unfold Data.hi; omega

theorem p_hi_pos (hd : d.Ok) (b : Fin 64) : 0 < d.p b 2047 (d.hi b) ∧ 0 < d.p b 2047 (d.hi b - 1) := by
  have := hi_lt hd b
  exact ⟨P_pos _ _ (by omega), P_pos _ _ (by omega)⟩

theorem a_at (h : Entry V d) (hd : d.Ok) (b : Fin 64) :
    @Eq EReal (after ops V (Proc.devRef .tc main_v67) (ix1 b)) (L (d.p b 2047 (d.hi b))) := by
  rw [e_main_v67]
  have := hi_lt hd b
  refine (gather2_at _ _ b b ⟨d.hi b, hi_lt hd b⟩ ?_ ?_).trans (h.score b _)
  · exact (congrArg BitVec.toInt (row66 h b)).trans (nat_toInt (by omega))
  · exact (congrArg BitVec.toInt (col66 h hd b)).trans (nat_toInt (by omega))

theorem b_at (h : Entry V d) (hd : d.Ok) (b : Fin 64) :
    @Eq EReal (after ops V (Proc.devRef .tc main_v83) (ix1 b)) (L (d.p b 2047 (d.hi b - 1))) := by
  rw [e_main_v83]
  have := hi_lt hd b
  refine (gather2_at _ _ b b ⟨d.hi b - 1, by omega⟩ ?_ ?_).trans (h.score b _)
  · exact (congrArg BitVec.toInt (row82 h b)).trans (nat_toInt (by omega))
  · exact (congrArg BitVec.toInt (col82 h hd b)).trans (nat_toInt (by omega))

theorem share_b (h : Entry V d) (hd : d.Ok) (b : Fin 64) :
    @Eq EReal (after ops V (Proc.devRef .tc main_v116) (ix1 b))
      ((d.p b 2047 (d.hi b - 1) / (d.p b 2047 (d.hi b) + d.p b 2047 (d.hi b - 1)) : ℝ) : EReal) := by
  rw [e_main_v116, e_main_v115, e_main_v114, e_main_v113, e_main_v112, e_main_v111, e_main_v110, e_main_v109, e_main_v108,
    e_main_v107, e_main_v103, e_main_v102, e_main_v101, e_main_v100, e_main_v99, e_main_v84, e_main_cst_34]
  pointwise
  rw [a_at h hd, b_at h hd]
  have ha := p_hi_pos hd b
  rw [(end_exp ha.1 ha.2).1, (end_exp ha.1 ha.2).2]
  exact (end_share ha.1 ha.2 _).1

theorem share_a (h : Entry V d) (hd : d.Ok) (b : Fin 64) :
    @Eq EReal (after ops V (Proc.devRef .tc main_v118) (ix1 b))
      ((d.p b 2047 (d.hi b) / (d.p b 2047 (d.hi b) + d.p b 2047 (d.hi b - 1)) : ℝ) : EReal) := by
  rw [e_main_v118, e_main_v117, e_main_v114, e_main_v113, e_main_v112, e_main_v111, e_main_v110, e_main_v109, e_main_v108,
    e_main_v107, e_main_v103, e_main_v102, e_main_v101, e_main_v100, e_main_v99, e_main_v84, e_main_cst_34]
  pointwise
  rw [a_at h hd, b_at h hd]
  have ha := p_hi_pos hd b
  rw [(end_exp ha.1 ha.2).1, (end_exp ha.1 ha.2).2]
  exact (end_share ha.1 ha.2 _).2

theorem init_at (h : Entry V d) (hd : d.Ok) (b : Fin 64) (s : Fin 513) :
    @Eq EReal (after ops V (Proc.devRef .tc main_v123) (ix2 b s)) (d.init b s : ℝ) := by
  rw [e_main_v123, e_main_v122, e_main_v121, e_main_cst_36, e_main_v120, e_main_v119, e_main_cst_35]
  pointwise
  have := hi_lt hd b
  have z : ∀ i, @Eq EReal (broadcastInDim S64x513 ![] bcast_S_S64x513 (constant (F := Ideal) S_ FTy.f32 0#32) i) 0 := fun i => ofBits_zero
  have r82 : ∀ b : Fin 64, (after ops V (Proc.devRef .tc main_v82) (ix2 b 0)).toInt = ((b : ℕ) : ℤ) := fun b =>
    (congrArg BitVec.toInt (row82 h b)).trans (nat_toInt (by omega))
  have c82 : ∀ b : Fin 64, (after ops V (Proc.devRef .tc main_v82) (ix2 b 1)).toInt = ((d.hi b - 1 : ℕ) : ℤ) := fun b =>
    (congrArg BitVec.toInt (col82 h hd b)).trans (nat_toInt (by have := hi_lt hd b; omega))
  have r66 : ∀ b : Fin 64, (after ops V (Proc.devRef .tc main_v66) (ix2 b 0)).toInt = ((b : ℕ) : ℤ) := fun b =>
    (congrArg BitVec.toInt (row66 h b)).trans (nat_toInt (by omega))
  have c66 : ∀ b : Fin 64, (after ops V (Proc.devRef .tc main_v66) (ix2 b 1)).toInt = ((d.hi b : ℕ) : ℤ) := fun b =>
    (congrArg BitVec.toInt (col66 h hd b)).trans (nat_toInt (by have := hi_lt hd b; omega))
  refine (congrArg₂ (· + ·) (scatter2_at _ z _ _ (fun b => d.hi b - 1) r82 c82 b s) (scatter2_at _ z _ _ (fun b => d.hi b) r66 c66 b s)).trans ?_
  rw [share_a h hd, share_b h hd]
  unfold Data.init wt
  rw [EReal.coe_add, add_comm]
  refine congrArg₂ (· + ·) ?_ ?_
  · split <;> rfl
  · split <;> rfl

end Mid

end Cert.ReferenceIdeal.Gen

end
-- ==== Proof.RefLoopBwd.lean ====
/-
  The reference's backward loop: before its `k`-th trip the cotangent is that of the scores `k` steps before the end, and the
  rows of the gradient above are stored.
-/
module

public import proofs.«01_k».proof.Proof.RefMid

@[expose] public section

set_option maxRecDepth 16384

noncomputable section

namespace Cert.Ctc.Data

/-- The cotangent of the scores `k` steps before the end. -/
def cot (d : Data) (b : Fin 64) (k s : ℕ) : ℝ := C (d.E b) (d.ok b) 2047 513 (d.init b) k s

theorem cot_zero (d : Data) (b : Fin 64) {k s : ℕ} (hk : k < 2047) (hs : s < 513)
    (h : tot (d.ok b) (d.p b (2046 - k)) s = 0) : d.cot b k s = 0 := by
  refine C_zero (fun s hs h0 => absurd h0 (P_pos _ _ (by omega)).ne') k (by omega) s hs ?_
  have e : 2047 - k = (2046 - k) + 1 := by omega
  rw [e]
  exact tot_eq_zero_of h

end Cert.Ctc.Data

namespace Cert.ReferenceIdeal.Gen

open Idealize.ShloMosaic Idealize.SL.Sem Idealize.ShloMosaic.StableHlo Cert.ReferenceIdeal Cert.Ctc

/-- The state before the `k`-th trip of the backward loop. -/
structure Inv1 (V : Valuation τ sig (Elt Ideal)) (d : Data) (k : ℕ) : Prop where
  skip : ∀ (b : Fin 64) (s : Fin 513), @Eq (BitVec 1) (V (Proc.devRef .tc main_v125_6) (ix2 b s)) (BitVec.ofBool (d.ok b s))
  cot : ∀ (b : Fin 64) (s : Fin 513), @Eq EReal (V (Proc.devRef .tc main_v125_9) (ix2 b s)) (d.cot b k s : ℝ)
  exps : ∀ (j : Fin 2047) (i : Fin 3) (b : Fin 64) (s : Fin 513),
    @Eq EReal (V (Proc.devRef .tc main_v125_2) (ix4 j i b s)) ((pred (d.ok b) (d.p b j) i s / mxp (d.ok b) (d.p b j) s : ℝ) : EReal)
  den : ∀ (j : Fin 2047) (b : Fin 64) (s : Fin 513),
    @Eq EReal (V (Proc.devRef .tc main_v125_3) (ix3 j b s)) ((tot (d.ok b) (d.p b j) s / mxp (d.ok b) (d.p b j) s : ℝ) : EReal)
  count : ∀ (j : Fin 2047) (b : Fin 64) (s : Fin 513), @LT.lt EReal _ 0 (V (Proc.devRef .tc main_v125_1) (ix3 j b s))
  rows : ∀ (j : Fin 2047), 2047 ≤ (j : ℕ) + k → ∀ (b : Fin 64) (s : Fin 513),
    @Eq EReal (V (Proc.devRef .tc main_v125_10) (ix3 j b s)) (d.cot b (2046 - j) s : ℝ)

variable {V : Valuation τ sig (Elt Ideal)} {d : Data}

theorem Inv1.cond {k : ℕ} (h : Inv1 V d k) : Inv1 (after cond1 V) d k where
  skip := fun b s => (congrFun (cond1_keep _ _ (by decide +kernel)) _).trans (h.skip b s)
  cot := fun b s => (congrFun (cond1_keep _ _ (by decide +kernel)) _).trans (h.cot b s)
  exps := fun j i b s => (congrFun (cond1_keep _ _ (by decide +kernel)) _).trans (h.exps j i b s)
  den := fun j b s => (congrFun (cond1_keep _ _ (by decide +kernel)) _).trans (h.den j b s)
  count := fun j b s => lt_of_lt_of_eq (h.count j b s) (congrFun (cond1_keep V main_v125_1 (by decide +kernel)) _).symm
  rows := fun j hj b s => (congrFun (cond1_keep _ _ (by decide +kernel)) _).trans (h.rows j hj b s)

/-- What a trip is entered with. -/
theorem Inv1.toEntry {k : ℕ} (h : Inv1 V d k) (hk : k < 2047) (hc : V (Proc.devRef .tc main_v125_8) = fun _ => Scf.iv 0#32 1#32 k) :
    B1.Entry V d.ok (fun b s => d.p b (2046 - k) s) (fun b s => d.cot b k s) ⟨2046 - k, by omega⟩ where
  pos := fun b s => Data.p_nonneg b _ s
  ctr := by
    have e : 2046 - (2046 - k) = k := by omega
    show _ = fun _ => Scf.iv 0#32 1#32 (2046 - (2046 - k))
    rw [e]; exact hc
  skip := h.skip
  cot := h.cot
  exps := h.exps _
  den := h.den _
  count := h.count _
  zero := fun b s ht => d.cot_zero b hk s.isLt ht

/-- One trip. -/
theorem Inv1.step {k : ℕ} (h : Inv1 V d k) (hk : k < 2047) (hc : V (Proc.devRef .tc main_v125_8) = fun _ => Scf.iv 0#32 1#32 k) :
    Inv1 (after B1.ops V) d (k + 1) where
  skip := fun b s => (congrFun (after_unwritten B1.W B1.hW (by decide +kernel) V) _).trans (h.skip b s)
  cot := fun b s => B1.cot_at (h.toEntry hk hc) b s
  exps := fun j i b s => (congrFun (after_unwritten B1.W B1.hW (by decide +kernel) V) _).trans (h.exps j i b s)
  den := fun j b s => (congrFun (after_unwritten B1.W B1.hW (by decide +kernel) V) _).trans (h.den j b s)
  count := fun j b s => lt_of_lt_of_eq (h.count j b s) (congrFun (after_unwritten B1.W B1.hW (r := main_v125_1) (by decide +kernel) V) _).symm
  rows := fun j hj b s => by
    refine (B1.stored_at (h.toEntry hk hc) j b s).trans ?_
    by_cases e : (j : ℕ) = 2046 - k
    · rw [if_pos e]
      have e' : 2046 - (j : ℕ) = k := by omega
      rw [e']
    · rw [if_neg e]; exact h.rows j (by omega) b s

variable (m : (ℓ : Loc nD τ sig) → Buf (Elt Ideal) ℓ) (c : Dev nD)

/-- What the section between the loops is entered with. -/
theorem mid_entry (h : Holds (launchContents m c) d) (hd : d.Ok) : Mid.Entry (after cond0 (at0 m 2047 c)) d where
  row := fun b => by
    rw [cond0_keep _ _ (by decide +kernel), at0_keep m c _ (by decide +kernel) (by decide +kernel), in0_eq, Pre.e_main_v0]
    rfl
  tl := fun b => by
    rw [cond0_keep _ _ (by decide +kernel), at0_keep m c _ (by decide +kernel) (by decide +kernel), in0_eq,
      after_unwritten Pre.W Pre.hW (by decide +kernel)]
    exact h.tl b
  score := fun b s => (at0_inv m c h hd 2047 le_rfl).cond.entry.score b s

theorem in1_inv (h : Holds (launchContents m c) d) (hd : d.Ok) : Inv1 (in1 m c) d 0 := by
  have i := (at0_inv m c h hd 2047 le_rfl).cond
  rw [in1_eq]
  exact {
    skip := fun b s => by
      rw [Mid.e_main_v125_6, id_eq, cond0_keep _ _ (by decide +kernel), at0_keep m c _ (by decide +kernel) (by decide +kernel), in0_eq]
      exact Pre.skip_at h hd b s
    cot := fun b s => by
      rw [Mid.e_main_v125_9, id_eq]
      exact Mid.init_at (mid_entry m c h hd) hd b s
    exps := fun j i' b s => by
      rw [Mid.e_main_v125_2, id_eq]; exact i.exps j j.isLt i' b s
    den := fun j b s => by
      rw [Mid.e_main_v125_3, id_eq]; exact i.den j j.isLt b s
    count := fun j b s => by
      rw [Mid.e_main_v125_1, id_eq]; exact i.count j j.isLt b s
    rows := fun j hj => absurd hj (by omega) }

theorem at1_inv (h : Holds (launchContents m c) d) (hd : d.Ok) : ∀ k, k ≤ 2047 → Inv1 (at1 m k c) d k
  | 0, _ => in1_inv m c h hd
  | k + 1, hk => by
    rw [at1_succ]
    refine (at1_inv h hd k (by omega)).cond.step (by omega) ?_
    exact (cond1_keep _ _ (by decide +kernel)).trans (at1_ctr m c k)

end Cert.ReferenceIdeal.Gen

end
-- ==== Proof.RefPost.lean ====
/-
  The reference's result: the gradient, gathered by label, times the log probabilities, summed and scaled.
-/
module

public import proofs.«01_k».proof.Proof.RefLoopBwd

@[expose] public section

set_option maxRecDepth 16384

noncomputable section

namespace Cert.Ctc

theorem coe_sum {ι : Type*} (s : Finset ι) (f : ι → ℝ) : ((∑ i ∈ s, f i : ℝ) : EReal) = ∑ i ∈ s, ((f i : ℝ) : EReal) := by
  classical
  induction s using Finset.induction_on with
  | empty => rw [Finset.sum_empty, Finset.sum_empty]; rfl
  | insert a s ha ih => rw [Finset.sum_insert ha, Finset.sum_insert ha, EReal.coe_add, ih]

/-- A sum of what lands at each index, times a number there, is the sum over what lands. -/
theorem sum_landed {I J : Type*} [Fintype I] [Fintype J] [DecidableEq I] (r : J → Option I) (f : J → I) (hr : ∀ j i, r j = some i ↔ f j = i)
    (u : J → ℝ) (x : I → ℝ) :
    ∑ i, (∑ j ∈ Finset.univ.filter (fun j => r j = some i), u j) * x i = ∑ j, u j * x (f j) := by
  simp only [Finset.sum_mul, Finset.sum_filter]
  rw [Finset.sum_comm]
  refine Finset.sum_congr rfl fun j _ => ?_
  refine (Finset.sum_eq_single (f j) ?_ ?_).trans ?_
  · intro i _ hi
    rw [if_neg fun h => hi ((hr j i).1 h).symm, zero_mul]
  · intro h; exact absurd (Finset.mem_univ _) h
  · rw [if_pos ((hr j _).2 rfl)]

namespace Data

/-- A row of the gradient by states. -/
def grad (d : Data) (b : Fin 64) (r s : ℕ) : ℝ := G (d.E b) (d.ok b) 2047 513 (d.init b) r s

end Data

end Cert.Ctc

namespace Cert.ReferenceIdeal.Gen

open Idealize.ShloMosaic Idealize.SL.Sem Idealize.ShloMosaic.StableHlo Cert.ReferenceIdeal Cert.Ctc

namespace Post

/-- What the section reads. -/
structure Entry (V : Valuation τ sig (Elt Ideal)) (d : Data) : Prop where
  rows : ∀ (j : Fin 2047) (b : Fin 64) (s : Fin 513), @Eq EReal (V (Proc.devRef .tc main_v125_10) (ix3 j b s)) (d.cot b (2046 - j) s : ℝ)
  cot : ∀ (b : Fin 64) (s : Fin 513), @Eq EReal (V (Proc.devRef .tc main_v125_9) (ix2 b s)) (d.cot b 2047 s : ℝ)
  low : ∀ (b : Fin 64) (s : Fin 513), @Eq (BitVec 1) (V (Proc.devRef .tc main_v38_1) (ix2 b s)) (BitVec.ofBool (decide ((s : ℕ) < 2)))
  row : ∀ (b : Fin 64) (s : Fin 513), @Eq (BitVec 32) (V (Proc.devRef .tc main_v31) (ix3 b s 0)) (BitVec.ofNat 32 b)
  col : ∀ (b : Fin 64) (s : Fin 513), @Eq (BitVec 32) (V (Proc.devRef .tc main_v31) (ix3 b s 1)) (BitVec.ofNat 32 (d.lab b s))
  x : ∀ t b n, @Eq EReal (V (Proc.devRef .tc main_arg0) (ix3 t b n)) (d.x t b n)

variable {V : Valuation τ sig (Elt Ideal)} {d : Data}

theorem grad_at (h : Entry V d) (r : Fin 2048) (b : Fin 64) (s : Fin 513) :
    @Eq EReal (after ops V (Proc.devRef .tc main_v130) (ix3 r b s)) (d.grad b r s : ℝ) := by
  rw [e_main_v130, e_main_v129, e_main_v128, e_main_v127, e_main_v126, e_main_call14_v0, e_main_call14_cst, e_main_cst_39, e_main_cst_40]
  clean_types
  pointwise
  have hr := r.isLt
  unfold Data.grad G
  by_cases h0 : (r : ℕ) = 0
  · rw [if_pos h0]
    refine (congrArg₂ (· + ·) (dif_neg (by omega)) (dif_pos (by omega))).trans ?_
    rw [h.low, h.cot, zero_add]
    by_cases hs : (s : ℕ) < 2
    · rw [decide_eq_true hs, if_pos hs]; rfl
    · rw [decide_eq_false hs, if_neg hs]; rfl
  · rw [if_neg h0]
    refine (congrArg₂ (· + ·) (dif_pos (by omega)) (dif_neg (by omega))).trans ?_
    refine (add_zero _).trans ((h.rows ⟨(r : ℕ) - 1, by omega⟩ b s).trans ?_)
    have e : 2046 - ((r : ℕ) - 1) = 2047 - r := by omega
    show ((d.cot b (2046 - ((r : ℕ) - 1)) s : ℝ) : EReal) = _
    rw [e]; rfl

theorem total_at (h : Entry V d) (hd : d.Ok) :
    @Eq EReal (after ops V (Proc.devRef .tc main_v134) ix0)
      ((∑ b : Fin 64, ∑ r ∈ Finset.range 2048, ∑ s ∈ Finset.range 513, d.grad b r s * d.E b r s : ℝ) : EReal) := by
  rw [e_main_v134, e_main_v133, e_main_v132, e_main_v131, e_main_cst_41, e_main_cst_42]
  clean_types
  pointwise
  refine (sum_idx3 (fun i : S2048x64x128.Idx => @HMul.hMul EReal EReal EReal _ (Host.scatterAdd scatter_S2048x64x128_S64x513x2_S2048x64x513_0_12_12_2
      (broadcastInDim S2048x64x128 ![] bcast_S_S2048x64x128 (constant (F := Ideal) S_ FTy.f32 0#32))
      (V (Proc.devRef .tc main_v31)) (after ops V (Proc.devRef .tc main_v130)) i) (V (Proc.devRef .tc main_arg0) i))).symm.trans ?_
  let u : S2048x64x513.Idx → ℝ := fun j => d.grad (j 1) (j 0 : Fin 2048) (j 2 : Fin 513)
  let x : S2048x64x128.Idx → ℝ := fun i => (d.x (i 0) (i 1) (i 2)).toReal
  let f : S2048x64x513.Idx → S2048x64x128.Idx := fun j => ix3 (j 0 : Fin 2048) (j 1 : Fin 64) ⟨d.lab (j 1) (j 2 : Fin 513), Data.lab_lt hd _ _⟩
  have hx : ∀ i, @Eq EReal (V (Proc.devRef .tc main_arg0) i) (x i : ℝ) := fun i => by
    rw [eq_ix3 i]
    refine (h.x _ _ _).trans ?_
    obtain ⟨q, hq⟩ := hd.fin (i 0) (i 1) (i 2)
    show d.x (i 0) (i 1) (i 2) = ((d.x (i 0) (i 1) (i 2)).toReal : EReal)
    rw [hq, EReal.toReal_coe]
  have hu : ∀ j, @Eq EReal (after ops V (Proc.devRef .tc main_v130) j) (u j : ℝ) := fun j => by
    rw [eq_ix3 j]
    exact grad_at h _ _ _
  let U : S2048x64x513.Idx → EReal := after ops V (Proc.devRef .tc main_v130)
  have key : ∀ (S : Finset S2048x64x513.Idx) (U : S2048x64x513.Idx → EReal), (∀ j, U j = ((u j : ℝ) : EReal)) →
      ∑ j ∈ S, U j = ∑ j ∈ S, ((u j : ℝ) : EReal) := fun S U q => Finset.sum_congr rfl fun j _ => q j
  have hf : ∀ j i, scatter_S2048x64x128_S64x513x2_S2048x64x513_0_12_12_2.resultIdx? j (V (Proc.devRef .tc main_v31)) = some i ↔ f j = i := fun j i => by
    rw [eq_ix3 j, eq_ix3 i]
    refine (lands3 _ _ _ _ _ _ _).trans ?_
    have l := Data.lab_lt hd (j 1) (j 2 : Fin 513)
    have e0 : (V (Proc.devRef .tc main_v31) (ix3 (j 1 : Fin 64) (j 2 : Fin 513) 0)).toInt = (((j 1 : Fin 64) : ℕ) : ℤ) :=
      (congrArg BitVec.toInt (h.row _ _)).trans (nat_toInt (by have : ((j 1 : Fin 64) : ℕ) < 64 := (j 1 : Fin 64).isLt; omega))
    have e1 : (V (Proc.devRef .tc main_v31) (ix3 (j 1 : Fin 64) (j 2 : Fin 513) 1)).toInt = ((d.lab (j 1) (j 2 : Fin 513) : ℕ) : ℤ) :=
      (congrArg BitVec.toInt (h.col _ _)).trans (nat_toInt (by omega))
    rw [e0, e1]
    refine Iff.trans ?_ (ix3_inj _ _ _ _ _ _).symm
    refine and_congr Iff.rfl (and_congr ⟨fun q => Fin.ext (by exact_mod_cast q), fun q => congrArg (fun z : Fin 64 => ((z : ℕ) : ℤ)) q⟩ ?_)
    exact ⟨fun q => Fin.ext (by exact_mod_cast q), fun q => congrArg (fun z : Fin 128 => ((z : ℕ) : ℤ)) q⟩
  have hs : ∀ i, @Eq EReal (@HMul.hMul EReal EReal EReal _ (Host.scatterAdd scatter_S2048x64x128_S64x513x2_S2048x64x513_0_12_12_2
      (broadcastInDim S2048x64x128 ![] bcast_S_S2048x64x128 (constant (F := Ideal) S_ FTy.f32 0#32))
      (V (Proc.devRef .tc main_v31)) (after ops V (Proc.devRef .tc main_v130)) i) (V (Proc.devRef .tc main_arg0) i))
      (((∑ j ∈ Finset.univ.filter (fun j => scatter_S2048x64x128_S64x513x2_S2048x64x513_0_12_12_2.resultIdx? j (V (Proc.devRef .tc main_v31)) = some i), u j) * x i : ℝ) : EReal) :=
    fun i => by
      rw [EReal.coe_mul, coe_sum]
      refine congrArg₂ (fun a b : EReal => a * b) ?_ (hx i)
      have e : @Eq EReal (Host.scatterAdd scatter_S2048x64x128_S64x513x2_S2048x64x513_0_12_12_2
        (broadcastInDim S2048x64x128 ![] bcast_S_S2048x64x128 (constant (F := Ideal) S_ FTy.f32 0#32))
        (V (Proc.devRef .tc main_v31)) (after ops V (Proc.devRef .tc main_v130)) i)
        (Ideal.ofBits .f32 0#32 + ∑ j ∈ Finset.univ.filter (fun j => scatter_S2048x64x128_S64x513x2_S2048x64x513_0_12_12_2.resultIdx? j
          (V (Proc.devRef .tc main_v31)) = some i), U j) := rfl
      refine e.trans ?_
      rw [ofBits_zero, zero_add]
      exact key _ _ hu
  refine (Finset.sum_congr rfl fun i _ => hs i).trans ?_
  rw [← coe_sum, sum_landed _ f hf u x]
  refine congrArg (fun r : ℝ => (r : EReal)) ?_
  refine (sum_idx3 _).trans ?_
  rw [Finset.sum_comm]
  refine Finset.sum_congr rfl fun b _ => ?_
  rw [Finset.sum_range]
  refine Finset.sum_congr rfl fun r _ => ?_
  rw [Finset.sum_range]
  refine Finset.sum_congr rfl fun s _ => ?_
  show d.grad b r s * (d.x r b ⟨d.lab b s, Data.lab_lt hd _ _⟩).toReal = _
  rw [Data.E_eq hd r b s ⟨d.lab b s, Data.lab_lt hd _ _⟩ rfl, EReal.toReal_coe]

theorem result_at (h : Entry V d) (hd : d.Ok) :
    @Eq EReal (after ops V (Proc.devRef .tc main_v136) ix0) (scaled ((∑ b : Fin 64, d.contrib b : ℝ) : EReal)) := by
  rw [e_main_v136, e_main_v135, e_main_cst_43, e_main_cst_44]
  pointwise
  rw [total_at h hd]
  exact congrArg (fun r : ℝ => scaled (r : EReal)) (Data.total_eq hd)

end Post

variable (m : (ℓ : Loc nD τ sig) → Buf (Elt Ideal) ℓ) (c : Dev nD) {d : Data}

theorem post_entry (h : Holds (launchContents m c) d) (hd : d.Ok) : Post.Entry (after cond1 (at1 m 2047 c)) d := by
  have i := (at1_inv m c h hd 2047 le_rfl).cond
  have keep : ∀ r : Ref sig .tc, r ∉ B1.W → r ∉ cond1_W → r ∉ Mid.W → r ∉ B0.W → r ∉ cond0_W →
      after cond1 (at1 m 2047 c) (Proc.devRef .tc r) = in0 m c (Proc.devRef .tc r) := fun r h1 h2 h3 h4 h5 => by
    rw [cond1_keep _ _ h2, at1_keep m c r h1 h2, in1_eq, after_unwritten Mid.W Mid.hW h3, cond0_keep _ _ h5, at0_keep m c r h4 h5]
  exact {
    rows := fun j b s => i.rows j (by omega) b s
    cot := i.cot
    low := fun b s => by
      rw [keep main_v38_1 (by decide +kernel) (by decide +kernel) (by decide +kernel) (by decide +kernel) (by decide +kernel), in0_eq]
      exact Pre.low_at b s
    row := fun b s => by
      rw [keep main_v31 (by decide +kernel) (by decide +kernel) (by decide +kernel) (by decide +kernel) (by decide +kernel), in0_eq]
      exact Pre.row_at b s
    col := fun b s => by
      rw [keep main_v31 (by decide +kernel) (by decide +kernel) (by decide +kernel) (by decide +kernel) (by decide +kernel), in0_eq]
      exact Pre.col_at h hd b s
    x := fun t b n => by
      rw [keep main_arg0 (by decide +kernel) (by decide +kernel) (by decide +kernel) (by decide +kernel) (by decide +kernel), in0_eq,
        after_unwritten Pre.W Pre.hW (by decide +kernel)]
      exact h.x t b n }

/-- The reference's result is the kernel's sum. -/
theorem fin1_result (h : Holds (launchContents m c) d) (hd : d.Ok) :
    fin1 m c (Proc.devRef .tc main_v136) = fun _ => scaled ((∑ b : Fin 64, d.contrib b : ℝ) : EReal) := by
  funext j
  rw [fin1_eq]
  have e : j = ix0 := funext fun k : Fin 0 => k.elim0
  rw [e]
  exact Post.result_at (post_entry m c h hd) hd

end Cert.ReferenceIdeal.Gen

end
-- ==== Proof.KPay.lean ====
/-
  The kernel's vector arithmetic at the exact instance, read at a lane: a row's emissions, and one time step of the
  scores and of their derivatives.
-/
module

public import proofs.«01_k».proof.Proof.Gen.KernelIdeal.Frame
public import Idealize.ShloMosaic.Lib.Pointwise
public import Idealize.ShloMosaic.Lib.WordCmp
public import proofs.«01_k».proof.Proof.Data

@[expose] public section

noncomputable section

namespace Cert.KernelIdeal.Value

open Cert.KernelIdeal Cert.KernelIdeal.Gen Idealize.ShloMosaic Idealize.ShloMosaic.TcCoe Idealize.SL.Sem Cert.Ctc

/-- A label's word, wrapped as the kernel wraps it, addresses the label. -/
theorem wrap_lane {w : BitVec 32} {n : ℕ} (hn : n < 128) (h : w = BitVec.ofNat 32 n) :
    (Scalar.select (IntOp.cmpi CmpIPredicate.slt w 0#32) (IntOp.addi w 128#32) w).toNat % 128 = n := by
  subst h
  have e : IntOp.cmpi CmpIPredicate.slt (BitVec.ofNat 32 n) 0#32 = 0#1 := by
    refine (WordCmp.cmpi_slt_ofNat (by omega) (by decide)).trans ?_
    rw [decide_eq_false (by omega)]; rfl
  rw [e]
  show (BitVec.ofNat 32 n).toNat % 128 = n
  rw [BitVec.toNat_ofNat]; omega

variable (w : IVec S16x640 32) (v : Vec Ideal S1x16x128 .f32)

theorem pay8_lane (a : Fin 16) (q : Fin 128) : k0_pay8 (F := Ideal) v (ix2 a q) = v (ix3 0 a q) := by
  unfold k0_pay8; pointwise

variable {w} {v}

theorem pay9_lane {a : Fin 16} {q n : Fin 128} {s : Fin 640} (hs : (s : ℕ) = q) (h : w (ix2 a s) = BitVec.ofNat 32 n) :
    k0_pay9 (F := Ideal) w v (ix2 a q) = v (ix3 0 a n) := by
  unfold k0_pay9 k0_pay8
  pointwise
  exact congrArg v (congrArg (ix3 0 a) (Fin.ext (wrap_lane n.isLt ((congrArg (fun z => w (ix2 a z)) (Fin.ext (by simp [hs]))).trans h))))

theorem pay10_lane {a : Fin 16} {q n : Fin 128} {s : Fin 640} (hs : (s : ℕ) = 128 + q) (h : w (ix2 a s) = BitVec.ofNat 32 n) :
    k0_pay10 (F := Ideal) w v (ix2 a q) = v (ix3 0 a n) := by
  unfold k0_pay10 k0_pay8
  pointwise
  exact congrArg v (congrArg (ix3 0 a) (Fin.ext (wrap_lane n.isLt ((congrArg (fun z => w (ix2 a z)) (Fin.ext (by simp [hs]))).trans h))))

theorem pay11_lane {a : Fin 16} {q n : Fin 128} {s : Fin 640} (hs : (s : ℕ) = 256 + q) (h : w (ix2 a s) = BitVec.ofNat 32 n) :
    k0_pay11 (F := Ideal) w v (ix2 a q) = v (ix3 0 a n) := by
  unfold k0_pay11 k0_pay8
  pointwise
  exact congrArg v (congrArg (ix3 0 a) (Fin.ext (wrap_lane n.isLt ((congrArg (fun z => w (ix2 a z)) (Fin.ext (by simp [hs]))).trans h))))

theorem pay12_lane {a : Fin 16} {q n : Fin 128} {s : Fin 640} (hs : (s : ℕ) = 384 + q) (h : w (ix2 a s) = BitVec.ofNat 32 n) :
    k0_pay12 (F := Ideal) w v (ix2 a q) = v (ix3 0 a n) := by
  unfold k0_pay12 k0_pay8
  pointwise
  exact congrArg v (congrArg (ix3 0 a) (Fin.ext (wrap_lane n.isLt ((congrArg (fun z => w (ix2 a z)) (Fin.ext (by simp [hs]))).trans h))))

theorem pay13_lane {a : Fin 16} {q n : Fin 128} {s : Fin 640} (hs : (s : ℕ) = 512 + q) (h : w (ix2 a s) = BitVec.ofNat 32 n) :
    (k0_pay13 w (ix2 a q)).toNat % 128 = n := by
  unfold k0_pay13
  pointwise
  exact wrap_lane n.isLt ((congrArg (fun z => w (ix2 a z)) (Fin.ext (by simp [hs]))).trans h)

/-- The emissions of a row, concatenated from five gathers: at each state its label's. -/
theorem pay26_lane {a : Fin 16} {s : Fin 640} {n : Fin 128} (h : w (ix2 a s) = BitVec.ofNat 32 n) :
    k0_pay26 (F := Ideal) (k0_pay8 v) (k0_pay9 w v) (k0_pay10 w v) (k0_pay11 w v) (k0_pay12 w v) (k0_pay13 w) (ix2 a s)
      = v (ix3 0 a n) := by
  unfold k0_pay26
  pointwise
  have := s.isLt
  by_cases h0 : (s : ℕ) < 128
  · refine (dif_pos h0).trans (pay9_lane (s := s) rfl h)
  refine (dif_neg h0).trans ?_
  by_cases h1 : (s : ℕ) - 128 < 128
  · refine (dif_pos h1).trans (pay10_lane (s := s) (by show (s : ℕ) = 128 + (s - 128); omega) h)
  refine (dif_neg h1).trans ?_
  by_cases h2 : (s : ℕ) - 128 - 128 < 128
  · refine (dif_pos h2).trans (pay11_lane (s := s) (by show (s : ℕ) = 256 + (s - 128 - 128); omega) h)
  refine (dif_neg h2).trans ?_
  by_cases h3 : (s : ℕ) - 128 - 128 - 128 < 128
  · refine (dif_pos h3).trans (pay12_lane (s := s) (by show (s : ℕ) = 384 + (s - 128 - 128 - 128); omega) h)
  refine (dif_neg h3).trans ?_
  refine (pay8_lane v a _).trans ?_
  exact congrArg v (congrArg (ix3 0 a) (Fin.ext (pay13_lane (s := s) (by show (s : ℕ) = 512 + (s - 128 - 128 - 128 - 128); omega) h)))

theorem pay2_eq : k0_pay2 (F := Ideal) v = k0_pay8 v := rfl

/-- The same for the first row. -/
theorem pay23_lane {a : Fin 16} {s : Fin 640} {n : Fin 128} (h : w (ix2 a s) = BitVec.ofNat 32 n) :
    k0_pay23 (F := Ideal) (k0_pay3 w v) (k0_pay4 w v) (k0_pay5 w v) (k0_pay6 w v) (k0_pay7 w v) (ix2 a s)
      = v (ix3 0 a n) :=
  pay26_lane h

/-- The mask value, at the exact instance. -/
theorem log_zero : @Eq EReal (Named.named (F := Ideal) (φ := .f32) κ "log_zero" 0xF149F2CA#32) ⊥ := rfl

/-- The sequence of a row of a block. -/
def row (ib : Fin 4) (a : Fin 16) : Fin 64 := ⟨16 * ib + a, by omega⟩

variable (d : Data) (ib : Fin 4)

/-- The two carried vectors at a time: the scores, and at the reached states their derivatives. -/
def Scores (t : ℕ) (al ad : FVec Ideal S16x640 .f32) : Prop :=
  ∀ (a : Fin 16) (s : Fin 640), @Eq EReal (al (ix2 a s)) (L (d.p (row ib a) t s)) ∧
    (d.p (row ib a) t s ≠ 0 → @Eq EReal (ad (ix2 a s)) (D (d.E (row ib a)) (d.ok (row ib a)) t s : ℝ))

/-- The skip mask of a block. -/
def Skips (mc : FVec Ideal S16x640 .f32) : Prop :=
  ∀ (a : Fin 16) (s : Fin 640), @Eq EReal (mc (ix2 a s)) (if d.ok (row ib a) s then 1 else 0)

/-- The labels of a block. -/
def Labels (w : IVec S16x640 32) : Prop :=
  ∀ (a : Fin 16) (s : Fin 640), w (ix2 a s) = BitVec.ofNat 32 (d.lab (row ib a) s)

variable {d} {ib} {t : ℕ} {al ad mc : FVec Ideal S16x640 .f32}

theorem Scores.left1 (h : Scores d ib t al ad) (a : Fin 16) (s : Fin 640) :
    @Eq EReal (k0_pay27 (F := Ideal) al (ix2 a s)) (L (sh1 (d.p (row ib a) t) s)) := by
  unfold k0_pay27 k0_pay21
  pointwise
  have := s.isLt
  unfold sh1
  by_cases h0 : (s : ℕ) = 0
  · rw [if_pos h0, L_zero]
    refine (congrArg (fun c => Scalar.select c _ _) (?_ : _ = 0#1)).trans log_zero
    rw [h0]; decide
  · rw [if_neg h0]
    refine (congrArg (fun c => Scalar.select c _ _) (?_ : _ = 1#1)).trans ?_
    · refine (WordCmp.cmpi_sge_ofNat (by omega) (by decide)).trans ?_
      rw [decide_eq_true (by omega)]; rfl
    · refine (h a _).1.trans (congrArg (fun n => L (d.p (row ib a) t n)) ?_)
      show ((s : ℕ) + 640 - 1) % 640 = s - 1
      omega

theorem Scores.left2 (h : Scores d ib t al ad) (hm : Skips d ib mc) (a : Fin 16) (s : Fin 640) :
    @Eq EReal (k0_pay28 (F := Ideal) mc al (ix2 a s)) (L (sh2 (d.ok (row ib a)) (d.p (row ib a) t) s)) := by
  unfold k0_pay28 k0_pay22
  pointwise
  have := s.isLt
  unfold sh2
  rcases ho : d.ok (row ib a) s with _ | _
  · have hz : @Eq EReal (mc (ix2 a s)) 0 := by rw [hm a s, ho]; rfl
    refine (if_neg (not_not.2 hz)).trans ?_
    rw [if_neg (by decide), L_zero]
    exact log_zero
  · have hz : @Eq EReal (mc (ix2 a s)) 1 := by rw [hm a s, ho]; rfl
    have h2 := Data.ok_two _ _ ho
    refine (if_pos (fun e => one_ne_zero (hz.symm.trans e))).trans ?_
    rw [if_pos rfl]
    refine (h a _).1.trans (congrArg (fun n => L (d.p (row ib a) t n)) ?_)
    show ((s : ℕ) + 640 - 2) % 640 = s - 2
    omega

section Step
variable (h : Scores d ib t al ad) (hm : Skips d ib mc) (a : Fin 16) (s : Fin 640)

/-- The largest of the three weights that enter a state. -/
def mxs (d : Data) (b : Fin 64) (t s : ℕ) : ℝ := mx (d.p b t s) (sh1 (d.p b t) s) (sh2 (d.ok b) (d.p b t) s)

include h hm

theorem Scores.top : @Eq EReal (k0_pay29 (F := Ideal) mc al (ix2 a s)) (L (mxs d (row ib a) t s)) := by
  show max (max (al (ix2 a s)) (k0_pay27 (F := Ideal) al (ix2 a s))) (k0_pay28 (F := Ideal) mc al (ix2 a s)) = _
  have hp := Data.p_nonneg (d := d) (row ib a) t
  rw [(h a s).1, h.left1, h.left2 hm, L_mx (hp s) (sh1_nonneg hp s) (sh2_nonneg hp s)]
  rfl

theorem Scores.exp0 : @Eq EReal (k0_pay30 (F := Ideal) mc al (ix2 a s)) ((d.p (row ib a) t s / mxs d (row ib a) t s : ℝ) : EReal) := by
  show Ideal.exp ((al (ix2 a s) : EReal) - k0_pay29 (F := Ideal) mc al (ix2 a s)) = _
  rw [(h a s).1, h.top hm]
  exact exp_L_sub (Data.p_nonneg _ _ _) (le_mx1 _ _ _)

theorem Scores.exp1 : @Eq EReal (k0_pay31 (F := Ideal) mc al (ix2 a s)) ((sh1 (d.p (row ib a) t) s / mxs d (row ib a) t s : ℝ) : EReal) := by
  show Ideal.exp ((k0_pay27 (F := Ideal) al (ix2 a s) : EReal) - k0_pay29 (F := Ideal) mc al (ix2 a s)) = _
  rw [h.left1, h.top hm]
  exact exp_L_sub (sh1_nonneg (Data.p_nonneg _ _) _) (le_mx2 _ _ _)

theorem Scores.exp2 : @Eq EReal (k0_pay32 (F := Ideal) mc al (ix2 a s)) ((sh2 (d.ok (row ib a)) (d.p (row ib a) t) s / mxs d (row ib a) t s : ℝ) : EReal) := by
  show Ideal.exp ((k0_pay28 (F := Ideal) mc al (ix2 a s) : EReal) - k0_pay29 (F := Ideal) mc al (ix2 a s)) = _
  rw [h.left2 hm, h.top hm]
  exact exp_L_sub (sh2_nonneg (Data.p_nonneg _ _) _) (le_mx3 _ _ _)

theorem Scores.den : @Eq EReal (k0_pay33 (F := Ideal) mc al (ix2 a s))
    (((d.p (row ib a) t s / mxs d (row ib a) t s : ℝ) : EReal) + ((sh1 (d.p (row ib a) t) s / mxs d (row ib a) t s : ℝ) : EReal)
      + ((sh2 (d.ok (row ib a)) (d.p (row ib a) t) s / mxs d (row ib a) t s : ℝ) : EReal)) := by
  show (k0_pay30 (F := Ideal) mc al (ix2 a s) : EReal) + k0_pay31 (F := Ideal) mc al (ix2 a s) + k0_pay32 (F := Ideal) mc al (ix2 a s) = _
  rw [h.exp0 hm, h.exp1 hm, h.exp2 hm]

end Step

/-- The rotated derivatives are the neighbours' where they are used. -/
theorem Scores.rot1 (h : Scores d ib t al ad) (a : Fin 16) (s : Fin 640) (hs : sh1 (d.p (row ib a) t) s ≠ 0) :
    @Eq EReal (dynamicRotate 1 1#32 none ad rotates_S16x640_d1 (ix2 a s)) (D (d.E (row ib a)) (d.ok (row ib a)) t (s - 1) : ℝ) := by
  have := s.isLt
  have e : ((s : ℕ) + 640 - 1) % 640 = s - 1 := by
    unfold sh1 at hs
    have : (s : ℕ) ≠ 0 := fun h0 => hs (if_pos h0)
    omega
  pointwise
  refine ((h a _).2 ?_).trans (congrArg (fun n => ((D (d.E (row ib a)) (d.ok (row ib a)) t n : ℝ) : EReal)) e)
  show d.p (row ib a) t (((s : ℕ) + 640 - 1) % 640) ≠ 0
  rw [e]
  unfold sh1 at hs
  intro h0
  apply hs
  split
  · rfl
  · exact h0

theorem Scores.rot2 (h : Scores d ib t al ad) (a : Fin 16) (s : Fin 640) (hs : sh2 (d.ok (row ib a)) (d.p (row ib a) t) s ≠ 0) :
    @Eq EReal (dynamicRotate 1 2#32 none ad rotates_S16x640_d1 (ix2 a s)) (D (d.E (row ib a)) (d.ok (row ib a)) t (s - 2) : ℝ) := by
  have := s.isLt
  unfold sh2 at hs
  have ho : d.ok (row ib a) s = true := by
    by_contra h0; exact hs (if_neg h0)
  have h2 := Data.ok_two _ _ ho
  rw [if_pos ho] at hs
  have e : ((s : ℕ) + 640 - 2) % 640 = s - 2 := by omega
  pointwise
  refine ((h a _).2 ?_).trans (congrArg (fun n => ((D (d.E (row ib a)) (d.ok (row ib a)) t n : ℝ) : EReal)) e)
  show d.p (row ib a) t (((s : ℕ) + 640 - 2) % 640) ≠ 0
  rw [e]; exact hs

/-- One time step. -/
theorem Scores.step (h : Scores d ib t al ad) (hm : Skips d ib mc) (hd : d.Ok) (ht : t + 1 < 2048) (hw : Labels d ib w)
    (hv : ∀ (a : Fin 16) (n : Fin 128), @Eq EReal (v (ix3 0 a n)) (d.x ⟨t + 1, ht⟩ (row ib a) n)) :
    Scores d ib (t + 1)
      (k0_pay34 mc al (k0_pay8 v) (k0_pay9 w v) (k0_pay10 w v) (k0_pay11 w v) (k0_pay12 w v) (k0_pay13 w))
      (k0_pay35 mc al ad (k0_pay8 v) (k0_pay9 w v) (k0_pay10 w v) (k0_pay11 w v) (k0_pay12 w v) (k0_pay13 w)) := by
  intro a s
  have he : @Eq EReal (k0_pay26 (F := Ideal) (k0_pay8 v) (k0_pay9 w v) (k0_pay10 w v) (k0_pay11 w v) (k0_pay12 w v) (k0_pay13 w) (ix2 a s))
      (d.E (row ib a) (t + 1) s : ℝ) :=
    (pay26_lane (n := ⟨_, Data.lab_lt hd (row ib a) s⟩) (hw a s)).trans ((hv a _).trans (Data.E_eq hd ⟨t + 1, ht⟩ _ _ _ rfl))
  have hp := Data.p_nonneg (d := d) (row ib a) t
  constructor
  · show (k0_pay29 (F := Ideal) mc al (ix2 a s) : EReal) + Ideal.log (k0_pay33 (F := Ideal) mc al (ix2 a s))
      + k0_pay26 (F := Ideal) (k0_pay8 v) (k0_pay9 w v) (k0_pay10 w v) (k0_pay11 w v) (k0_pay12 w v) (k0_pay13 w) (ix2 a s) = _
    rw [h.top hm, h.den hm, he]
    exact score_step (hp s) (sh1_nonneg hp s) (sh2_nonneg hp s) _
  · intro hne
    show Ideal.div ((k0_pay30 (F := Ideal) mc al (ix2 a s) : EReal) * ad (ix2 a s)
        + k0_pay31 (F := Ideal) mc al (ix2 a s) * dynamicRotate 1 1#32 none ad rotates_S16x640_d1 (ix2 a s)
        + k0_pay32 (F := Ideal) mc al (ix2 a s) * dynamicRotate 1 2#32 none ad rotates_S16x640_d1 (ix2 a s))
      (k0_pay33 (F := Ideal) mc al (ix2 a s))
      + k0_pay26 (F := Ideal) (k0_pay8 v) (k0_pay9 w v) (k0_pay10 w v) (k0_pay11 w v) (k0_pay12 w v) (k0_pay13 w) (ix2 a s) = _
    rw [h.exp0 hm, h.exp1 hm, h.exp2 hm, h.den hm, he]
    refine tangent_step (hp s) ?_ _ (fun h0 => (h a s).2 h0) (h.rot1 a s) (h.rot2 a s)
    have h0 := tot_nonneg (ok := d.ok (row ib a)) hp s
    refine lt_of_le_of_ne h0 fun e => hne ?_
    show tot (d.ok (row ib a)) (d.p (row ib a) t) s * _ = 0
    exact (congrArg (fun r => r * Real.exp (d.E (row ib a) (t + 1) s)) e.symm).trans (zero_mul _)

/-- The first scores. -/
theorem Scores.first (hd : d.Ok) (hw : Labels d ib w)
    (hv : ∀ (a : Fin 16) (n : Fin 128), @Eq EReal (v (ix3 0 a n)) (d.x 0 (row ib a) n)) :
    Scores d ib 0
      (k0_pay24 (k0_pay3 w v) (k0_pay4 w v) (k0_pay5 w v) (k0_pay6 w v) (k0_pay7 w v))
      (k0_pay25 (k0_pay3 w v) (k0_pay4 w v) (k0_pay5 w v) (k0_pay6 w v) (k0_pay7 w v)) := by
  intro a s
  have := s.isLt
  have he : @Eq EReal (k0_pay23 (F := Ideal) (k0_pay3 w v) (k0_pay4 w v) (k0_pay5 w v) (k0_pay6 w v) (k0_pay7 w v) (ix2 a s))
      (d.E (row ib a) 0 s : ℝ) :=
    (pay23_lane (n := ⟨_, Data.lab_lt hd (row ib a) s⟩) (hw a s)).trans ((hv a _).trans (Data.E_eq hd 0 _ _ _ rfl))
  have hc : IntOp.cmpi CmpIPredicate.slt (BitVec.ofNat 32 (s : ℕ)) 2#32 = BitVec.ofBool (decide ((s : ℕ) < 2)) :=
    WordCmp.cmpi_slt_ofNat (by omega) (by decide)
  unfold Data.p P D
  constructor
  · unfold k0_pay24
    pointwise
    refine (congrArg (fun c => Scalar.select c _ _) hc).trans ?_
    by_cases h2 : (s : ℕ) < 2
    · rw [decide_eq_true h2, if_pos h2, L_exp]; exact he
    · rw [decide_eq_false h2, if_neg h2, L_zero]; exact log_zero
  · intro hne
    have h2 : (s : ℕ) < 2 := by
      by_contra h0; exact hne (if_neg h0)
    unfold k0_pay25
    pointwise
    refine (congrArg (fun c => Scalar.select c _ _) hc).trans ?_
    rw [decide_eq_true h2, if_pos h2]; exact he

end Cert.KernelIdeal.Value

end
-- ==== Proof.KTrip.lean ====
/-
  The kernel's loop over the time steps of a block: each trip reads the block's row and moves the scores on one step.
-/
module

public import proofs.«01_k».proof.Proof.KPay
public import Idealize.ShloMosaic.Lib.VecWindow

@[expose] public section

noncomputable section

namespace Cert.KernelIdeal.Value

open Cert.KernelIdeal Cert.KernelIdeal.Gen Idealize.ShloMosaic Idealize.ShloMosaic.TcCoe Idealize.SL.Sem Cert.Ctc

/-- The first row the loop reads: the very first row of a sequence is the start. -/
def lo (i : grid0.Coords) : ℕ := if (i 1).val = 0 then 1 else 0

theorem trips_eq (i : grid0.Coords) : (k0_t1_loop i).trips = 256 - lo i := by
  have h : ∀ j : Fin 8, Scf.trips (Scalar.select (Scalar.cmpi .eq (BitVec.ofNat 32 j.val) 0#32) 1#32 0#32)
      (Scalar.addi (Scalar.select (Scalar.cmpi .eq (BitVec.ofNat 32 j.val) 0#32) 1#32 0#32)
        (Scalar.muli (Scalar.divsi (Scalar.subi 256#32 (Scalar.select (Scalar.cmpi .eq (BitVec.ofNat 32 j.val) 0#32) 1#32 0#32)) 1#32) 1#32)) 1#32
      = 256 - if j.val = 0 then 1 else 0 := by decide +kernel
  exact h (i 1)

theorem trips2_eq (i : grid0.Coords) : (k0_t2_loop i).trips = 0 := by
  have h : ∀ j : Fin 8, Scf.trips
      (Scalar.addi (Scalar.select (Scalar.cmpi .eq (BitVec.ofNat 32 j.val) 0#32) 1#32 0#32)
        (Scalar.muli (Scalar.divsi (Scalar.subi 256#32 (Scalar.select (Scalar.cmpi .eq (BitVec.ofNat 32 j.val) 0#32) 1#32 0#32)) 1#32) 1#32))
      (Scalar.addi (Scalar.select (Scalar.cmpi .eq (BitVec.ofNat 32 j.val) 0#32) 1#32 0#32)
        (Scalar.subi 256#32 (Scalar.select (Scalar.cmpi .eq (BitVec.ofNat 32 j.val) 0#32) 1#32 0#32))) 1#32
      = 0 := by decide +kernel
  exact h (i 1)

theorem off1_eq (i : grid0.Coords) (k : Fin (k0_t1_loop i).trips) : k0_off1 i k = ![lo i + k, 0, 0] := by
  have hk : (k : ℕ) < 256 - lo i := lt_of_lt_of_eq k.isLt (trips_eq i)
  have e : (Scf.iv (Scalar.select (Scalar.cmpi .eq (BitVec.ofNat 32 (i 1).val) 0#32) 1#32 0#32) 1#32 k).toNat = lo i + k := by
    unfold lo at *
    by_cases h : (i 1).val = 0
    · rw [h, if_pos rfl] at *
      show (1#32 + BitVec.ofNat 32 k * 1#32).toNat = 1 + k
      rw [BitVec.mul_one, BitVec.toNat_add, BitVec.toNat_ofNat, BitVec.toNat_ofNat]; omega
    · rw [if_neg h] at *
      have e : Scalar.cmpi .eq (BitVec.ofNat 32 (i 1).val) 0#32 = 0#1 := by
        refine (WordCmp.cmpi_eq_ofNat (by have h8 : (i 1).val < 8 := (i 1).isLt; omega) (by decide)).trans ?_
        rw [decide_eq_false h]; rfl
      rw [e]
      show (0#32 + BitVec.ofNat 32 k * 1#32).toNat = 0 + k
      rw [BitVec.mul_one, BitVec.toNat_add, BitVec.toNat_ofNat, BitVec.toNat_ofNat]; omega
  exact congrArg (fun n => ![n, 0, 0]) e

theorem pay20_eq (x1 : Vec Ideal S16x640 .i32) : k0_pay20 (F := Ideal) x1 = x1 := by
  funext j
  rw [eq_ix2 j]
  unfold k0_pay20
  pointwise

variable (c : Dev nD) (i : grid0.Coords) (arg2 : Memref sig .tc .vmem S256x16x128 .f32) (harg2 : arg2.IsWhole) (arg3 : Memref sig .tc .vmem S16x640 .i32) (harg3 : arg3.IsWhole) (arg4 : Memref sig .tc .vmem S16x640 .f32) (harg4 : arg4.IsWhole) (arg5 : Memref sig .tc .vmem S16x640 .f32) (harg5 : arg5.IsWhole) (arg6 : Memref sig .tc .vmem S16x640 .f32) (harg6 : arg6.IsWhole) (arg7 : Memref sig .tc .vmem S1x16x128 .f32) (harg7 : arg7.IsWhole) (arg8 : Memref sig .tc .vmem S16x640 .f32) (harg8 : arg8.IsWhole) (arg9 : Memref sig .tc .vmem S16x640 .f32) (harg9 : arg9.IsWhole)
variable (x0 : Vec Ideal S256x16x128 .f32) (x1 : Vec Ideal S16x640 .i32) (x2 : Vec Ideal S16x640 .f32)

/-- The row of a block that a trip reads. -/
def rowAt (r : ℕ) (hr : r < 256) : Vec Ideal S1x16x128 .f32 := fun j => x0 (ix3 ⟨r, hr⟩ (j 1) (j 2))

theorem load_row (k : Fin (k0_t1_loop i).trips) (hr : lo i + k < 256) (inb) :
    arg2.view.readAt (Elt Ideal) (Rect.unit (s := S256x16x128) (k0_off1 i k) S1x16x128.size inb).toLoadRect (harg2.unread x0)
      = rowAt x0 (lo i + k) hr := by
  have inb' := inb
  rw [off1_eq] at inb'
  refine (View.readAt_unit arg2.view _ inb (off1_eq i k) inb').trans ?_
  funext j
  rw [harg2.read_unread]
  refine congrArg x0 ?_
  funext z
  fin_cases z
  · refine Fin.ext ?_
    show (lo i + k) + 1 * (j 0).val = lo i + k
    have : (j 0).val < 1 := (j 0).isLt
    omega
  · refine Fin.ext ?_
    show 0 + 1 * (j 1).val = (j 1).val
    omega
  · refine Fin.ext ?_
    show 0 + 1 * (j 2).val = (j 2).val
    omega

theorem sl34 (k : Fin (k0_t1_loop i).trips) (hr : lo i + k < 256) :
    trip_k0_t1.sl.v34 (F := Ideal) i arg2 (harg2.unread x0) k = k0_pay8 (rowAt x0 (lo i + k) hr) := by
  unfold trip_k0_t1.sl.v34
  rw [load_row i arg2 harg2 x0 k hr]; rfl

section
variable (k : Fin (k0_t1_loop i).trips) (hr : lo i + k < 256)

theorem sl43 : trip_k0_t1.sl.v43 (F := Ideal) i arg2 x1 (harg2.unread x0) k = k0_pay9 x1 (rowAt x0 (lo i + k) hr) := by
  conv_rhs => rw [← pay20_eq x1]
  unfold trip_k0_t1.sl.v43
  rw [sl34 i arg2 harg2 x0 k hr]
  rfl

theorem sl52 : trip_k0_t1.sl.v52 (F := Ideal) i arg2 x1 (harg2.unread x0) k = k0_pay10 x1 (rowAt x0 (lo i + k) hr) := by
  conv_rhs => rw [← pay20_eq x1]
  unfold trip_k0_t1.sl.v52
  rw [sl34 i arg2 harg2 x0 k hr]
  rfl

theorem sl61 : trip_k0_t1.sl.v61 (F := Ideal) i arg2 x1 (harg2.unread x0) k = k0_pay11 x1 (rowAt x0 (lo i + k) hr) := by
  conv_rhs => rw [← pay20_eq x1]
  unfold trip_k0_t1.sl.v61
  rw [sl34 i arg2 harg2 x0 k hr]
  rfl

theorem sl70 : trip_k0_t1.sl.v70 (F := Ideal) i arg2 x1 (harg2.unread x0) k = k0_pay12 x1 (rowAt x0 (lo i + k) hr) := by
  conv_rhs => rw [← pay20_eq x1]
  unfold trip_k0_t1.sl.v70
  rw [sl34 i arg2 harg2 x0 k hr]
  rfl

theorem sl78 : trip_k0_t1.sl.v78 x1 = k0_pay13 x1 := by
  conv_rhs => rw [← pay20_eq x1]
  rfl

end

theorem trip_eq (v13 : BitVec 32) (k : Fin (k0_t1_loop i).trips) (hr : lo i + k < 256) (acc : Vec Ideal S16x640 .f32 × Vec Ideal S16x640 .f32) :
    tripR_k0_t1 (F := Ideal) Variants.none c none i arg2 harg2 arg3 harg3 arg4 harg4 arg5 harg5 arg6 harg6 arg7 harg7 arg8 harg8 arg9 harg9 x1 x2 v13 (harg2.unread x0) k acc
      = (k0_pay34 x2 acc.1 (k0_pay8 (rowAt x0 (lo i + k) hr)) (k0_pay9 x1 (rowAt x0 (lo i + k) hr)) (k0_pay10 x1 (rowAt x0 (lo i + k) hr)) (k0_pay11 x1 (rowAt x0 (lo i + k) hr)) (k0_pay12 x1 (rowAt x0 (lo i + k) hr)) (k0_pay13 x1),
         k0_pay35 x2 acc.1 acc.2 (k0_pay8 (rowAt x0 (lo i + k) hr)) (k0_pay9 x1 (rowAt x0 (lo i + k) hr)) (k0_pay10 x1 (rowAt x0 (lo i + k) hr)) (k0_pay11 x1 (rowAt x0 (lo i + k) hr)) (k0_pay12 x1 (rowAt x0 (lo i + k) hr)) (k0_pay13 x1)) := by
  unfold tripR_k0_t1 trip_k0_t1
  dsimp only
  rw [sl34 i arg2 harg2 x0 k hr, sl43 i arg2 harg2 x0 x1 k hr, sl52 i arg2 harg2 x0 x1 k hr, sl61 i arg2 harg2 x0 x1 k hr, sl70 i arg2 harg2 x0 x1 k hr, sl78]

variable {d : Data} {ib : Fin 4} {x0} {x1} {x2}

/-- The rows of a block of times. -/
def Rows (d : Data) (ib : Fin 4) (it : Fin 8) (x0 : Vec Ideal S256x16x128 .f32) : Prop :=
  ∀ (r : Fin 256) (a : Fin 16) (n : Fin 128), @Eq EReal (x0 (ix3 r a n)) (d.x ⟨256 * it + r, by omega⟩ (row ib a) n)

/-- The loop's states. -/
theorem fold (hd : d.Ok) (hx : Rows d ib (i 1) x0) (hw : Labels d ib x1) (hm : Skips d ib x2)
    (v13 : BitVec 32) (init : Vec Ideal S16x640 .f32 × Vec Ideal S16x640 .f32) (t : ℕ) (ht : t + 1 = 256 * (i 1).val + lo i)
    (h : Scores d ib t init.1 init.2) :
    ∀ k, k ≤ (k0_t1_loop i).trips → Scores d ib (t + k)
      (st_k0_t1 (F := Ideal) Variants.none c none i arg2 harg2 arg3 harg3 arg4 harg4 arg5 harg5 arg6 harg6 arg7 harg7 arg8 harg8 arg9 harg9 x1 x2 v13 (harg2.unread x0) init k).1
      (st_k0_t1 (F := Ideal) Variants.none c none i arg2 harg2 arg3 harg3 arg4 harg4 arg5 harg5 arg6 harg6 arg7 harg7 arg8 harg8 arg9 harg9 x1 x2 v13 (harg2.unread x0) init k).2
  | 0, _ => h
  | k + 1, hk => by
    have hr : lo i + k < 256 := by rw [trips_eq] at hk; omega
    have hi := (i 1).isLt
    have hi : (i 1).val < 8 := hi
    rw [st_k0_t1_succ Variants.none c none i arg2 harg2 arg3 harg3 arg4 harg4 arg5 harg5 arg6 harg6 arg7 harg7 arg8 harg8 arg9 harg9 x1 x2 v13 (harg2.unread x0) init ⟨k, hk⟩,
      trip_eq c i arg2 harg2 arg3 harg3 arg4 harg4 arg5 harg5 arg6 harg6 arg7 harg7 arg8 harg8 arg9 harg9 x0 x1 x2 v13 ⟨k, hk⟩ hr]
    refine (fold hd hx hw hm v13 init t ht h k (by omega)).step hm hd (by omega) hw fun a n => ?_
    refine (hx ⟨lo i + k, hr⟩ a n).trans (congrArg (fun z => d.x z (row ib a) n) (Fin.ext ?_))
    show 256 * (i 1).val + (lo i + k) = t + k + 1
    omega

end Cert.KernelIdeal.Value
-- ==== Proof.KOut.lean ====
/-
  What one grid point of the kernel leaves in its scratch buffers and, at the last block of times, in its output block.
-/
module

public import proofs.«01_k».proof.Proof.KTrip

@[expose] public section

noncomputable section

namespace Cert.KernelIdeal.Value

open Cert.KernelIdeal Cert.KernelIdeal.Gen Idealize.ShloMosaic Idealize.ShloMosaic.TcCoe Idealize.SL.Sem Cert.Ctc

variable (c : Dev nD) (i : grid0.Coords) (arg2 : Memref sig .tc .vmem S256x16x128 .f32) (harg2 : arg2.IsWhole) (arg3 : Memref sig .tc .vmem S16x640 .i32) (harg3 : arg3.IsWhole) (arg4 : Memref sig .tc .vmem S16x640 .f32) (harg4 : arg4.IsWhole) (arg5 : Memref sig .tc .vmem S16x640 .f32) (harg5 : arg5.IsWhole) (arg6 : Memref sig .tc .vmem S16x640 .f32) (harg6 : arg6.IsWhole) (arg7 : Memref sig .tc .vmem S1x16x128 .f32) (harg7 : arg7.IsWhole) (arg8 : Memref sig .tc .vmem S16x640 .f32) (harg8 : arg8.IsWhole) (arg9 : Memref sig .tc .vmem S16x640 .f32) (harg9 : arg9.IsWhole)
variable (hc0 : cond0_0 i) (hc0' : ¬cond0_0 i) (hc1 : cond0_1 i) (hc1' : ¬cond0_1 i)
variable (x0 : Vec Ideal S256x16x128 .f32) (x1 : Vec Ideal S16x640 .i32) (x2 x3 x4 xs0 xs1 : Vec Ideal S16x640 .f32)

/-- The states of the loop at a point, from two starting vectors. -/
abbrev loopSt (v13 : BitVec 32) (init : Vec Ideal S16x640 .f32 × Vec Ideal S16x640 .f32) (k : ℕ) : Vec Ideal S16x640 .f32 × Vec Ideal S16x640 .f32 :=
  st_k0_t1 (F := Ideal) Variants.none c none i arg2 harg2 arg3 harg3 arg4 harg4 arg5 harg5 arg6 harg6 arg7 harg7 arg8 harg8 arg9 harg9 x1 x2 v13 (harg2.unread x0) init k

theorem load_words {b : Memref sig .tc .vmem S16x640 .i32} (hb : b.IsWhole) (x : Vec Ideal S16x640 .i32) (inb) :
    View.readAt (Elt Ideal) b.view (Rect.unit (s := S16x640) ![0, 0] ![16, 640] inb).toLoadRect (hb.unread x) = x :=
  (View.readAt_full b.view (hb.unread x) inb).trans (hb.read_unread x)

theorem load_vec {b : Memref sig .tc .vmem S16x640 .f32} (hb : b.IsWhole) (x : Vec Ideal S16x640 .f32) (inb) :
    View.readAt (Elt Ideal) b.view (Rect.unit (s := S16x640) ![0, 0] ![16, 640] inb).toLoadRect (hb.unread x) = x :=
  (View.readAt_full b.view (hb.unread x) inb).trans (hb.read_unread x)

theorem load_words' {b : Memref sig .tc .vmem S16x640 .i32} (hb : b.IsWhole) (x : Vec Ideal S16x640 .i32) (inb) :
    View.readAt (Elt Ideal) b.view (Rect.unit (s := S16x640) ![0, 0] S16x640.size inb).toLoadRect (hb.unread x) = x :=
  load_words hb x inb

theorem load_vec' {b : Memref sig .tc .vmem S16x640 .f32} (hb : b.IsWhole) (x : Vec Ideal S16x640 .f32) (inb) :
    View.readAt (Elt Ideal) b.view (Rect.unit (s := S16x640) ![0, 0] S16x640.size inb).toLoadRect (hb.unread x) = x :=
  load_vec hb x inb

theorem pay46_eq (x : Vec Ideal S16x640 .f32) : k0_pay46 (F := Ideal) x = x := by
  funext j
  rw [eq_ix2 j]
  unfold k0_pay46
  pointwise

theorem pay47_eq (x : Vec Ideal S16x640 .f32) : k0_pay47 (F := Ideal) x = x := by
  funext j
  rw [eq_ix2 j]
  unfold k0_pay47
  pointwise

/-- The second loop, of the trips left over by the unrolling, has none. -/
theorem rest (v20 : BitVec 32) (init : Vec Ideal S16x640 .f32 × Vec Ideal S16x640 .f32) :
    st_k0_t2 (F := Ideal) Variants.none c none i arg2 harg2 arg3 harg3 arg4 harg4 arg5 harg5 arg6 harg6 arg7 harg7 arg8 harg8 arg9 harg9 x1 x2 v20 (harg2.unread x0) init (k0_t2_loop i).trips = init := by
  rw [trips2_eq]; rfl

attribute [local irreducible] st_k0_t1 st_k0_t2

section B

theorem soutB0 : sout0_B_0 c i arg2 harg2 arg3 harg3 arg4 harg4 arg5 harg5 arg6 harg6 arg7 harg7 arg8 harg8 arg9 harg9 hc0' hc1' x0 x1 x2 x3 x4 xs0 xs1
    = (loopSt c i arg2 harg2 arg3 harg3 arg4 harg4 arg5 harg5 arg6 harg6 arg7 harg7 arg8 harg8 arg9 harg9 x0 x1 x2 (kernelRun0_B.sl.v13 i) (xs0, xs1) (k0_t1_loop i).trips).1 := by
  unfold sout0_B_0 kernelRun0_B
  dsimp only
  refine (View.read_writes_full _ _ _ _ _).trans ?_
  rw [load_words harg3, load_vec harg4, load_vec harg8, load_vec harg9]
  refine (pay46_eq _).trans ?_
  exact congrArg Prod.fst (rest c i arg2 harg2 arg3 harg3 arg4 harg4 arg5 harg5 arg6 harg6 arg7 harg7 arg8 harg8 arg9 harg9 x0 x1 x2 _ _)

theorem soutB1 : sout0_B_1 c i arg2 harg2 arg3 harg3 arg4 harg4 arg5 harg5 arg6 harg6 arg7 harg7 arg8 harg8 arg9 harg9 hc0' hc1' x0 x1 x2 x3 x4 xs0 xs1
    = (loopSt c i arg2 harg2 arg3 harg3 arg4 harg4 arg5 harg5 arg6 harg6 arg7 harg7 arg8 harg8 arg9 harg9 x0 x1 x2 (kernelRun0_B.sl.v13 i) (xs0, xs1) (k0_t1_loop i).trips).2 := by
  unfold sout0_B_1 kernelRun0_B
  dsimp only
  refine (View.read_writes_full _ _ _ _ _).trans ?_
  rw [load_words harg3, load_vec harg4, load_vec harg8, load_vec harg9]
  refine (pay47_eq _).trans ?_
  exact congrArg Prod.snd (rest c i arg2 harg2 arg3 harg3 arg4 harg4 arg5 harg5 arg6 harg6 arg7 harg7 arg8 harg8 arg9 harg9 x0 x1 x2 _ _)

theorem outC : out0_C_5 c i arg2 harg2 arg3 harg3 arg4 harg4 arg5 harg5 arg6 harg6 arg7 harg7 arg8 harg8 arg9 harg9 hc0' hc1 x0 x1 x2 x3 x4 xs0 xs1
    = k0_pay1 (loopSt c i arg2 harg2 arg3 harg3 arg4 harg4 arg5 harg5 arg6 harg6 arg7 harg7 arg8 harg8 arg9 harg9 x0 x1 x2 (kernelRun0_C.sl.v13 i) (xs0, xs1) (k0_t1_loop i).trips).1
       (loopSt c i arg2 harg2 arg3 harg3 arg4 harg4 arg5 harg5 arg6 harg6 arg7 harg7 arg8 harg8 arg9 harg9 x0 x1 x2 (kernelRun0_C.sl.v13 i) (xs0, xs1) (k0_t1_loop i).trips).2 x3 x4 := by
  unfold out0_C_5 kernelRun0_C
  dsimp only
  refine (View.read_writes_full _ _ _ _ _).trans ?_
  rw [load_vec harg5, load_vec harg6]
  unfold kernelRun0_C.sl.r kernelRun0_C.sl.r_1
  rw [load_words' harg3, load_vec' harg4, load_vec' harg8, load_vec' harg9]
  have e := rest c i arg2 harg2 arg3 harg3 arg4 harg4 arg5 harg5 arg6 harg6 arg7 harg7 arg8 harg8 arg9 harg9 x0 x1 x2 (kernelRun0_C.sl.v20 i)
    (loopSt c i arg2 harg2 arg3 harg3 arg4 harg4 arg5 harg5 arg6 harg6 arg7 harg7 arg8 harg8 arg9 harg9 x0 x1 x2 (kernelRun0_C.sl.v13 i) (xs0, xs1) (k0_t1_loop i).trips)
  exact congrArg (fun q : Vec Ideal S16x640 .f32 × Vec Ideal S16x640 .f32 => k0_pay1 q.1 q.2 x3 x4) e
end B

/-- The starting vectors, from the first row. -/
def start (x0 : Vec Ideal S256x16x128 .f32) (x1 : Vec Ideal S16x640 .i32) : Vec Ideal S16x640 .f32 × Vec Ideal S16x640 .f32 :=
  (k0_pay24 (k0_pay3 x1 (rowAt x0 0 (by decide))) (k0_pay4 x1 (rowAt x0 0 (by decide))) (k0_pay5 x1 (rowAt x0 0 (by decide))) (k0_pay6 x1 (rowAt x0 0 (by decide))) (k0_pay7 x1 (rowAt x0 0 (by decide))),
   k0_pay25 (k0_pay3 x1 (rowAt x0 0 (by decide))) (k0_pay4 x1 (rowAt x0 0 (by decide))) (k0_pay5 x1 (rowAt x0 0 (by decide))) (k0_pay6 x1 (rowAt x0 0 (by decide))) (k0_pay7 x1 (rowAt x0 0 (by decide))))

section A

theorem load_first (inb) :
    arg2.view.readAt (Elt Ideal) (Rect.unit (s := S256x16x128) ![0, 0, 0] S1x16x128.size inb).toLoadRect (harg2.unread x0)
      = rowAt x0 0 (by decide) := by
  refine (View.readAt_unit arg2.view _ inb rfl inb).trans ?_
  funext j
  rw [harg2.read_unread]
  refine congrArg x0 ?_
  funext z
  fin_cases z
  · refine Fin.ext ?_
    show 0 + 1 * (j 0).val = 0
    have : (j 0).val < 1 := (j 0).isLt
    omega
  · refine Fin.ext ?_
    show 0 + 1 * (j 1).val = (j 1).val
    omega
  · refine Fin.ext ?_
    show 0 + 1 * (j 2).val = (j 2).val
    omega

theorem sa42 : kernelRun0_A.sl.v42 (F := Ideal) c arg2 harg2 arg3 harg3 x0 x1 = k0_pay3 x1 (rowAt x0 0 (by decide)) := by
  conv_rhs => rw [← load_first arg2 harg2 x0 inb_S256x16x128_S1x16x128_0_0_0, ← pay20_eq x1, ← load_words' harg3 x1 inb_S16x640_S16x640_0_0]
  rfl

theorem sa51 : kernelRun0_A.sl.v51 (F := Ideal) c arg2 harg2 arg3 harg3 x0 x1 = k0_pay4 x1 (rowAt x0 0 (by decide)) := by
  conv_rhs => rw [← load_first arg2 harg2 x0 inb_S256x16x128_S1x16x128_0_0_0, ← pay20_eq x1, ← load_words' harg3 x1 inb_S16x640_S16x640_0_0]
  rfl

theorem sa60 : kernelRun0_A.sl.v60 (F := Ideal) c arg2 harg2 arg3 harg3 x0 x1 = k0_pay5 x1 (rowAt x0 0 (by decide)) := by
  conv_rhs => rw [← load_first arg2 harg2 x0 inb_S256x16x128_S1x16x128_0_0_0, ← pay20_eq x1, ← load_words' harg3 x1 inb_S16x640_S16x640_0_0]
  rfl

theorem sa69 : kernelRun0_A.sl.v69 (F := Ideal) c arg2 harg2 arg3 harg3 x0 x1 = k0_pay6 x1 (rowAt x0 0 (by decide)) := by
  conv_rhs => rw [← load_first arg2 harg2 x0 inb_S256x16x128_S1x16x128_0_0_0, ← pay20_eq x1, ← load_words' harg3 x1 inb_S16x640_S16x640_0_0]
  rfl

theorem sa78 : kernelRun0_A.sl.v78 (F := Ideal) c arg2 harg2 arg3 harg3 x0 x1 = k0_pay7 x1 (rowAt x0 0 (by decide)) := by
  conv_rhs => rw [← load_first arg2 harg2 x0 inb_S256x16x128_S1x16x128_0_0_0, ← pay20_eq x1, ← load_words' harg3 x1 inb_S16x640_S16x640_0_0]
  rfl

theorem init_eq : (kernelRun0_A.sl.v14 (F := Ideal) c arg2 harg2 arg3 harg3 arg8 x0 x1, kernelRun0_A.sl.v15 (F := Ideal) c arg2 harg2 arg3 harg3 arg9 x0 x1) = start x0 x1 := by
  unfold kernelRun0_A.sl.v14 kernelRun0_A.sl.v15
  unfold kernelRun0_A.sl.HS0_1 kernelRun0_A.sl.HS1_1
  rw [sa42, sa51, sa60, sa69, sa78]
  exact Prod.ext (View.readCov_full _ _ _ _ _) (View.readCov_full _ _ _ _ _)

theorem soutA0 : sout0_A_0 c i arg2 harg2 arg3 harg3 arg4 harg4 arg5 harg5 arg6 harg6 arg7 harg7 arg8 harg8 arg9 harg9 hc0 hc1' x0 x1 x2 x3 x4
    = (loopSt c i arg2 harg2 arg3 harg3 arg4 harg4 arg5 harg5 arg6 harg6 arg7 harg7 arg8 harg8 arg9 harg9 x0 x1 x2 (kernelRun0_A.sl.v13 i) (start x0 x1) (k0_t1_loop i).trips).1 := by
  unfold sout0_A_0 kernelRun0_A
  dsimp only
  refine (View.read_writes_full _ _ _ _ _).trans ?_
  rw [load_words harg3, load_vec harg4, init_eq]
  refine (pay46_eq _).trans ?_
  exact congrArg Prod.fst (rest c i arg2 harg2 arg3 harg3 arg4 harg4 arg5 harg5 arg6 harg6 arg7 harg7 arg8 harg8 arg9 harg9 x0 x1 x2 _ _)

theorem soutA1 : sout0_A_1 c i arg2 harg2 arg3 harg3 arg4 harg4 arg5 harg5 arg6 harg6 arg7 harg7 arg8 harg8 arg9 harg9 hc0 hc1' x0 x1 x2 x3 x4
    = (loopSt c i arg2 harg2 arg3 harg3 arg4 harg4 arg5 harg5 arg6 harg6 arg7 harg7 arg8 harg8 arg9 harg9 x0 x1 x2 (kernelRun0_A.sl.v13 i) (start x0 x1) (k0_t1_loop i).trips).2 := by
  unfold sout0_A_1 kernelRun0_A
  dsimp only
  refine (View.read_writes_full _ _ _ _ _).trans ?_
  rw [load_words harg3, load_vec harg4, init_eq]
  refine (pay47_eq _).trans ?_
  exact congrArg Prod.snd (rest c i arg2 harg2 arg3 harg3 arg4 harg4 arg5 harg5 arg6 harg6 arg7 harg7 arg8 harg8 arg9 harg9 x0 x1 x2 _ _)

end A

variable {d : Data} {ib : Fin 4} {x0} {x1} {x2} {xs0} {xs1}

section Points
variable (hd : d.Ok) (hx : Rows d ib (i 1) x0) (hw : Labels d ib x1) (hm : Skips d ib x2)

include hd hx hw hm

/-- The scores at the end of a first block of times. -/
theorem pointA (h0 : (i 1).val = 0) : Scores d ib 255
    (sout0_A_0 c i arg2 harg2 arg3 harg3 arg4 harg4 arg5 harg5 arg6 harg6 arg7 harg7 arg8 harg8 arg9 harg9 hc0 hc1' x0 x1 x2 x3 x4)
    (sout0_A_1 c i arg2 harg2 arg3 harg3 arg4 harg4 arg5 harg5 arg6 harg6 arg7 harg7 arg8 harg8 arg9 harg9 hc0 hc1' x0 x1 x2 x3 x4) := by
  rw [soutA0, soutA1]
  have hl : lo i = 1 := if_pos h0
  have hs : Scores d ib 0 (start x0 x1).1 (start x0 x1).2 := Scores.first hd hw fun a n => by
    refine (hx ⟨0, by decide⟩ a n).trans (congrArg (fun z => d.x z (row ib a) n) (Fin.ext ?_))
    show 256 * (i 1).val + 0 = 0
    omega
  have hf := fold c i arg2 harg2 arg3 harg3 arg4 harg4 arg5 harg5 arg6 harg6 arg7 harg7 arg8 harg8 arg9 harg9 hd hx hw hm (kernelRun0_A.sl.v13 i) (start x0 x1) 0 (by rw [hl]; omega) hs (k0_t1_loop i).trips le_rfl
  have e : 0 + (k0_t1_loop i).trips = 255 := by rw [trips_eq, hl]
  rw [e] at hf
  exact hf

theorem fold_later (h0 : (i 1).val ≠ 0) (v13 : BitVec 32) (h : Scores d ib (256 * (i 1).val - 1) xs0 xs1) :
    Scores d ib (256 * (i 1).val + 255)
      (loopSt c i arg2 harg2 arg3 harg3 arg4 harg4 arg5 harg5 arg6 harg6 arg7 harg7 arg8 harg8 arg9 harg9 x0 x1 x2 v13 (xs0, xs1) (k0_t1_loop i).trips).1
      (loopSt c i arg2 harg2 arg3 harg3 arg4 harg4 arg5 harg5 arg6 harg6 arg7 harg7 arg8 harg8 arg9 harg9 x0 x1 x2 v13 (xs0, xs1) (k0_t1_loop i).trips).2 := by
  have hl : lo i = 0 := if_neg h0
  have hf := fold c i arg2 harg2 arg3 harg3 arg4 harg4 arg5 harg5 arg6 harg6 arg7 harg7 arg8 harg8 arg9 harg9 hd hx hw hm v13 (xs0, xs1) _ (by rw [hl]; omega) h (k0_t1_loop i).trips le_rfl
  have e : 256 * (i 1).val - 1 + (k0_t1_loop i).trips = 256 * (i 1).val + 255 := by rw [trips_eq, hl]; omega
  rw [e] at hf
  exact hf

/-- The scores at the end of a later block. -/
theorem pointB (h0 : (i 1).val ≠ 0) (h : Scores d ib (256 * (i 1).val - 1) xs0 xs1) : Scores d ib (256 * (i 1).val + 255)
    (sout0_B_0 c i arg2 harg2 arg3 harg3 arg4 harg4 arg5 harg5 arg6 harg6 arg7 harg7 arg8 harg8 arg9 harg9 hc0' hc1' x0 x1 x2 x3 x4 xs0 xs1)
    (sout0_B_1 c i arg2 harg2 arg3 harg3 arg4 harg4 arg5 harg5 arg6 harg6 arg7 harg7 arg8 harg8 arg9 harg9 hc0' hc1' x0 x1 x2 x3 x4 xs0 xs1) := by
  rw [soutB0, soutB1]
  exact fold_later c i arg2 harg2 arg3 harg3 arg4 harg4 arg5 harg5 arg6 harg6 arg7 harg7 arg8 harg8 arg9 harg9 hd hx hw hm h0 _ h

/-- The last block's output is the readout of the last scores. -/
theorem pointC (h0 : (i 1).val = 7) (h : Scores d ib 1791 xs0 xs1) : ∃ al ad, Scores d ib 2047 al ad ∧
    out0_C_5 c i arg2 harg2 arg3 harg3 arg4 harg4 arg5 harg5 arg6 harg6 arg7 harg7 arg8 harg8 arg9 harg9 hc0' hc1 x0 x1 x2 x3 x4 xs0 xs1
      = k0_pay1 (F := Ideal) al ad x3 x4 := by
  refine ⟨_, _, ?_, outC c i arg2 harg2 arg3 harg3 arg4 harg4 arg5 harg5 arg6 harg6 arg7 harg7 arg8 harg8 arg9 harg9 hc0' hc1 x0 x1 x2 x3 x4 xs0 xs1⟩
  have hf := fold_later c i arg2 harg2 arg3 harg3 arg4 harg4 arg5 harg5 arg6 harg6 arg7 harg7 arg8 harg8 arg9 harg9 hd hx hw hm (by omega) (kernelRun0_C.sl.v13 i) (xs0 := xs0) (xs1 := xs1) (by rw [h0]; exact h)
  rw [h0] at hf
  exact hf

end Points

end Cert.KernelIdeal.Value

end
-- ==== Proof.KRead.lean ====
/-
  The kernel's readout at the exact instance: the two end states' scores and derivatives picked out of the lanes and
  combined.
-/
module

public import proofs.«01_k».proof.Proof.KPay
public import proofs.«01_k».proof.Proof.RefMid

@[expose] public section

noncomputable section

namespace Cert.KernelIdeal.Value

open Cert.KernelIdeal Cert.KernelIdeal.Gen Idealize.ShloMosaic Idealize.ShloMosaic.TcCoe Idealize.SL.Sem Cert.Ctc

/-- A sum over the lanes against a mask of one lane. -/
theorem sum_mask (f m : Fin 640 → EReal) (n : Fin 640) (hm : ∀ s : Fin 640, m s = if (s : ℕ) = n then 1 else 0) :
    ∑ s, f s * m s = f n := by
  rw [Finset.sum_eq_single n]
  · rw [hm, if_pos rfl, mul_one]
  · intro s _ hs
    rw [hm, if_neg (fun e => hs (Fin.ext e)), mul_zero]
  · exact fun h => absurd (Finset.mem_univ n) h

/-- The mean of two numbers, weighted by the shares of two weights. -/
theorem readout {x y : ℝ} (hx : 0 < x) (hy : 0 < y) (u v : ℝ) :
    Ideal.div (((x / max x y : ℝ) : EReal) * (u : EReal) + ((y / max x y : ℝ) : EReal) * (v : EReal))
        (((x / max x y : ℝ) : EReal) + ((y / max x y : ℝ) : EReal))
      = (((x * u + y * v) / (x + y) : ℝ) : EReal) := by
  have hM : 0 < max x y := hx.trans_le (le_max_left _ _)
  have hq : x / max x y + y / max x y ≠ 0 := by positivity
  rw [← EReal.coe_mul, ← EReal.coe_mul, ← EReal.coe_add, ← EReal.coe_add, div_coe hq]
  congr 1
  field_simp

variable {d : Data} {ib : Fin 4} {al ad me me1 : FVec Ideal S16x640 .f32}

/-- The readout of a row of a block. -/
theorem pay1_at (hd : d.Ok) (h : Scores d ib 2047 al ad)
    (he : ∀ (a : Fin 16) (s : Fin 640), @Eq EReal (me (ix2 a s)) (if (s : ℕ) = d.hi (row ib a) then 1 else 0))
    (he1 : ∀ (a : Fin 16) (s : Fin 640), @Eq EReal (me1 (ix2 a s)) (if (s : ℕ) = d.hi (row ib a) - 1 then 1 else 0))
    (a : Fin 16) (l : Fin 128) :
    @Eq EReal (k0_pay1 (F := Ideal) al ad me me1 (ix3 0 a l)) (d.contrib (row ib a) : ℝ) := by
  have hlt := ReferenceIdeal.Gen.Mid.hi_lt hd (row ib a)
  obtain ⟨hx, hy⟩ := ReferenceIdeal.Gen.Mid.p_hi_pos hd (row ib a)
  have s0 : ∀ f : Fin 640 → EReal, (∑ s, f s * (me (ix2 a s) : EReal)) = f ⟨d.hi (row ib a), by omega⟩ :=
    fun f => sum_mask f _ ⟨_, _⟩ (he a)
  have s1 : ∀ f : Fin 640 → EReal, (∑ s, f s * (me1 (ix2 a s) : EReal)) = f ⟨d.hi (row ib a) - 1, by omega⟩ :=
    fun f => sum_mask f _ ⟨_, _⟩ (he1 a)
  have e0 := (s0 fun s => al (ix2 a s)).trans (h a _).1
  have e1 := (s1 fun s => al (ix2 a s)).trans (h a _).1
  have e2 := (s0 fun s => ad (ix2 a s)).trans ((h a _).2 hx.ne')
  have e3 := (s1 fun s => ad (ix2 a s)).trans ((h a _).2 hy.ne')
  unfold k0_pay1
  pointwise
  rw [e0, e1, e2, e3]
  obtain ⟨w0, w1⟩ := ReferenceIdeal.Gen.end_exp hx hy
  refine (congrArg₂ (fun u v : EReal => Ideal.div (u * _ + v * _) (u + v)) w0 w1).trans ?_
  exact readout hx hy _ _

end Cert.KernelIdeal.Value

end
-- ==== Proof.KGrid.lean ====
/-
  The scores along the grid: what each point reads of the arrays, what the scratch buffers hold after it, and what the last
  point of a block of samples writes.
-/
module

public import proofs.«01_k».proof.Proof.KOut
public import proofs.«01_k».proof.Proof.KRead

@[expose] public section

noncomputable section

namespace Cert.KernelIdeal.Value

open Cert.KernelIdeal Cert.KernelIdeal.Gen Idealize.ShloMosaic Idealize.ShloMosaic.TcCoe Idealize.SL.Sem Cert.Ctc

variable (m : (ℓ : Loc nD τ sig) → Buf (Elt Ideal) ℓ) (c : Dev nD) {d : Data}

/-- What the arrays the kernel's windows read hold when its grid starts. -/
structure Inputs (d : Data) : Prop where
  x : ∀ t b n, @Eq EReal (V m c main_arg0 (ix3 t b n)) (d.x t b n)
  lab : ∀ b s, @Eq (BitVec 32) (V m c main_v14 (ix2 b s)) (BitVec.ofNat 32 (d.lab b s))
  ok : ∀ b (s : Fin 640), @Eq EReal (V m c main_v25 (ix2 b s)) (if d.ok b s then 1 else 0)
  hi : ∀ b (s : Fin 640), @Eq EReal (V m c main_v32 (ix2 b s)) (if (s : ℕ) = d.hi b then 1 else 0)
  hi1 : ∀ b (s : Fin 640), @Eq EReal (V m c main_v38 (ix2 b s)) (if (s : ℕ) = d.hi b - 1 then 1 else 0)

/-- A grid point's coordinates: its block of samples and its block of times. -/
theorem coords_eq : ∀ t : Fin grid0.N, (grid0.coords t 0).val = t.val / 8 ∧ (grid0.coords t 1).val = t.val % 8 := by
  decide +kernel

theorem index0 : ∀ t : Fin grid0.N, win0_0.index t (0 : Fin 3) = t.val % 8 ∧ win0_0.index t (1 : Fin 3) = t.val / 8 ∧ win0_0.index t (2 : Fin 3) = 0 := by
  decide +kernel
theorem index1 : ∀ t : Fin grid0.N, win0_1.index t (0 : Fin 2) = t.val / 8 ∧ win0_1.index t (1 : Fin 2) = 0 := by
  decide +kernel
theorem index2 : ∀ t : Fin grid0.N, win0_2.index t (0 : Fin 2) = t.val / 8 ∧ win0_2.index t (1 : Fin 2) = 0 := by
  decide +kernel
theorem index3 : ∀ t : Fin grid0.N, win0_3.index t (0 : Fin 2) = t.val / 8 ∧ win0_3.index t (1 : Fin 2) = 0 := by
  decide +kernel
theorem index4 : ∀ t : Fin grid0.N, win0_4.index t (0 : Fin 2) = t.val / 8 ∧ win0_4.index t (1 : Fin 2) = 0 := by
  decide +kernel

/-- A grid point's block of samples. -/
def blk (t : Fin cfg0.N) : Fin 4 := ⟨t.val / 8, by have := lt_of_lt_of_eq t.isLt N_0; omega⟩

theorem rows (h : Inputs m c d) (t : Fin cfg0.N) : Rows d (blk t) (grid0.coords t 1) (iblk m c 0 t) := by
  intro r a n
  obtain ⟨e0, e1, e2⟩ := index0 t
  obtain ⟨-, f1⟩ := coords_eq t
  refine Eq.trans ?_ (h.x _ _ _)
  show V m c main_arg0 (((cfg0.win 0).blk t).view.emb (ix3 r a n)) = _
  congr 1
  funext k; apply Fin.ext
  match k with
  | ⟨0, _⟩ => show win0_0.index t (0 : Fin 3) * 256 + 1 * r.val = 256 * (grid0.coords t 1).val + r.val; rw [e0, f1]; omega
  | ⟨1, _⟩ => show win0_0.index t (1 : Fin 3) * 16 + 1 * a.val = 16 * (t.val / 8) + a.val; rw [e1]; omega
  | ⟨2, _⟩ => show win0_0.index t (2 : Fin 3) * 128 + 1 * n.val = n.val; rw [e2]; omega

theorem labels (h : Inputs m c d) (t : Fin cfg0.N) : Labels d (blk t) (iblk m c 1 t) := by
  intro a s
  obtain ⟨e0, e1⟩ := index1 t
  refine Eq.trans ?_ (h.lab _ _)
  show V m c main_v14 (((cfg0.win 1).blk t).view.emb (ix2 a s)) = _
  congr 1
  funext k; apply Fin.ext
  match k with
  | ⟨0, _⟩ => show win0_1.index t (0 : Fin 2) * 16 + 1 * a.val = 16 * (t.val / 8) + a.val; rw [e0]; omega
  | ⟨1, _⟩ => show win0_1.index t (1 : Fin 2) * 640 + 1 * s.val = s.val; rw [e1]; omega

theorem skips (h : Inputs m c d) (t : Fin cfg0.N) : Skips d (blk t) (iblk m c 2 t) := by
  intro a s
  obtain ⟨e0, e1⟩ := index2 t
  refine Eq.trans ?_ (h.ok _ _)
  show V m c main_v25 (((cfg0.win 2).blk t).view.emb (ix2 a s)) = _
  congr 1
  funext k; apply Fin.ext
  match k with
  | ⟨0, _⟩ => show win0_2.index t (0 : Fin 2) * 16 + 1 * a.val = 16 * (t.val / 8) + a.val; rw [e0]; omega
  | ⟨1, _⟩ => show win0_2.index t (1 : Fin 2) * 640 + 1 * s.val = s.val; rw [e1]; omega

theorem ends (h : Inputs m c d) (t : Fin cfg0.N) (a : Fin 16) (s : Fin 640) :
    @Eq EReal (iblk m c 3 t (ix2 a s)) (if (s : ℕ) = d.hi (row (blk t) a) then 1 else 0) := by
  obtain ⟨e0, e1⟩ := index3 t
  refine Eq.trans ?_ (h.hi _ _)
  show V m c main_v32 (((cfg0.win 3).blk t).view.emb (ix2 a s)) = _
  congr 1
  funext k; apply Fin.ext
  match k with
  | ⟨0, _⟩ => show win0_3.index t (0 : Fin 2) * 16 + 1 * a.val = 16 * (t.val / 8) + a.val; rw [e0]; omega
  | ⟨1, _⟩ => show win0_3.index t (1 : Fin 2) * 640 + 1 * s.val = s.val; rw [e1]; omega

theorem ends1 (h : Inputs m c d) (t : Fin cfg0.N) (a : Fin 16) (s : Fin 640) :
    @Eq EReal (iblk m c 4 t (ix2 a s)) (if (s : ℕ) = d.hi (row (blk t) a) - 1 then 1 else 0) := by
  obtain ⟨e0, e1⟩ := index4 t
  refine Eq.trans ?_ (h.hi1 _ _)
  show V m c main_v38 (((cfg0.win 4).blk t).view.emb (ix2 a s)) = _
  congr 1
  funext k; apply Fin.ext
  match k with
  | ⟨0, _⟩ => show win0_4.index t (0 : Fin 2) * 16 + 1 * a.val = 16 * (t.val / 8) + a.val; rw [e0]; omega
  | ⟨1, _⟩ => show win0_4.index t (1 : Fin 2) * 640 + 1 * s.val = s.val; rw [e1]; omega

attribute [local irreducible] outsAt0 sout0_A_0 sout0_A_1 sout0_B_0 sout0_B_1 out0_C_5 out0_A_5 out0_B_5 sout0_C_0 sout0_C_1 iblk

theorem scoresA (h : Inputs m c d) (hd : d.Ok) (t : Fin cfg0.N) (h0 : t.val % 8 = 0) :
    Scores d (blk t) 255 (outsAt0 m c t.val t.isLt).2.1 (outsAt0 m c t.val t.isLt).2.2 := by
  have h7 : ¬t.val % 8 = 7 := by omega
  have hc : (grid0.coords t 1).val = t.val % 8 := (coords_eq t).2
  have key := pointA (d := d) (ib := blk t) (x0 := iblk m c 0 t) (x1 := iblk m c 1 t) (x2 := iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    ((hcond0_0 t).mpr h0) (fun h => h7 ((hcond0_1 t).mp h)) (iblk m c 3 t) (iblk m c 4 t) hd (rows m c h t) (labels m c h t) (skips m c h t) (hc.trans h0)
  rw [outsAt0_A m c t h0 h7]
  exact key

theorem scoresB (h : Inputs m c d) (hd : d.Ok) (t : Fin cfg0.N) (h0 : ¬t.val % 8 = 0) (h7 : ¬t.val % 8 = 7)
    (hp : Scores d (blk t) (256 * (t.val % 8) - 1) (outsAt0 m c (t.val - 1) (Nat.lt_of_le_of_lt (Nat.sub_le _ _) t.isLt)).2.1 (outsAt0 m c (t.val - 1) (Nat.lt_of_le_of_lt (Nat.sub_le _ _) t.isLt)).2.2) :
    Scores d (blk t) (256 * (t.val % 8) + 255) (outsAt0 m c t.val t.isLt).2.1 (outsAt0 m c t.val t.isLt).2.2 := by
  have hc : (grid0.coords t 1).val = t.val % 8 := (coords_eq t).2
  rw [← hc] at hp ⊢
  have key := pointB (d := d) (ib := blk t) (x0 := iblk m c 0 t) (x1 := iblk m c 1 t) (x2 := iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (fun h => h0 ((hcond0_0 t).mp h)) (fun h => h7 ((hcond0_1 t).mp h)) (iblk m c 3 t) (iblk m c 4 t) hd (rows m c h t) (labels m c h t) (skips m c h t) (by rw [hc]; exact h0) hp
  rw [outsAt0_B m c t h0 h7]
  exact key

/-- After a point that is not the last of its block of samples, the scratch buffers hold the scores of its last time. -/
theorem scores (h : Inputs m c d) (hd : d.Ok) : ∀ (n : ℕ) (t : Fin cfg0.N), t.val = n → t.val % 8 ≠ 7 →
    Scores d (blk t) (256 * (t.val % 8) + 255) (outsAt0 m c t.val t.isLt).2.1 (outsAt0 m c t.val t.isLt).2.2 := by
  intro n
  induction n with
  | zero =>
    intro t ht h7
    have hs := scoresA m c h hd t (by omega)
    rw [show 256 * (t.val % 8) + 255 = 255 by omega]
    exact hs
  | succ n ih =>
    intro t ht h7
    by_cases h0 : t.val % 8 = 0
    · have hs := scoresA m c h hd t h0
      rw [show 256 * (t.val % 8) + 255 = 255 by omega]
      exact hs
    · have hp := ih ⟨t.val - 1, Nat.lt_of_le_of_lt (Nat.sub_le _ _) t.isLt⟩ (by show t.val - 1 = n; omega) (by show (t.val - 1) % 8 ≠ 7; omega)
      have eb : blk ⟨t.val - 1, Nat.lt_of_le_of_lt (Nat.sub_le _ _) t.isLt⟩ = blk t := Fin.ext (by show (t.val - 1) / 8 = t.val / 8; omega)
      have et : 256 * ((t.val - 1) % 8) + 255 = 256 * (t.val % 8) - 1 := by omega
      refine scoresB m c h hd t h0 h7 ?_
      rw [← eb, ← et]
      exact hp

/-- The last point of a block of samples writes each sample's contribution. -/
theorem written (h : Inputs m c d) (hd : d.Ok) (t : Fin cfg0.N) (h7 : t.val % 8 = 7) (a : Fin 16) (l : Fin 128) :
    @Eq EReal ((outsAt0 m c t.val t.isLt).1 (ix3 0 a l)) (d.contrib (row (blk t) a) : ℝ) := by
  have hc : (grid0.coords t 1).val = t.val % 8 := (coords_eq t).2
  have hp := scores m c h hd (t.val - 1) ⟨t.val - 1, Nat.lt_of_le_of_lt (Nat.sub_le _ _) t.isLt⟩ rfl (by show (t.val - 1) % 8 ≠ 7; omega)
  simp only at hp
  have eb : blk ⟨t.val - 1, Nat.lt_of_le_of_lt (Nat.sub_le _ _) t.isLt⟩ = blk t := Fin.ext (by show (t.val - 1) / 8 = t.val / 8; omega)
  have et : 256 * ((t.val - 1) % 8) + 255 = 1791 := by omega
  rw [eb, et] at hp
  rw [outsAt0_C m c t (by omega) h7]
  obtain ⟨al, ad, hs, e⟩ := pointC (d := d) (ib := blk t) (x0 := iblk m c 0 t) (x1 := iblk m c 1 t) (x2 := iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (fun h => (show ¬t.val % 8 = 0 by omega) ((hcond0_0 t).mp h)) ((hcond0_1 t).mpr h7) (iblk m c 3 t) (iblk m c 4 t) hd (rows m c h t) (labels m c h t) (skips m c h t) (hc.trans h7) hp
  refine (congrFun e _).trans ?_
  exact pay1_at hd hs (ends m c h t) (ends1 m c h t) a l

end Cert.KernelIdeal.Value

end
-- ==== Proof.KArr.lean ====
/-
  The array the kernel's grid leaves: each sample's contribution, across the lanes of the sample's row.
-/
module

public import proofs.«01_k».proof.Proof.KGrid
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem Cert.Ctc
open Idealize.ShloMosaic.Pipeline (Dat)

variable (m : (ℓ : Loc nD τ sig) → Buf (Elt Ideal) ℓ) (c : Dev nD) {d : Data}

/-- The array the kernel's grid is to leave. -/
def result (d : Data) : Vec Ideal S4x16x128 .f32 := fun i => ((d.contrib (row (i 0) (i 1)) : ℝ) : EReal)

theorem index5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- What the last point of a block of samples writes back is that block of the array. -/
theorem flushed_eq (h : Inputs m c d) (hd : d.Ok) (t : Fin cfg0.N) (hf : (cfg0.win 5).flush t = true) :
    (dats m 0 c).flushed 5 t = ((cfg0.win 5).blk t).view.read (Elt Ideal) (result d) := by
  show (cfg0.win 5).cut (grid0.coords t) ((dats m 0 c).after 5 t) = _
  rw [after0_5]
  have h7 : t.val % 8 = 7 := (flush0_5 t).mp hf
  obtain ⟨e0, e1, e2⟩ := index5 t
  funext y
  have hy0 : (y 0).val < 1 := (y 0).isLt
  have hy1 : (y 1).val < 16 := (y 1).isLt
  have hy2 : (y 2).val < 128 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 16 + 1 * (y 1).val := rfl
  have hx : (cfg0.win 5).xinj (grid0.coords t) y = ix3 0 (⟨(y 1).val, hy1⟩ : Fin 16) (⟨(y 2).val, hy2⟩ : Fin 128) := by
    funext k; apply Fin.ext
    match k with
    | ⟨0, _⟩ => show (y 0).val = 0; omega
    | ⟨1, _⟩ => rfl
    | ⟨2, _⟩ => rfl
  show (outsAt0 m c t.val t.isLt).1 ((cfg0.win 5).xinj (grid0.coords t) y) = result d (((cfg0.win 5).blk t).view.emb y)
  rw [hx]
  refine (written m c h hd t h7 _ _).trans ?_
  unfold result
  have er : row (blk t) ⟨(y 1).val, hy1⟩ = row ((((cfg0.win 5).blk t).view.emb y) 0) ((((cfg0.win 5).blk t).view.emb y) 1) := by
    apply Fin.ext
    show 16 * (t.val / 8) + (y 1).val = 16 * (((cfg0.win 5).blk t).view.emb y 0).val + (((cfg0.win 5).blk t).view.emb y 1).val
    rw [hb0, hb1, e0, e1]; omega
  exact congrArg (fun b => ((d.contrib b : ℝ) : EReal)) er

/-- An index lies in a point's block when each coordinate lies in the block's range. -/
theorem mem_block (t : Fin cfg0.N) (i : S4x16x128.Idx) :
    i ∈ ((cfg0.win 5).blk t).view.set ↔ ∀ a : Fin 3, win0_5.index t a * S1x16x128.size a ≤ (i a).val ∧ (i a).val < win0_5.index t a * S1x16x128.size a + S1x16x128.size a := by
  show i ∈ ((View.whole main_v39).slice (win0_5.rect t)).set ↔ _
  rw [View.set_slice_whole, Rect.mem_set_unit]
  exact Iff.rfl

/-- The blocks written back fill the array. -/
theorem covered (i : S4x16x128.Idx) : ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 128 := (i 2).isLt
  have ht : 8 * (i 0).val + 7 < cfg0.N := lt_of_lt_of_eq (by omega) N_0.symm
  obtain ⟨e0, e1, e2⟩ := index5 ⟨8 * (i 0).val + 7, ht⟩
  simp only at e0
  refine ⟨⟨8 * (i 0).val + 7, ht⟩, (flush0_5 _).mpr (by show (8 * (i 0).val + 7) % 8 = 7; omega), ?_⟩
  rw [mem_block]
  intro a
  match a with
  | ⟨0, _⟩ => show win0_5.index _ (0 : Fin 3) * 1 ≤ (i 0).val ∧ (i 0).val < win0_5.index _ (0 : Fin 3) * 1 + 1; rw [e0]; omega
  | ⟨1, _⟩ => show win0_5.index _ (1 : Fin 3) * 16 ≤ (i 1).val ∧ (i 1).val < win0_5.index _ (1 : Fin 3) * 16 + 16; rw [e1]; omega
  | ⟨2, _⟩ => show win0_5.index _ (2 : Fin 3) * 128 ≤ (i 2).val ∧ (i 2).val < win0_5.index _ (2 : Fin 3) * 128 + 128; rw [e2]; omega

/-- The array after the grid. -/
theorem array (h : Inputs m c d) (hd : d.Ok) : (dats m 0 c).arrAt 5 cfg0.N = result d :=
  (dats m 0 c).arrAt_eq_of_cover 5 _ (fun t hf => flushed_eq m c h hd t hf) covered

end Cert.KernelIdeal.Value

end
-- ==== Proof.KOps.lean ====
/-
  The kernel's host operations before and after its grid, one equation for each.
-/
module

public import proofs.«01_k».proof.Proof.Gen.KernelIdeal.Frame
public import Idealize.ShloMosaic.Lib.StableHlo.RunRead

@[expose] public section

set_option maxRecDepth 8192

noncomputable section

namespace Cert.KernelIdeal.Value

open Cert.KernelIdeal Cert.KernelIdeal.Gen Idealize.ShloMosaic Idealize.ShloMosaic.TcCoe Idealize.ShloMosaic.StableHlo Idealize.SL.Sem

variable {F : FTy → Type} [FloatOps F] [Named F]

/-! Reading a line of operations that each write a buffer of their own: what an operation leaves in its buffer is its
    function of what the whole line leaves in its operands (or of what they held at the start). -/
section Ssa

variable {ops : List (HloOp τ sig (Elt F))} {W : List (Ref sig .tc)}

theorem ini (hW : ops.map HloOp.writes = W.map fun r => {Proc.devRef (τ := τ) .tc r}) (i : ℕ) (r : Ref sig .tc)
    (h : r ∉ W.take i) (V : Valuation τ sig (Elt F)) : upto ops V i (Proc.devRef .tc r) = V (Proc.devRef .tc r) :=
  upto_unwritten (W.take i) (by rw [List.map_take, hW, List.map_take]) h V

theorem fin (hW : ops.map HloOp.writes = W.map fun r => {Proc.devRef (τ := τ) .tc r}) (i : ℕ) (r : Ref sig .tc)
    (h : r ∉ W.drop i) (V : Valuation τ sig (Elt F)) :
    upto ops V i (Proc.devRef .tc r) = after ops V (Proc.devRef .tc r) := by
  have h1 : after ops V = after (ops.drop i) (upto ops V i) := by
    have := after_append (ops.take i) (ops.drop i) V
    rwa [List.take_append_drop] at this
  rw [h1]
  exact (after_unwritten (W.drop i) (by rw [List.map_drop, hW, List.map_drop]) h _).symm

theorem lst (hW : ops.map HloOp.writes = W.map fun r => {Proc.devRef (τ := τ) .tc r}) (i : ℕ) {r : Ref sig .tc}
    {op : HloOp τ sig (Elt F)} {rest : List (HloOp τ sig (Elt F))} (hd : ops.drop i = op :: rest)
    (h : r ∉ W.drop (i + 1)) (V : Valuation τ sig (Elt F)) :
    after ops V (Proc.devRef .tc r) = op.result (upto ops V i) (Proc.devRef .tc r) :=
  after_last_write (W.drop (i + 1)) hd (by
    have : rest = ops.drop (i + 1) := by rw [← List.drop_drop, hd]; rfl
    rw [this, List.map_drop, hW, List.map_drop]) h V

variable (hW : ops.map HloOp.writes = W.map fun r => {Proc.devRef (τ := τ) .tc r}) (i : ℕ)
  {x a b c y : Ref sig .tc} {rest : List (HloOp τ sig (Elt F))}
include hW

theorem s_nullary {v : y.ty.Contents (Elt F)} {hy} (hd : ops.drop i = nullary y v hy :: rest) (h : y ∉ W.drop (i + 1))
    (V : Valuation τ sig (Elt F)) : after ops V (Proc.devRef .tc y) = v :=
  (lst hW i hd h V).trans (nullary_result ..)
theorem s_unary {f : x.ty.Contents (Elt F) → y.ty.Contents (Elt F)} {hx hy} (hd : ops.drop i = unary x y f hx hy :: rest)
    (h : y ∉ W.drop (i + 1)) (V : Valuation τ sig (Elt F)) :
    after ops V (Proc.devRef .tc y) = f (upto ops V i (Proc.devRef .tc x)) :=
  (lst hW i hd h V).trans (unary_result ..)
theorem s_binary {f : a.ty.Contents (Elt F) → b.ty.Contents (Elt F) → y.ty.Contents (Elt F)} {ha hb hy}
    (hd : ops.drop i = binary a b y f ha hb hy :: rest) (h : y ∉ W.drop (i + 1)) (V : Valuation τ sig (Elt F)) :
    after ops V (Proc.devRef .tc y) = f (upto ops V i (Proc.devRef .tc a)) (upto ops V i (Proc.devRef .tc b)) :=
  (lst hW i hd h V).trans (binary_result ..)
theorem s_ternary {f : c.ty.Contents (Elt F) → a.ty.Contents (Elt F) → b.ty.Contents (Elt F) → y.ty.Contents (Elt F)}
    {hc ha hb hy} (hd : ops.drop i = ternary c a b y f hc ha hb hy :: rest) (h : y ∉ W.drop (i + 1))
    (V : Valuation τ sig (Elt F)) : after ops V (Proc.devRef .tc y)
      = f (upto ops V i (Proc.devRef .tc c)) (upto ops V i (Proc.devRef .tc a)) (upto ops V i (Proc.devRef .tc b)) :=
  (lst hW i hd h V).trans (ternary_result ..)
theorem s_reshape {he hn hx hy} (hd : ops.drop i = reshape (Val := Elt F) x y he hn hx hy :: rest) (h : y ∉ W.drop (i + 1))
    (V : Valuation τ sig (Elt F)) : after ops V (Proc.devRef .tc y)
      = fun j => he ▸ shapeCast y.ty.shape (upto ops V i (Proc.devRef .tc x)) hn j :=
  (lst hW i hd h V).trans (reshape_result ..)

end Ssa

namespace Before
/-- The operations in one line. -/
abbrev ops : List (HloOp τ sig (Elt F)) := (List.flatten [hostOps0, hostOps0_1, hostOps0_2, hostOps0_3, hostOps0_4, hostOps0_5, hostOps0_6, hostOps0_7, hostOps0_8, hostOps0_9, hostOps0_10, hostOps0_11, hostOps0_12])
/-- What they write, in order. -/
abbrev W : List (Ref sig .tc) := [main_v0, main_v1, main_c, main_v2, main_v3, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_1, main_c_2, main_call1_v0, main_call1_v1, main_call1_v2, main_call1_v3, main_call1_v4, main_v5, main_v6, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v7, main_c_3, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v8, main_c_4, main_v9, main_v10, main_c_5, main_v11, main_v12, main_v13, main_c_6, main_call4_v0, main_call4_v1, main_call4_v2, main_v14, main_c_7, main_call5_v0, main_v15, main_v16, main_c_8, main_v17, main_v18, main_c_9, main_v19, main_v20, main_v21, main_v22, main_v23, main_v24, main_v25, main_v26, main_c_10, main_v27, main_v28, main_v29, main_v30, main_v31, main_v32, main_c_11, main_v33, main_v34, main_v35, main_v36, main_v37, main_v38]
theorem hW : (ops (F := F)).map HloOp.writes = W.map fun r => {Proc.devRef (τ := τ) .tc r} := rfl
variable (V : Valuation τ sig (Elt F))
theorem e_main_v0 : after ops V (Proc.devRef .tc main_v0) = iotaInDim S640 32 0 := by
  exact s_nullary hW 0 rfl (by decide +kernel) V
theorem e_main_v1 : after ops V (Proc.devRef .tc main_v1) = broadcastInDim S1x640 ![1] bcast_S640_S1x640_1 (after ops V (Proc.devRef .tc main_v0)) := by
  rw [s_unary hW 1 rfl (by decide +kernel) V, fin hW 1 main_v0 (by decide +kernel)] <;> (generalize after ops V = X; rfl)
theorem e_main_c : after ops V (Proc.devRef .tc main_c) = constantI S_ 32 1#32 := by
  exact s_nullary hW 2 rfl (by decide +kernel) V
theorem e_main_v2 : after ops V (Proc.devRef .tc main_v2) = broadcastInDim S1x640 ![] bcast_S_S1x640 (after ops V (Proc.devRef .tc main_c)) := by
  rw [s_unary hW 3 rfl (by decide +kernel) V, fin hW 3 main_c (by decide +kernel)] <;> (generalize after ops V = X; rfl)
theorem e_main_v3 : after ops V (Proc.devRef .tc main_v3) = subi (after ops V (Proc.devRef .tc main_v1)) (after ops V (Proc.devRef .tc main_v2)) := by
  rw [s_binary hW 4 rfl (by decide +kernel) V, fin hW 4 main_v1 (by decide +kernel), fin hW 4 main_v2 (by decide +kernel)] <;> (generalize after ops V = X; rfl)
theorem e_main_c_0 : after ops V (Proc.devRef .tc main_c_0) = constantI S_ 32 2#32 := by
  exact s_nullary hW 5 rfl (by decide +kernel) V
theorem e_main_call0_v0 : after ops V (Proc.devRef .tc main_call0_v0) = id (after ops V (Proc.devRef .tc main_c_0)) := by
  rw [s_unary hW 6 rfl (by decide +kernel) V, fin hW 6 main_c_0 (by decide +kernel)] <;> (generalize after ops V = X; rfl)
theorem e_main_call0_v1 : after ops V (Proc.devRef .tc main_call0_v1) = broadcastInDim S1x640 ![] bcast_S_S1x640 (after ops V (Proc.devRef .tc main_call0_v0)) := by
  rw [s_unary hW 7 rfl (by decide +kernel) V, fin hW 7 main_call0_v0 (by decide +kernel)] <;> (generalize after ops V = X; rfl)
theorem e_main_call0_v2 : after ops V (Proc.devRef .tc main_call0_v2) = Host.divsi (after ops V (Proc.devRef .tc main_v3)) (after ops V (Proc.devRef .tc main_call0_v1)) := by
  rw [s_binary hW 8 rfl (by decide +kernel) V, fin hW 8 main_v3 (by decide +kernel), fin hW 8 main_call0_v1 (by decide +kernel)] <;> (generalize after ops V = X; rfl)
theorem e_main_call0_v3 : after ops V (Proc.devRef .tc main_call0_v3) = signi (after ops V (Proc.devRef .tc main_v3)) := by
  rw [s_unary hW 9 rfl (by decide +kernel) V, fin hW 9 main_v3 (by decide +kernel)] <;> (generalize after ops V = X; rfl)
theorem e_main_call0_v4 : after ops V (Proc.devRef .tc main_call0_v4) = signi (after ops V (Proc.devRef .tc main_call0_v0)) := by
  rw [s_unary hW 10 rfl (by decide +kernel) V, fin hW 10 main_call0_v0 (by decide +kernel)] <;> (generalize after ops V = X; rfl)
theorem e_main_call0_v5 : after ops V (Proc.devRef .tc main_call0_v5) = broadcastInDim S1x640 ![] bcast_S_S1x640 (after ops V (Proc.devRef .tc main_call0_v4)) := by
  rw [s_unary hW 11 rfl (by decide +kernel) V, fin hW 11 main_call0_v4 (by decide +kernel)] <;> (generalize after ops V = X; rfl)
theorem e_main_call0_v6 : after ops V (Proc.devRef .tc main_call0_v6) = cmpi .ne (after ops V (Proc.devRef .tc main_call0_v3)) (after ops V (Proc.devRef .tc main_call0_v5)) := by
  rw [s_binary hW 12 rfl (by decide +kernel) V, fin hW 12 main_call0_v3 (by decide +kernel), fin hW 12 main_call0_v5 (by decide +kernel)] <;> (generalize after ops V = X; rfl)
theorem e_main_call0_v7 : after ops V (Proc.devRef .tc main_call0_v7) = broadcastInDim S1x640 ![] bcast_S_S1x640 (after ops V (Proc.devRef .tc main_call0_v0)) := by
  rw [s_unary hW 13 rfl (by decide +kernel) V, fin hW 13 main_call0_v0 (by decide +kernel)] <;> (generalize after ops V = X; rfl)
theorem e_main_call0_v8 : after ops V (Proc.devRef .tc main_call0_v8) = Host.remsi (after ops V (Proc.devRef .tc main_v3)) (after ops V (Proc.devRef .tc main_call0_v7)) := by
  rw [s_binary hW 14 rfl (by decide +kernel) V, fin hW 14 main_v3 (by decide +kernel), fin hW 14 main_call0_v7 (by decide +kernel)] <;> (generalize after ops V = X; rfl)
theorem e_main_call0_c : after ops V (Proc.devRef .tc main_call0_c) = constantI S_ 32 0#32 := by
  exact s_nullary hW 15 rfl (by decide +kernel) V
theorem e_main_call0_v9 : after ops V (Proc.devRef .tc main_call0_v9) = broadcastInDim S1x640 ![] bcast_S_S1x640 (after ops V (Proc.devRef .tc main_call0_c)) := by
  rw [s_unary hW 16 rfl (by decide +kernel) V, fin hW 16 main_call0_c (by decide +kernel)] <;> (generalize after ops V = X; rfl)
theorem e_main_call0_v10 : after ops V (Proc.devRef .tc main_call0_v10) = cmpi .ne (after ops V (Proc.devRef .tc main_call0_v8)) (after ops V (Proc.devRef .tc main_call0_v9)) := by
  rw [s_binary hW 17 rfl (by decide +kernel) V, fin hW 17 main_call0_v8 (by decide +kernel), fin hW 17 main_call0_v9 (by decide +kernel)] <;> (generalize after ops V = X; rfl)
theorem e_main_call0_v11 : after ops V (Proc.devRef .tc main_call0_v11) = andi (after ops V (Proc.devRef .tc main_call0_v6)) (after ops V (Proc.devRef .tc main_call0_v10)) := by
  rw [s_binary hW 18 rfl (by decide +kernel) V, fin hW 18 main_call0_v6 (by decide +kernel), fin hW 18 main_call0_v10 (by decide +kernel)] <;> (generalize after ops V = X; rfl)
theorem e_main_call0_c_0 : after ops V (Proc.devRef .tc main_call0_c_0) = constantI S_ 32 1#32 := by
  exact s_nullary hW 19 rfl (by decide +kernel) V
theorem e_main_call0_v12 : after ops V (Proc.devRef .tc main_call0_v12) = broadcastInDim S1x640 ![] bcast_S_S1x640 (after ops V (Proc.devRef .tc main_call0_c_0)) := by
  rw [s_unary hW 20 rfl (by decide +kernel) V, fin hW 20 main_call0_c_0 (by decide +kernel)] <;> (generalize after ops V = X; rfl)
theorem e_main_call0_v13 : after ops V (Proc.devRef .tc main_call0_v13) = subi (after ops V (Proc.devRef .tc main_call0_v2)) (after ops V (Proc.devRef .tc main_call0_v12)) := by
  rw [s_binary hW 21 rfl (by decide +kernel) V, fin hW 21 main_call0_v2 (by decide +kernel), fin hW 21 main_call0_v12 (by decide +kernel)] <;> (generalize after ops V = X; rfl)
theorem e_main_v4 : after ops V (Proc.devRef .tc main_v4) = select (after ops V (Proc.devRef .tc main_call0_v11)) (after ops V (Proc.devRef .tc main_call0_v13)) (after ops V (Proc.devRef .tc main_call0_v2)) := by
  rw [s_ternary hW 22 rfl (by decide +kernel) V, fin hW 22 main_call0_v11 (by decide +kernel), fin hW 22 main_call0_v13 (by decide +kernel), fin hW 22 main_call0_v2 (by decide +kernel)] <;> (generalize after ops V = X; rfl)
theorem e_main_c_1 : after ops V (Proc.devRef .tc main_c_1) = constantI S_ 32 0#32 := by
  exact s_nullary hW 23 rfl (by decide +kernel) V
theorem e_main_c_2 : after ops V (Proc.devRef .tc main_c_2) = constantI S_ 32 255#32 := by
  exact s_nullary hW 24 rfl (by decide +kernel) V
theorem e_main_call1_v0 : after ops V (Proc.devRef .tc main_call1_v0) = id (after ops V (Proc.devRef .tc main_c_1)) := by
  rw [s_unary hW 25 rfl (by decide +kernel) V, fin hW 25 main_c_1 (by decide +kernel)] <;> (generalize after ops V = X; rfl)
theorem e_main_call1_v1 : after ops V (Proc.devRef .tc main_call1_v1) = broadcastInDim S1x640 ![] bcast_S_S1x640 (after ops V (Proc.devRef .tc main_call1_v0)) := by
  rw [s_unary hW 26 rfl (by decide +kernel) V, fin hW 26 main_call1_v0 (by decide +kernel)] <;> (generalize after ops V = X; rfl)
theorem e_main_call1_v2 : after ops V (Proc.devRef .tc main_call1_v2) = maxsi (after ops V (Proc.devRef .tc main_call1_v1)) (after ops V (Proc.devRef .tc main_v4)) := by
  rw [s_binary hW 27 rfl (by decide +kernel) V, fin hW 27 main_call1_v1 (by decide +kernel), fin hW 27 main_v4 (by decide +kernel)] <;> (generalize after ops V = X; rfl)
theorem e_main_call1_v3 : after ops V (Proc.devRef .tc main_call1_v3) = id (after ops V (Proc.devRef .tc main_c_2)) := by
  rw [s_unary hW 28 rfl (by decide +kernel) V, fin hW 28 main_c_2 (by decide +kernel)] <;> (generalize after ops V = X; rfl)
theorem e_main_call1_v4 : after ops V (Proc.devRef .tc main_call1_v4) = broadcastInDim S1x640 ![] bcast_S_S1x640 (after ops V (Proc.devRef .tc main_call1_v3)) := by
  rw [s_unary hW 29 rfl (by decide +kernel) V, fin hW 29 main_call1_v3 (by decide +kernel)] <;> (generalize after ops V = X; rfl)
theorem e_main_v5 : after ops V (Proc.devRef .tc main_v5) = minsi (after ops V (Proc.devRef .tc main_call1_v4)) (after ops V (Proc.devRef .tc main_call1_v2)) := by
  rw [s_binary hW 30 rfl (by decide +kernel) V, fin hW 30 main_call1_v4 (by decide +kernel), fin hW 30 main_call1_v2 (by decide +kernel)] <;> (generalize after ops V = X; rfl)
theorem e_main_v6 : after ops V (Proc.devRef .tc main_v6) = broadcastInDim S64x640 ![0, 1] bcast_S1x640_S64x640_0_1 (after ops V (Proc.devRef .tc main_v5)) := by
  rw [s_unary hW 31 rfl (by decide +kernel) V, fin hW 31 main_v5 (by decide +kernel)] <;> (generalize after ops V = X; rfl)
theorem e_main_call2_c : after ops V (Proc.devRef .tc main_call2_c) = constantI S_ 32 0#32 := by
  exact s_nullary hW 32 rfl (by decide +kernel) V
theorem e_main_call2_v0 : after ops V (Proc.devRef .tc main_call2_v0) = broadcastInDim S64x640 ![] bcast_S_S64x640 (after ops V (Proc.devRef .tc main_call2_c)) := by
  rw [s_unary hW 33 rfl (by decide +kernel) V, fin hW 33 main_call2_c (by decide +kernel)] <;> (generalize after ops V = X; rfl)
theorem e_main_call2_v1 : after ops V (Proc.devRef .tc main_call2_v1) = cmpi .slt (after ops V (Proc.devRef .tc main_v6)) (after ops V (Proc.devRef .tc main_call2_v0)) := by
  rw [s_binary hW 34 rfl (by decide +kernel) V, fin hW 34 main_v6 (by decide +kernel), fin hW 34 main_call2_v0 (by decide +kernel)] <;> (generalize after ops V = X; rfl)
theorem e_main_call2_c_0 : after ops V (Proc.devRef .tc main_call2_c_0) = constantI S_ 32 256#32 := by
  exact s_nullary hW 35 rfl (by decide +kernel) V
theorem e_main_call2_v2 : after ops V (Proc.devRef .tc main_call2_v2) = broadcastInDim S64x640 ![] bcast_S_S64x640 (after ops V (Proc.devRef .tc main_call2_c_0)) := by
  rw [s_unary hW 36 rfl (by decide +kernel) V, fin hW 36 main_call2_c_0 (by decide +kernel)] <;> (generalize after ops V = X; rfl)
theorem e_main_call2_v3 : after ops V (Proc.devRef .tc main_call2_v3) = addi (after ops V (Proc.devRef .tc main_v6)) (after ops V (Proc.devRef .tc main_call2_v2)) := by
  rw [s_binary hW 37 rfl (by decide +kernel) V, fin hW 37 main_v6 (by decide +kernel), fin hW 37 main_call2_v2 (by decide +kernel)] <;> (generalize after ops V = X; rfl)
theorem e_main_call2_v4 : after ops V (Proc.devRef .tc main_call2_v4) = select (after ops V (Proc.devRef .tc main_call2_v1)) (after ops V (Proc.devRef .tc main_call2_v3)) (after ops V (Proc.devRef .tc main_v6)) := by
  rw [s_ternary hW 38 rfl (by decide +kernel) V, fin hW 38 main_call2_v1 (by decide +kernel), fin hW 38 main_call2_v3 (by decide +kernel), fin hW 38 main_v6 (by decide +kernel)] <;> (generalize after ops V = X; rfl)
theorem e_main_call2_v5 : after ops V (Proc.devRef .tc main_call2_v5) = shapeCast S64x640x1 (after ops V (Proc.devRef .tc main_call2_v4)) shapeCasts_S64x640_S64x640x1 := by
  rw [s_reshape hW 39 rfl (by decide +kernel) V, fin hW 39 main_call2_v4 (by decide +kernel)] <;> (generalize after ops V = X; rfl)
theorem e_main_call2_c_1 : after ops V (Proc.devRef .tc main_call2_c_1) = constantI S1 32 255#32 := by
  exact s_nullary hW 40 rfl (by decide +kernel) V
theorem e_main_call2_c_2 : after ops V (Proc.devRef .tc main_call2_c_2) = constantI S_ 32 0#32 := by
  exact s_nullary hW 41 rfl (by decide +kernel) V
theorem e_main_call2_v6 : after ops V (Proc.devRef .tc main_call2_v6) = broadcastInDim S64x640x1 ![] bcast_S_S64x640x1 (after ops V (Proc.devRef .tc main_call2_c_2)) := by
  rw [s_unary hW 42 rfl (by decide +kernel) V, fin hW 42 main_call2_c_2 (by decide +kernel)] <;> (generalize after ops V = X; rfl)
theorem e_main_call2_v7 : after ops V (Proc.devRef .tc main_call2_v7) = cmpi .sge (after ops V (Proc.devRef .tc main_call2_v5)) (after ops V (Proc.devRef .tc main_call2_v6)) := by
  rw [s_binary hW 43 rfl (by decide +kernel) V, fin hW 43 main_call2_v5 (by decide +kernel), fin hW 43 main_call2_v6 (by decide +kernel)] <;> (generalize after ops V = X; rfl)
theorem e_main_call2_v8 : after ops V (Proc.devRef .tc main_call2_v8) = broadcastInDim S1x1x1 ![2] bcast_S1_S1x1x1_2 (after ops V (Proc.devRef .tc main_call2_c_1)) := by
  rw [s_unary hW 44 rfl (by decide +kernel) V, fin hW 44 main_call2_c_1 (by decide +kernel)] <;> (generalize after ops V = X; rfl)
theorem e_main_call2_v9 : after ops V (Proc.devRef .tc main_call2_v9) = broadcastInDim S64x640x1 ![0, 1, 2] bcast_S1x1x1_S64x640x1_0_1_2 (after ops V (Proc.devRef .tc main_call2_v8)) := by
  rw [s_unary hW 45 rfl (by decide +kernel) V, fin hW 45 main_call2_v8 (by decide +kernel)] <;> (generalize after ops V = X; rfl)
theorem e_main_call2_v10 : after ops V (Proc.devRef .tc main_call2_v10) = cmpi .sle (after ops V (Proc.devRef .tc main_call2_v5)) (after ops V (Proc.devRef .tc main_call2_v9)) := by
  rw [s_binary hW 46 rfl (by decide +kernel) V, fin hW 46 main_call2_v5 (by decide +kernel), fin hW 46 main_call2_v9 (by decide +kernel)] <;> (generalize after ops V = X; rfl)
theorem e_main_call2_v11 : after ops V (Proc.devRef .tc main_call2_v11) = andi (after ops V (Proc.devRef .tc main_call2_v7)) (after ops V (Proc.devRef .tc main_call2_v10)) := by
  rw [s_binary hW 47 rfl (by decide +kernel) V, fin hW 47 main_call2_v7 (by decide +kernel), fin hW 47 main_call2_v10 (by decide +kernel)] <;> (generalize after ops V = X; rfl)
theorem e_main_call2_c_3 : after ops V (Proc.devRef .tc main_call2_c_3) = constantI S_ 1 1#1 := by
  exact s_nullary hW 48 rfl (by decide +kernel) V
theorem e_main_call2_v12 : after ops V (Proc.devRef .tc main_call2_v12) = Host.reduce IntOp.andi (after ops V (Proc.devRef .tc main_call2_v11)) (after ops V (Proc.devRef .tc main_call2_c_3)) reducesTo_S64x640x1_S64x640_d2 h_S_ := by
  rw [s_binary hW 49 rfl (by decide +kernel) V, fin hW 49 main_call2_v11 (by decide +kernel), fin hW 49 main_call2_c_3 (by decide +kernel)] <;> (generalize after ops V (Proc.devRef .tc main_call2_v11) = X; generalize after ops V (Proc.devRef .tc main_call2_c_3) = Y; exact (cast_eq _ _).trans (congrArg₂ (fun (x : Vec F S64x640x1 .i1) (v : Vec F S_ .i1) => Host.reduce IntOp.andi x v reducesTo_S64x640x1_S64x640_d2 h_S_) (cast_eq _ X) (cast_eq _ Y)))
theorem e_main_call2_v13 : after ops V (Proc.devRef .tc main_call2_v13) = Host.gather gather_S64x256_S64x640x1_S64x640_n_1_0_0_1_2_11 (V (Proc.devRef .tc main_arg1)) (after ops V (Proc.devRef .tc main_call2_v5)) := by
  rw [s_binary hW 50 rfl (by decide +kernel) V, ini hW 50 main_arg1 (by decide +kernel), fin hW 50 main_call2_v5 (by decide +kernel)] <;> (generalize after ops V = X; rfl)
theorem e_main_call2_c_4 : after ops V (Proc.devRef .tc main_call2_c_4) = constantI S_ 32 2147483648#32 := by
  exact s_nullary hW 51 rfl (by decide +kernel) V
theorem e_main_call2_v14 : after ops V (Proc.devRef .tc main_call2_v14) = broadcastInDim S64x640 ![] bcast_S_S64x640 (after ops V (Proc.devRef .tc main_call2_c_4)) := by
  rw [s_unary hW 52 rfl (by decide +kernel) V, fin hW 52 main_call2_c_4 (by decide +kernel)] <;> (generalize after ops V = X; rfl)
theorem e_main_v7 : after ops V (Proc.devRef .tc main_v7) = select (after ops V (Proc.devRef .tc main_call2_v12)) (after ops V (Proc.devRef .tc main_call2_v13)) (after ops V (Proc.devRef .tc main_call2_v14)) := by
  rw [s_ternary hW 53 rfl (by decide +kernel) V, fin hW 53 main_call2_v12 (by decide +kernel), fin hW 53 main_call2_v13 (by decide +kernel), fin hW 53 main_call2_v14 (by decide +kernel)] <;> (generalize after ops V = X; rfl)
theorem e_main_c_3 : after ops V (Proc.devRef .tc main_c_3) = constantI S_ 32 2#32 := by
  exact s_nullary hW 54 rfl (by decide +kernel) V
theorem e_main_call3_v0 : after ops V (Proc.devRef .tc main_call3_v0) = id (after ops V (Proc.devRef .tc main_c_3)) := by
  rw [s_unary hW 55 rfl (by decide +kernel) V, fin hW 55 main_c_3 (by decide +kernel)] <;> (generalize after ops V = X; rfl)
theorem e_main_call3_c : after ops V (Proc.devRef .tc main_call3_c) = constantI S_ 32 0#32 := by
  exact s_nullary hW 56 rfl (by decide +kernel) V
theorem e_main_call3_v1 : after ops V (Proc.devRef .tc main_call3_v1) = cmpi .eq (after ops V (Proc.devRef .tc main_call3_v0)) (after ops V (Proc.devRef .tc main_call3_c)) := by
  rw [s_binary hW 57 rfl (by decide +kernel) V, fin hW 57 main_call3_v0 (by decide +kernel), fin hW 57 main_call3_c (by decide +kernel)] <;> (generalize after ops V = X; rfl)
theorem e_main_call3_c_0 : after ops V (Proc.devRef .tc main_call3_c_0) = constantI S_ 32 1#32 := by
  exact s_nullary hW 58 rfl (by decide +kernel) V
theorem e_main_call3_v2 : after ops V (Proc.devRef .tc main_call3_v2) = select (after ops V (Proc.devRef .tc main_call3_v1)) (after ops V (Proc.devRef .tc main_call3_c_0)) (after ops V (Proc.devRef .tc main_call3_v0)) := by
  rw [s_ternary hW 59 rfl (by decide +kernel) V, fin hW 59 main_call3_v1 (by decide +kernel), fin hW 59 main_call3_c_0 (by decide +kernel), fin hW 59 main_call3_v0 (by decide +kernel)] <;> (generalize after ops V = X; rfl)
theorem e_main_call3_v3 : after ops V (Proc.devRef .tc main_call3_v3) = broadcastInDim S1x640 ![] bcast_S_S1x640 (after ops V (Proc.devRef .tc main_call3_v2)) := by
  rw [s_unary hW 60 rfl (by decide +kernel) V, fin hW 60 main_call3_v2 (by decide +kernel)] <;> (generalize after ops V = X; rfl)
theorem e_main_call3_v4 : after ops V (Proc.devRef .tc main_call3_v4) = Host.remsi (after ops V (Proc.devRef .tc main_v1)) (after ops V (Proc.devRef .tc main_call3_v3)) := by
  rw [s_binary hW 61 rfl (by decide +kernel) V, fin hW 61 main_v1 (by decide +kernel), fin hW 61 main_call3_v3 (by decide +kernel)] <;> (generalize after ops V = X; rfl)
theorem e_main_call3_c_1 : after ops V (Proc.devRef .tc main_call3_c_1) = constantI S_ 32 0#32 := by
  exact s_nullary hW 62 rfl (by decide +kernel) V
theorem e_main_call3_v5 : after ops V (Proc.devRef .tc main_call3_v5) = broadcastInDim S1x640 ![] bcast_S_S1x640 (after ops V (Proc.devRef .tc main_call3_c_1)) := by
  rw [s_unary hW 63 rfl (by decide +kernel) V, fin hW 63 main_call3_c_1 (by decide +kernel)] <;> (generalize after ops V = X; rfl)
theorem e_main_call3_v6 : after ops V (Proc.devRef .tc main_call3_v6) = cmpi .ne (after ops V (Proc.devRef .tc main_call3_v4)) (after ops V (Proc.devRef .tc main_call3_v5)) := by
  rw [s_binary hW 64 rfl (by decide +kernel) V, fin hW 64 main_call3_v4 (by decide +kernel), fin hW 64 main_call3_v5 (by decide +kernel)] <;> (generalize after ops V = X; rfl)
theorem e_main_call3_c_2 : after ops V (Proc.devRef .tc main_call3_c_2) = constantI S_ 32 0#32 := by
  exact s_nullary hW 65 rfl (by decide +kernel) V
theorem e_main_call3_v7 : after ops V (Proc.devRef .tc main_call3_v7) = broadcastInDim S1x640 ![] bcast_S_S1x640 (after ops V (Proc.devRef .tc main_call3_c_2)) := by
  rw [s_unary hW 66 rfl (by decide +kernel) V, fin hW 66 main_call3_c_2 (by decide +kernel)] <;> (generalize after ops V = X; rfl)
theorem e_main_call3_v8 : after ops V (Proc.devRef .tc main_call3_v8) = cmpi .slt (after ops V (Proc.devRef .tc main_call3_v4)) (after ops V (Proc.devRef .tc main_call3_v7)) := by
  rw [s_binary hW 67 rfl (by decide +kernel) V, fin hW 67 main_call3_v4 (by decide +kernel), fin hW 67 main_call3_v7 (by decide +kernel)] <;> (generalize after ops V = X; rfl)
theorem e_main_call3_c_3 : after ops V (Proc.devRef .tc main_call3_c_3) = constantI S_ 32 0#32 := by
  exact s_nullary hW 68 rfl (by decide +kernel) V
theorem e_main_call3_v9 : after ops V (Proc.devRef .tc main_call3_v9) = cmpi .slt (after ops V (Proc.devRef .tc main_call3_v2)) (after ops V (Proc.devRef .tc main_call3_c_3)) := by
  rw [s_binary hW 69 rfl (by decide +kernel) V, fin hW 69 main_call3_v2 (by decide +kernel), fin hW 69 main_call3_c_3 (by decide +kernel)] <;> (generalize after ops V = X; rfl)
theorem e_main_call3_v10 : after ops V (Proc.devRef .tc main_call3_v10) = broadcastInDim S1x640 ![] bcast_S_S1x640 (after ops V (Proc.devRef .tc main_call3_v9)) := by
  rw [s_unary hW 70 rfl (by decide +kernel) V, fin hW 70 main_call3_v9 (by decide +kernel)] <;> (generalize after ops V = X; rfl)
theorem e_main_call3_v11 : after ops V (Proc.devRef .tc main_call3_v11) = cmpi .ne (after ops V (Proc.devRef .tc main_call3_v8)) (after ops V (Proc.devRef .tc main_call3_v10)) := by
  rw [s_binary hW 71 rfl (by decide +kernel) V, fin hW 71 main_call3_v8 (by decide +kernel), fin hW 71 main_call3_v10 (by decide +kernel)] <;> (generalize after ops V = X; rfl)
theorem e_main_call3_v12 : after ops V (Proc.devRef .tc main_call3_v12) = andi (after ops V (Proc.devRef .tc main_call3_v11)) (after ops V (Proc.devRef .tc main_call3_v6)) := by
  rw [s_binary hW 72 rfl (by decide +kernel) V, fin hW 72 main_call3_v11 (by decide +kernel), fin hW 72 main_call3_v6 (by decide +kernel)] <;> (generalize after ops V = X; rfl)
theorem e_main_call3_v13 : after ops V (Proc.devRef .tc main_call3_v13) = broadcastInDim S1x640 ![] bcast_S_S1x640 (after ops V (Proc.devRef .tc main_call3_v2)) := by
  rw [s_unary hW 73 rfl (by decide +kernel) V, fin hW 73 main_call3_v2 (by decide +kernel)] <;> (generalize after ops V = X; rfl)
theorem e_main_call3_v14 : after ops V (Proc.devRef .tc main_call3_v14) = addi (after ops V (Proc.devRef .tc main_call3_v4)) (after ops V (Proc.devRef .tc main_call3_v13)) := by
  rw [s_binary hW 74 rfl (by decide +kernel) V, fin hW 74 main_call3_v4 (by decide +kernel), fin hW 74 main_call3_v13 (by decide +kernel)] <;> (generalize after ops V = X; rfl)
theorem e_main_v8 : after ops V (Proc.devRef .tc main_v8) = select (after ops V (Proc.devRef .tc main_call3_v12)) (after ops V (Proc.devRef .tc main_call3_v14)) (after ops V (Proc.devRef .tc main_call3_v4)) := by
  rw [s_ternary hW 75 rfl (by decide +kernel) V, fin hW 75 main_call3_v12 (by decide +kernel), fin hW 75 main_call3_v14 (by decide +kernel), fin hW 75 main_call3_v4 (by decide +kernel)] <;> (generalize after ops V = X; rfl)
theorem e_main_c_4 : after ops V (Proc.devRef .tc main_c_4) = constantI S_ 32 1#32 := by
  exact s_nullary hW 76 rfl (by decide +kernel) V
theorem e_main_v9 : after ops V (Proc.devRef .tc main_v9) = broadcastInDim S1x640 ![] bcast_S_S1x640 (after ops V (Proc.devRef .tc main_c_4)) := by
  rw [s_unary hW 77 rfl (by decide +kernel) V, fin hW 77 main_c_4 (by decide +kernel)] <;> (generalize after ops V = X; rfl)
theorem e_main_v10 : after ops V (Proc.devRef .tc main_v10) = cmpi .eq (after ops V (Proc.devRef .tc main_v8)) (after ops V (Proc.devRef .tc main_v9)) := by
  rw [s_binary hW 78 rfl (by decide +kernel) V, fin hW 78 main_v8 (by decide +kernel), fin hW 78 main_v9 (by decide +kernel)] <;> (generalize after ops V = X; rfl)
theorem e_main_c_5 : after ops V (Proc.devRef .tc main_c_5) = constantI S_ 32 513#32 := by
  exact s_nullary hW 79 rfl (by decide +kernel) V
theorem e_main_v11 : after ops V (Proc.devRef .tc main_v11) = broadcastInDim S1x640 ![] bcast_S_S1x640 (after ops V (Proc.devRef .tc main_c_5)) := by
  rw [s_unary hW 80 rfl (by decide +kernel) V, fin hW 80 main_c_5 (by decide +kernel)] <;> (generalize after ops V = X; rfl)
theorem e_main_v12 : after ops V (Proc.devRef .tc main_v12) = cmpi .slt (after ops V (Proc.devRef .tc main_v1)) (after ops V (Proc.devRef .tc main_v11)) := by
  rw [s_binary hW 81 rfl (by decide +kernel) V, fin hW 81 main_v1 (by decide +kernel), fin hW 81 main_v11 (by decide +kernel)] <;> (generalize after ops V = X; rfl)
theorem e_main_v13 : after ops V (Proc.devRef .tc main_v13) = andi (after ops V (Proc.devRef .tc main_v10)) (after ops V (Proc.devRef .tc main_v12)) := by
  rw [s_binary hW 82 rfl (by decide +kernel) V, fin hW 82 main_v10 (by decide +kernel), fin hW 82 main_v12 (by decide +kernel)] <;> (generalize after ops V = X; rfl)
theorem e_main_c_6 : after ops V (Proc.devRef .tc main_c_6) = constantI S_ 32 0#32 := by
  exact s_nullary hW 83 rfl (by decide +kernel) V
theorem e_main_call4_v0 : after ops V (Proc.devRef .tc main_call4_v0) = id (after ops V (Proc.devRef .tc main_c_6)) := by
  rw [s_unary hW 84 rfl (by decide +kernel) V, fin hW 84 main_c_6 (by decide +kernel)] <;> (generalize after ops V = X; rfl)
theorem e_main_call4_v1 : after ops V (Proc.devRef .tc main_call4_v1) = broadcastInDim S64x640 ![0, 1] bcast_S1x640_S64x640_0_1 (after ops V (Proc.devRef .tc main_v13)) := by
  rw [s_unary hW 85 rfl (by decide +kernel) V, fin hW 85 main_v13 (by decide +kernel)] <;> (generalize after ops V = X; rfl)
theorem e_main_call4_v2 : after ops V (Proc.devRef .tc main_call4_v2) = broadcastInDim S64x640 ![] bcast_S_S64x640 (after ops V (Proc.devRef .tc main_call4_v0)) := by
  rw [s_unary hW 86 rfl (by decide +kernel) V, fin hW 86 main_call4_v0 (by decide +kernel)] <;> (generalize after ops V = X; rfl)
theorem e_main_v14 : after ops V (Proc.devRef .tc main_v14) = select (after ops V (Proc.devRef .tc main_call4_v1)) (after ops V (Proc.devRef .tc main_v7)) (after ops V (Proc.devRef .tc main_call4_v2)) := by
  rw [s_ternary hW 87 rfl (by decide +kernel) V, fin hW 87 main_call4_v1 (by decide +kernel), fin hW 87 main_v7 (by decide +kernel), fin hW 87 main_call4_v2 (by decide +kernel)] <;> (generalize after ops V = X; rfl)
theorem e_main_c_7 : after ops V (Proc.devRef .tc main_c_7) = constantI S_ 32 0#32 := by
  exact s_nullary hW 88 rfl (by decide +kernel) V
theorem e_main_call5_v0 : after ops V (Proc.devRef .tc main_call5_v0) = id (after ops V (Proc.devRef .tc main_c_7)) := by
  rw [s_unary hW 89 rfl (by decide +kernel) V, fin hW 89 main_c_7 (by decide +kernel)] <;> (generalize after ops V = X; rfl)
theorem e_main_v15 : after ops V (Proc.devRef .tc main_v15) = pad S64x642 ![0, 2] ![0, 0] ![0, 0] (after ops V (Proc.devRef .tc main_v14)) (after ops V (Proc.devRef .tc main_call5_v0)) pads_S64x640_S64x642_000_200 h_S_ := by
  rw [s_binary hW 90 rfl (by decide +kernel) V, fin hW 90 main_v14 (by decide +kernel), fin hW 90 main_call5_v0 (by decide +kernel)] <;> (generalize after ops V = X; rfl)
theorem e_main_v16 : after ops V (Proc.devRef .tc main_v16) = extractStridedSlice S64x640 ![0, 0] (after ops V (Proc.devRef .tc main_v15)) slices_S64x642_S64x640_0_0 := by
  rw [s_unary hW 91 rfl (by decide +kernel) V, fin hW 91 main_v15 (by decide +kernel)] <;> (generalize after ops V = X; rfl)
theorem e_main_c_8 : after ops V (Proc.devRef .tc main_c_8) = constantI S_ 32 2#32 := by
  exact s_nullary hW 92 rfl (by decide +kernel) V
theorem e_main_v17 : after ops V (Proc.devRef .tc main_v17) = broadcastInDim S1x640 ![] bcast_S_S1x640 (after ops V (Proc.devRef .tc main_c_8)) := by
  rw [s_unary hW 93 rfl (by decide +kernel) V, fin hW 93 main_c_8 (by decide +kernel)] <;> (generalize after ops V = X; rfl)
theorem e_main_v18 : after ops V (Proc.devRef .tc main_v18) = cmpi .sge (after ops V (Proc.devRef .tc main_v1)) (after ops V (Proc.devRef .tc main_v17)) := by
  rw [s_binary hW 94 rfl (by decide +kernel) V, fin hW 94 main_v1 (by decide +kernel), fin hW 94 main_v17 (by decide +kernel)] <;> (generalize after ops V = X; rfl)
theorem e_main_c_9 : after ops V (Proc.devRef .tc main_c_9) = constantI S_ 32 0#32 := by
  exact s_nullary hW 95 rfl (by decide +kernel) V
theorem e_main_v19 : after ops V (Proc.devRef .tc main_v19) = broadcastInDim S64x640 ![] bcast_S_S64x640 (after ops V (Proc.devRef .tc main_c_9)) := by
  rw [s_unary hW 96 rfl (by decide +kernel) V, fin hW 96 main_c_9 (by decide +kernel)] <;> (generalize after ops V = X; rfl)
theorem e_main_v20 : after ops V (Proc.devRef .tc main_v20) = cmpi .ne (after ops V (Proc.devRef .tc main_v14)) (after ops V (Proc.devRef .tc main_v19)) := by
  rw [s_binary hW 97 rfl (by decide +kernel) V, fin hW 97 main_v14 (by decide +kernel), fin hW 97 main_v19 (by decide +kernel)] <;> (generalize after ops V = X; rfl)
theorem e_main_v21 : after ops V (Proc.devRef .tc main_v21) = broadcastInDim S64x640 ![0, 1] bcast_S1x640_S64x640_0_1 (after ops V (Proc.devRef .tc main_v18)) := by
  rw [s_unary hW 98 rfl (by decide +kernel) V, fin hW 98 main_v18 (by decide +kernel)] <;> (generalize after ops V = X; rfl)
theorem e_main_v22 : after ops V (Proc.devRef .tc main_v22) = andi (after ops V (Proc.devRef .tc main_v21)) (after ops V (Proc.devRef .tc main_v20)) := by
  rw [s_binary hW 99 rfl (by decide +kernel) V, fin hW 99 main_v21 (by decide +kernel), fin hW 99 main_v20 (by decide +kernel)] <;> (generalize after ops V = X; rfl)
theorem e_main_v23 : after ops V (Proc.devRef .tc main_v23) = cmpi .ne (after ops V (Proc.devRef .tc main_v14)) (after ops V (Proc.devRef .tc main_v16)) := by
  rw [s_binary hW 100 rfl (by decide +kernel) V, fin hW 100 main_v14 (by decide +kernel), fin hW 100 main_v16 (by decide +kernel)] <;> (generalize after ops V = X; rfl)
theorem e_main_v24 : after ops V (Proc.devRef .tc main_v24) = andi (after ops V (Proc.devRef .tc main_v22)) (after ops V (Proc.devRef .tc main_v23)) := by
  rw [s_binary hW 101 rfl (by decide +kernel) V, fin hW 101 main_v22 (by decide +kernel), fin hW 101 main_v23 (by decide +kernel)] <;> (generalize after ops V = X; rfl)
theorem e_main_v25 : after ops V (Proc.devRef .tc main_v25) = uitofp .f32 (after ops V (Proc.devRef .tc main_v24)) := by
  rw [s_unary hW 102 rfl (by decide +kernel) V, fin hW 102 main_v24 (by decide +kernel)] <;> (generalize after ops V = X; rfl)
theorem e_main_v26 : after ops V (Proc.devRef .tc main_v26) = broadcastInDim S64x1 ![0] bcast_S64_S64x1_0 (V (Proc.devRef .tc main_arg3)) := by
  rw [s_unary hW 103 rfl (by decide +kernel) V, ini hW 103 main_arg3 (by decide +kernel)] <;> (generalize after ops V = X; rfl)
theorem e_main_c_10 : after ops V (Proc.devRef .tc main_c_10) = constantI S_ 32 2#32 := by
  exact s_nullary hW 104 rfl (by decide +kernel) V
theorem e_main_v27 : after ops V (Proc.devRef .tc main_v27) = broadcastInDim S64x1 ![] bcast_S_S64x1 (after ops V (Proc.devRef .tc main_c_10)) := by
  rw [s_unary hW 105 rfl (by decide +kernel) V, fin hW 105 main_c_10 (by decide +kernel)] <;> (generalize after ops V = X; rfl)
theorem e_main_v28 : after ops V (Proc.devRef .tc main_v28) = muli (after ops V (Proc.devRef .tc main_v27)) (after ops V (Proc.devRef .tc main_v26)) := by
  rw [s_binary hW 106 rfl (by decide +kernel) V, fin hW 106 main_v27 (by decide +kernel), fin hW 106 main_v26 (by decide +kernel)] <;> (generalize after ops V = X; rfl)
theorem e_main_v29 : after ops V (Proc.devRef .tc main_v29) = broadcastInDim S64x640 ![0, 1] bcast_S1x640_S64x640_0_1 (after ops V (Proc.devRef .tc main_v1)) := by
  rw [s_unary hW 107 rfl (by decide +kernel) V, fin hW 107 main_v1 (by decide +kernel)] <;> (generalize after ops V = X; rfl)
theorem e_main_v30 : after ops V (Proc.devRef .tc main_v30) = broadcastInDim S64x640 ![0, 1] bcast_S64x1_S64x640_0_1 (after ops V (Proc.devRef .tc main_v28)) := by
  rw [s_unary hW 108 rfl (by decide +kernel) V, fin hW 108 main_v28 (by decide +kernel)] <;> (generalize after ops V = X; rfl)
theorem e_main_v31 : after ops V (Proc.devRef .tc main_v31) = cmpi .eq (after ops V (Proc.devRef .tc main_v29)) (after ops V (Proc.devRef .tc main_v30)) := by
  rw [s_binary hW 109 rfl (by decide +kernel) V, fin hW 109 main_v29 (by decide +kernel), fin hW 109 main_v30 (by decide +kernel)] <;> (generalize after ops V = X; rfl)
theorem e_main_v32 : after ops V (Proc.devRef .tc main_v32) = uitofp .f32 (after ops V (Proc.devRef .tc main_v31)) := by
  rw [s_unary hW 110 rfl (by decide +kernel) V, fin hW 110 main_v31 (by decide +kernel)] <;> (generalize after ops V = X; rfl)
theorem e_main_c_11 : after ops V (Proc.devRef .tc main_c_11) = constantI S_ 32 1#32 := by
  exact s_nullary hW 111 rfl (by decide +kernel) V
theorem e_main_v33 : after ops V (Proc.devRef .tc main_v33) = broadcastInDim S64x1 ![] bcast_S_S64x1 (after ops V (Proc.devRef .tc main_c_11)) := by
  rw [s_unary hW 112 rfl (by decide +kernel) V, fin hW 112 main_c_11 (by decide +kernel)] <;> (generalize after ops V = X; rfl)
theorem e_main_v34 : after ops V (Proc.devRef .tc main_v34) = subi (after ops V (Proc.devRef .tc main_v28)) (after ops V (Proc.devRef .tc main_v33)) := by
  rw [s_binary hW 113 rfl (by decide +kernel) V, fin hW 113 main_v28 (by decide +kernel), fin hW 113 main_v33 (by decide +kernel)] <;> (generalize after ops V = X; rfl)
theorem e_main_v35 : after ops V (Proc.devRef .tc main_v35) = broadcastInDim S64x640 ![0, 1] bcast_S1x640_S64x640_0_1 (after ops V (Proc.devRef .tc main_v1)) := by
  rw [s_unary hW 114 rfl (by decide +kernel) V, fin hW 114 main_v1 (by decide +kernel)] <;> (generalize after ops V = X; rfl)
theorem e_main_v36 : after ops V (Proc.devRef .tc main_v36) = broadcastInDim S64x640 ![0, 1] bcast_S64x1_S64x640_0_1 (after ops V (Proc.devRef .tc main_v34)) := by
  rw [s_unary hW 115 rfl (by decide +kernel) V, fin hW 115 main_v34 (by decide +kernel)] <;> (generalize after ops V = X; rfl)
theorem e_main_v37 : after ops V (Proc.devRef .tc main_v37) = cmpi .eq (after ops V (Proc.devRef .tc main_v35)) (after ops V (Proc.devRef .tc main_v36)) := by
  rw [s_binary hW 116 rfl (by decide +kernel) V, fin hW 116 main_v35 (by decide +kernel), fin hW 116 main_v36 (by decide +kernel)] <;> (generalize after ops V = X; rfl)
theorem e_main_v38 : after ops V (Proc.devRef .tc main_v38) = uitofp .f32 (after ops V (Proc.devRef .tc main_v37)) := by
  rw [s_unary hW 117 rfl (by decide +kernel) V, fin hW 117 main_v37 (by decide +kernel)] <;> (generalize after ops V = X; rfl)
end Before

namespace After
/-- The operations in one line. -/
abbrev ops : List (HloOp τ sig (Elt F)) := hostOps1
/-- What they write, in order. -/
abbrev W : List (Ref sig .tc) := [main_v40, main_v41, main_cst, main_v42, main_cst_12, main_v43, main_cst_13, main_v44]
theorem hW : (ops (F := F)).map HloOp.writes = W.map fun r => {Proc.devRef (τ := τ) .tc r} := rfl
variable (V : Valuation τ sig (Elt F))
theorem e_main_v40 : after ops V (Proc.devRef .tc main_v40) = extractStridedSlice S4x16x1 ![0, 0, 0] (V (Proc.devRef .tc main_v39)) slices_S4x16x128_S4x16x1_0_0_0 := by
  rw [s_unary hW 0 rfl (by decide +kernel) V, ini hW 0 main_v39 (by decide +kernel)] <;> (generalize after ops V = X; rfl)
theorem e_main_v41 : after ops V (Proc.devRef .tc main_v41) = shapeCast _ (after ops V (Proc.devRef .tc main_v40)) shapeCasts_S4x16x1_S4x16 := by
  rw [s_reshape hW 1 rfl (by decide +kernel) V, fin hW 1 main_v40 (by decide +kernel)] <;> (generalize after ops V = X; rfl)
theorem e_main_cst : after ops V (Proc.devRef .tc main_cst) = constant S_ .f32 0x00000000#32 := by
  exact s_nullary hW 2 rfl (by decide +kernel) V
theorem e_main_v42 : after ops V (Proc.devRef .tc main_v42) = Host.reduceAdd (after ops V (Proc.devRef .tc main_v41)) (after ops V (Proc.devRef .tc main_cst)) reducesTo_S4x16_S_d0_1 h_S_ := by
  rw [s_binary hW 3 rfl (by decide +kernel) V, fin hW 3 main_v41 (by decide +kernel), fin hW 3 main_cst (by decide +kernel)] <;> (generalize after ops V = X; rfl)
theorem e_main_cst_12 : after ops V (Proc.devRef .tc main_cst_12) = constant S_ .f32 0x42800000#32 := by
  exact s_nullary hW 4 rfl (by decide +kernel) V
theorem e_main_v43 : after ops V (Proc.devRef .tc main_v43) = Host.divf (after ops V (Proc.devRef .tc main_v42)) (after ops V (Proc.devRef .tc main_cst_12)) := by
  rw [s_binary hW 5 rfl (by decide +kernel) V, fin hW 5 main_v42 (by decide +kernel), fin hW 5 main_cst_12 (by decide +kernel)] <;> (generalize after ops V = X; rfl)
theorem e_main_cst_13 : after ops V (Proc.devRef .tc main_cst_13) = constant S_ .f32 0xC0800000#32 := by
  exact s_nullary hW 6 rfl (by decide +kernel) V
theorem e_main_v44 : after ops V (Proc.devRef .tc main_v44) = Host.divf (after ops V (Proc.devRef .tc main_v43)) (after ops V (Proc.devRef .tc main_cst_13)) := by
  rw [s_binary hW 7 rfl (by decide +kernel) V, fin hW 7 main_v43 (by decide +kernel), fin hW 7 main_cst_13 (by decide +kernel)] <;> (generalize after ops V = X; rfl)
end After

end Cert.KernelIdeal.Value

end
-- ==== Proof.KTail.lean ====
/-
  The kernel's result: the operations after its grid, and the whole run.
-/
module

public import proofs.«01_k».proof.Proof.KArr
public import proofs.«01_k».proof.Proof.KOps
public import proofs.«01_k».proof.Proof.RefPost

@[expose] public section

noncomputable section

namespace Cert.KernelIdeal.Value

open Cert.KernelIdeal Cert.KernelIdeal.Gen Idealize.ShloMosaic Idealize.ShloMosaic.TcCoe Idealize.ShloMosaic.StableHlo Idealize.SL.Sem Cert.Ctc

namespace After

variable {V : Valuation τ sig (Elt Ideal)} {d : Data}

/-- The samples in blocks of sixteen. -/
theorem sum_rows (f : Fin 64 → EReal) : ∑ g : Fin 4, ∑ a : Fin 16, f (row g a) = ∑ b : Fin 64, f b := by
  rw [← Fintype.sum_prod_type' (fun (g : Fin 4) (a : Fin 16) => f (row g a))]
  refine Fintype.sum_equiv (finProdFinEquiv (m := 4) (n := 16)) _ _ fun p => congrArg f (Fin.ext ?_)
  show 16 * p.1.val + p.2.val = p.2.val + 16 * p.1.val
  omega

theorem total_at (h : V (Proc.devRef .tc main_v39) = result d) :
    @Eq EReal (after ops V (Proc.devRef .tc main_v42) ix0) ((∑ b : Fin 64, d.contrib b : ℝ) : EReal) := by
  rw [e_main_v42, e_main_v41, e_main_v40, e_main_cst, h]
  clean_types
  pointwise
  rw [coe_sum]
  exact sum_rows fun b => ((d.contrib b : ℝ) : EReal)

theorem result_at (h : V (Proc.devRef .tc main_v39) = result d) :
    @Eq EReal (after ops V (Proc.devRef .tc main_v44) ix0) (scaled ((∑ b : Fin 64, d.contrib b : ℝ) : EReal)) := by
  rw [e_main_v44, e_main_v43, e_main_cst_12, e_main_cst_13]
  pointwise
  rw [total_at h]
  rfl

end After

variable (m : (ℓ : Loc nD τ sig) → Buf (Elt Ideal) ℓ) (ρ : Dev nD → PrngReg) {d : Data}

/-- What the lines after the grid leave in the result. -/
theorem tail_result (c : Dev nD) (h : Inputs m c d) (hd : d.Ok) :
    Pipeline.afterTail₀ cfgs (dats m) 0 (V0 m) [hostOps1] c main_v44 = fun _ => scaled ((∑ b : Fin 64, d.contrib b : ℝ) : EReal) := by
  have ha : Pipeline.withArrays (cfgs 0).spec c (V0 m c) (fun w => (dats m 0 c).arrAt w (cfgs 0).N) (Proc.devRef .tc main_v39) = result d :=
    (Pipeline.withArrays_arr spec0 launch0.win.arr_inj c (V0 m c) (fun w => (dats m 0 c).arrAt w (cfgs 0).N) 5).trans (array m c h hd)
  funext j
  have e : j = ix0 := funext fun k : Fin 0 => k.elim0
  rw [e]
  exact After.result_at ha

/-- The kernel's run: its result, and its arguments unchanged. -/
theorem run (dat : Dev nD → Data) (hi : ∀ c, Inputs m c (dat c)) (hd : ∀ c, (dat c).Ok) :
    θ_run defs (onTc (τ := τ) (main (F := Ideal))) ⟨m, fun _ => 0, ρ⟩ (fun r => ∀ c : Dev nD,
      r.2.mem ((c : Thread nD τ).loc main_v44) = (fun _ => scaled ((∑ b : Fin 64, (dat c).contrib b : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r hr c => by
      refine ⟨?_, ((hr c).1 0).trans (((dats m 0 c).arrAt_in 0 rfl _).trans ((A_eq m c 0).trans (V_main_arg0 m c))), ?_, ?_, ?_, ?_⟩
      · exact ((hr c).2 main_v44 (Pipeline.mem_restRefs_of main_v44 (by decide) (by decide))).trans (tail_result m c (hi c) (hd c))
      · exact ((hr c).2 main_arg1 (Pipeline.mem_restRefs_of main_arg1 (by decide) (by decide))).trans (W_main_arg1 m (dats m) c)
      · exact ((hr c).2 main_arg2 (Pipeline.mem_restRefs_of main_arg2 (by decide) (by decide))).trans (W_main_arg2 m (dats m) c)
      · exact ((hr c).2 main_arg3 (Pipeline.mem_restRefs_of main_arg3 (by decide) (by decide))).trans (W_main_arg3 m (dats m) c)
      · exact ((hr c).2 main_arg4 (Pipeline.mem_restRefs_of main_arg4 (by decide) (by decide))).trans (W_main_arg4 m (dats m) c))
    (run_main m ρ)

end Cert.KernelIdeal.Value

end
-- ==== Proof.KHost.lean ====
/-
  What the arrays the kernel's windows read hold when its grid starts: the labels, the skips, the two end states.
-/
module

public import proofs.«01_k».proof.Proof.KOps
public import proofs.«01_k».proof.Proof.KGrid
public import proofs.«01_k».proof.Proof.RefPre

@[expose] public section

set_option maxRecDepth 16384

noncomputable section

namespace Cert.KernelIdeal.Value

open Cert.KernelIdeal Cert.KernelIdeal.Gen Idealize.ShloMosaic Idealize.ShloMosaic.TcCoe Idealize.ShloMosaic.StableHlo Idealize.SL.Sem Cert.Ctc

namespace Before

variable {V : Valuation τ sig (Elt Ideal)} {d : Data}

/-- The kernel's arguments hold the numbers. -/
structure Holds (V : Valuation τ sig (Elt Ideal)) (d : Data) : Prop where
  x : ∀ t b n, @Eq EReal (V (Proc.devRef .tc main_arg0) (ix3 t b n)) (d.x t b n)
  tg : ∀ b j, @Eq (BitVec 32) (V (Proc.devRef .tc main_arg1) (ix2 b j)) (d.tg b j)
  tl : ∀ b, @Eq (BitVec 32) (V (Proc.devRef .tc main_arg3) (ix1 b)) (d.tl b)

theorem lane_at (s : Fin 640) : @Eq (BitVec 32) (after ops V (Proc.devRef .tc main_v1) (ix2 0 s)) (BitVec.ofNat 32 s) := by
  rw [e_main_v1, e_main_v0]
  pointwise

theorem slot_at (s : Fin 640) (h : (s : ℕ) % 2 = 1 ∧ (s : ℕ) < 513) :
    @Eq (BitVec 32) (after ops V (Proc.devRef .tc main_v5) (ix2 0 s)) (BitVec.ofNat 32 (((s : ℕ) - 1) / 2)) := by
  rw [e_main_v5, e_main_call1_v4, e_main_call1_v3, e_main_c_2, e_main_call1_v2, e_main_call1_v1, e_main_call1_v0, e_main_c_1,
    e_main_v4, e_main_call0_v13, e_main_call0_v12, e_main_call0_c_0, e_main_call0_v11, e_main_call0_v10, e_main_call0_v9, e_main_call0_c,
    e_main_call0_v8, e_main_call0_v7, e_main_call0_v6, e_main_call0_v5, e_main_call0_v4, e_main_call0_v3, e_main_call0_v2, e_main_call0_v1, e_main_call0_v0,
    e_main_c_0, e_main_v3, e_main_v2, e_main_c, e_main_v1, e_main_v0]
  pointwise
  revert h
  revert s
  decide +kernel

theorem odd_at (s : Fin 640) :
    @Eq (BitVec 1) (after ops V (Proc.devRef .tc main_v13) (ix2 0 s)) (BitVec.ofBool (decide ((s : ℕ) % 2 = 1 ∧ (s : ℕ) < 513))) := by
  rw [e_main_v13, e_main_v12, e_main_v11, e_main_c_5, e_main_v10, e_main_v9, e_main_c_4, e_main_v8, e_main_call3_v14, e_main_call3_v13,
    e_main_call3_v12, e_main_call3_v11, e_main_call3_v10, e_main_call3_v9, e_main_call3_c_3, e_main_call3_v8, e_main_call3_v7, e_main_call3_c_2,
    e_main_call3_v6, e_main_call3_v5, e_main_call3_c_1, e_main_call3_v4, e_main_call3_v3, e_main_call3_v2, e_main_call3_c_0, e_main_call3_v1,
    e_main_call3_c, e_main_call3_v0, e_main_c_3, e_main_v1, e_main_v0]
  pointwise
  revert s
  decide +kernel

theorem label_mask_at (b : Fin 64) (s : Fin 640) :
    @Eq (BitVec 1) (after ops V (Proc.devRef .tc main_call4_v1) (ix2 b s)) (BitVec.ofBool (decide ((s : ℕ) % 2 = 1 ∧ (s : ℕ) < 513))) := by
  rw [e_main_call4_v1]
  pointwise
  exact odd_at s

/-- The gathered column's word. -/
theorem index_at (b : Fin 64) (s : Fin 640) (h : (s : ℕ) % 2 = 1 ∧ (s : ℕ) < 513) (k : Fin 1) :
    @Eq (BitVec 32) (after ops V (Proc.devRef .tc main_call2_v5) (ix3 b s k)) (BitVec.ofNat 32 (((s : ℕ) - 1) / 2)) := by
  rw [e_main_call2_v5, e_main_call2_v4, e_main_call2_v3, e_main_call2_v2, e_main_call2_c_0, e_main_call2_v1, e_main_call2_v0, e_main_call2_c, e_main_v6]
  pointwise
  rw [slot_at s h]
  refine Routing.wrap_of_lt _ _ ?_
  rw [BitVec.toNat_ofNat]; omega

theorem inside_at (b : Fin 64) (s : Fin 640) (h : (s : ℕ) % 2 = 1 ∧ (s : ℕ) < 513) :
    @Eq (BitVec 1) (after ops V (Proc.devRef .tc main_call2_v12) (ix2 b s)) 1#1 := by
  rw [e_main_call2_v12, e_main_call2_v11, e_main_call2_c_3, e_main_call2_v10, e_main_call2_v9, e_main_call2_v8, e_main_call2_c_1, e_main_call2_v7, e_main_call2_v6, e_main_call2_c_2]
  clean_types
  pointwise
  have e : ∀ x : Fin 1, IntOp.andi (IntOp.cmpi .sge (after ops V (Proc.devRef .tc main_call2_v5) (ix3 b s x) : BitVec 32) 0#32)
      (IntOp.cmpi .sle (after ops V (Proc.devRef .tc main_call2_v5) (ix3 b s x) : BitVec 32) 255#32) = 1#1 := fun x => by
    rw [index_at b s h x]
    revert h
    revert s
    decide +kernel
  refine (Finset.fold_congr fun x _ => e x).trans ?_
  decide +kernel

/-- A taken label: the row's entry at the gathered column. -/
theorem gather_at {α : Type} (x : S64x256.Idx → α) (idx : IVec S64x640x1 32) (b : Fin 64) (s : Fin 640)
    (n : Fin 256) (h : (idx (ix3 b s 0)).toInt = n) :
    Host.gather gather_S64x256_S64x640x1_S64x640_n_1_0_0_1_2_11 x idx (ix2 b s) = x (ix2 b n) := by
  unfold Host.gather
  refine congrArg x (funext fun a => Fin.ext ?_)
  have hn := n.isLt
  match a with
  | ⟨0, _⟩ => exact (by rfl : _ = 0 + (b : ℕ) + 0).trans (by simp [ix2])
  | ⟨1, _⟩ =>
    have e : gather_S64x256_S64x640x1_S64x640_n_1_0_0_1_2_11.siIdx (ix2 b s) ⟨0, by decide⟩ = ix3 b s 0 := by
      funext a; match a with
      | ⟨0, _⟩ => rfl
      | ⟨1, _⟩ => rfl
      | ⟨2, _⟩ => rfl
    refine (by rfl : _ = min (idx (gather_S64x256_S64x640x1_S64x640_n_1_0_0_1_2_11.siIdx (ix2 b s) ⟨0, by decide⟩)).toInt.toNat 255 + 0 + 0).trans ?_
    rw [e, h]
    show min (n : ℤ).toNat 255 + 0 + 0 = (n : ℕ)
    omega

theorem take_at (b : Fin 64) (s : Fin 640) (h : (s : ℕ) % 2 = 1 ∧ (s : ℕ) < 513) :
    @Eq (BitVec 32) (after ops V (Proc.devRef .tc main_v7) (ix2 b s)) (V (Proc.devRef .tc main_arg1) (ix2 b ⟨((s : ℕ) - 1) / 2, by omega⟩)) := by
  rw [e_main_v7, e_main_call2_v14, e_main_call2_c_4, e_main_call2_v13]
  pointwise
  rw [inside_at b s h]
  refine (gather_at _ _ b s ⟨((s : ℕ) - 1) / 2, by omega⟩ ?_)
  exact (congrArg BitVec.toInt (index_at b s h 0)).trans (Cert.ReferenceIdeal.Gen.nat_toInt (by omega))

theorem lab_at (h : Holds V d) (b : Fin 64) (s : Fin 640) :
    @Eq (BitVec 32) (after ops V (Proc.devRef .tc main_v14) (ix2 b s)) (BitVec.ofNat 32 (d.lab b s)) := by
  rw [e_main_v14, e_main_call4_v2, e_main_call4_v0, e_main_c_6]
  pointwise
  rw [label_mask_at b s]
  unfold Data.lab
  by_cases hs : (s : ℕ) % 2 = 1 ∧ (s : ℕ) < 513
  · rw [decide_eq_true hs, dif_pos hs]
    refine (take_at b s hs).trans ((h.tg b _).trans ?_)
    exact (BitVec.ofNat_toNat _ _).trans (BitVec.setWidth_eq _) |>.symm
  · rw [decide_eq_false hs, dif_neg hs]
    rfl

theorem back_at (h : Holds V d) (b : Fin 64) (s : Fin 640) (hs : 2 ≤ (s : ℕ)) :
    @Eq (BitVec 32) (after ops V (Proc.devRef .tc main_v16) (ix2 b s)) (BitVec.ofNat 32 (d.lab b ((s : ℕ) - 2))) := by
  rw [e_main_v16, e_main_v15, e_main_call5_v0, e_main_c_7]
  clean_types
  pointwise
  rw [dif_pos ⟨hs, by omega⟩]
  exact lab_at h b _

/-- A bit as a number. -/
theorem bit_at (q : Bool) : @Eq EReal (FloatOps.uitofp (F := Ideal) .f32 (BitVec.ofBool q)) (if q then 1 else 0) := by
  cases q
  · show (((0#1).toNat : ℝ) : EReal) = 0
    norm_num
  · show (((1#1).toNat : ℝ) : EReal) = 1
    norm_num

theorem hi_word (hd : d.Ok) (b : Fin 64) : IntOp.muli 2#32 (d.tl b) = BitVec.ofNat 32 (d.hi b) := by
  have h2 := hd.tl2 b
  apply BitVec.eq_of_toNat_eq
  show (2#32 * d.tl b).toNat = _
  rw [BitVec.toNat_mul, BitVec.toNat_ofNat]
  unfold Data.hi
  rfl

theorem hi1_word (hd : d.Ok) (b : Fin 64) : IntOp.subi (BitVec.ofNat 32 (d.hi b)) 1#32 = BitVec.ofNat 32 (d.hi b - 1) := by
  have h1 := hd.tl1 b
  have h2 := hd.tl2 b
  apply BitVec.eq_of_toNat_eq
  show (BitVec.ofNat 32 (d.hi b) - 1#32).toNat = _
  rw [BitVec.toNat_sub, BitVec.toNat_ofNat, BitVec.toNat_ofNat, BitVec.toNat_ofNat]
  unfold Data.hi
  show (2 ^ 32 - 1 + (2 * (d.tl b).toNat) % 2 ^ 32) % 2 ^ 32 = _
  omega

theorem ok_at (h : Holds V d) (hd : d.Ok) (b : Fin 64) (s : Fin 640) :
    @Eq EReal (after ops V (Proc.devRef .tc main_v25) (ix2 b s)) (if d.ok b s then 1 else 0) := by
  rw [e_main_v25, e_main_v24, e_main_v23, e_main_v22, e_main_v21, e_main_v20, e_main_v19, e_main_c_9, e_main_v18, e_main_v17, e_main_c_8, e_main_v1, e_main_v0]
  pointwise
  have l1 := Data.lab_lt hd b s
  have l2 := Data.lab_lt hd b ((s : ℕ) - 2)
  rw [lab_at h b s]
  have hge : IntOp.cmpi .sge (BitVec.ofNat 32 (s : ℕ)) 2#32 = BitVec.ofBool (decide (2 ≤ (s : ℕ))) :=
    WordCmp.cmpi_sge_ofNat (by omega) (by decide)
  rw [hge]
  by_cases hs : 2 ≤ (s : ℕ)
  · rw [back_at h b s hs, decide_eq_true hs]
    have e := Cert.ReferenceIdeal.Gen.Pre.skip_word _ _ l1 l2 hs
    refine Eq.trans (congrArg (fun w => FloatOps.uitofp (F := Ideal) .f32 w) ?_) (bit_at (d.ok b s))
    refine Eq.trans ?_ e
    rw [show IntOp.andi (BitVec.ofBool true) (IntOp.cmpi .ne (BitVec.ofNat 32 (d.lab b s)) 0#32) = IntOp.cmpi .ne (BitVec.ofNat 32 (d.lab b s)) 0#32 from ?_]
    cases decide (BitVec.ofNat 32 (d.lab b s) = 0#32) <;> exact BitVec.allOnes_and
  · rw [decide_eq_false hs]
    refine Eq.trans (congrArg (fun w => FloatOps.uitofp (F := Ideal) .f32 w) ?_) (bit_at (d.ok b s))
    have e0 : d.ok b s = false := by unfold Data.ok; exact decide_eq_false (by omega)
    rw [e0]
    show (0#1 &&& _) &&& _ = 0#1
    rw [BitVec.zero_and, BitVec.zero_and]

theorem hi_at (h : Holds V d) (hd : d.Ok) (b : Fin 64) (s : Fin 640) :
    @Eq EReal (after ops V (Proc.devRef .tc main_v32) (ix2 b s)) (if (s : ℕ) = d.hi b then 1 else 0) := by
  rw [e_main_v32, e_main_v31, e_main_v30, e_main_v29, e_main_v28, e_main_v27, e_main_c_10, e_main_v26, e_main_v1, e_main_v0]
  pointwise
  rw [h.tl b, hi_word hd b, WordCmp.cmpi_eq_ofNat (by omega) (by have := hd.tl2 b; unfold Data.hi; omega)]
  refine (bit_at _).trans ?_
  simp only [decide_eq_true_eq]

theorem hi1_at (h : Holds V d) (hd : d.Ok) (b : Fin 64) (s : Fin 640) :
    @Eq EReal (after ops V (Proc.devRef .tc main_v38) (ix2 b s)) (if (s : ℕ) = d.hi b - 1 then 1 else 0) := by
  rw [e_main_v38, e_main_v37, e_main_v36, e_main_v35, e_main_v34, e_main_v33, e_main_c_11, e_main_v28, e_main_v27, e_main_c_10, e_main_v26, e_main_v1, e_main_v0]
  pointwise
  rw [h.tl b, hi_word hd b, hi1_word hd b, WordCmp.cmpi_eq_ofNat (by omega) (by have := hd.tl2 b; unfold Data.hi; omega)]
  refine (bit_at _).trans ?_
  simp only [decide_eq_true_eq]

end Before

variable (m : (ℓ : Loc nD τ sig) → Buf (Elt Ideal) ℓ) (c : Dev nD) {d : Data}

/-- The arrays the windows read, from the arguments. -/
theorem inputs (h : Before.Holds (fun b => m (c, b)) d) (hd : d.Ok) : Inputs m c d where
  x := fun t b n => by rw [V_main_arg0]; exact h.x t b n
  lab := Before.lab_at h
  ok := Before.ok_at h hd
  hi := Before.hi_at h hd
  hi1 := Before.hi1_at h hd

end Cert.KernelIdeal.Value

end
-- ==== Proof.KPre.lean ====
/-
  The precondition, read back: every logit is a real number, every target is a label and every length is between one and
  the number of targets.
-/
module

public import proofs.«01_k».proof.Pre_in_range
public import proofs.«01_k».proof.Proof.Data
public import Idealize.ShloMosaic.Lib.ReduceAll
public import Idealize.ShloMosaic.Lib.Decide
public import Idealize.ShloMosaic.Lib.StableHlo
public import Idealize.ShloMosaic.Lib.ValueIdx

@[expose] public section

noncomputable section

namespace Cert.Pre_in_range

open Idealize.ShloMosaic Idealize.ShloMosaic.ValueIdx Cert.Ctc

/-- The side conditions the precondition's operations state. -/
instance facts : Facts where
  bcast_S_S2048x64x128 := by decide
  reducesTo_S2048x64x128_S_d0_1_2 := by decide
  h_S_ := by decide
  bcast_S_S64x256 := by decide
  reducesTo_S64x256_S_d0_1 := by decide
  bcast_S_S64 := by decide
  reducesTo_S64_S_d0 := by decide

/-- The arguments, as numbers. -/
def data (x : S2048x64x128.Idx → EReal) (tg : S64x256.Idx → BitVec 32) (tl : S64.Idx → BitVec 32) : Data where
  x := fun t b n => x (ix3 t b n)
  tg := fun b j => tg (ix2 b j)
  tl := fun b => tl (ix1 b)

/-- A signed word between two small numbers, as a natural number. -/
theorem toNat_bounds {w : BitVec 32} {a n : ℕ} (h0 : (a : ℤ) ≤ w.toInt) (h1 : w.toInt ≤ (n : ℤ)) : a ≤ w.toNat ∧ w.toNat ≤ n := by
  rw [BitVec.toInt_eq_toNat_cond] at h0 h1
  have := w.isLt
  split at h0 <;> omega

/-- A number whose absolute value is below infinity is real. -/
theorem real_of_abs_lt {x : EReal} (h : max x (-x) < ⊤) : ∃ r : ℝ, x = r := by
  induction x with
  | bot => simp at h
  | coe r => exact ⟨r, rfl⟩
  | top => simp at h

instance : Subsingleton S_.Idx := ⟨fun _ _ => funext fun k : Fin 0 => k.elim0⟩

theorem data_ok (x : S2048x64x128.Idx → EReal) (tg : S64x256.Idx → BitVec 32) (il tl : S64.Idx → BitVec 32) (bl : S_.Idx → BitVec 32)
    (h : fn (F := Ideal) x tg il tl bl = fun _ => 1#1) : (data x tg tl).Ok := by
  have h0 := congrFun h ix0
  unfold fn fn_part1 at h0
  obtain ⟨h1, hl⟩ := IntOp.andi_eq_one.1 h0
  obtain ⟨hx, ht⟩ := IntOp.andi_eq_one.1 h1
  have ax := fun i => Host.reduce_andi_all _ _ _ _ _ hx i
  have at' := fun i => Host.reduce_andi_all _ _ _ _ _ ht i
  have al := fun i => Host.reduce_andi_all _ _ _ _ _ hl i
  have tgb : ∀ i, (tg i).toNat ≤ 127 := fun i => by
    obtain ⟨p, q⟩ := IntOp.andi_eq_one.1 (at' i)
    have p' : (0#32).toInt ≤ (tg i).toInt := IntOp.cmpi_sge.1 p
    have q' : (tg i).toInt < (128#32).toInt := IntOp.cmpi_slt.1 q
    rw [show (0#32).toInt = 0 from rfl] at p'
    rw [show (128#32).toInt = 128 from rfl] at q'
    exact (toNat_bounds (a := 0) (n := 127) (by omega) (by omega)).2
  have tlb : ∀ i, 1 ≤ (tl i).toNat ∧ (tl i).toNat ≤ 256 := fun i => by
    obtain ⟨p, q⟩ := IntOp.andi_eq_one.1 (al i)
    have p' : (1#32).toInt ≤ (tl i).toInt := IntOp.cmpi_sge.1 p
    have q' : (tl i).toInt ≤ (256#32).toInt := IntOp.cmpi_sle.1 q
    rw [show (1#32).toInt = 1 from rfl] at p'
    rw [show (256#32).toInt = 256 from rfl] at q'
    exact toNat_bounds (a := 1) (n := 256) (by omega) (by omega)
  have xb : ∀ i, ∃ r : ℝ, x i = r := fun i => by
    have p : Ideal.cmp .olt (max (x i) (-(x i))) (Ideal.ofBits .f32 0x7F800000#32) = 1#1 := ax i
    rw [show Ideal.ofBits .f32 0x7F800000#32 = (⊤ : EReal) from by simp [Ideal.ofBits, Ideal.ieee]] at p
    refine real_of_abs_lt ?_
    by_contra hn
    have : Ideal.cmp .olt (max (x i) (-(x i))) (⊤ : EReal) = 0#1 := by
      show BitVec.ofBool (decide _) = 0#1
      rw [decide_eq_false hn]
      rfl
    rw [this] at p
    exact absurd p (by decide)
  exact ⟨fun t b n => xb _, fun b j => Nat.lt_succ_of_le (tgb _), fun b => (tlb _).1, fun b => (tlb _).2⟩

end Cert.Pre_in_range

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefPost
public import proofs.«01_k».proof.Proof.KTail
public import proofs.«01_k».proof.Proof.KHost
public import proofs.«01_k».proof.Proof.KPre
public import Idealize.ShloMosaic.Adequacy
public import Idealize.ShloMosaic.Init

@[expose] public section

noncomputable section

namespace Cert.Proof

open Idealize.ShloMosaic Idealize.SL.Sem

/-- The reference's frame: its run, read at the arguments; it has no semaphore at all. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c =>
    ⟨(h c _ rfl).trans (Cert.ReferenceIdeal.Gen.fin1_arg m c _ (by decide +kernel)),
     (h c _ rfl).trans (Cert.ReferenceIdeal.Gen.fin1_arg m c _ (by decide +kernel)),
     (h c _ rfl).trans (Cert.ReferenceIdeal.Gen.fin1_arg m c _ (by decide +kernel)),
     (h c _ rfl).trans (Cert.ReferenceIdeal.Gen.fin1_arg m c _ (by decide +kernel)),
     (h c _ rfl).trans (Cert.ReferenceIdeal.Gen.fin1_arg m c _ (by decide +kernel))⟩,
    sem_eq_zero_of_no_sems rfl _⟩) (Cert.ReferenceIdeal.Gen.run_fin m g)

/-- The numbers the kernel's arguments are, on a device. -/
def dat (m : (ℓ : Loc Cert.KernelIdeal.nD Cert.KernelIdeal.τ Cert.KernelIdeal.sig) → Buf (Elt Ideal) ℓ) (c : Dev Cert.KernelIdeal.nD) : Cert.Ctc.Data :=
  Cert.Pre_in_range.data (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))

theorem dat_ok (m : (ℓ : Loc Cert.KernelIdeal.nD Cert.KernelIdeal.τ Cert.KernelIdeal.sig) → Buf (Elt Ideal) ℓ) (h : Cert.Pre_KernelIdeal_in_range m)
    (c : Dev Cert.KernelIdeal.nD) : (dat m c).Ok := Cert.Pre_in_range.data_ok _ _ _ _ _ (h c)

/-- The kernel and the reference end with the same number. -/
theorem algebraic : Cert.algebraic_KernelIdeal_ReferenceIdeal_pre_in_range := by
  intro m g m' g' hp he
  have hd := dat_ok m hp
  refine ⟨fun c => fun _ => Cert.Ctc.scaled ((∑ b : Fin 64, (dat m c).contrib b : ℝ) : EReal), ?_, ?_⟩
  · exact Cert.KernelIdeal.Value.run m g (dat m) (fun c => Cert.KernelIdeal.Value.inputs m c ⟨fun _ _ _ => rfl, fun _ _ => rfl, fun _ => rfl⟩ (hd c)) hd
  · refine (θ_run _ _ _).mono (fun r h c =>
      ⟨(h c _ rfl).trans (Cert.ReferenceIdeal.Gen.fin1_result m' c (d := dat m c) ⟨fun t b n => ?_, fun b j => ?_, fun b => ?_⟩ (hd c)),
       (h c _ rfl).trans (Cert.ReferenceIdeal.Gen.fin1_arg m' c _ (by decide +kernel)),
       (h c _ rfl).trans (Cert.ReferenceIdeal.Gen.fin1_arg m' c _ (by decide +kernel)),
       (h c _ rfl).trans (Cert.ReferenceIdeal.Gen.fin1_arg m' c _ (by decide +kernel)),
       (h c _ rfl).trans (Cert.ReferenceIdeal.Gen.fin1_arg m' c _ (by decide +kernel)),
       (h c _ rfl).trans (Cert.ReferenceIdeal.Gen.fin1_arg m' c _ (by decide +kernel))⟩) (Cert.ReferenceIdeal.Gen.run_fin m' g')
    · exact congrFun (he c).1 (ix3 t b n)
    · exact congrFun (he c).2.1 (ix2 b j)
    · exact congrFun (he c).2.2.2.1 (ix1 b)

theorem claim : Cert.Claim := ⟨Cert.Kernel.Gen.facts, Cert.KernelIdeal.Gen.facts, Cert.ReferenceIdeal.Gen.facts, Cert.Pre_in_range.facts,
  fun m g _ => Cert.Kernel.Gen.frame m g, fun m g _ => Cert.KernelIdeal.Gen.frame m g, fun m g _ => Cert.KernelIdeal.Gen.frame m g,
  fun m g _ => refFrame m g, fun m g _ => refFrame m g,
  IdealRules.named_const.statement Cert.KernelIdeal.κ "log_zero" .f32 0xF149F2CA#32 ⊥ rfl, algebraic⟩

end Cert.Proof

end
